-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v10_0)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v14)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v16)) (v8 : (c : Dev Cert.KernelIdeal.nD) → Buf (Elt Ideal) ((c.tc : Thread Cert.KernelIdeal.nD Cert.KernelIdeal.τ).loc Cert.KernelIdeal.main_v17)) (v9 : (c : Dev Cert.KernelIdeal.nD) → Buf (Elt Ideal) ((c.tc : Thread Cert.KernelIdeal.nD Cert.KernelIdeal.τ).loc Cert.KernelIdeal.main_v18)) (v10 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v10_0) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v14) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v16) = v7 c
          ∧ r.2.mem ((c.tc : Thread Cert.KernelIdeal.nD Cert.KernelIdeal.τ).loc Cert.KernelIdeal.main_v17) = v8 c
          ∧ r.2.mem ((c.tc : Thread Cert.KernelIdeal.nD Cert.KernelIdeal.τ).loc Cert.KernelIdeal.main_v18) = v9 c
          ∧ r.2.mem ((c.tc : Thread Cert.KernelIdeal.nD Cert.KernelIdeal.τ).loc Cert.KernelIdeal.main_v19) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v12) = v5 c
          ∧ r.2.mem ((c.tc : Thread Cert.ReferenceIdeal.nD Cert.ReferenceIdeal.τ).loc Cert.ReferenceIdeal.main_v13) = v6 c
          ∧ r.2.mem ((c.tc : Thread Cert.ReferenceIdeal.nD Cert.ReferenceIdeal.τ).loc Cert.ReferenceIdeal.main_v14) = v7 c
          ∧ r.2.mem ((c.tc : Thread Cert.ReferenceIdeal.nD Cert.ReferenceIdeal.τ).loc Cert.ReferenceIdeal.main_v15) = v8 c
          ∧ r.2.mem ((c.tc : Thread Cert.ReferenceIdeal.nD Cert.ReferenceIdeal.τ).loc Cert.ReferenceIdeal.main_v16) = v9 c
          ∧ r.2.mem ((c.tc : Thread Cert.ReferenceIdeal.nD Cert.ReferenceIdeal.τ).loc Cert.ReferenceIdeal.main_v17) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x3072 : Shape := ⟨3, ![8, 1024, 3072]⟩
abbrev S8x1024x2048 : Shape := ⟨3, ![8, 1024, 2048]⟩
abbrev S3072 : Shape := ⟨1, ![3072]⟩
abbrev S8x1024x1024 : Shape := ⟨3, ![8, 1024, 1024]⟩
abbrev S1024 : Shape := ⟨1, ![1024]⟩
abbrev S3072x2048 : Shape := ⟨2, ![3072, 2048]⟩
abbrev S_ : Shape := ⟨0, ![]⟩
abbrev S1024x3072 : Shape := ⟨2, ![1024, 3072]⟩
abbrev S8192x3072 : Shape := ⟨2, ![8192, 3072]⟩
abbrev S8192x2048 : Shape := ⟨2, ![8192, 2048]⟩
abbrev S1x1 : Shape := ⟨2, ![1, 1]⟩
abbrev S8x1024 : Shape := ⟨2, ![8, 1024]⟩
abbrev S1x3072 : Shape := ⟨2, ![1, 3072]⟩
abbrev S1x2048 : Shape := ⟨2, ![1, 2048]⟩
abbrev S512x3072 : Shape := ⟨2, ![512, 3072]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x240 : Shape := ⟨2, ![512, 240]⟩
abbrev S1x512 : Shape := ⟨2, ![1, 512]⟩
abbrev S256x3072 : Shape := ⟨2, ![256, 3072]⟩
abbrev S512x256 : Shape := ⟨2, ![512, 256]⟩
abbrev S1x256 : Shape := ⟨2, ![1, 256]⟩
abbrev S256 : Shape := ⟨1, ![256]⟩
abbrev S256x2048 : Shape := ⟨2, ![256, 2048]⟩
abbrev S240x3072 : Shape := ⟨2, ![240, 3072]⟩
abbrev S240x2048 : Shape := ⟨2, ![240, 2048]⟩
abbrev S2048 : Shape := ⟨1, ![2048]⟩
abbrev S1x1024 : Shape := ⟨2, ![1, 1024]⟩
abbrev S1024x1024 : Shape := ⟨2, ![1024, 1024]⟩
abbrev S1024x2048 : Shape := ⟨2, ![1024, 2048]⟩
abbrev S3x1024x2048 : Shape := ⟨3, ![3, 1024, 2048]⟩
abbrev S1x1024x2048 : Shape := ⟨3, ![1, 1024, 2048]⟩
abbrev S128x1024 : Shape := ⟨2, ![128, 1024]⟩
abbrev S1024x128 : Shape := ⟨2, ![1024, 128]⟩
abbrev S1024x1 : Shape := ⟨2, ![1024, 1]⟩
abbrev S8192x1024 : Shape := ⟨2, ![8192, 1024]⟩
abbrev S1x1024x3072 : Shape := ⟨3, ![1, 1024, 3072]⟩
abbrev S8x1024x1 : Shape := ⟨3, ![8, 1024, 1]⟩
abbrev S1x1x3072 : Shape := ⟨3, ![1, 1, 3072]⟩
abbrev S1x1x2048 : Shape := ⟨3, ![1, 1, 2048]⟩

abbrev nBuf : Space → Nat
  | .hbm => 39
  | .vmem => 43
  | .smem => 2
  | _ => 0

abbrev bufTy : (tb : Table) → Fin (tcTables nBuf tb) → BufTy
  | .hbm, ⟨0, _⟩ => ⟨S8x1024x3072, .bf16⟩
  | .hbm, ⟨1, _⟩ => ⟨S8x1024x2048, .bf16⟩
  | .hbm, ⟨2, _⟩ => ⟨S8x1024x3072, .fp8e4m3⟩
  | .hbm, ⟨3, _⟩ => ⟨S3072, .f32⟩
  | .hbm, ⟨4, _⟩ => ⟨S8x1024x1024, .fp8e4m3⟩
  | .hbm, ⟨5, _⟩ => ⟨S1024, .f32⟩
  | .hbm, ⟨6, _⟩ => ⟨S3072x2048, .fp8e4m3⟩
  | .hbm, ⟨7, _⟩ => ⟨S_, .f32⟩
  | .hbm, ⟨8, _⟩ => ⟨S1024x3072, .fp8e4m3⟩
  | .hbm, ⟨9, _⟩ => ⟨S_, .f32⟩
  | .hbm, ⟨10, _⟩ => ⟨S8192x3072, .bf16⟩
  | .hbm, ⟨11, _⟩ => ⟨S8192x2048, .bf16⟩
  | .hbm, ⟨12, _⟩ => ⟨S1x1, .f32⟩
  | .hbm, ⟨13, _⟩ => ⟨S1x1, .f32⟩
  | .hbm, ⟨14, _⟩ => ⟨S8192x3072, .bf16⟩
  | .hbm, ⟨15, _⟩ => ⟨S8192x3072, .fp8e5m2⟩
  | .hbm, ⟨16, _⟩ => ⟨S8x1024, .f32⟩
  | .hbm, ⟨17, _⟩ => ⟨S8192x2048, .fp8e5m2⟩
  | .hbm, ⟨18, _⟩ => ⟨S8x1024, .f32⟩
  | .hbm, ⟨19, _⟩ => ⟨S8192x2048, .bf16⟩
  | .hbm, ⟨20, _⟩ => ⟨S1x3072, .f32⟩
  | .hbm, ⟨21, _⟩ => ⟨S1x2048, .f32⟩
  | .hbm, ⟨22, _⟩ => ⟨S8192x3072, .fp8e4m3⟩
  | .hbm, ⟨23, _⟩ => ⟨S1x3072, .f32⟩
  | .hbm, ⟨24, _⟩ => ⟨S3072x2048, .bf16⟩
  | .hbm, ⟨25, _⟩ => ⟨S8192x2048, .fp8e5m2⟩
  | .hbm, ⟨26, _⟩ => ⟨S8192x1024, .fp8e4m3⟩
  | .hbm, ⟨27, _⟩ => ⟨S1x1024, .f32⟩
  | .hbm, ⟨28, _⟩ => ⟨S1024x3072, .bf16⟩
  | .hbm, ⟨29, _⟩ => ⟨S8192x3072, .fp8e5m2⟩
  | .hbm, ⟨30, _⟩ => ⟨S8x1024x3072, .bf16⟩
  | .hbm, ⟨31, _⟩ => ⟨S8x1024x3072, .fp8e5m2⟩
  | .hbm, ⟨32, _⟩ => ⟨S8x1024x1, .f32⟩
  | .hbm, ⟨33, _⟩ => ⟨S8x1024x3072, .fp8e5m2⟩
  | .hbm, ⟨34, _⟩ => ⟨S1x1x3072, .f32⟩
  | .hbm, ⟨35, _⟩ => ⟨S8x1024x2048, .fp8e5m2⟩
  | .hbm, ⟨36, _⟩ => ⟨S8x1024x1, .f32⟩
  | .hbm, ⟨37, _⟩ => ⟨S8x1024x2048, .fp8e5m2⟩
  | .hbm, ⟨38, _⟩ => ⟨S1x1x2048, .f32⟩
  | .local _ .vmem, ⟨0, _⟩ => ⟨S512x3072, .bf16⟩
  | .local _ .vmem, ⟨1, _⟩ => ⟨S512x3072, .bf16⟩
  | .local _ .vmem, ⟨2, _⟩ => ⟨S512x2048, .bf16⟩
  | .local _ .vmem, ⟨3, _⟩ => ⟨S512x2048, .bf16⟩
  | .local _ .vmem, ⟨4, _⟩ => ⟨S3072x2048, .fp8e4m3⟩
  | .local _ .vmem, ⟨5, _⟩ => ⟨S1024x3072, .fp8e4m3⟩
  | .local _ .vmem, ⟨6, _⟩ => ⟨S512x3072, .bf16⟩
  | .local _ .vmem, ⟨7, _⟩ => ⟨S512x3072, .bf16⟩
  | .local _ .vmem, ⟨8, _⟩ => ⟨S512x3072, .fp8e5m2⟩
  | .local _ .vmem, ⟨9, _⟩ => ⟨S512x3072, .fp8e5m2⟩
  | .local _ .vmem, ⟨10, _⟩ => ⟨S8x1024, .f32⟩
  | .local _ .vmem, ⟨11, _⟩ => ⟨S512x2048, .fp8e5m2⟩
  | .local _ .vmem, ⟨12, _⟩ => ⟨S512x2048, .fp8e5m2⟩
  | .local _ .vmem, ⟨13, _⟩ => ⟨S8x1024, .f32⟩
  | .local _ .vmem, ⟨14, _⟩ => ⟨S512x2048, .bf16⟩
  | .local _ .vmem, ⟨15, _⟩ => ⟨S512x2048, .bf16⟩
  | .local _ .vmem, ⟨16, _⟩ => ⟨S1x3072, .f32⟩
  | .local _ .vmem, ⟨17, _⟩ => ⟨S1x2048, .f32⟩
  | .local _ .vmem, ⟨18, _⟩ => ⟨S1x3072, .bf16⟩
  | .local _ .vmem, ⟨19, _⟩ => ⟨S1x2048, .f32⟩
  | .local _ .vmem, ⟨20, _⟩ => ⟨S1x1024, .f32⟩
  | .local _ .vmem, ⟨21, _⟩ => ⟨S1x1024, .f32⟩
  | .local _ .vmem, ⟨22, _⟩ => ⟨S1x2048, .f32⟩
  | .local _ .vmem, ⟨23, _⟩ => ⟨S1024x1024, .fp8e4m3⟩
  | .local _ .vmem, ⟨24, _⟩ => ⟨S1024x1024, .fp8e4m3⟩
  | .local _ .vmem, ⟨25, _⟩ => ⟨S1024x2048, .bf16⟩
  | .local _ .vmem, ⟨26, _⟩ => ⟨S1024x2048, .bf16⟩
  | .local _ .vmem, ⟨27, _⟩ => ⟨S1024x2048, .bf16⟩
  | .local _ .vmem, ⟨28, _⟩ => ⟨S1024x2048, .bf16⟩
  | .local _ .vmem, ⟨29, _⟩ => ⟨S1024x2048, .fp8e5m2⟩
  | .local _ .vmem, ⟨30, _⟩ => ⟨S1024x2048, .fp8e5m2⟩
  | .local _ .vmem, ⟨31, _⟩ => ⟨S3x1024x2048, .f32⟩
  | .local _ .vmem, ⟨32, _⟩ => ⟨S1x1024, .f32⟩
  | .local _ .vmem, ⟨33, _⟩ => ⟨S1x3072, .f32⟩
  | .local _ .vmem, ⟨34, _⟩ => ⟨S1024x1024, .fp8e4m3⟩
  | .local _ .vmem, ⟨35, _⟩ => ⟨S1024x1024, .fp8e4m3⟩
  | .local _ .vmem, ⟨36, _⟩ => ⟨S1024x3072, .bf16⟩
  | .local _ .vmem, ⟨37, _⟩ => ⟨S1024x3072, .bf16⟩
  | .local _ .vmem, ⟨38, _⟩ => ⟨S1024x3072, .bf16⟩
  | .local _ .vmem, ⟨39, _⟩ => ⟨S1024x3072, .bf16⟩
  | .local _ .vmem, ⟨40, _⟩ => ⟨S1024x3072, .fp8e5m2⟩
  | .local _ .vmem, ⟨41, _⟩ => ⟨S1024x3072, .fp8e5m2⟩
  | .local _ .vmem, ⟨42, _⟩ => ⟨S1x1024x3072, .f32⟩
  | .local _ .smem, ⟨0, _⟩ => ⟨S1x1, .f32⟩
  | .local _ .smem, ⟨1, _⟩ => ⟨S1x1, .f32⟩
  | _, _ => ⟨S8x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_scratch0 : Ref sig .tc := ⟨.vmem, 31, rfl⟩
abbrev cc2_stg0_0 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_scratch0 : Ref sig .tc := ⟨.vmem, 42, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc2_sem0_0 : DmaSem sig := 31
abbrev cc2_sem1_0 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem5_1 : DmaSem sig := 40

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  v30
def k0_off1 (i : grid0.Coords) : Fin 2 → Nat :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg0 c2_i32
  let c0_i32_5 : BitVec 32 := 0#32
  let v16 : BitVec 1 := Scalar.cmpi .ne v15 c0_i32_5
  let v17 : BitVec 1 := Scalar.andi v14 v16
  let v3 : BitVec 32 := Scalar.divsi arg0 c2_i32
  let c1_i32 : BitVec 32 := 1#32
  let v18 : BitVec 32 := Scalar.subi v3 c1_i32
  let v19 : BitVec 32 := Scalar.select v17 v18 v3
  let v132 : Index := Scalar.indexCast v19
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := v30
  let v133 : Index := Scalar.indexCast v31
  ![v132.toNat, v133.toNat]
def k0_cond2 (i : grid0.Coords) : BitVec 1 :=
  let arg0 : BitVec 32 := BitVec.ofNat 32 (i 0).val
  let c15_i32 : BitVec 32 := 15#32
  let v489 : BitVec 1 := Scalar.cmpi .eq arg0 c15_i32
  let v490 : BitVec 32 := Scalar.extui v489
  let c0_i32_226 : BitVec 32 := 0#32
  let v491 : BitVec 1 := Scalar.cmpi .ne v490 c0_i32_226
  v491

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨2, ![8, 3], ![false, false]⟩

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k1_off1 (i : grid1.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k1_off2 (i : grid1.Coords) : Fin 3 → Nat :=
  let arg1 : BitVec 32 := BitVec.ofNat 32 (i 1).val
  let v6 : Index := Scalar.indexCast arg1
  let c0 : Index := 0#32
  let c0_3 : Index := 0#32
  ![v6.toNat, 0, 0]
def k1_cond3 (i : grid1.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_10 : BitVec 32 := 0#32
  let v21 : BitVec 1 := Scalar.cmpi .ne v20 c0_i32_10
  v21

def k1_off3 (i : grid1.Coords) : Fin 3 → Nat :=
  let arg1 : BitVec 32 := BitVec.ofNat 32 (i 1).val
  let v28 : Index := Scalar.indexCast arg1
  let c0_13 : Index := 0#32
  let c0_14 : Index := 0#32
  ![v28.toNat, 0, 0]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x2048 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 1], ![false, false]⟩

def k2_cond2 (i : grid2.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k2_off1 (i : grid2.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k2_off2 (i : grid2.Coords) : Fin 3 → Nat :=
  let arg1 : BitVec 32 := BitVec.ofNat 32 (i 1).val
  let v6 : Index := Scalar.indexCast arg1
  let c0 : Index := 0#32
  let c0_3 : Index := 0#32
  ![v6.toNat, 0, 0]
def k2_cond3 (i : grid2.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_10 : BitVec 32 := 0#32
  let v21 : BitVec 1 := Scalar.cmpi .ne v20 c0_i32_10
  v21

def k2_off3 (i : grid2.Coords) : Fin 3 → Nat :=
  let arg1 : BitVec 32 := BitVec.ofNat 32 (i 1).val
  let v28 : Index := Scalar.indexCast arg1
  let c0_13 : Index := 0#32
  let c0_14 : Index := 0#32
  ![v28.toNat, 0, 0]
def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S1x3072 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x3072 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x3072 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x3072 .fp8e5m2 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S8x1024x3072 : Shape := ⟨3, ![8, 1024, 3072]⟩
abbrev S8x1024x2048 : Shape := ⟨3, ![8, 1024, 2048]⟩
abbrev S3072 : Shape := ⟨1, ![3072]⟩
abbrev S8x1024x1024 : Shape := ⟨3, ![8, 1024, 1024]⟩
abbrev S1024 : Shape := ⟨1, ![1024]⟩
abbrev S3072x2048 : Shape := ⟨2, ![3072, 2048]⟩
abbrev S_ : Shape := ⟨0, ![]⟩
abbrev S1024x3072 : Shape := ⟨2, ![1024, 3072]⟩
abbrev S8192x3072 : Shape := ⟨2, ![8192, 3072]⟩
abbrev S8192x2048 : Shape := ⟨2, ![8192, 2048]⟩
abbrev S3072x1 : Shape := ⟨2, ![3072, 1]⟩
abbrev S8192x1024 : Shape := ⟨2, ![8192, 1024]⟩
abbrev S1024x1 : Shape := ⟨2, ![1024, 1]⟩
abbrev S1x1 : Shape := ⟨2, ![1, 1]⟩
abbrev S8192x1 : Shape := ⟨2, ![8192, 1]⟩
abbrev S1x3072 : Shape := ⟨2, ![1, 3072]⟩
abbrev S1x2048 : Shape := ⟨2, ![1, 2048]⟩
abbrev S8192 : Shape := ⟨1, ![8192]⟩
abbrev S2048 : Shape := ⟨1, ![2048]⟩
abbrev S8x1024x1 : Shape := ⟨3, ![8, 1024, 1]⟩
abbrev S1x1x3072 : Shape := ⟨3, ![1, 1, 3072]⟩
abbrev S1x1x2048 : Shape := ⟨3, ![1, 1, 2048]⟩

abbrev nBuf : Space → Nat
  | .hbm => 38
  | .vmem => 21
  | .smem => 0
  | _ => 0

abbrev bufTy : (tb : Table) → Fin (tcTables nBuf tb) → BufTy
  | .hbm, ⟨0, _⟩ => ⟨S8x1024x3072, .bf16⟩
  | .hbm, ⟨1, _⟩ => ⟨S8x1024x2048, .bf16⟩
  | .hbm, ⟨2, _⟩ => ⟨S8x1024x3072, .fp8e4m3⟩
  | .hbm, ⟨3, _⟩ => ⟨S3072, .f32⟩
  | .hbm, ⟨4, _⟩ => ⟨S8x1024x1024, .fp8e4m3⟩
  | .hbm, ⟨5, _⟩ => ⟨S1024, .f32⟩
  | .hbm, ⟨6, _⟩ => ⟨S3072x2048, .fp8e4m3⟩
  | .hbm, ⟨7, _⟩ => ⟨S_, .f32⟩
  | .hbm, ⟨8, _⟩ => ⟨S1024x3072, .fp8e4m3⟩
  | .hbm, ⟨9, _⟩ => ⟨S_, .f32⟩
  | .hbm, ⟨10, _⟩ => ⟨S8192x3072, .bf16⟩
  | .hbm, ⟨11, _⟩ => ⟨S8192x2048, .bf16⟩
  | .hbm, ⟨12, _⟩ => ⟨S8192x3072, .fp8e4m3⟩
  | .hbm, ⟨13, _⟩ => ⟨S3072x1, .f32⟩
  | .hbm, ⟨14, _⟩ => ⟨S8192x1024, .fp8e4m3⟩
  | .hbm, ⟨15, _⟩ => ⟨S1024x1, .f32⟩
  | .hbm, ⟨16, _⟩ => ⟨S1x1, .f32⟩
  | .hbm, ⟨17, _⟩ => ⟨S1x1, .f32⟩
  | .hbm, ⟨18, _⟩ => ⟨S8192x3072, .bf16⟩
  | .hbm, ⟨19, _⟩ => ⟨S3072x2048, .bf16⟩
  | .hbm, ⟨20, _⟩ => ⟨S1024x3072, .bf16⟩
  | .hbm, ⟨21, _⟩ => ⟨S8192x3072, .fp8e5m2⟩
  | .hbm, ⟨22, _⟩ => ⟨S8192x1, .f32⟩
  | .hbm, ⟨23, _⟩ => ⟨S8192x3072, .fp8e5m2⟩
  | .hbm, ⟨24, _⟩ => ⟨S1x3072, .f32⟩
  | .hbm, ⟨25, _⟩ => ⟨S8192x2048, .fp8e5m2⟩
  | .hbm, ⟨26, _⟩ => ⟨S8192x1, .f32⟩
  | .hbm, ⟨27, _⟩ => ⟨S8192x2048, .fp8e5m2⟩
  | .hbm, ⟨28, _⟩ => ⟨S1x2048, .f32⟩
  | .hbm, ⟨29, _⟩ => ⟨S8x1024x3072, .bf16⟩
  | .hbm, ⟨30, _⟩ => ⟨S8x1024x3072, .fp8e5m2⟩
  | .hbm, ⟨31, _⟩ => ⟨S8x1024x1, .f32⟩
  | .hbm, ⟨32, _⟩ => ⟨S8x1024x3072, .fp8e5m2⟩
  | .hbm, ⟨33, _⟩ => ⟨S1x1x3072, .f32⟩
  | .hbm, ⟨34, _⟩ => ⟨S8x1024x2048, .fp8e5m2⟩
  | .hbm, ⟨35, _⟩ => ⟨S8x1024x1, .f32⟩
  | .hbm, ⟨36, _⟩ => ⟨S8x1024x2048, .fp8e5m2⟩
  | .hbm, ⟨37, _⟩ => ⟨S1x1x2048, .f32⟩
  | .local _ .vmem, ⟨0, _⟩ => ⟨S8192x3072, .bf16⟩
  | .local _ .vmem, ⟨1, _⟩ => ⟨S8192x2048, .bf16⟩
  | .local _ .vmem, ⟨2, _⟩ => ⟨S8192x3072, .fp8e4m3⟩
  | .local _ .vmem, ⟨3, _⟩ => ⟨S3072x1, .f32⟩
  | .local _ .vmem, ⟨4, _⟩ => ⟨S8192x1024, .fp8e4m3⟩
  | .local _ .vmem, ⟨5, _⟩ => ⟨S1024x1, .f32⟩
  | .local _ .vmem, ⟨6, _⟩ => ⟨S3072x2048, .fp8e4m3⟩
  | .local _ .vmem, ⟨7, _⟩ => ⟨S1x1, .f32⟩
  | .local _ .vmem, ⟨8, _⟩ => ⟨S1024x3072, .fp8e4m3⟩
  | .local _ .vmem, ⟨9, _⟩ => ⟨S1x1, .f32⟩
  | .local _ .vmem, ⟨10, _⟩ => ⟨S8192x3072, .bf16⟩
  | .local _ .vmem, ⟨11, _⟩ => ⟨S3072x2048, .bf16⟩
  | .local _ .vmem, ⟨12, _⟩ => ⟨S1024x3072, .bf16⟩
  | .local _ .vmem, ⟨13, _⟩ => ⟨S8192x3072, .fp8e5m2⟩
  | .local _ .vmem, ⟨14, _⟩ => ⟨S8192x1, .f32⟩
  | .local _ .vmem, ⟨15, _⟩ => ⟨S8192x3072, .fp8e5m2⟩
  | .local _ .vmem, ⟨16, _⟩ => ⟨S1x3072, .f32⟩
  | .local _ .vmem, ⟨17, _⟩ => ⟨S8192x2048, .fp8e5m2⟩
  | .local _ .vmem, ⟨18, _⟩ => ⟨S8192x1, .f32⟩
  | .local _ .vmem, ⟨19, _⟩ => ⟨S8192x2048, .fp8e5m2⟩
  | .local _ .vmem, ⟨20, _⟩ => ⟨S1x2048, .f32⟩
  | _, _ => ⟨S8x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_v8_8 : Ref sig .tc := ⟨.hbm, 26, rfl⟩
abbrev main_v8_9 : Ref sig .tc := ⟨.hbm, 27, rfl⟩
abbrev main_v8_10 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x3072 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x3072 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x3072 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8192x2048 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8192x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8192x2048 .fp8e5m2 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.RegionRel.lean ====
/-
  A kernel region of relational proof data as a segment of @main: entered from all the unscoped buffers at one
  valuation, left with them at another, given that the data pin what every array holds at the end.
-/
module

public import Idealize.ShloMosaic.Lib.Pipeline.FrameTail
public import Idealize.ShloMosaic.Lib.Pipeline.RegionArraysF
public import Idealize.ShloMosaic.Lib.Pipeline.RegionArraysS
public import Idealize.ShloMosaic.Lib.Pipeline.Regions

@[expose] public section

noncomputable section

namespace Cert.RegionRel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UR sig nD τ) ℕ

variable {Λ₀ : Labels} {P : Type} [Fintype P]

variable (pcs : P → PCfg sig Λ₀ Val) (a : (p : P) → (pcs p).Adm)
  (rdats : (p : P) → (c : Dev nD) → RDat τ Val Unit ℕ (UR sig nD τ) ℕ (pin pcs a p) c)
  (defs₀ : Defs nD τ sig Val Λ₀) (𝒱₀ : Variants)
  (L : GSem nD τ sig → Finset Unit) (lv : GSem nD τ sig → Unit → ℕ) (p : P)

/-- At the full share, the pipeline's arrays at contents `G` are `arrRefs` held at any valuation that has them at `G`. -/
theorem arrays_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc := by
  rw [show (rdats p c).arrays G = bigSep Finset.univ fun w => (((c.tc : Thread nD τ).loc (arrRef (pin pcs a p).spec w)) ↦{fullShare} G w : sProp 𝕄) from by
    unfold RDat.arrays
    exact bigSep_congr fun w _ => by rw [show (((pin pcs a p).win w).arr.view.set) = Finset.univ from (kit.arr_whole w).set_eq_univ, hshare]]
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

/-- The arrays after the region are at contents each of which the data allow. -/
theorem arraysAt_some [∀ e, Nonempty (Val e)] (c : Dev nD) (n : ℕ) :
    ((rdats p c).arraysAt n : sProp 𝕄) ⊢ iprop(∃ A : (w : Fin (pin pcs a p).W) → Buf Val (((pin pcs a p).win w).arr.view.loc (c.tc : Thread nD τ)),
      ⌜∀ w, (rdats p c).ArrAt w n (A w)⌝ ∗ (rdats p c).arrays A) := by
  unfold RDat.arraysAt RDat.arrays
  refine (BI.bigSep_exists_pi Finset.univ _).trans ?_
  iintro ⟨%A, H⟩
  ihave H' := (BI.bigSep_pure_sep Finset.univ (fun w => (rdats p c).ArrAt w n (A w)) _) $$ H
  icases H' with ⟨%hA, H⟩
  iexists A
  isplitr
  · ipureintro; exact fun w => hA w (Finset.mem_univ w)
  iexact H

/-- The region's segment: entered from the buffers `S` at `W c`, left with them at `W' c`, what `W'` says of the region's
    arrays being all that the data allow (`hfin`) and `W'` being `W` elsewhere (`hoff`). -/
def seg [∀ e, Nonempty (Val e)] (S : Finset (DevRef τ sig)) (hS : arrRefs (pcs p).spec ⊆ S)
    (kit : PLaunchFacts (nD := nD) (τ := τ) pcs p) (hK : (pcs p).pre.K = 0)
    (hbody : ∀ c, (rdats p c).BodyObligation defs₀ 𝒱₀ () Set.univ)
    (howed : ∀ c t, (rdats p c).owed t = 0) (hrec : ∀ c, (rdats p c).recorded 0 = Set.univ)
    (hshare : ∀ c w, (rdats p c).share w = fullShare)
    (hin : ∀ c : Dev nD, (scopedRest (pin pcs a p).spec c : sProp 𝕄) ⊢ (rdats p c).Φ 0)
    (hout : ∀ c : Dev nD, (rdats p c).Φ (Fin.last (pin pcs a p).N) ⊢ (scopedRest (pin pcs a p).spec c : sProp 𝕄))
    (W W' : Dev nD → Valuation τ sig Val)
    (hA : ∀ c w, (rdats p c).A w = W c (Proc.devRef .tc (arrRef (pin pcs a p).spec w)))
    (hfin : ∀ c w G, (rdats p c).ArrAt w (pin pcs a p).N G → G = W' c (Proc.devRef .tc (arrRef (pin pcs a p).spec w)))
    (hoff : ∀ c, ∀ b ∈ S \ arrRefs (pcs p).spec, W' c b = W c b) :
    RDat.RegionSeg pcs a rdats () defs₀ 𝒱₀ L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a rdats () L lv p howed c
  pre c := iprop(StableHlo.held (c.tc : Thread nD τ) S (W c) ∗ ∃ Wd, owes (c : Thread nD τ) (0 : CellTallies nD τ sig Unit) Wd)
  post c := iprop(StableHlo.held (c.tc : Thread nD τ) S (W' c) ∗ ∃ Wd, owes (c : Thread nD τ) (0 : CellTallies nD τ sig Unit) Wd)
  X _ := BI.emp
  Y _ := BI.emp
  Z c := StableHlo.held (c.tc : Thread nD τ) (S \ arrRefs (pcs p).spec) (W c)
  hentry c := by
    rw [ownSems0_none, prefHeld_of_none _ hK, arrays_held pcs a rdats p kit c (hshare c) (rdats p c).A (W c) (hA c),
      StableHlo.held_sub_split (c.tc : Thread nD τ) hS (W c)]
    iintro ⟨⟨⟨Ha, Hr⟩, HO⟩, -, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact Hr
  hin c := (show _ ⊢ (scopedRest (pin pcs a p).spec c : sProp 𝕄) from by
    iintro ⟨-, -, Hr⟩
    iexact Hr).trans (hin c)
  hout c := (hout c).trans (by
    rw [ownSems0_none]
    iintro Hr
    isplitr; · iempintro
    isplitr; · iempintro
    iexact Hr)
  hexit c := by
    rw [StableHlo.held_sub_split (c.tc : Thread nD τ) hS (W' c),
      StableHlo.held_congr (c.tc : Thread nD τ) (S := S \ arrRefs (pcs p).spec) (V := W' c) (V' := W c) (hoff c)]
    iintro ⟨Ha, HO, -, Hr⟩
    ihave Ha := (arraysAt_some pcs a rdats p c (pin pcs a p).N) $$ Ha
    icases Ha with ⟨%A, %hA, Ha⟩
    ihave Ha := (Entails.of_eq (arrays_held pcs a rdats p kit c (hshare c) A (W' c) (fun w => hfin c w _ (hA w)))) $$ Ha
    imodintro
    isplitl [Ha Hr]
    · isplitl [Ha]; · iexact Ha
      iexact Hr
    unfold RDat.owesAt owesWithin
    rw [howed c (Fin.last _)]
    icases HO with ⟨%Wd, -, HO⟩; iexists Wd; iexact HO

end Cert.RegionRel

end
-- ==== Proof.OwnsStep.lean ====
/-
  Loads and stores of a memref held by its contents: a load through a unit rectangle reads the window, an unmasked
  store puts its payload into it.
-/
module

public import Idealize.ShloMosaic.Lib.Pipeline.FrameBody
public import Idealize.ShloMosaic.Lib.VecWindow
public import Idealize.ShloMosaic.Lib.Tactic

@[expose] public section

noncomputable section

namespace Cert.OwnsStep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Ix : Type} [DecidableEq Ix] {Name : Type} [DecidableEq Name]
variable {U : Type} [URA U] {Lvl : Type} [Preorder Lvl] {Λ : Labels} {defs : Defs nD τ sig Val Λ} (𝒱 : Variants) (c : Thread nD τ) (bd : Option 𝒱.V) (E : Set Name)
variable {cs : CoreSpace} {s : Shape} {e : EltTy} {α : Type} {Q : α → sProp (MT nD τ sig Ix Val Name U Lvl)}

/-- A load through a unit rectangle gives the window of the contents there. -/
theorem load (m : Memref sig c.2.kind cs s e) {q : PosShare TreeShare} {X : s.Idx → Val e} {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α} :
    (owns c m q X : sProp (MT nD τ sig Ix Val Name U Lvl))
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  iapply (wp_load (defs := defs) 𝒱 c bd E (Q := Q) (m := m) (r := (Rect.unit off size inb).toLoadRect) (hl := hl) (k := k) (q := q) (f := f) (S := m.view.set)
    (Finset.map_subset_map.mpr (Finset.subset_univ _))) $$ H
  iintro H
  rw [View.readAt_unit m.view f inb rfl inb, hf]
  iapply Hk
  iexists f; isplitr; · ipureintro; exact hf
  iexact H

/-- A load of a whole memref gives its contents. -/
theorem load_full (m : Memref sig c.2.kind cs s e) {q : PosShare TreeShare} {X : s.Idx → Val e} {off : Fin s.rank → ℕ}
    {inb : ∀ a, off a + s.size a ≤ s.size a} {hl : m.view.LoadsAt (Rect.unit off s.size inb).toLoadRect}
    {k : ((Rect.unit off s.size inb).shape.Idx → Val e) → Prog (TpuEff nD τ sig Val Λ c.2) α} :
    (owns c m q X : sProp (MT nD τ sig Ix Val Name U Lvl))
      ⊢ iprop((owns c m q X -∗ wp frame (wpE defs 𝒱 c bd) E (k X) Q)
        -∗ wp frame (wpE defs 𝒱 c bd) E (.op (.load m (Rect.unit off s.size inb).toLoadRect hl) k) Q) := by
  unfold owns
  iintro ⟨%f, %hf, H⟩ Hk
  iapply (wp_load (defs := defs) 𝒱 c bd E (Q := Q) (m := m) (r := (Rect.unit off s.size inb).toLoadRect) (hl := hl) (k := k) (q := q) (f := f) (S := m.view.set)
    (Finset.map_subset_map.mpr (Finset.subset_univ _))) $$ H
  iintro H
  rw [View.readAt_full m.view f inb, hf]
  iapply Hk
  iexists f; isplitr; · ipureintro; exact hf
  iexact H

/-- An unmasked store through a unit rectangle puts its payload there. -/
theorem store (m : Memref sig c.2.kind cs s e) {X : s.Idx → Val e} {off size : Fin s.rank → ℕ}
    {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} :
    (owns c m fullShare X : sProp (MT nD τ sig Ix Val Name U Lvl))
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store_writes₀ (defs := defs) 𝒱 c bd E (Q := Q) (m := m) (r := Rect.unit off size inb) (w := w) (hx := hx) (hm := hm) (k := k) (f := f) (S := m.view.set)
    (by rw [View.set_slice]; exact Finset.map_subset_map.mpr (Finset.subset_univ _))) $$ H
  iintro H
  iapply Hk
  iexists (m.view.writes Val f [⟨Rect.unit off size inb, w⟩]); isplitr
  · ipureintro; rw [View.read_writes_cons_put m.view f inb w [] rfl]; exact congrArg (fun z => VecWindow.put z off size w) hf
  iexact H

/-- An unmasked store of a whole memref leaves its payload. -/
theorem store_full (m : Memref sig c.2.kind cs s e) {X : s.Idx → Val e} {off : Fin s.rank → ℕ}
    {inb : ∀ a, off a + s.size a ≤ s.size a} {w : (Rect.unit off s.size inb).shape.Idx → Val e}
    {hx : (m.access (Rect.unit off s.size inb)).Stores Finset.univ} {hm : Finset.univ = Finset.univ ∨ ∀ a, (Rect.unit off s.size inb).stride a = 1}
    {k : PUnit → Prog (TpuEff nD τ sig Val Λ c.2) α} :
    (owns c m fullShare X : sProp (MT nD τ sig Ix Val Name U Lvl))
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  unfold owns
  iintro ⟨%f, %hf, H⟩ Hk
  iapply (wp_store_writes₀ (defs := defs) 𝒱 c bd E (Q := Q) (m := m) (r := Rect.unit off s.size inb) (w := w) (hx := hx) (hm := hm) (k := k) (f := f) (S := m.view.set)
    (by rw [View.set_slice]; exact Finset.map_subset_map.mpr (Finset.subset_univ _))) $$ H
  iintro H
  iapply Hk
  iexists (m.view.writes Val f [⟨Rect.unit off s.size inb, w⟩]); isplitr
  · ipureintro; exact View.read_writes_full m.view f inb w []
  iexact H

/-- A load of one word of scalar memory from a memref whose shape has one index. -/
theorem smem [Subsingleton s.Idx] (m : Memref sig c.2.kind .smem s e) {q : PosShare TreeShare} {X : s.Idx → Val e} {off : Fin s.rank → ℕ}
    {inb : ∀ a, off a + s.size a ≤ s.size a} {h1 : (Rect.unit off s.size inb).shape.numel = 1} {hp : e.packing = 1} (z : s.Idx)
    {k : Val e → Prog (TpuEff nD τ sig Val Λ c.2) α} :
    (owns c m q X : sProp (MT nD τ sig Ix Val Name U Lvl))
      ⊢ iprop((owns c m q X -∗ wp frame (wpE defs 𝒱 c bd) E (k (X z)) Q)
        -∗ wp frame (wpE defs 𝒱 c bd) E (smemLoad m (Rect.unit off s.size inb) h1 hp >>= k) Q) := by
  have hk : X z = X (Shape.Idx.first (h1.symm ▸ Nat.one_pos) : (Rect.unit off s.size inb).shape.Idx) := congrArg X (Subsingleton.elim _ _)
  rw [hk]
  exact load_full (cs := .smem) (defs := defs) 𝒱 c bd E m (q := q) (X := X) (inb := inb) (hl := View.loadsAt_rect (View.loads_smem_one hp h1))
    (k := fun f => k (f (Shape.Idx.first (h1.symm ▸ Nat.one_pos))))

end Cert.OwnsStep

end
-- ==== Proof.Kernel.RowsDefs.lean ====
/-
  One block of 512 rows of the call `rows`: the values its body computes, and its parts one by one.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.OwnsStep
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- What a grid point of `rows` computes from: the two scalar scales, the blocks of dy and gu, the two weight-code
    matrices, and the two column maxima it starts from. -/
structure Ins (F : FTy → Type) where
  x1 : Vec F S1x1 .f32
  x2 : Vec F S1x1 .f32
  x3 : Vec F S512x3072 .bf16
  x4 : Vec F S512x2048 .bf16
  x5 : Vec F S3072x2048 .fp8e4m3
  x6 : Vec F S1024x3072 .fp8e4m3
  a15 : Vec F S1x3072 .bf16
  a16 : Vec F S1x2048 .f32

/-- The one index of a 1×1 array. -/
def z11 : S1x1.Idx := fun k => ⟨0, by match k with | 0 => exact Nat.one_pos | 1 => exact Nat.one_pos⟩

instance : Subsingleton S1x1.Idx := ⟨fun a b => funext fun k => by
  have h : S1x1.size k = 1 := by match k with | 0 => rfl | 1 => rfl
  exact Fin.ext (by have := (a k).isLt; have := (b k).isLt; omega)⟩

/-! The values the body computes (`vN`) and the contents of its buffers after each store (`cK_N`: buffer K). -/

def v33 (q : Ins F) : FVec F S512x3072 .bf16 := k0_pay6 q.x3
def v34 (q : Ins F) : FVec F S512x3072 .bf16 := k0_pay7 q.x3
def v36 (q : Ins F) : FVec F S3072 .bf16 := k0_pay8 q.x3
def c15_1 (q : Ins F) : Vec F S1x3072 .bf16 := (k0_pay9 (F := F) q.a15 (v36 q))
def v91 (q : Ins F) : FVec F S512x1 .f32 := k0_pay10 (v34 q)
def c8_1 (q : Ins F) : Vec F S512x3072 .fp8e5m2 := (k0_pay13 (F := F) (v33 q) (v91 q) (Scalar.ofBits (F := F) .f32 0x37924925#32))
def c9_1 (q : Ins F) (i : grid0.Coords) (x : Vec F S8x1024 .f32) : Vec F S8x1024 .f32 := VecWindow.put x (k0_off1 i) S1x512.size (k0_pay14 (F := F) (v91 q) (Scalar.ofBits (F := F) .f32 0x37924925#32))
def v114 (q : Ins F) : FVec F S512x1 .f32 := (k0_pay12 (v91 q) (Scalar.ofBits (F := F) .f32 0x37924925#32))
def c12_1 (q : Ins F) (x : Vec F S512x2048 .bf16) : Vec F S512x2048 .bf16 := VecWindow.put x ![0, 0] S512x256.size (k0_pay21 (F := F) (v114 q) (q.x2 z11) (c8_1 q) (VecWindow.window q.x6 ![0, 0] S256x3072.size inb_S1024x3072_S256x3072_0_0) (VecWindow.window q.x4 ![0, 0] S512x256.size inb_S512x2048_S512x256_0_0) (VecWindow.window q.x4 ![0, 1024] S512x256.size inb_S512x2048_S512x256_0_1024))
def v137 (q : Ins F) : FVec F S512x1 .f32 := k0_pay15 (v114 q) (q.x2 z11)
def v161 (q : Ins F) : FVec F S512x256 .f32 := k0_pay20 (v114 q) (q.x2 z11) (c8_1 q) (VecWindow.window q.x6 ![0, 0] S256x3072.size inb_S1024x3072_S256x3072_0_0) (VecWindow.window q.x4 ![0, 0] S512x256.size inb_S512x2048_S512x256_0_0)
def v168 (q : Ins F) : FVec F S512x128 .f32 := k0_pay23 (v114 q) (q.x2 z11) (c8_1 q) (VecWindow.window q.x6 ![0, 0] S256x3072.size inb_S1024x3072_S256x3072_0_0) (VecWindow.window q.x4 ![0, 0] S512x256.size inb_S512x2048_S512x256_0_0) (VecWindow.window q.x4 ![0, 1024] S512x256.size inb_S512x2048_S512x256_0_1024)
def v172 (q : Ins F) : FVec F S1x256 .f32 := k0_pay24 (v114 q) (q.x2 z11) (c8_1 q) (VecWindow.window q.x6 ![0, 0] S256x3072.size inb_S1024x3072_S256x3072_0_0) (VecWindow.window q.x4 ![0, 0] S512x256.size inb_S512x2048_S512x256_0_0) (VecWindow.window q.x4 ![0, 1024] S512x256.size inb_S512x2048_S512x256_0_1024) (VecWindow.window q.a16 ![0, 0] S1x256.size inb_S1x2048_S1x256_0_0)
def v173 (q : Ins F) : Vec F S1x256 .f32 := (VecWindow.window q.a16 ![0, 0] S1x256.size inb_S1x2048_S1x256_0_0)
def c16_1 (q : Ins F) : Vec F S1x2048 .f32 := VecWindow.put q.a16 ![0, 0] S1x256.size (k0_pay25 (F := F) (v172 q))
def c12_2 (q : Ins F) (x : Vec F S512x2048 .bf16) : Vec F S512x2048 .bf16 := VecWindow.put (c12_1 q x) ![0, 1024] S512x256.size (k0_pay26 (F := F) (v161 q))
def c16_2 (q : Ins F) : Vec F S1x2048 .f32 := VecWindow.put (c16_1 q) ![0, 1024] S1x256.size (k0_pay29 (F := F) (v161 q) (VecWindow.window (c16_1 q) ![0, 1024] S1x256.size inb_S1x2048_S1x256_0_1024))
def v182 (q : Ins F) : FVec F S512x128 .f32 := k0_pay28 (v161 q) (v168 q)
def v210 (q : Ins F) : FVec F S512x256 .f32 := k0_pay33 (v137 q) (c8_1 q) (VecWindow.window q.x6 ![256, 0] S256x3072.size inb_S1024x3072_S256x3072_256_0) (VecWindow.window q.x4 ![0, 256] S512x256.size inb_S512x2048_S512x256_0_256) (VecWindow.window q.x4 ![0, 1280] S512x256.size inb_S512x2048_S512x256_0_1280)
def v212 (q : Ins F) : FVec F S512x256 .f32 := k0_pay34 (v137 q) (c8_1 q) (VecWindow.window q.x6 ![256, 0] S256x3072.size inb_S1024x3072_S256x3072_256_0) (VecWindow.window q.x4 ![0, 256] S512x256.size inb_S512x2048_S512x256_0_256)
def c12_3 (q : Ins F) (x : Vec F S512x2048 .bf16) : Vec F S512x2048 .bf16 := VecWindow.put (c12_2 q x) ![0, 256] S512x256.size (k0_pay35 (F := F) (v210 q))
def c16_3 (q : Ins F) : Vec F S1x2048 .f32 := VecWindow.put (c16_2 q) ![0, 256] S1x256.size (k0_pay37 (F := F) (v210 q) (VecWindow.window (c16_2 q) ![0, 256] S1x256.size inb_S1x2048_S1x256_0_256))
def c12_4 (q : Ins F) (x : Vec F S512x2048 .bf16) : Vec F S512x2048 .bf16 := VecWindow.put (c12_3 q x) ![0, 1280] S512x256.size (k0_pay38 (F := F) (v212 q))
def c16_4 (q : Ins F) : Vec F S1x2048 .f32 := VecWindow.put (c16_3 q) ![0, 1280] S1x256.size (k0_pay41 (F := F) (v212 q) (VecWindow.window (c16_3 q) ![0, 1280] S1x256.size inb_S1x2048_S1x256_0_1280))
def v233 (q : Ins F) : FVec F S512x128 .f32 := k0_pay40 (v182 q) (v210 q) (v212 q)
def v246 (q : Ins F) : FVec F S512x256 .f32 := k0_pay42 (v137 q) (c8_1 q) (VecWindow.window q.x6 ![512, 0] S256x3072.size inb_S1024x3072_S256x3072_512_0)
def v247 (q : Ins F) : Vec F S512x256 .bf16 := (VecWindow.window q.x4 ![0, 512] S512x256.size inb_S512x2048_S512x256_0_512)
def c12_5 (q : Ins F) (x : Vec F S512x2048 .bf16) : Vec F S512x2048 .bf16 := VecWindow.put (c12_4 q x) ![0, 512] S512x256.size (k0_pay47 (F := F) (v246 q) (v247 q) (VecWindow.window q.x4 ![0, 1536] S512x256.size inb_S512x2048_S512x256_0_1536))
def c16_5 (q : Ins F) : Vec F S1x2048 .f32 := VecWindow.put (c16_4 q) ![0, 512] S1x256.size (k0_pay49 (F := F) (v246 q) (v247 q) (VecWindow.window q.x4 ![0, 1536] S512x256.size inb_S512x2048_S512x256_0_1536) (VecWindow.window (c16_4 q) ![0, 512] S1x256.size inb_S1x2048_S1x256_0_512))
def c12_6 (q : Ins F) (x : Vec F S512x2048 .bf16) : Vec F S512x2048 .bf16 := VecWindow.put (c12_5 q x) ![0, 1536] S512x256.size (k0_pay50 (F := F) (v246 q) (v247 q))
def v284 (q : Ins F) : FVec F S512x128 .f32 := k0_pay52 (v233 q) (v246 q) (v247 q) (VecWindow.window q.x4 ![0, 1536] S512x256.size inb_S512x2048_S512x256_0_1536)
def v288 (q : Ins F) : FVec F S1x256 .f32 := k0_pay53 (v246 q) (v247 q) (VecWindow.window (c16_5 q) ![0, 1536] S1x256.size inb_S1x2048_S1x256_0_1536)
def c16_6 (q : Ins F) : Vec F S1x2048 .f32 := VecWindow.put (c16_5 q) ![0, 1536] S1x256.size (k0_pay54 (F := F) (v288 q))
def c12_7 (q : Ins F) (x : Vec F S512x2048 .bf16) : Vec F S512x2048 .bf16 := VecWindow.put (c12_6 q x) ![0, 768] S512x256.size (k0_pay60 (F := F) (v137 q) (c8_1 q) (VecWindow.window q.x6 ![768, 0] S256x3072.size inb_S1024x3072_S256x3072_768_0) (VecWindow.window q.x4 ![0, 768] S512x256.size inb_S512x2048_S512x256_0_768) (VecWindow.window q.x4 ![0, 1792] S512x256.size inb_S512x2048_S512x256_0_1792))
def v314 (q : Ins F) : FVec F S512x256 .f32 := k0_pay59 (v137 q) (c8_1 q) (VecWindow.window q.x6 ![768, 0] S256x3072.size inb_S1024x3072_S256x3072_768_0) (VecWindow.window q.x4 ![0, 768] S512x256.size inb_S512x2048_S512x256_0_768)
def v321 (q : Ins F) : FVec F S512x128 .f32 := k0_pay62 (v137 q) (v284 q) (c8_1 q) (VecWindow.window q.x6 ![768, 0] S256x3072.size inb_S1024x3072_S256x3072_768_0) (VecWindow.window q.x4 ![0, 768] S512x256.size inb_S512x2048_S512x256_0_768) (VecWindow.window q.x4 ![0, 1792] S512x256.size inb_S512x2048_S512x256_0_1792)
def v325 (q : Ins F) : FVec F S1x256 .f32 := k0_pay63 (v137 q) (c8_1 q) (VecWindow.window q.x6 ![768, 0] S256x3072.size inb_S1024x3072_S256x3072_768_0) (VecWindow.window q.x4 ![0, 768] S512x256.size inb_S512x2048_S512x256_0_768) (VecWindow.window q.x4 ![0, 1792] S512x256.size inb_S512x2048_S512x256_0_1792) (VecWindow.window (c16_6 q) ![0, 768] S1x256.size inb_S1x2048_S1x256_0_768)
def v326 (q : Ins F) : Vec F S1x256 .f32 := (VecWindow.window (c16_6 q) ![0, 768] S1x256.size inb_S1x2048_S1x256_0_768)
def c16_7 (q : Ins F) : Vec F S1x2048 .f32 := VecWindow.put (c16_6 q) ![0, 768] S1x256.size (k0_pay64 (F := F) (v325 q))
def c12_8 (q : Ins F) (x : Vec F S512x2048 .bf16) : Vec F S512x2048 .bf16 := VecWindow.put (c12_7 q x) ![0, 1792] S512x256.size (k0_pay65 (F := F) (v314 q))
def c16_8 (q : Ins F) : Vec F S1x2048 .f32 := VecWindow.put (c16_7 q) ![0, 1792] S1x256.size (k0_pay67 (F := F) (v314 q) (VecWindow.window (c16_7 q) ![0, 1792] S1x256.size inb_S1x2048_S1x256_0_1792))
def v362 (q : Ins F) : IVec S512x1 32 := k0_pay68 (v314 q) (v321 q)
def v366 (q : Ins F) : IVec S512x1 32 := k0_pay69 (v314 q) (v321 q)

/-- Storing the same payload keeps two arrays' agreement and adds the stored window to it. -/
theorem put_agree {α : Type} {s : Shape} {x x' : s.Idx → α} {P : s.Idx → Prop} (h : ∀ y, P y → x y = x' y) (off size : Fin s.rank → ℕ) (w : ((a : Fin s.rank) → Fin (size a)) → α) :
    ∀ y, (P y ∨ ∀ a, off a ≤ (y a).val ∧ (y a).val < off a + size a) → VecWindow.put x off size w y = VecWindow.put x' off size w y := by
  intro y hy
  unfold VecWindow.put
  split
  · rfl
  · rename_i hn
    rcases hy with hp | hw
    · exact h y hp
    · exact absurd hw hn

/-- The dh block a point leaves. -/
def dh (q : Ins F) : Vec F S512x2048 .bf16 := c12_8 q q.x4

/-- It covers the whole buffer: what was there before does not matter. -/
theorem c12_full (q : Ins F) (x : Vec F S512x2048 .bf16) : c12_8 q x = dh q := by
  funext y
  refine (put_agree (put_agree (put_agree (put_agree (put_agree (put_agree (put_agree (put_agree (fun _ (h : False) => h.elim) _ _ _) _ _ _) _ _ _) _ _ _) _ _ _) _ _ _) _ _ _) _ _ _) y ?_
  have hr : (y 0).val < 512 := (y 0).isLt
  have hc : (y 1).val < 2048 := (y 1).isLt
  have key : ∀ o, o ≤ (y 1).val → (y 1).val < o + 256 → ∀ a : Fin 2, (![0, o] : Fin 2 → ℕ) a ≤ (y a).val ∧ (y a).val < (![0, o] : Fin 2 → ℕ) a + S512x256.size a := fun o h h' a => by
    match a with
    | 0 => exact ⟨Nat.zero_le _, by show (y 0).val < 0 + 512; omega⟩
    | 1 => exact ⟨h, h'⟩
  by_contra hn
  simp only [not_or] at hn
  obtain ⟨⟨⟨⟨⟨⟨⟨⟨-, n0⟩, n1⟩, n2⟩, n3⟩, n4⟩, n5⟩, n6⟩, n7⟩ := hn
  have m0 : ¬(0 ≤ (y 1).val ∧ (y 1).val < 0 + 256) := fun h => n0 (key 0 h.1 h.2)
  have m1 : ¬(1024 ≤ (y 1).val ∧ (y 1).val < 1024 + 256) := fun h => n1 (key 1024 h.1 h.2)
  have m2 : ¬(256 ≤ (y 1).val ∧ (y 1).val < 256 + 256) := fun h => n2 (key 256 h.1 h.2)
  have m3 : ¬(1280 ≤ (y 1).val ∧ (y 1).val < 1280 + 256) := fun h => n3 (key 1280 h.1 h.2)
  have m4 : ¬(512 ≤ (y 1).val ∧ (y 1).val < 512 + 256) := fun h => n4 (key 512 h.1 h.2)
  have m5 : ¬(1536 ≤ (y 1).val ∧ (y 1).val < 1536 + 256) := fun h => n5 (key 1536 h.1 h.2)
  have m6 : ¬(768 ≤ (y 1).val ∧ (y 1).val < 768 + 256) := fun h => n6 (key 768 h.1 h.2)
  have m7 : ¬(1792 ≤ (y 1).val ∧ (y 1).val < 1792 + 256) := fun h => n7 (key 1792 h.1 h.2)
  omega

def c11_1 (q : Ins F) (i : grid0.Coords) (x : Vec F S8x1024 .f32) : Vec F S8x1024 .f32 := VecWindow.put x (k0_off1 i) S1x512.size (k0_pay71 (F := F) (v366 q))
def c10_1 (q : Ins F) : Vec F S512x2048 .fp8e5m2 := (k0_pay72 (F := F) (v362 q) (dh q))
def c7_1 (q : Ins F) (x : Vec F S512x3072 .bf16) : Vec F S512x3072 .bf16 := VecWindow.put x ![0, 0] S512x256.size (k0_pay74 (F := F) (v366 q) (q.x1 z11) (c10_1 q) (VecWindow.window q.x5 ![0, 0] S256x2048.size inb_S3072x2048_S256x2048_0_0))
def v392 (q : Ins F) : FVec F S512x1 .f32 := k0_pay73 (v366 q) (q.x1 z11)
def v402 (q : Ins F) : FVec F S512x2048 .fp8e5m2 := k0_pay75 (c10_1 q)
def c7_2 (q : Ins F) (x : Vec F S512x3072 .bf16) : Vec F S512x3072 .bf16 := VecWindow.put (c7_1 q x) ![0, 256] S512x256.size (k0_pay76 (F := F) (v392 q) (v402 q) (VecWindow.window q.x5 ![256, 0] S256x2048.size inb_S3072x2048_S256x2048_256_0))
def c7_3 (q : Ins F) (x : Vec F S512x3072 .bf16) : Vec F S512x3072 .bf16 := VecWindow.put (c7_2 q x) ![0, 512] S512x256.size (k0_pay77 (F := F) (v392 q) (c10_1 q) (VecWindow.window q.x5 ![512, 0] S256x2048.size inb_S3072x2048_S256x2048_512_0))
def c7_4 (q : Ins F) (x : Vec F S512x3072 .bf16) : Vec F S512x3072 .bf16 := VecWindow.put (c7_3 q x) ![0, 768] S512x256.size (k0_pay78 (F := F) (v392 q) (c10_1 q) (VecWindow.window q.x5 ![768, 0] S256x2048.size inb_S3072x2048_S256x2048_768_0))
def c7_5 (q : Ins F) (x : Vec F S512x3072 .bf16) : Vec F S512x3072 .bf16 := VecWindow.put (c7_4 q x) ![0, 1024] S512x256.size (k0_pay79 (F := F) (v392 q) (c10_1 q) (VecWindow.window q.x5 ![1024, 0] S256x2048.size inb_S3072x2048_S256x2048_1024_0))
def c7_6 (q : Ins F) (x : Vec F S512x3072 .bf16) : Vec F S512x3072 .bf16 := VecWindow.put (c7_5 q x) ![0, 1280] S512x256.size (k0_pay80 (F := F) (v392 q) (c10_1 q) (VecWindow.window q.x5 ![1280, 0] S256x2048.size inb_S3072x2048_S256x2048_1280_0))
def c7_7 (q : Ins F) (x : Vec F S512x3072 .bf16) : Vec F S512x3072 .bf16 := VecWindow.put (c7_6 q x) ![0, 1536] S512x256.size (k0_pay81 (F := F) (v392 q) (c10_1 q) (VecWindow.window q.x5 ![1536, 0] S256x2048.size inb_S3072x2048_S256x2048_1536_0))
def c7_8 (q : Ins F) (x : Vec F S512x3072 .bf16) : Vec F S512x3072 .bf16 := VecWindow.put (c7_7 q x) ![0, 1792] S512x256.size (k0_pay82 (F := F) (v392 q) (c10_1 q) (VecWindow.window q.x5 ![1792, 0] S256x2048.size inb_S3072x2048_S256x2048_1792_0))
def v463 (q : Ins F) : FVec F S512x256 .bf16 := (k0_pay83 (v392 q) (c10_1 q) (VecWindow.window q.x5 ![2048, 0] S256x2048.size inb_S3072x2048_S256x2048_2048_0))
def c7_9 (q : Ins F) (x : Vec F S512x3072 .bf16) : Vec F S512x3072 .bf16 := VecWindow.put (c7_8 q x) ![0, 2048] S512x256.size (v463 q)
def c7_10 (q : Ins F) (x : Vec F S512x3072 .bf16) : Vec F S512x3072 .bf16 := VecWindow.put (c7_9 q x) ![0, 2304] S512x256.size (k0_pay84 (F := F) (v392 q) (c10_1 q) (VecWindow.window q.x5 ![2304, 0] S256x2048.size inb_S3072x2048_S256x2048_2304_0))
def c7_11 (q : Ins F) (x : Vec F S512x3072 .bf16) : Vec F S512x3072 .bf16 := VecWindow.put (c7_10 q x) ![0, 2560] S512x256.size (k0_pay85 (F := F) (v392 q) (c10_1 q) (VecWindow.window q.x5 ![2560, 0] S256x2048.size inb_S3072x2048_S256x2048_2560_0))
def v487 (q : Ins F) : FVec F S512x256 .bf16 := k0_pay86 (v392 q) (c10_1 q) (VecWindow.window q.x5 ![2816, 0] S256x2048.size inb_S3072x2048_S256x2048_2816_0)
def c7_12 (q : Ins F) (x : Vec F S512x3072 .bf16) : Vec F S512x3072 .bf16 := VecWindow.put (c7_11 q x) ![0, 2816] S512x256.size (v487 q)

/-- The dX block a point leaves. -/
def dx (q : Ins F) : Vec F S512x3072 .bf16 := c7_12 q q.x3

/-- It covers the whole buffer: what was there before does not matter. -/
theorem c7_full (q : Ins F) (x : Vec F S512x3072 .bf16) : c7_12 q x = dx q := by
  funext y
  refine (put_agree (put_agree (put_agree (put_agree (put_agree (put_agree (put_agree (put_agree (put_agree (put_agree (put_agree (put_agree (fun _ (h : False) => h.elim) _ _ _) _ _ _) _ _ _) _ _ _) _ _ _) _ _ _) _ _ _) _ _ _) _ _ _) _ _ _) _ _ _) _ _ _) y ?_
  have hr : (y 0).val < 512 := (y 0).isLt
  have hc : (y 1).val < 3072 := (y 1).isLt
  have key : ∀ o, o ≤ (y 1).val → (y 1).val < o + 256 → ∀ a : Fin 2, (![0, o] : Fin 2 → ℕ) a ≤ (y a).val ∧ (y a).val < (![0, o] : Fin 2 → ℕ) a + S512x256.size a := fun o h h' a => by
    match a with
    | 0 => exact ⟨Nat.zero_le _, by show (y 0).val < 0 + 512; omega⟩
    | 1 => exact ⟨h, h'⟩
  by_contra hn
  simp only [not_or] at hn
  obtain ⟨⟨⟨⟨⟨⟨⟨⟨⟨⟨⟨⟨-, n0⟩, n1⟩, n2⟩, n3⟩, n4⟩, n5⟩, n6⟩, n7⟩, n8⟩, n9⟩, n10⟩, n11⟩ := hn
  have m0 : ¬(0 ≤ (y 1).val ∧ (y 1).val < 0 + 256) := fun h => n0 (key 0 h.1 h.2)
  have m1 : ¬(256 ≤ (y 1).val ∧ (y 1).val < 256 + 256) := fun h => n1 (key 256 h.1 h.2)
  have m2 : ¬(512 ≤ (y 1).val ∧ (y 1).val < 512 + 256) := fun h => n2 (key 512 h.1 h.2)
  have m3 : ¬(768 ≤ (y 1).val ∧ (y 1).val < 768 + 256) := fun h => n3 (key 768 h.1 h.2)
  have m4 : ¬(1024 ≤ (y 1).val ∧ (y 1).val < 1024 + 256) := fun h => n4 (key 1024 h.1 h.2)
  have m5 : ¬(1280 ≤ (y 1).val ∧ (y 1).val < 1280 + 256) := fun h => n5 (key 1280 h.1 h.2)
  have m6 : ¬(1536 ≤ (y 1).val ∧ (y 1).val < 1536 + 256) := fun h => n6 (key 1536 h.1 h.2)
  have m7 : ¬(1792 ≤ (y 1).val ∧ (y 1).val < 1792 + 256) := fun h => n7 (key 1792 h.1 h.2)
  have m8 : ¬(2048 ≤ (y 1).val ∧ (y 1).val < 2048 + 256) := fun h => n8 (key 2048 h.1 h.2)
  have m9 : ¬(2304 ≤ (y 1).val ∧ (y 1).val < 2304 + 256) := fun h => n9 (key 2304 h.1 h.2)
  have m10 : ¬(2560 ≤ (y 1).val ∧ (y 1).val < 2560 + 256) := fun h => n10 (key 2560 h.1 h.2)
  have m11 : ¬(2816 ≤ (y 1).val ∧ (y 1).val < 2816 + 256) := fun h => n11 (key 2816 h.1 h.2)
  omega
/-- Whether the point is the first of the grid, as the body tests it. -/
def first (i : grid0.Coords) : BitVec 1 := Scalar.cmpi .ne ((Scalar.extui (Scalar.cmpi .eq (BitVec.ofNat 32 (i 0).val) 0#32) : BitVec 32)) 0#32

/-- The column maximum of |dy| a point starts from: zero at the first. -/
def clear15 (i : grid0.Coords) (x : Vec F S1x3072 .bf16) : Vec F S1x3072 .bf16 := if first i = 1#1 then k0_pay4 (F := F) else x

/-- The column maximum of |dh| a point starts from: zero at the first. -/
def clear16 (i : grid0.Coords) (x : Vec F S1x2048 .f32) : Vec F S1x2048 .f32 := if first i = 1#1 then k0_pay5 (F := F) else x

/-- The column scales of dy after a point: written at the last. -/
def last13 (q : Ins F) (i : grid0.Coords) (x : Vec F S1x3072 .f32) : Vec F S1x3072 .f32 := if k0_cond2 i = 1#1 then k0_pay2 (c15_1 q) else x

/-- The column scales of dh after a point: written at the last. -/
def last14 (q : Ins F) (i : grid0.Coords) (x : Vec F S1x2048 .f32) : Vec F S1x2048 .f32 := if k0_cond2 i = 1#1 then k0_pay1 (F := F) (k0_pay3 (c16_8 q)) 0#32 else x

end Cert.Kernel.Rows

end
-- ==== Proof.Kernel.RowsPartsOne.lean ====
/-
  The parts of one block of `rows`: quantising dy, and the four column blocks of dh.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Kernel.RowsDefs
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
theorem part2_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (x3 : Vec F S512x3072 .bf16) (x15 : Vec F S1x3072 .bf16) (x16 : Vec F S1x2048 .f32) (E : Set ℕ)
    (K : (Σ' (arg0 : BitVec 32) (v19 : BitVec 32) (v31 : BitVec 32) (v33 : FVec F S512x3072 .bf16) (v34 : FVec F S512x3072 .bf16) (v35 : Vec F S1x3072 .bf16), FVec F S3072 .bf16) → sProp 𝕄) :
    iprop(owns (c : Thread nD τ) arg3 fullShare x3 ∗ owns (c : Thread nD τ) arg15 fullShare x15 ∗ owns (c : Thread nD τ) arg16 fullShare x16
        ∗ (∀ a0 v19 v31, iprop(owns (c : Thread nD τ) arg3 fullShare x3 ∗ owns (c : Thread nD τ) arg15 fullShare (clear15 i x15) ∗ owns (c : Thread nD τ) arg16 fullShare (clear16 i x16)) -∗ K ⟨a0, v19, v31, k0_pay6 x3, k0_pay7 x3, clear15 i x15, k0_pay8 x3⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part2_eq_skeleton]; unfold k0_part2_skel
  iintro ⟨H3, H15, H16, Hk⟩
  by_cases h : first i = 1#1
  · have h0 := h; unfold first at h0
    dsimp only
    rw [dif_pos h0]
    iapply (OwnsStep.load_full (defs := defs₀ (F := F)) Variants.none c none E arg15) $$ H15; iintro H15
    iapply (OwnsStep.store_full (defs := defs₀ (F := F)) Variants.none c none E arg15) $$ H15; iintro H15
    iapply (OwnsStep.load_full (defs := defs₀ (F := F)) Variants.none c none E arg16) $$ H16; iintro H16
    iapply (OwnsStep.store_full (defs := defs₀ (F := F)) Variants.none c none E arg16) $$ H16; iintro H16
    iapply (OwnsStep.load_full (defs := defs₀ (F := F)) Variants.none c none E arg3) $$ H3; iintro H3
    iapply (OwnsStep.load_full (defs := defs₀ (F := F)) Variants.none c none E arg15) $$ H15; iintro H15
    iapply (le_wp_ret _ _ _ _ _)
    simp only [clear15, clear16, if_pos h]
    iapply Hk
    isplitl [H3]; · iexact H3
    isplitl [H15]; · iexact H15
    iexact H16
  · have h0 := h; unfold first at h0
    dsimp only
    rw [dif_neg h0]
    iapply (OwnsStep.load_full (defs := defs₀ (F := F)) Variants.none c none E arg3) $$ H3; iintro H3
    iapply (OwnsStep.load_full (defs := defs₀ (F := F)) Variants.none c none E arg15) $$ H15; iintro H15
    iapply (le_wp_ret _ _ _ _ _)
    simp only [clear15, clear16, if_neg h]
    iapply Hk
    isplitl [H3]; · iexact H3
    isplitl [H15]; · iexact H15
    iexact H16

set_option maxHeartbeats 1000000 in
theorem part1_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (x13 : Vec F S1x3072 .f32) (x15 : Vec F S1x3072 .bf16) (x16 : Vec F S1x2048 .f32) (E : Set ℕ)
    (K : (Σ' (v530 : IVec S1x2048 32), BitVec 32) → sProp 𝕄) :
    iprop(owns (c : Thread nD τ) arg13 fullShare x13 ∗ owns (c : Thread nD τ) arg15 fullShare x15 ∗ owns (c : Thread nD τ) arg16 fullShare x16
        ∗ (iprop(owns (c : Thread nD τ) arg13 fullShare (k0_pay2 x15) ∗ owns (c : Thread nD τ) arg15 fullShare x15 ∗ owns (c : Thread nD τ) arg16 fullShare x16) -∗ K ⟨k0_pay3 x16, 0#32⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part1_eq_skeleton]; unfold k0_part1_skel
  iintro ⟨H13, H15, H16, Hk⟩
  iapply (OwnsStep.load_full (defs := defs₀ (F := F)) Variants.none c none E arg15) $$ H15; iintro H15
  iapply (OwnsStep.load_full (defs := defs₀ (F := F)) Variants.none c none E arg13) $$ H13; iintro H13
  iapply (OwnsStep.store_full (defs := defs₀ (F := F)) Variants.none c none E arg13) $$ H13; iintro H13
  iapply (OwnsStep.load_full (defs := defs₀ (F := F)) Variants.none c none E arg16) $$ H16; iintro H16
  iapply (le_wp_ret _ _ _ _ _)
  iapply Hk
  isplitl [H13]; · iexact H13
  isplitl [H15]; · iexact H15
  iexact H16

set_option maxHeartbeats 1000000 in
theorem part3_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F)   (E : Set ℕ) (K : (Σ' (v91 : FVec F S512x1 .f32), F .f32) → sProp 𝕄) :
    iprop(owns (c : Thread nD τ) arg15 fullShare q.a15
        ∗ (iprop(owns (c : Thread nD τ) arg15 fullShare (c15_1 q)) -∗ K ⟨(v91 q), (Scalar.ofBits (F := F) .f32 0x37924925#32)⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v34 q) q.a15 (v36 q)) K := by
  rw [k0_part3_eq_skeleton]; unfold k0_part3_skel
  iintro ⟨H15, Hk⟩
  iapply (OwnsStep.load_full (defs := defs₀ (F := F)) Variants.none c none E arg15) $$ H15; iintro H15
  iapply (OwnsStep.store_full (defs := defs₀ (F := F)) Variants.none c none E arg15) $$ H15; iintro H15
  iapply (le_wp_ret _ _ _ _ _)
  dsimp only [c15_1, v91]
  iapply Hk
  iexact H15

set_option maxHeartbeats 1000000 in
theorem part4_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x8 : Vec F S512x3072 .fp8e5m2) (x9 : Vec F S8x1024 .f32) (v19 : BitVec 32) (v31 : BitVec 32) (E : Set ℕ) (K : (FVec F S512x1 .f32) → sProp 𝕄) :
    iprop(owns (c : Thread nD τ) arg8 fullShare x8 ∗ owns (c : Thread nD τ) arg9 fullShare x9
        ∗ (iprop(owns (c : Thread nD τ) arg8 fullShare (c8_1 q) ∗ owns (c : Thread nD τ) arg9 fullShare (c9_1 q i x9)) -∗ K (v114 q)))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v31 (v33 q) (v91 q) (Scalar.ofBits (F := F) .f32 0x37924925#32)) K := by
  rw [k0_part4_eq_skeleton]; unfold k0_part4_skel
  iintro ⟨H8, H9, Hk⟩
  iapply (OwnsStep.load_full (defs := defs₀ (F := F)) Variants.none c none E arg8) $$ H8; iintro H8
  iapply (OwnsStep.store_full (defs := defs₀ (F := F)) Variants.none c none E arg8) $$ H8; iintro H8
  iapply (OwnsStep.load (defs := defs₀ (F := F)) Variants.none c none E arg9) $$ H9; iintro H9
  iapply (OwnsStep.store (defs := defs₀ (F := F)) Variants.none c none E arg9) $$ H9; iintro H9
  iapply (le_wp_ret _ _ _ _ _)
  dsimp only [c8_1, c9_1, v114]
  iapply Hk
  isplitl [H8]; · iexact H8
  iexact H9

set_option maxHeartbeats 1000000 in
theorem part5_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v137 : FVec F S512x1 .f32) (v161 : FVec F S512x256 .f32) (v168 : FVec F S512x128 .f32) (v172 : FVec F S1x256 .f32), Vec F S1x256 .f32) → sProp 𝕄) :
    iprop(owns (c : Thread nD τ) arg2 fullShare q.x2 ∗ owns (c : Thread nD τ) arg8 fullShare (c8_1 q) ∗ owns (c : Thread nD τ) arg6 fullShare q.x6 ∗ owns (c : Thread nD τ) arg4 fullShare q.x4 ∗ owns (c : Thread nD τ) arg12 fullShare x12 ∗ owns (c : Thread nD τ) arg16 fullShare q.a16
        ∗ (iprop(owns (c : Thread nD τ) arg2 fullShare q.x2 ∗ owns (c : Thread nD τ) arg8 fullShare (c8_1 q) ∗ owns (c : Thread nD τ) arg6 fullShare q.x6 ∗ owns (c : Thread nD τ) arg4 fullShare q.x4 ∗ owns (c : Thread nD τ) arg12 fullShare (c12_1 q x12) ∗ owns (c : Thread nD τ) arg16 fullShare q.a16) -∗ K ⟨(v137 q), (v161 q), (v168 q), (v172 q), (v173 q)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v114 q)) K := by
  rw [k0_part5_eq_skeleton]; unfold k0_part5_skel
  iintro ⟨H2, H8, H6, H4, H12, H16, Hk⟩
  iapply (OwnsStep.smem (defs := defs₀ (F := F)) Variants.none c none E arg2 (h1 := numel1_S1x1) (hp := rfl) z11) $$ H2; iintro H2
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (OwnsStep.load (defs := defs₀ (F := F)) Variants.none c none E arg4) $$ H4; iintro H4
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (le_wp_ret _ _ _ _ _)
  dsimp only [c12_1, v137, v161, v168, v172, v173]
  iapply Hk
  isplitl [H2]; · iexact H2
  isplitl [H8]; · iexact H8
  isplitl [H6]; · iexact H6
  isplitl [H4]; · iexact H4
  isplitl [H12]; · iexact H12
  iexact H16

set_option maxHeartbeats 1000000 in
theorem part6_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v182 : FVec F S512x128 .f32) (v210 : FVec F S512x256 .f32), FVec F S512x256 .f32) → sProp 𝕄) :
    iprop(owns (c : Thread nD τ) arg16 fullShare q.a16 ∗ owns (c : Thread nD τ) arg12 fullShare (c12_1 q x12) ∗ owns (c : Thread nD τ) arg8 fullShare (c8_1 q) ∗ owns (c : Thread nD τ) arg6 fullShare q.x6 ∗ owns (c : Thread nD τ) arg4 fullShare q.x4
        ∗ (iprop(owns (c : Thread nD τ) arg16 fullShare (c16_2 q) ∗ owns (c : Thread nD τ) arg12 fullShare (c12_2 q x12) ∗ owns (c : Thread nD τ) arg8 fullShare (c8_1 q) ∗ owns (c : Thread nD τ) arg6 fullShare q.x6 ∗ owns (c : Thread nD τ) arg4 fullShare q.x4) -∗ K ⟨(v182 q), (v210 q), (v212 q)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v137 q) (v161 q) (v168 q) (v172 q) (v173 q)) K := by
  rw [k0_part6_eq_skeleton]; unfold k0_part6_skel
  iintro ⟨H16, H12, H8, H6, H4, Hk⟩
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (OwnsStep.load (defs := defs₀ (F := F)) Variants.none c none E arg4) $$ H4; iintro H4
  iapply (le_wp_ret _ _ _ _ _)
  dsimp only [c12_2, c16_1, c16_2, v182, v210, v212]
  iapply Hk
  isplitl [H16]; · iexact H16
  isplitl [H12]; · iexact H12
  isplitl [H8]; · iexact H8
  isplitl [H6]; · iexact H6
  iexact H4

set_option maxHeartbeats 1000000 in
theorem part7_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v233 : FVec F S512x128 .f32) (v246 : FVec F S512x256 .f32), Vec F S512x256 .bf16) → sProp 𝕄) :
    iprop(owns (c : Thread nD τ) arg12 fullShare (c12_2 q x12) ∗ owns (c : Thread nD τ) arg16 fullShare (c16_2 q) ∗ owns (c : Thread nD τ) arg8 fullShare (c8_1 q) ∗ owns (c : Thread nD τ) arg6 fullShare q.x6 ∗ owns (c : Thread nD τ) arg4 fullShare q.x4
        ∗ (iprop(owns (c : Thread nD τ) arg12 fullShare (c12_4 q x12) ∗ owns (c : Thread nD τ) arg16 fullShare (c16_4 q) ∗ owns (c : Thread nD τ) arg8 fullShare (c8_1 q) ∗ owns (c : Thread nD τ) arg6 fullShare q.x6 ∗ owns (c : Thread nD τ) arg4 fullShare q.x4) -∗ K ⟨(v233 q), (v246 q), (v247 q)⟩))
      ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v137 q) (v182 q) (v210 q) (v212 q)) K := by
  rw [k0_part7_eq_skeleton]; unfold k0_part7_skel
  iintro ⟨H12, H16, H8, H6, H4, Hk⟩
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (le_wp_ret _ _ _ _ _)
  dsimp only [c12_3, c12_4, c16_3, c16_4, v233, v246, v247]
  iapply Hk
  isplitl [H12]; · iexact H12
  isplitl [H16]; · iexact H16
  isplitl [H8]; · iexact H8
  isplitl [H6]; · iexact H6
  iexact H4

end Cert.Kernel.Rows

end
-- ==== Proof.Kernel.RowsPartsTwo.lean ====
/-
  The parts of one block of `rows`, continued: quantising dh, and the column blocks of dX.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Kernel.RowsDefs
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
theorem part8_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v284 : FVec F S512x128 .f32), FVec F S1x256 .f32) → sProp 𝕄) :
    iprop(owns (c : Thread nD τ) arg4 fullShare q.x4 ∗ owns (c : Thread nD τ) arg12 fullShare (c12_4 q x12) ∗ owns (c : Thread nD τ) arg16 fullShare (c16_4 q)
        ∗ (iprop(owns (c : Thread nD τ) arg4 fullShare q.x4 ∗ owns (c : Thread nD τ) arg12 fullShare (c12_6 q x12) ∗ owns (c : Thread nD τ) arg16 fullShare (c16_5 q)) -∗ K ⟨(v284 q), (v288 q)⟩))
      ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v233 q) (v246 q) (v247 q)) K := by
  rw [k0_part8_eq_skeleton]; unfold k0_part8_skel
  iintro ⟨H4, H12, H16, Hk⟩
  iapply (OwnsStep.load (defs := defs₀ (F := F)) Variants.none c none E arg4) $$ H4; iintro H4
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (le_wp_ret _ _ _ _ _)
  dsimp only [c12_5, c12_6, c16_5, v284, v288]
  iapply Hk
  isplitl [H4]; · iexact H4
  isplitl [H12]; · iexact H12
  iexact H16

set_option maxHeartbeats 1000000 in
theorem part9_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v314 : FVec F S512x256 .f32) (v321 : FVec F S512x128 .f32) (v325 : FVec F S1x256 .f32), Vec F S1x256 .f32) → sProp 𝕄) :
    iprop(owns (c : Thread nD τ) arg16 fullShare (c16_5 q) ∗ owns (c : Thread nD τ) arg8 fullShare (c8_1 q) ∗ owns (c : Thread nD τ) arg6 fullShare q.x6 ∗ owns (c : Thread nD τ) arg4 fullShare q.x4 ∗ owns (c : Thread nD τ) arg12 fullShare (c12_6 q x12)
        ∗ (iprop(owns (c : Thread nD τ) arg16 fullShare (c16_6 q) ∗ owns (c : Thread nD τ) arg8 fullShare (c8_1 q) ∗ owns (c : Thread nD τ) arg6 fullShare q.x6 ∗ owns (c : Thread nD τ) arg4 fullShare q.x4 ∗ owns (c : Thread nD τ) arg12 fullShare (c12_7 q x12)) -∗ K ⟨(v314 q), (v321 q), (v325 q), (v326 q)⟩))
      ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v137 q) (v284 q) (v288 q)) K := by
  rw [k0_part9_eq_skeleton]; unfold k0_part9_skel
  iintro ⟨H16, H8, H6, H4, H12, Hk⟩
  iapply (OwnsStep.load (defs := defs₀ (F := F)) Variants.none c none E arg16) $$ H16; iintro H16
  iapply (OwnsStep.store (defs := defs₀ (F := F)) Variants.none c none E arg16) $$ H16; iintro H16
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (OwnsStep.load (defs := defs₀ (F := F)) Variants.none c none E arg4) $$ H4; iintro H4
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (le_wp_ret _ _ _ _ _)
  dsimp only [c12_7, c16_6, v314, v321, v325, v326]
  iapply Hk
  isplitl [H16]; · iexact H16
  isplitl [H8]; · iexact H8
  isplitl [H6]; · iexact H6
  isplitl [H4]; · iexact H4
  iexact H12

set_option maxHeartbeats 1000000 in
theorem part10_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v362 : IVec S512x1 32), IVec S512x1 32) → sProp 𝕄) :
    iprop(owns (c : Thread nD τ) arg16 fullShare (c16_6 q) ∗ owns (c : Thread nD τ) arg12 fullShare (c12_7 q x12)
        ∗ (iprop(owns (c : Thread nD τ) arg16 fullShare (c16_8 q) ∗ owns (c : Thread nD τ) arg12 fullShare (c12_8 q x12)) -∗ K ⟨(v362 q), (v366 q)⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v314 q) (v321 q) (v325 q) (v326 q)) K := by
  rw [k0_part10_eq_skeleton]; unfold k0_part10_skel
  iintro ⟨H16, H12, Hk⟩
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (le_wp_ret _ _ _ _ _)
  dsimp only [c12_8, c16_7, c16_8, v362, v366]
  iapply Hk
  isplitl [H16]; · iexact H16
  iexact H12

set_option maxHeartbeats 1000000 in
theorem part11_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x11 : Vec F S8x1024 .f32) (x10 : Vec F S512x2048 .fp8e5m2) (x7 : Vec F S512x3072 .bf16) (v19 : BitVec 32) (v31 : BitVec 32) (E : Set ℕ) (K : (Σ' (v392 : FVec F S512x1 .f32), FVec F S512x2048 .fp8e5m2) → sProp 𝕄) :
    iprop(owns (c : Thread nD τ) arg11 fullShare x11 ∗ owns (c : Thread nD τ) arg12 fullShare (dh q) ∗ owns (c : Thread nD τ) arg10 fullShare x10 ∗ owns (c : Thread nD τ) arg1 fullShare q.x1 ∗ owns (c : Thread nD τ) arg5 fullShare q.x5 ∗ owns (c : Thread nD τ) arg7 fullShare x7
        ∗ (iprop(owns (c : Thread nD τ) arg11 fullShare (c11_1 q i x11) ∗ owns (c : Thread nD τ) arg12 fullShare (dh q) ∗ owns (c : Thread nD τ) arg10 fullShare (c10_1 q) ∗ owns (c : Thread nD τ) arg1 fullShare q.x1 ∗ owns (c : Thread nD τ) arg5 fullShare q.x5 ∗ owns (c : Thread nD τ) arg7 fullShare (c7_1 q x7)) -∗ K ⟨(v392 q), (v402 q)⟩))
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v31 (v362 q) (v366 q)) K := by
  rw [k0_part11_eq_skeleton]; unfold k0_part11_skel
  iintro ⟨H11, H12, H10, H1, H5, H7, Hk⟩
  iapply (OwnsStep.load (defs := defs₀ (F := F)) Variants.none c none E arg11) $$ H11; iintro H11
  iapply (OwnsStep.store (defs := defs₀ (F := F)) Variants.none c none E arg11) $$ H11; iintro H11
  iapply (OwnsStep.load_full (defs := defs₀ (F := F)) Variants.none c none E arg12) $$ H12; iintro H12
  iapply (OwnsStep.load_full (defs := defs₀ (F := F)) Variants.none c none E arg10) $$ H10; iintro H10
  iapply (OwnsStep.store_full (defs := defs₀ (F := F)) Variants.none c none E arg10) $$ H10; iintro H10
  iapply (OwnsStep.smem (defs := defs₀ (F := F)) Variants.none c none E arg1 (h1 := numel1_S1x1) (hp := rfl) z11) $$ H1; iintro H1
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (le_wp_ret _ _ _ _ _)
  dsimp only [c10_1, c11_1, c7_1, v392, v402]
  iapply Hk
  isplitl [H11]; · iexact H11
  isplitl [H12]; · iexact H12
  isplitl [H10]; · iexact H10
  isplitl [H1]; · iexact H1
  isplitl [H5]; · iexact H5
  iexact H7

set_option maxHeartbeats 1000000 in
theorem part12_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16)  (E : Set ℕ) (K : (PUnit) → sProp 𝕄) :
    iprop(owns (c : Thread nD τ) arg5 fullShare q.x5 ∗ owns (c : Thread nD τ) arg7 fullShare (c7_1 q x7) ∗ owns (c : Thread nD τ) arg10 fullShare (c10_1 q)
        ∗ (iprop(owns (c : Thread nD τ) arg5 fullShare q.x5 ∗ owns (c : Thread nD τ) arg7 fullShare (c7_5 q x7) ∗ owns (c : Thread nD τ) arg10 fullShare (c10_1 q)) -∗ K ⟨⟩))
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v392 q) (v402 q)) K := by
  rw [k0_part12_eq_skeleton]; unfold k0_part12_skel
  iintro ⟨H5, H7, H10, Hk⟩
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (le_wp_ret _ _ _ _ _)
  dsimp only [c7_2, c7_3, c7_4, c7_5]
  iapply Hk
  isplitl [H5]; · iexact H5
  isplitl [H7]; · iexact H7
  iexact H10

set_option maxHeartbeats 1000000 in
theorem part13_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16)  (E : Set ℕ) (K : (FVec F S512x256 .bf16) → sProp 𝕄) :
    iprop(owns (c : Thread nD τ) arg10 fullShare (c10_1 q) ∗ owns (c : Thread nD τ) arg5 fullShare q.x5 ∗ owns (c : Thread nD τ) arg7 fullShare (c7_5 q x7)
        ∗ (iprop(owns (c : Thread nD τ) arg10 fullShare (c10_1 q) ∗ owns (c : Thread nD τ) arg5 fullShare q.x5 ∗ owns (c : Thread nD τ) arg7 fullShare (c7_8 q x7)) -∗ K (v463 q)))
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v392 q)) K := by
  rw [k0_part13_eq_skeleton]; unfold k0_part13_skel
  iintro ⟨H10, H5, H7, Hk⟩
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (le_wp_ret _ _ _ _ _)
  dsimp only [c7_6, c7_7, c7_8, v463]
  iapply Hk
  isplitl [H10]; · iexact H10
  isplitl [H5]; · iexact H5
  iexact H7

end Cert.Kernel.Rows

end
-- ==== Proof.Kernel.RowsRun.lean ====
/-
  One grid point of the call `rows`: what `cc0_rows` leaves in its buffers, as functions of what it finds in them.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Kernel.RowsPartsOne
public import proofs.«01_k».proof.Proof.Kernel.RowsPartsTwo
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- A return in front of a program is no step. -/
theorem wp_ret_then (c : Dev nD) {α β : Type} (a : α) (k : α → Prog (TpuEff nD τ sig (Elt F) Λ₀ .tc) β) (E : Set ℕ) (K : β → sProp 𝕄) :
    wp frame (wpE (defs₀ (F := F)) Variants.none (c : Thread nD τ) none) E (k a) K ⊢ wp frame (wpE (defs₀ (F := F)) Variants.none (c : Thread nD τ) none) E ((Prog.ret a).bind k) K := .rfl

set_option maxHeartbeats 4000000 in
/-- The part of the body before the last point's closing stores. -/
theorem main_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16) (x8 : Vec F S512x3072 .fp8e5m2) (x9 : Vec F S8x1024 .f32) (x10 : Vec F S512x2048 .fp8e5m2) (x11 : Vec F S8x1024 .f32) (x12 : Vec F S512x2048 .bf16) (y15 : Vec F S1x3072 .bf16) (y16 : Vec F S1x2048 .f32) (h15 : clear15 i y15 = q.a15) (h16 : clear16 i y16 = q.a16) (E : Set ℕ) (K : (Σ' (arg0 : BitVec 32), FVec F S512x256 .bf16) → sProp 𝕄) :
    iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare y15 ∗ owns (c : Thread nD τ) arg16 fullShare y16
        ∗ (∀ a0, iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare (c7_11 q x7) ∗ owns (c : Thread nD τ) arg8 fullShare (c8_1 q) ∗ owns (c : Thread nD τ) arg9 fullShare (c9_1 q i x9) ∗ owns (c : Thread nD τ) arg10 fullShare (c10_1 q) ∗ owns (c : Thread nD τ) arg11 fullShare (c11_1 q i x11) ∗ owns (c : Thread nD τ) arg12 fullShare (dh q) ∗ owns (c : Thread nD τ) arg15 fullShare (c15_1 q) ∗ owns (c : Thread nD τ) arg16 fullShare (c16_8 q)) -∗ K ⟨a0, v487 q⟩))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part14_eq_skeleton]; unfold k0_part14_skel
  iintro ⟨H1, H2, H3, H4, H5, H6, H7, H8, H9, H10, H11, H12, H15, H16, Hk⟩
  rw [wp_bind]
  iapply (part2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q.x3 y15 y16 E _)
  isplitl [H3]; · iexact H3
  isplitl [H15]; · iexact H15
  isplitl [H16]; · iexact H16
  iintro %a0 %v19 %v31 ⟨H3, H15, H16⟩
  rw [h15, h16]
  rw [wp_bind]
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q   E _)
  isplitl [H15]; · iexact H15
  iintro ⟨H15⟩
  rw [wp_bind]
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _ _ v19 v31 E _)
  isplitl [H8]; · iexact H8
  isplitl [H9]; · iexact H9
  iintro ⟨H8, H9⟩
  rw [wp_bind]
  iapply (part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H2]; · iexact H2
  isplitl [H8]; · iexact H8
  isplitl [H6]; · iexact H6
  isplitl [H4]; · iexact H4
  isplitl [H12]; · iexact H12
  isplitl [H16]; · iexact H16
  iintro ⟨H2, H8, H6, H4, H12, H16⟩
  rw [wp_bind]
  iapply (part6_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H16]; · iexact H16
  isplitl [H12]; · iexact H12
  isplitl [H8]; · iexact H8
  isplitl [H6]; · iexact H6
  isplitl [H4]; · iexact H4
  iintro ⟨H16, H12, H8, H6, H4⟩
  rw [wp_bind]
  iapply (part7_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H12]; · iexact H12
  isplitl [H16]; · iexact H16
  isplitl [H8]; · iexact H8
  isplitl [H6]; · iexact H6
  isplitl [H4]; · iexact H4
  iintro ⟨H12, H16, H8, H6, H4⟩
  rw [wp_bind]
  iapply (part8_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H4]; · iexact H4
  isplitl [H12]; · iexact H12
  isplitl [H16]; · iexact H16
  iintro ⟨H4, H12, H16⟩
  rw [wp_bind]
  iapply (part9_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H16]; · iexact H16
  isplitl [H8]; · iexact H8
  isplitl [H6]; · iexact H6
  isplitl [H4]; · iexact H4
  isplitl [H12]; · iexact H12
  iintro ⟨H16, H8, H6, H4, H12⟩
  rw [wp_bind]
  iapply (part10_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H16]; · iexact H16
  isplitl [H12]; · iexact H12
  iintro ⟨H16, H12⟩
  rw [c12_full]
  rw [wp_bind]
  iapply (part11_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _ _ _ v19 v31 E _)
  isplitl [H11]; · iexact H11
  isplitl [H12]; · iexact H12
  isplitl [H10]; · iexact H10
  isplitl [H1]; · iexact H1
  isplitl [H5]; · iexact H5
  isplitl [H7]; · iexact H7
  iintro ⟨H11, H12, H10, H1, H5, H7⟩
  rw [wp_bind]
  iapply (part12_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H5]; · iexact H5
  isplitl [H7]; · iexact H7
  isplitl [H10]; · iexact H10
  iintro ⟨H5, H7, H10⟩
  rw [wp_bind]
  iapply (part13_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H10]; · iexact H10
  isplitl [H5]; · iexact H5
  isplitl [H7]; · iexact H7
  iintro ⟨H10, H5, H7⟩
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (le_wp_ret _ _ _ _ _)
  dsimp only [v487, c7_11, c7_10, c7_9]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  iexact H16

set_option maxHeartbeats 4000000 in
/-- One grid point of `rows`: what it leaves in its buffers. -/
theorem run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16) (x8 : Vec F S512x3072 .fp8e5m2) (x9 : Vec F S8x1024 .f32) (x10 : Vec F S512x2048 .fp8e5m2) (x11 : Vec F S8x1024 .f32) (x12 : Vec F S512x2048 .bf16) (x13 : Vec F S1x3072 .f32) (x14 : Vec F S1x2048 .f32) (y15 : Vec F S1x3072 .bf16) (y16 : Vec F S1x2048 .f32) (h15 : clear15 i y15 = q.a15) (h16 : clear16 i y16 = q.a16) (E : Set ℕ) (K : PUnit → sProp 𝕄) :
    iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare y15 ∗ owns (c : Thread nD τ) arg16 fullShare y16
        ∗ (iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare (dx q) ∗ owns (c : Thread nD τ) arg8 fullShare (c8_1 q) ∗ owns (c : Thread nD τ) arg9 fullShare (c9_1 q i x9) ∗ owns (c : Thread nD τ) arg10 fullShare (c10_1 q) ∗ owns (c : Thread nD τ) arg11 fullShare (c11_1 q i x11) ∗ owns (c : Thread nD τ) arg12 fullShare (dh q) ∗ owns (c : Thread nD τ) arg13 fullShare (last13 q i x13) ∗ owns (c : Thread nD τ) arg14 fullShare (last14 q i x14) ∗ owns (c : Thread nD τ) arg15 fullShare (c15_1 q) ∗ owns (c : Thread nD τ) arg16 fullShare (c16_8 q)) -∗ K ⟨⟩))
      ⊢ wp frame (wpE (defs₀ (F := F)) Variants.none c none) E (cc0_rows i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_rows_eq_skeleton]; unfold cc0_rows_skel
  iintro ⟨H1, H2, H3, H4, H5, H6, H7, H8, H9, H10, H11, H12, H13, H14, H15, H16, Hk⟩
  rw [wp_bind]
  iapply (main_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q x7 x8 x9 x10 x11 x12 y15 y16 h15 h16 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  isplitl [H16]; · iexact H16
  iintro %a0 ⟨H1, H2, H3, H4, H5, H6, H7, H8, H9, H10, H11, H12, H15, H16⟩
  iapply (OwnsStep.load (defs := defs₀ (F := F)) Variants.none c none E arg7) $$ H7; iintro H7
  iapply (OwnsStep.store (defs := defs₀ (F := F)) Variants.none c none E arg7) $$ H7; iintro H7
  rw [← c7_full q x7]
  dsimp only [c7_12]
  by_cases h : k0_cond2 i = 1#1
  · rw [dif_pos h]
    iapply (wp_ret_then _ _ _ _ _)
    rw [wp_bind]
    iapply (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ E _)
    isplitl [H13]; · iexact H13
    isplitl [H15]; · iexact H15
    isplitl [H16]; · iexact H16
    iintro ⟨H13, H15, H16⟩
    iapply (OwnsStep.load_full (defs := defs₀ (F := F)) Variants.none c none E arg14) $$ H14; iintro H14
    iapply (OwnsStep.store_full (defs := defs₀ (F := F)) Variants.none c none E arg14) $$ H14; iintro H14
    iapply (le_wp_ret _ _ _ _ _)
    simp only [last13, last14, if_pos h]
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg h]
    iapply (le_wp_ret _ _ _ _ _)
    simp only [last13, last14, if_neg h]
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Rows

end
-- ==== Proof.Kernel.Rows.lean ====
/-
  The rows call as one pipeline region: its proof data (what every staging buffer and the two column maxima may hold
  after each grid point), the proof that one point of the body does what the data say, and what the call's result
  arrays hold at the end.
-/
module

public import proofs.«01_k».proof.Proof.Kernel.RowsRun
public import Idealize.ShloMosaic.Lib.Pipeline.TableIdle
public import Idealize.ShloMosaic.Lib.Pipeline.FrameTail
public import Idealize.ShloMosaic.Lib.Pipeline.ArrRel

@[expose] public section

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel.Gen

variable {F : FTy → Type} [FloatOps F]

local notation "𝕄" => MT nD τ sig Unit (Elt F) ℕ (UR sig nD τ) ℕ

/-! ## The point's conditions, in closed form -/

theorem hN (t : Fin cfg0.N) : t.val < 16 := lt_of_lt_of_eq t.isLt (show cfg0.N = 16 from N_0)

theorem first_iff : ∀ t : Fin cfg0.N, first (grid0.coords t) = 1#1 ↔ t.val = 0 := by decide +kernel
theorem cond2_iff : ∀ t : Fin cfg0.N, k0_cond2 (grid0.coords t) = 1#1 ↔ t.val = 15 := by decide +kernel
theorem off1_eq : ∀ t : Fin cfg0.N, k0_off1 (grid0.coords t) = (![t.val / 2, 512 * (t.val % 2)] : Fin 2 → ℕ) := by decide +kernel

variable (W : Dev nD → Valuation τ sig (Elt F))

/-- Window `w`'s block at point `t`, read from the entry contents of its array. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What point `t` reads, the column maxima it starts from being `a`. -/
def insAt (c : Dev nD) (t : Fin cfg0.N) (a : Vec F S1x3072 .bf16 × Vec F S1x2048 .f32) : Ins F where
  x1 := iblk W c 0 t
  x2 := iblk W c 1 t
  x3 := iblk W c 2 t
  x4 := iblk W c 3 t
  x5 := iblk W c 4 t
  x6 := iblk W c 5 t
  a15 := a.1
  a16 := a.2

/-- The column maxima point `n` starts from. -/
def colIn (c : Dev nD) : (n : ℕ) → n < cfg0.N → Vec F S1x3072 .bf16 × Vec F S1x2048 .f32
  | 0, _ => (k0_pay4, k0_pay5)
  | n + 1, h => (c15_1 (insAt W c ⟨n, Nat.lt_of_succ_lt h⟩ (colIn c n (Nat.lt_of_succ_lt h))),
      c16_8 (insAt W c ⟨n, Nat.lt_of_succ_lt h⟩ (colIn c n (Nat.lt_of_succ_lt h))))

/-- What point `t` reads. -/
def ins (c : Dev nD) (t : Fin cfg0.N) : Ins F := insAt W c t (colIn W c t.val t.isLt)

/-- The row scales of dy, after the points up to `n`. -/
def scan8 (c : Dev nD) : (n : ℕ) → n < cfg0.N → Vec F S8x1024 .f32
  | 0, h => c9_1 (ins W c ⟨0, h⟩) (grid0.coords ⟨0, h⟩) (fun _ => FloatOps.ofBits .f32 0#32)
  | n + 1, h => c9_1 (ins W c ⟨n + 1, h⟩) (grid0.coords ⟨n + 1, h⟩) (scan8 c n (Nat.lt_of_succ_lt h))

/-- The row scales of dh, after the points up to `n`. -/
def scan10 (c : Dev nD) : (n : ℕ) → n < cfg0.N → Vec F S8x1024 .f32
  | 0, h => c11_1 (ins W c ⟨0, h⟩) (grid0.coords ⟨0, h⟩) (fun _ => FloatOps.ofBits .f32 0#32)
  | n + 1, h => c11_1 (ins W c ⟨n + 1, h⟩) (grid0.coords ⟨n + 1, h⟩) (scan10 c n (Nat.lt_of_succ_lt h))

/-- What the column maxima are known to be before point `n`: what the previous point left. -/
def Holds (c : Dev nD) (n : ℕ) (f15 : Vec F S1x3072 .bf16) (f16 : Vec F S1x2048 .f32) : Prop :=
  ∀ (k : ℕ) (h : k < cfg0.N), n = k + 1 → f15 = c15_1 (ins W c ⟨k, h⟩) ∧ f16 = c16_8 (ins W c ⟨k, h⟩)

theorem holds_zero (c : Dev nD) (f15 : Vec F S1x3072 .bf16) (f16 : Vec F S1x2048 .f32) : Holds W c 0 f15 f16 := fun k _ h => absurd h (Nat.succ_ne_zero k).symm

theorem holds_succ (c : Dev nD) (t : Fin cfg0.N) : Holds W c (t.val + 1) (c15_1 (ins W c t)) (c16_8 (ins W c t)) := by
  intro k h e
  obtain rfl : k = t.val := by omega
  exact ⟨rfl, rfl⟩

theorem clear_eq (c : Dev nD) (t : Fin cfg0.N) (f15 : Vec F S1x3072 .bf16) (f16 : Vec F S1x2048 .f32) (hf : Holds W c t.val f15 f16) :
    clear15 (grid0.coords t) f15 = (ins W c t).a15 ∧ clear16 (grid0.coords t) f16 = (ins W c t).a16 := by
  obtain ⟨n, h⟩ := t
  cases n with
  | zero =>
    have e : first (grid0.coords ⟨0, h⟩) = 1#1 := (first_iff ⟨0, h⟩).mpr rfl
    exact ⟨if_pos e, if_pos e⟩
  | succ n =>
    have e : ¬ first (grid0.coords ⟨n + 1, h⟩) = 1#1 := fun e => absurd ((first_iff ⟨n + 1, h⟩).mp e) (Nat.succ_ne_zero n)
    have hh := hf n (Nat.lt_of_succ_lt h) rfl
    exact ⟨(if_neg e).trans hh.1, (if_neg e).trans hh.2⟩

/-! ## The proof data of the region -/

/-- What the call carries between points beside the windows: the two column maxima and the other scratch memory. -/
def Phi (c : Dev nD) (n : ℕ) : sProp 𝕄 :=
  iprop((∃ f15 f16, owns (c : Thread nD τ) (Memref.whole cc0_scratch0) fullShare f15 ∗ owns (c : Thread nD τ) (Memref.whole cc0_scratch1) fullShare f16 ∗ ⌜Holds W c n f15 f16⌝)
    ∗ Pipeline.scopedRestBut (Ix := Unit) (Name := ℕ) (U := UR sig nD τ) (Lvl := ℕ) (Val := Elt F) spec0 c [cc0_scratch0, cc0_scratch1])

/-- The proof data: every input block kept; the gradient, the codes and dh of the point's rows; the two row-scale
    arrays with the point's piece overwritten; the column scales written at the last point. -/
def rdat (c : Dev nD) : RDat τ (Elt F) Unit ℕ (UR sig nD τ) ℕ cfg0 c where
  A w := W c (Proc.devRef .tc (Pipeline.arrRef spec0 w))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => X = dx (ins W c t)
    | ⟨7, _⟩ => fun _ X => X = c8_1 (ins W c t)
    | ⟨8, _⟩ => fun Y X => X = c9_1 (ins W c t) (grid0.coords t) Y
    | ⟨9, _⟩ => fun _ X => X = c10_1 (ins W c t)
    | ⟨10, _⟩ => fun Y X => X = c11_1 (ins W c t) (grid0.coords t) Y
    | ⟨11, _⟩ => fun _ X => X = dh (ins W c t)
    | ⟨12, _⟩ => fun Y X => X = last13 (ins W c t) (grid0.coords t) Y
    | ⟨13, _⟩ => fun Y X => X = last14 (ins W c t) (grid0.coords t) Y
  Φ t := Phi W c t.val
  q _ := fullShare
  owed _ := 0

/-- What every write-back writes: the rows' results, the whole row-scale arrays, the column scales. -/
def fin0 (c : Dev nD) (w : Fin cfg0.W) (t : Fin cfg0.N) : (cfg0.win w).block.Idx → Elt F (cfg0.win w).elt :=
  match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => dx (ins W c t)
    | ⟨7, _⟩ => c8_1 (ins W c t)
    | ⟨8, _⟩ => scan8 W c t.val t.isLt
    | ⟨9, _⟩ => c10_1 (ins W c t)
    | ⟨10, _⟩ => scan10 W c t.val t.isLt
    | ⟨11, _⟩ => dh (ins W c t)
    | ⟨12, _⟩ => k0_pay2 (c15_1 (ins W c t))
    | ⟨13, _⟩ => k0_pay1 (F := F) (k0_pay3 (c16_8 (ins W c t))) 0#32

/-- The exact data the result arrays are read from. -/
def dat (c : Dev nD) : Dat τ (Elt F) Unit ℕ (UR sig nD τ) ℕ cfg0 c := (rdat W c).withAfter (fin0 W c)

theorem A_eq (c : Dev nD) (w : Fin cfg0.W) : (rdat W c).A w = W c (Proc.devRef .tc (Pipeline.arrRef spec0 w)) := by
  dsimp only [rdat]
theorem datA_eq (c : Dev nD) (w : Fin cfg0.W) : (dat W c).A w = W c (Proc.devRef .tc (Pipeline.arrRef spec0 w)) := by
  dsimp only [dat, RDat.withAfter, rdat]

theorem aft_0 (c : Dev nD) (t : Fin cfg0.N) (Y X) : (rdat W c).after 0 t Y X ↔ X = Y := Iff.rfl
theorem finds_0 (c : Dev nD) (t : Fin cfg0.N) (Y) (h : (rdat W c).Finds 0 t Y) : Y = iblk W c 0 t := by
  obtain ⟨d, rfl⟩ := RDat.finds_in_eq_fetched (rdat W c) 0 rfl (fun _ _ _ => rfl) (fun t Y X h => (aft_0 W c t Y X).mp h) t Y h
  unfold RDat.fetched RDat.blockOf iblk; rw [A_eq]; try rfl
theorem aft_1 (c : Dev nD) (t : Fin cfg0.N) (Y X) : (rdat W c).after 1 t Y X ↔ X = Y := Iff.rfl
theorem finds_1 (c : Dev nD) (t : Fin cfg0.N) (Y) (h : (rdat W c).Finds 1 t Y) : Y = iblk W c 1 t := by
  obtain ⟨d, rfl⟩ := RDat.finds_in_eq_fetched (rdat W c) 1 rfl (fun _ _ _ => rfl) (fun t Y X h => (aft_1 W c t Y X).mp h) t Y h
  unfold RDat.fetched RDat.blockOf iblk; rw [A_eq]; try rfl
theorem aft_2 (c : Dev nD) (t : Fin cfg0.N) (Y X) : (rdat W c).after 2 t Y X ↔ X = Y := Iff.rfl
theorem finds_2 (c : Dev nD) (t : Fin cfg0.N) (Y) (h : (rdat W c).Finds 2 t Y) : Y = iblk W c 2 t := by
  obtain ⟨d, rfl⟩ := RDat.finds_in_eq_fetched (rdat W c) 2 rfl (fun _ _ _ => rfl) (fun t Y X h => (aft_2 W c t Y X).mp h) t Y h
  unfold RDat.fetched RDat.blockOf iblk; rw [A_eq]; try rfl
theorem aft_3 (c : Dev nD) (t : Fin cfg0.N) (Y X) : (rdat W c).after 3 t Y X ↔ X = Y := Iff.rfl
theorem finds_3 (c : Dev nD) (t : Fin cfg0.N) (Y) (h : (rdat W c).Finds 3 t Y) : Y = iblk W c 3 t := by
  obtain ⟨d, rfl⟩ := RDat.finds_in_eq_fetched (rdat W c) 3 rfl (fun _ _ _ => rfl) (fun t Y X h => (aft_3 W c t Y X).mp h) t Y h
  unfold RDat.fetched RDat.blockOf iblk; rw [A_eq]; try rfl
theorem aft_4 (c : Dev nD) (t : Fin cfg0.N) (Y X) : (rdat W c).after 4 t Y X ↔ X = Y := Iff.rfl
theorem finds_4 (c : Dev nD) (t : Fin cfg0.N) (Y) (h : (rdat W c).Finds 4 t Y) : Y = iblk W c 4 t := by
  obtain ⟨d, rfl⟩ := RDat.finds_in_eq_fetched (rdat W c) 4 rfl (fun _ _ _ => rfl) (fun t Y X h => (aft_4 W c t Y X).mp h) t Y h
  unfold RDat.fetched RDat.blockOf iblk; rw [A_eq]; try rfl
theorem aft_5 (c : Dev nD) (t : Fin cfg0.N) (Y X) : (rdat W c).after 5 t Y X ↔ X = Y := Iff.rfl
theorem finds_5 (c : Dev nD) (t : Fin cfg0.N) (Y) (h : (rdat W c).Finds 5 t Y) : Y = iblk W c 5 t := by
  obtain ⟨d, rfl⟩ := RDat.finds_in_eq_fetched (rdat W c) 5 rfl (fun _ _ _ => rfl) (fun t Y X h => (aft_5 W c t Y X).mp h) t Y h
  unfold RDat.fetched RDat.blockOf iblk; rw [A_eq]; try rfl
theorem aft_6 (c : Dev nD) (t : Fin cfg0.N) (Y X) : (rdat W c).after 6 t Y X ↔ X = dx (ins W c t) := Iff.rfl
theorem aft_7 (c : Dev nD) (t : Fin cfg0.N) (Y X) : (rdat W c).after 7 t Y X ↔ X = c8_1 (ins W c t) := Iff.rfl
theorem aft_8 (c : Dev nD) (t : Fin cfg0.N) (Y X) : (rdat W c).after 8 t Y X ↔ X = c9_1 (ins W c t) (grid0.coords t) Y := Iff.rfl
theorem aft_9 (c : Dev nD) (t : Fin cfg0.N) (Y X) : (rdat W c).after 9 t Y X ↔ X = c10_1 (ins W c t) := Iff.rfl
theorem aft_10 (c : Dev nD) (t : Fin cfg0.N) (Y X) : (rdat W c).after 10 t Y X ↔ X = c11_1 (ins W c t) (grid0.coords t) Y := Iff.rfl
theorem aft_11 (c : Dev nD) (t : Fin cfg0.N) (Y X) : (rdat W c).after 11 t Y X ↔ X = dh (ins W c t) := Iff.rfl
theorem aft_12 (c : Dev nD) (t : Fin cfg0.N) (Y X) : (rdat W c).after 12 t Y X ↔ X = last13 (ins W c t) (grid0.coords t) Y := Iff.rfl
theorem aft_13 (c : Dev nD) (t : Fin cfg0.N) (Y X) : (rdat W c).after 13 t Y X ↔ X = last14 (ins W c t) (grid0.coords t) Y := Iff.rfl
theorem fin_6 (c : Dev nD) (t : Fin cfg0.N) : (dat W c).after 6 t = dx (ins W c t) := by dsimp only [dat, RDat.withAfter, fin0]
theorem fin_7 (c : Dev nD) (t : Fin cfg0.N) : (dat W c).after 7 t = c8_1 (ins W c t) := by dsimp only [dat, RDat.withAfter, fin0]
theorem fin_8 (c : Dev nD) (t : Fin cfg0.N) : (dat W c).after 8 t = scan8 W c t.val t.isLt := by dsimp only [dat, RDat.withAfter, fin0]
theorem fin_9 (c : Dev nD) (t : Fin cfg0.N) : (dat W c).after 9 t = c10_1 (ins W c t) := by dsimp only [dat, RDat.withAfter, fin0]
theorem fin_10 (c : Dev nD) (t : Fin cfg0.N) : (dat W c).after 10 t = scan10 W c t.val t.isLt := by dsimp only [dat, RDat.withAfter, fin0]
theorem fin_11 (c : Dev nD) (t : Fin cfg0.N) : (dat W c).after 11 t = dh (ins W c t) := by dsimp only [dat, RDat.withAfter, fin0]
theorem fin_12 (c : Dev nD) (t : Fin cfg0.N) : (dat W c).after 12 t = k0_pay2 (c15_1 (ins W c t)) := by dsimp only [dat, RDat.withAfter, fin0]
theorem fin_13 (c : Dev nD) (t : Fin cfg0.N) : (dat W c).after 13 t = k0_pay1 (F := F) (k0_pay3 (c16_8 (ins W c t))) 0#32 := by dsimp only [dat, RDat.withAfter, fin0]

/-! ## What a write-back finds -/

theorem cover (y : S8x1024.Idx) (n : ℕ) (h : n < cfg0.N) (hy : 2 * (y 0).val + (y 1).val / 512 = n) :
    ∀ a : Fin 2, k0_off1 (grid0.coords ⟨n, h⟩) a ≤ (y a).val ∧ (y a).val < k0_off1 (grid0.coords ⟨n, h⟩) a + S1x512.size a := by
  have hc : (y 1).val < 1024 := (y 1).isLt
  rw [off1_eq]
  intro a
  match a with
  | 0 => show n / 2 ≤ (y 0).val ∧ (y 0).val < n / 2 + 1; omega
  | 1 => show 512 * (n % 2) ≤ (y 1).val ∧ (y 1).val < 512 * (n % 2) + 512; omega

theorem fetch_8 : ∀ t : Fin cfg0.N, (cfg0.win 8).fetch t = false := fun t => Window.fetch_out _ rfl t

theorem leaves_8 (c : Dev nD) : ∀ (n : ℕ) (h : n < cfg0.N) (X : Vec F S8x1024 .f32), (rdat W c).Leaves 8 ⟨n, h⟩ X →
    ∀ y : S8x1024.Idx, 2 * (y 0).val + (y 1).val / 512 ≤ n → X y = scan8 W c n h y := by
  intro n
  induction n with
  | zero =>
    intro h X hX y hy
    obtain ⟨Y, -, hA⟩ := hX
    rw [(aft_8 W c _ _ _).mp hA]
    rw [scan8]; unfold c9_1
    exact put_agree (P := fun _ => False) (fun _ h => h.elim) _ _ _ y (.inr (cover y 0 h (by omega)))
  | succ n ih =>
    intro h X hX y hy
    obtain ⟨Y, hY, hA⟩ := hX
    rw [(aft_8 W c _ _ _).mp hA]
    rcases (RDat.finds_of_pos (rdat W c) (w := 8) (t := ⟨n + 1, h⟩) (fetch_8 _) (Nat.succ_ne_zero n) Y).mp hY with hfl | hL
    · have := (flush0_8 _).mp hfl
      have h16 := hN ⟨n + 1, h⟩
      have h15 : n % 16 = 15 := this
      have : n + 1 < 16 := h16
      omega
    · refine put_agree (P := fun y => 2 * (y 0).val + (y 1).val / 512 ≤ n) (ih (Nat.lt_of_succ_lt h) Y hL) _ _ _ y ?_
      by_cases e : 2 * (y 0).val + (y 1).val / 512 = n + 1
      · exact .inr (cover y (n + 1) h e)
      · exact .inl (by omega)

theorem fetch_10 : ∀ t : Fin cfg0.N, (cfg0.win 10).fetch t = false := fun t => Window.fetch_out _ rfl t

theorem leaves_10 (c : Dev nD) : ∀ (n : ℕ) (h : n < cfg0.N) (X : Vec F S8x1024 .f32), (rdat W c).Leaves 10 ⟨n, h⟩ X →
    ∀ y : S8x1024.Idx, 2 * (y 0).val + (y 1).val / 512 ≤ n → X y = scan10 W c n h y := by
  intro n
  induction n with
  | zero =>
    intro h X hX y hy
    obtain ⟨Y, -, hA⟩ := hX
    rw [(aft_10 W c _ _ _).mp hA]
    rw [scan10]; unfold c11_1
    exact put_agree (P := fun _ => False) (fun _ h => h.elim) _ _ _ y (.inr (cover y 0 h (by omega)))
  | succ n ih =>
    intro h X hX y hy
    obtain ⟨Y, hY, hA⟩ := hX
    rw [(aft_10 W c _ _ _).mp hA]
    rcases (RDat.finds_of_pos (rdat W c) (w := 10) (t := ⟨n + 1, h⟩) (fetch_10 _) (Nat.succ_ne_zero n) Y).mp hY with hfl | hL
    · have := (flush0_10 _).mp hfl
      have h16 := hN ⟨n + 1, h⟩
      have h15 : n % 16 = 15 := this
      have : n + 1 < 16 := h16
      omega
    · refine put_agree (P := fun y => 2 * (y 0).val + (y 1).val / 512 ≤ n) (ih (Nat.lt_of_succ_lt h) Y hL) _ _ _ y ?_
      by_cases e : 2 * (y 0).val + (y 1).val / 512 = n + 1
      · exact .inr (cover y (n + 1) h e)
      · exact .inl (by omega)

/-- At a write-back the buffer holds what the exact data name. -/
theorem leaves_fin (c : Dev nD) (w : Fin cfg0.W) (u : Fin cfg0.N) (hf : (cfg0.win w).flush u = true) (X) (hX : (rdat W c).Leaves w u X) :
    X = fin0 W c w u := by
  match w, hf, X, hX with
  | ⟨0, _⟩, hf, X, hX => exact absurd (((cfg0.win 0).flush_in rfl u).symm.trans hf) Bool.false_ne_true
  | ⟨1, _⟩, hf, X, hX => exact absurd (((cfg0.win 1).flush_in rfl u).symm.trans hf) Bool.false_ne_true
  | ⟨2, _⟩, hf, X, hX => exact absurd (((cfg0.win 2).flush_in rfl u).symm.trans hf) Bool.false_ne_true
  | ⟨3, _⟩, hf, X, hX => exact absurd (((cfg0.win 3).flush_in rfl u).symm.trans hf) Bool.false_ne_true
  | ⟨4, _⟩, hf, X, hX => exact absurd (((cfg0.win 4).flush_in rfl u).symm.trans hf) Bool.false_ne_true
  | ⟨5, _⟩, hf, X, hX => exact absurd (((cfg0.win 5).flush_in rfl u).symm.trans hf) Bool.false_ne_true
  | ⟨6, _⟩, hf, X, hX =>
    obtain ⟨Y, -, hA⟩ := hX
    exact (aft_6 W c u Y X).mp hA
  | ⟨7, _⟩, hf, X, hX =>
    obtain ⟨Y, -, hA⟩ := hX
    exact (aft_7 W c u Y X).mp hA
  | ⟨8, _⟩, hf, X, hX =>
    have hu : u.val % 16 = 15 := (flush0_8 u).mp hf
    exact funext fun y => leaves_8 W c u.val u.isLt X hX y (by
      have h0 : (y 0).val < 8 := (y 0).isLt
      have h1 : (y 1).val < 1024 := (y 1).isLt
      have := hN u
      omega)
  | ⟨9, _⟩, hf, X, hX =>
    obtain ⟨Y, -, hA⟩ := hX
    exact (aft_9 W c u Y X).mp hA
  | ⟨10, _⟩, hf, X, hX =>
    have hu : u.val % 16 = 15 := (flush0_10 u).mp hf
    exact funext fun y => leaves_10 W c u.val u.isLt X hX y (by
      have h0 : (y 0).val < 8 := (y 0).isLt
      have h1 : (y 1).val < 1024 := (y 1).isLt
      have := hN u
      omega)
  | ⟨11, _⟩, hf, X, hX =>
    obtain ⟨Y, -, hA⟩ := hX
    exact (aft_11 W c u Y X).mp hA
  | ⟨12, _⟩, hf, X, hX =>
    obtain ⟨Y, -, hA⟩ := hX
    have hu : u.val % 16 = 15 := (flush0_12 u).mp hf
    have h16 := hN u
    exact ((aft_12 W c u Y X).mp hA).trans (if_pos ((cond2_iff u).mpr (by omega)))
  | ⟨13, _⟩, hf, X, hX =>
    obtain ⟨Y, -, hA⟩ := hX
    have hu : u.val % 16 = 15 := (flush0_13 u).mp hf
    have h16 := hN u
    exact ((aft_13 W c u Y X).mp hA).trans (if_pos ((cond2_iff u).mpr (by omega)))

/-- What an array may hold after the call is what the exact data say. -/
theorem arrAt_eq (c : Dev nD) (w : Fin cfg0.W) (G) (hG : (rdat W c).ArrAt w cfg0.N G) : G = (dat W c).arrAt w cfg0.N := by
  obtain ⟨X, hX, hA⟩ := hG.exists_exact
  exact hA (fin0 W c) fun u hu hf => (leaves_fin W c w u hf _ (hX u hu hf)).symm

/-! ## One point of the body -/

/-- Before the body at point `t`. -/
def bodyPre (c : Dev nD) (t : Fin cfg0.N) (Y : (w : Fin cfg0.W) → (cfg0.win w).block.Idx → Elt F (cfg0.win w).elt) : sProp 𝕄 :=
  iprop(Phi W c t.val ∗ (rdat W c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13))

/-- After it. -/
def bodyPost (c : Dev nD) (t : Fin cfg0.N) (Y : (w : Fin cfg0.W) → (cfg0.win w).block.Idx → Elt F (cfg0.win w).elt) : sProp 𝕄 :=
  iprop(Phi W c (t.val + 1) ∗ (rdat W c).owesAt () t.castSucc ∗ iprop(∃ X, ⌜(rdat W c).after 0 t (Y 0) X⌝ ∗ owns (c : Thread nD τ) (st0_0 t) fullShare X) ∗ iprop(∃ X, ⌜(rdat W c).after 1 t (Y 1) X⌝ ∗ owns (c : Thread nD τ) (st0_1 t) fullShare X) ∗ iprop(∃ X, ⌜(rdat W c).after 2 t (Y 2) X⌝ ∗ owns (c : Thread nD τ) (st0_2 t) fullShare X) ∗ iprop(∃ X, ⌜(rdat W c).after 3 t (Y 3) X⌝ ∗ owns (c : Thread nD τ) (st0_3 t) fullShare X) ∗ iprop(∃ X, ⌜(rdat W c).after 4 t (Y 4) X⌝ ∗ owns (c : Thread nD τ) (st0_4 t) fullShare X) ∗ iprop(∃ X, ⌜(rdat W c).after 5 t (Y 5) X⌝ ∗ owns (c : Thread nD τ) (st0_5 t) fullShare X) ∗ iprop(∃ X, ⌜(rdat W c).after 6 t (Y 6) X⌝ ∗ owns (c : Thread nD τ) (st0_6 t) fullShare X) ∗ iprop(∃ X, ⌜(rdat W c).after 7 t (Y 7) X⌝ ∗ owns (c : Thread nD τ) (st0_7 t) fullShare X) ∗ iprop(∃ X, ⌜(rdat W c).after 8 t (Y 8) X⌝ ∗ owns (c : Thread nD τ) (st0_8 t) fullShare X) ∗ iprop(∃ X, ⌜(rdat W c).after 9 t (Y 9) X⌝ ∗ owns (c : Thread nD τ) (st0_9 t) fullShare X) ∗ iprop(∃ X, ⌜(rdat W c).after 10 t (Y 10) X⌝ ∗ owns (c : Thread nD τ) (st0_10 t) fullShare X) ∗ iprop(∃ X, ⌜(rdat W c).after 11 t (Y 11) X⌝ ∗ owns (c : Thread nD τ) (st0_11 t) fullShare X) ∗ iprop(∃ X, ⌜(rdat W c).after 12 t (Y 12) X⌝ ∗ owns (c : Thread nD τ) (st0_12 t) fullShare X) ∗ iprop(∃ X, ⌜(rdat W c).after 13 t (Y 13) X⌝ ∗ owns (c : Thread nD τ) (st0_13 t) fullShare X))

set_option maxHeartbeats 4000000 in
/-- The body at point `t` does what the proof data say. -/
theorem sound_body (c : Dev nD) (t : Fin cfg0.N) (Y : (w : Fin cfg0.W) → (cfg0.win w).block.Idx → Elt F (cfg0.win w).elt)
    (hY : ∀ w, (rdat W c).Finds w t (Y w)) :
    bodyPre W c t Y ⊢ wp frame (wpE (defs₀ (F := F)) Variants.none c none) Set.univ (bodyAt0 (F := F) t) fun _ => bodyPost W c t Y := by
  unfold bodyPre bodyPost Phi
  have e0 := finds_0 W c t _ (hY 0)
  have e1 := finds_1 W c t _ (hY 1)
  have e2 := finds_2 W c t _ (hY 2)
  have e3 := finds_3 W c t _ (hY 3)
  have e4 := finds_4 W c t _ (hY 4)
  have e5 := finds_5 W c t _ (hY 5)
  iintro ⟨⟨⟨%f15, %f16, H15, H16, %hf⟩, HR⟩, HO, H1, H2, H3, H4, H5, H6, H7, H8, H9, H10, H11, H12, H13, H14⟩
  obtain ⟨h15, h16⟩ := clear_eq W c t f15 f16 hf
  unfold bodyAt0
  iapply (run c (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (win0_8.stage (cfg0.slots t 8)) _ (win0_9.stage (cfg0.slots t 9)) _ (win0_10.stage (cfg0.slots t 10)) _ (win0_11.stage (cfg0.slots t 11)) _ (win0_12.stage (cfg0.slots t 12)) _ (win0_13.stage (cfg0.slots t 13)) _ (Memref.whole cc0_scratch0) _ (Memref.whole cc0_scratch1) _
    (ins W c t) (Y 6) (Y 7) (Y 8) (Y 9) (Y 10) (Y 11) (Y 12) (Y 13) f15 f16 h15 h16)
  isplitl [H1]; · rw [e0]; iexact H1
  isplitl [H2]; · rw [e1]; iexact H2
  isplitl [H3]; · rw [e2]; iexact H3
  isplitl [H4]; · rw [e3]; iexact H4
  isplitl [H5]; · rw [e4]; iexact H5
  isplitl [H6]; · rw [e5]; iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  isplitl [H15 H16 HR]
  · isplitl [H15 H16]
    · iexists (c15_1 (ins W c t)); iexists (c16_8 (ins W c t))
      isplitl [H15]; · iexact H15
      isplitl [H16]; · iexact H16
      ipureintro; exact holds_succ W c t
    · iexact HR
  isplitl [HO]; · iexact HO
  isplitl [H1]
  · iexists (iblk W c 0 t); isplitr; · ipureintro; exact (aft_0 W c t _ _).mpr e0.symm
    iexact H1
  isplitl [H2]
  · iexists (iblk W c 1 t); isplitr; · ipureintro; exact (aft_1 W c t _ _).mpr e1.symm
    iexact H2
  isplitl [H3]
  · iexists (iblk W c 2 t); isplitr; · ipureintro; exact (aft_2 W c t _ _).mpr e2.symm
    iexact H3
  isplitl [H4]
  · iexists (iblk W c 3 t); isplitr; · ipureintro; exact (aft_3 W c t _ _).mpr e3.symm
    iexact H4
  isplitl [H5]
  · iexists (iblk W c 4 t); isplitr; · ipureintro; exact (aft_4 W c t _ _).mpr e4.symm
    iexact H5
  isplitl [H6]
  · iexists (iblk W c 5 t); isplitr; · ipureintro; exact (aft_5 W c t _ _).mpr e5.symm
    iexact H6
  isplitl [H7]
  · iexists (dx (ins W c t)); isplitr; · ipureintro; exact (aft_6 W c t _ _).mpr rfl
    iexact H7
  isplitl [H8]
  · iexists (c8_1 (ins W c t)); isplitr; · ipureintro; exact (aft_7 W c t _ _).mpr rfl
    iexact H8
  isplitl [H9]
  · iexists (c9_1 (ins W c t) (grid0.coords t) (Y 8)); isplitr; · ipureintro; exact (aft_8 W c t _ _).mpr rfl
    iexact H9
  isplitl [H10]
  · iexists (c10_1 (ins W c t)); isplitr; · ipureintro; exact (aft_9 W c t _ _).mpr rfl
    iexact H10
  isplitl [H11]
  · iexists (c11_1 (ins W c t) (grid0.coords t) (Y 10)); isplitr; · ipureintro; exact (aft_10 W c t _ _).mpr rfl
    iexact H11
  isplitl [H12]
  · iexists (dh (ins W c t)); isplitr; · ipureintro; exact (aft_11 W c t _ _).mpr rfl
    iexact H12
  isplitl [H13]
  · iexists (last13 (ins W c t) (grid0.coords t) (Y 12)); isplitr; · ipureintro; exact (aft_12 W c t _ _).mpr rfl
    iexact H13
  iexists (last14 (ins W c t) (grid0.coords t) (Y 13)); isplitr; · ipureintro; exact (aft_13 W c t _ _).mpr rfl
  iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat W c).BodyObligation defs₀ Variants.none () Set.univ :=
  fun t Y hY => by rw [bigSep_W0, bigSep_W0, defs₀_row]; exact triple_restated (sound_body W c t Y hY) rfl .rfl fun _ => .rfl

/-- The scoped memory the call takes is what its first point needs. -/
theorem hin (c : Dev nD) :
    (Pipeline.scopedRest (Ix := Unit) (Name := ℕ) (U := UR sig nD τ) (Lvl := ℕ) (Val := Elt F) spec0 c : sProp 𝕄) ⊢ (rdat W c).Φ 0 := by
  show _ ⊢ Phi W c 0
  rw [scopedRest0_split]
  unfold Phi
  simp only [owns_whole]
  iintro ⟨⟨⟨%f15, H15⟩, ⟨%f16, H16⟩⟩, HR⟩
  isplitl [H15 H16]
  · iexists f15; iexists f16
    isplitl [H15]; · iexact H15
    isplitl [H16]; · iexact H16
    ipureintro; exact holds_zero W c f15 f16
  · iexact HR

/-- And its last point gives it back. -/
theorem hout (c : Dev nD) :
    (rdat W c).Φ (Fin.last cfg0.N) ⊢ (Pipeline.scopedRest (Ix := Unit) (Name := ℕ) (U := UR sig nD τ) (Lvl := ℕ) (Val := Elt F) spec0 c : sProp 𝕄) := by
  show Phi W c (Fin.last cfg0.N).val ⊢ _
  rw [scopedRest0_split]
  unfold Phi
  simp only [owns_whole]
  iintro ⟨⟨%f15, %f16, H15, H16, -⟩, HR⟩
  isplitl [H15 H16]
  · isplitl [H15]
    · iexists f15; iexact H15
    · iexists f16; iexact H16
  · iexact HR

end Cert.Kernel.Rows

end
-- ==== Proof.WindowFacts.lean ====
/-
  Three small facts about windows of a buffer: equal contents give equal windows, and a load after a store reads the payload.
-/
module

public import Idealize.ShloMosaic.Lib.VecWindow
public import Idealize.ShloMosaic.Lib.Tactic

@[expose] public section

namespace Cert.WindowFacts

open Idealize.ShloMosaic Idealize.ShloMosaic.TcCoe

theorem put_congr {α : Type} {s : Shape} {x x' : s.Idx → α} (h : x = x') (off size : Fin s.rank → ℕ) {w w' : ((a : Fin s.rank) → Fin (size a)) → α} (hw : w = w') :
    VecWindow.put x off size w = VecWindow.put x' off size w' := by subst h; subst hw; rfl

theorem window_congr {α : Type} {s : Shape} {x x' : s.Idx → α} (h : x = x') (off size : Fin s.rank → ℕ) (inb : ∀ a, off a + size a ≤ s.size a) :
    VecWindow.window x off size inb = VecWindow.window x' off size inb := by subst h; rfl

/-- A load right after an unmasked store at the same place reads the payload. -/
theorem readCov_head {sig : RefSig} {κ : Kind} {sp : Space} {s : Shape} {e : EltTy} {Val : EltTy → Type} [∀ e, Nonempty (Val e)] (v : View sig κ sp s e) {off off' size : Fin s.rank → ℕ}
    (inb : ∀ a, off a + size a ≤ s.size a) (inb' : ∀ a, off' a + size a ≤ s.size a) (h : off' = off)
    (w : (Rect.unit off' size inb').shape.Idx → Val e) (L : List (View.Piece Val s e)) :
    v.readCov (⟨Rect.unit off' size inb', w⟩ :: L) (Rect.unit off size inb).toLoadRect = w := by
  subst h
  show v.readAt Val (Rect.unit off' size inb).toLoadRect (v.writes Val v.junk (⟨Rect.unit off' size inb', w⟩ :: L)) = w
  rw [View.readAt_unit v _ inb rfl inb, View.read_writes_cons_put v _ inb' w L rfl, VecWindow.window_put_same]

end Cert.WindowFacts
-- ==== Proof.Kernel.WgradOneRun.lean ====
/-
  One grid point of the dW1 call: what `cc1_wgrad1` leaves in its buffers, as functions of what it finds in them.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import proofs.«01_k».proof.Proof.WindowFacts

@[expose] public section

set_option maxRecDepth 16384

noncomputable section

namespace Cert.Kernel.Wgrad1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Cert.WindowFacts

variable {F : FTy → Type} [FloatOps F]

local notation "𝕄" => MT nD τ sig Unit (Elt F) ℕ (UR sig nD τ) ℕ

/-- The codes buffer after a point: quantised anew at the first feature block, kept otherwise. -/
def codStep (i : grid1.Coords) (cs : Vec F S1x2048 .f32) (g : Vec F S1024x2048 .bf16) (old : Vec F S1024x2048 .fp8e5m2) : Vec F S1024x2048 .fp8e5m2 :=
  if k1_cond1 i = 1#1 then k1_pay1 g cs else old

/-- The accumulator with the point's slice cleared at the first token block. -/
def accClear (i : grid1.Coords) (a : Vec F S3x1024x2048 .f32) : Vec F S3x1024x2048 .f32 :=
  if k1_cond2 i = 1#1 then VecWindow.put a (k1_off2 i) S1x1024x2048.size (k1_pay2 (F := F)) else a

/-- The accumulator slice the point adds: the slice found plus the block's product. -/
def accSlice (i : grid1.Coords) (x : Vec F S1024x1024 .fp8e4m3) (cod : Vec F S1024x2048 .fp8e5m2) (a : Vec F S3x1024x2048 .f32) : Vec F S1x1024x2048 .f32 :=
  k1_pay3 (VecWindow.window (accClear i a) (k1_off2 i) S1x1024x2048.size (k1_off2_inb i)) x cod

/-- The accumulator after a point. -/
def accStep (i : grid1.Coords) (x : Vec F S1024x1024 .fp8e4m3) (cod : Vec F S1024x2048 .fp8e5m2) (a : Vec F S3x1024x2048 .f32) : Vec F S3x1024x2048 .f32 :=
  VecWindow.put (accClear i a) (k1_off2 i) S1x1024x2048.size (accSlice i x cod a)

/-- The result block after a point: the scaled slice at the last token block, kept otherwise. -/
def dwStep (i : grid1.Coords) (xs : Vec F S1x1024 .f32) (cs : Vec F S1x2048 .f32) (sl : Vec F S1x1024x2048 .f32) (old : Vec F S1024x2048 .bf16) : Vec F S1024x2048 .bf16 :=
  if k1_cond3 i = 1#1 then k1_pay4 xs sl cs else old

section Cases
set_option maxHeartbeats 2000000
variable (c : Dev nD) (i : grid1.Coords) (arg2 : Memref sig .tc .vmem S1x1024 .f32) (harg2 : arg2.IsWhole) (arg3 : Memref sig .tc .vmem S1x2048 .f32) (harg3 : arg3.IsWhole) (arg4 : Memref sig .tc .vmem S1024x1024 .fp8e4m3) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .fp8e5m2) (harg7 : arg7.IsWhole) (arg8 : Memref sig .tc .vmem S3x1024x2048 .f32) (harg8 : arg8.IsWhole) (x0 : Vec F S1x1024 .f32) (x1 : Vec F S1x2048 .f32) (x2 : Vec F S1024x1024 .fp8e4m3) (x3 : Vec F S1024x2048 .bf16) (x4 : Vec F S1024x2048 .bf16) (x5 : Vec F S1024x2048 .fp8e5m2) (a : Vec F S3x1024x2048 .f32) (E : Set ℕ)

/-- What one point does: the inputs are left as found; the codes, the accumulator and the result block step. -/
def Steps (K : PUnit → sProp 𝕄) : Prop :=
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc1_wgrad1 i arg2 harg2 arg3 harg3 arg4 harg4 arg5 harg5 arg6 harg6 arg7 harg7 arg8 harg8) K

theorem run_A (K : PUnit → sProp 𝕄) (hc0 : k1_cond1 i = 1#1) (hc1 : k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_pos hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k1_pay1 ((View.readAt_full _ _ _).trans (harg5.read_unread _))) ((View.readAt_full _ _ _).trans (harg3.read_unread _)))
  iexists _; isplitr; swap; · iexact HS0
  ipureintro
  exact (View.read_writes_cons_put _ _ _ _ _ (rfl : k1_off2 i = k1_off2 i)).trans (put_congr ((View.read_writes_cons_put _ _ _ _ _ (rfl : k1_off1 i = k1_off2 i)).trans (put_congr (harg8.read_unread _) _ _ rfl)) _ _ (congr (congr (congrArg k1_pay3 (readCov_head _ _ _ rfl _ _)) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))

theorem run_B (K : PUnit → sProp 𝕄) (hc0 : k1_cond1 i = 1#1) (hc1 : ¬k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k1_pay1 ((View.readAt_full _ _ _).trans (harg5.read_unread _))) ((View.readAt_full _ _ _).trans (harg3.read_unread _)))
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))

theorem run_C (K : PUnit → sProp 𝕄) (hc0 : k1_cond1 i = 1#1) (hc1 : ¬k1_cond2 i = 1#1) (hc2 : k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_pos hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k1_pay4 ((View.readAt_full _ _ _).trans (harg2.read_unread _))) ((readCov_head _ _ _ rfl _ _).trans (congr (congr (congrArg k1_pay3 ((View.readAt_unit _ _ _ rfl (k1_off2_inb i)).trans (window_congr (harg8.read_unread _) _ _ _))) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))) ((View.readAt_full _ _ _).trans (harg3.read_unread _)))
  isplitl [H5]
  · iexists _; isplitr; swap; · iexact H5
    ipureintro
    exact (View.read_writes_full _ _ _ _ _).trans (congr (congrArg k1_pay1 ((View.readAt_full _ _ _).trans (harg5.read_unread _))) ((View.readAt_full _ _ _).trans (harg3.read_unread _)))
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))

theorem run_D (K : PUnit → sProp 𝕄) (hc0 : ¬k1_cond1 i = 1#1) (hc1 : k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_pos hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k1_off2 i = k1_off2 i)).trans (put_congr ((View.read_writes_cons_put _ _ _ _ _ (rfl : k1_off1 i = k1_off2 i)).trans (put_congr (harg8.read_unread _) _ _ rfl)) _ _ (congr (congr (congrArg k1_pay3 (readCov_head _ _ _ rfl _ _)) ((View.readAt_full _ _ _).trans (harg4.read_unread _))) ((View.readAt_full _ _ _).trans (harg7.read_unread _))))

theorem run_E (K : PUnit → sProp 𝕄) (hc0 : ¬k1_cond1 i = 1#1) (hc1 : ¬k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readAt_full _ _ _).trans (harg7.read_unread _))))

theorem run_G (K : PUnit → sProp 𝕄) (hc0 : ¬k1_cond1 i = 1#1) (hc1 : ¬k1_cond2 i = 1#1) (hc2 : k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_pos hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k1_pay4 ((View.readAt_full _ _ _).trans (harg2.read_unread _))) ((readCov_head _ _ _ rfl _ _).trans (congr (congr (congrArg k1_pay3 ((View.readAt_unit _ _ _ rfl (k1_off2_inb i)).trans (window_congr (harg8.read_unread _) _ _ _))) ((View.readAt_full _ _ _).trans (harg4.read_unread _))) ((View.readAt_full _ _ _).trans (harg7.read_unread _))))) ((View.readAt_full _ _ _).trans (harg3.read_unread _)))
  isplitl [H5]
  · iexists _; isplitr; swap; · iexact H5
    ipureintro
    exact harg7.read_unread _
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readAt_full _ _ _).trans (harg7.read_unread _))))

end Cases

/-- One point: the inputs are left as found; the codes, the accumulator and the result block step. -/
theorem run (c : Dev nD) (i : grid1.Coords) (arg2 : Memref sig .tc .vmem S1x1024 .f32) (harg2 : arg2.IsWhole) (arg3 : Memref sig .tc .vmem S1x2048 .f32) (harg3 : arg3.IsWhole) (arg4 : Memref sig .tc .vmem S1024x1024 .fp8e4m3) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .fp8e5m2) (harg7 : arg7.IsWhole) (arg8 : Memref sig .tc .vmem S3x1024x2048 .f32) (harg8 : arg8.IsWhole) (hx : ¬(k1_cond2 i = 1#1 ∧ k1_cond3 i = 1#1))
    (x0 : Vec F S1x1024 .f32) (x1 : Vec F S1x2048 .f32) (x2 : Vec F S1024x1024 .fp8e4m3) (x3 : Vec F S1024x2048 .bf16) (x4 : Vec F S1024x2048 .bf16) (x5 : Vec F S1024x2048 .fp8e5m2) (a : Vec F S3x1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc1_wgrad1 i arg2 harg2 arg3 harg3 arg4 harg4 arg5 harg5 arg6 harg6 arg7 harg7 arg8 harg8) K := by
  by_cases hc0 : k1_cond1 i = 1#1 <;> by_cases hc1 : k1_cond2 i = 1#1 <;> by_cases hc2 : k1_cond3 i = 1#1
  · exact absurd ⟨hc1, hc2⟩ hx
  · exact run_A c i arg2 harg2 arg3 harg3 arg4 harg4 arg5 harg5 arg6 harg6 arg7 harg7 arg8 harg8 x0 x1 x2 x3 x4 x5 a E K hc0 hc1 hc2
  · exact run_C c i arg2 harg2 arg3 harg3 arg4 harg4 arg5 harg5 arg6 harg6 arg7 harg7 arg8 harg8 x0 x1 x2 x3 x4 x5 a E K hc0 hc1 hc2
  · exact run_B c i arg2 harg2 arg3 harg3 arg4 harg4 arg5 harg5 arg6 harg6 arg7 harg7 arg8 harg8 x0 x1 x2 x3 x4 x5 a E K hc0 hc1 hc2
  · exact absurd ⟨hc1, hc2⟩ hx
  · exact run_D c i arg2 harg2 arg3 harg3 arg4 harg4 arg5 harg5 arg6 harg6 arg7 harg7 arg8 harg8 x0 x1 x2 x3 x4 x5 a E K hc0 hc1 hc2
  · exact run_G c i arg2 harg2 arg3 harg3 arg4 harg4 arg5 harg5 arg6 harg6 arg7 harg7 arg8 harg8 x0 x1 x2 x3 x4 x5 a E K hc0 hc1 hc2
  · exact run_E c i arg2 harg2 arg3 harg3 arg4 harg4 arg5 harg5 arg6 harg6 arg7 harg7 arg8 harg8 x0 x1 x2 x3 x4 x5 a E K hc0 hc1 hc2

end Cert.Kernel.Wgrad1

end
-- ==== Proof.Kernel.WgradOne.lean ====
/-
  The dW1 call as one pipeline region: its proof data (what every staging buffer and the accumulator hold after
  each grid point) and the proof that one point of the body does what the data say.
-/
module

public import proofs.«01_k».proof.Proof.Kernel.WgradOneRun
public import Idealize.ShloMosaic.Lib.Pipeline.TableIdle
public import Idealize.ShloMosaic.Lib.Pipeline.FrameTail

@[expose] public section

set_option maxRecDepth 16384

noncomputable section

namespace Cert.Kernel.Wgrad1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The point's conditions, in closed form -/

theorem hN (t : Fin cfg1.N) : t.val < 24 := lt_of_lt_of_eq t.isLt (show cfg1.N = 24 from N_1)

theorem cond1_iff : ∀ t : Fin cfg1.N, k1_cond1 (grid1.coords t) = 1#1 ↔ t.val % 3 = 0 := by decide +kernel
theorem cond2_iff : ∀ t : Fin cfg1.N, k1_cond2 (grid1.coords t) = 1#1 ↔ t.val / 3 = 0 := by decide +kernel
theorem cond3_iff : ∀ t : Fin cfg1.N, k1_cond3 (grid1.coords t) = 1#1 ↔ t.val / 3 = 7 := by decide +kernel
theorem off2_eq : ∀ t : Fin cfg1.N, k1_off2 (grid1.coords t) = ![t.val % 3, 0, 0] := by decide +kernel
theorem idle4 : ∀ t : Fin cfg1.N, cfg1.idle 4 (grid1.coords t) = !(decide (t.val / 3 = 7)) := by decide +kernel
theorem idle5 : ∀ t : Fin cfg1.N, cfg1.idle 5 (grid1.coords t) = !(decide (t.val % 3 = 0)) := by decide +kernel
theorem flush4 : ∀ t : Fin cfg1.N, ¬ t.val / 3 = 7 → (cfg1.win 4).flush t = false := by decide +kernel
theorem flush5 : ∀ t : Fin cfg1.N, (cfg1.win 5).flush t = decide (t.val % 3 = 3 - 1) := by decide +kernel

theorem fresh5 : ∀ n, n ≤ cfg1.N → cfg1.fresh 5 n = decide (n % 3 = 0) :=
  cfg1.fresh_tab 5 (fun n => decide (n % 3 = 0)) rfl (fun t => by
    rw [flush5 t, idle5 t]
    have := hN t
    by_cases h : t.val % 3 = 3 - 1
    · have h2 : (t.val + 1) % 3 = 0 := by omega
      simp [h, h2]
    · have h2 : ¬ (t.val + 1) % 3 = 0 := by omega
      by_cases h3 : t.val % 3 = 0 <;> simp [h, h2, h3])

/-! ## What the buffers hold -/

variable (W : Dev nD → Valuation τ sig (Elt F))

/-- Window `w`'s block at point `t` of the array the region finds. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first point of the token block of point `t`. -/
def base (t : Fin cfg1.N) : Fin cfg1.N := ⟨3 * (t.val / 3), Nat.lt_of_le_of_lt (Nat.mul_div_le _ _) t.isLt⟩

theorem base_of_zero (t : Fin cfg1.N) (h : t.val % 3 = 0) : base t = t := Fin.ext (by show 3 * (t.val / 3) = t.val; omega)

/-- The codes of the token block of point `t`. -/
def codes (c : Dev nD) (t : Fin cfg1.N) : Vec F S1024x2048 .fp8e5m2 :=
  k1_pay1 (iblk W c 3 (base t)) (iblk W c 1 (base t))

/-- The accumulator slice of feature block `m` after token blocks `0 … k`. -/
def acc (c : Dev nD) (m : ℕ) : (k : ℕ) → (3 * k + m < cfg1.N) → Vec F S1x1024x2048 .f32
  | 0, h => k1_pay3 k1_pay2 (iblk W c 2 ⟨3 * 0 + m, h⟩) (codes W c ⟨3 * 0 + m, h⟩)
  | k + 1, h => k1_pay3 (acc c m k (by omega)) (iblk W c 2 ⟨3 * (k + 1) + m, h⟩) (codes W c ⟨3 * (k + 1) + m, h⟩)

theorem accT_lt (t : Fin cfg1.N) : 3 * (t.val / 3) + t.val % 3 < cfg1.N := by
  have := t.isLt; omega

/-- The accumulator slice point `t` leaves. -/
def accT (c : Dev nD) (t : Fin cfg1.N) : Vec F S1x1024x2048 .f32 := acc W c (t.val % 3) (t.val / 3) (accT_lt t)

theorem winb (m : Fin 3) : ∀ a, (![m.val, 0, 0] : Fin 3 → ℕ) a + S1x1024x2048.size a ≤ S3x1024x2048.size a := by
  revert m; decide +kernel

/-- What the accumulator is known to hold before point `n`: every slice its latest sum. -/
def Holds (c : Dev nD) (n : ℕ) (f : Vec F S3x1024x2048 .f32) : Prop :=
  ∀ (m : Fin 3) (k : ℕ) (h : 3 * k + m.val < cfg1.N), 3 * k + m.val < n → n ≤ 3 * (k + 1) + m.val →
    VecWindow.window f (![m.val, 0, 0] : Fin 3 → ℕ) S1x1024x2048.size (winb m) = acc W c m.val k h

theorem holds_zero (c : Dev nD) (f : Vec F S3x1024x2048 .f32) : Holds W c 0 f := fun m k h h1 => absurd h1 (Nat.not_lt_zero _)

theorem window_off {s : Shape} {α : Type} (x : s.Idx → α) {off off' size : Fin s.rank → ℕ} (h : off = off') (inb : ∀ a, off a + size a ≤ s.size a) :
    VecWindow.window x off size inb = VecWindow.window x off' size (h ▸ inb) := by subst h; rfl

theorem accSlice_eq (c : Dev nD) (t : Fin cfg1.N) (f : Vec F S3x1024x2048 .f32) (hf : Holds W c t.val f) :
    accSlice (grid1.coords t) (iblk W c 2 t) (codes W c t) f = accT W c t := by
  have ht := hN t
  have hm : t.val % 3 < 3 := Nat.mod_lt _ (by decide)
  unfold accSlice accClear accT
  by_cases h0 : t.val / 3 = 0
  · rw [if_pos ((cond2_iff t).mpr h0), VecWindow.window_put_same]
    have key : ∀ (k : ℕ) (h : 3 * k + t.val % 3 < cfg1.N), k = 0 → 3 * k + t.val % 3 = t.val →
        acc W c (t.val % 3) k h = k1_pay3 k1_pay2 (iblk W c 2 t) (codes W c t) := by
      intro k h hk he; subst hk
      have e : (⟨3 * 0 + t.val % 3, h⟩ : Fin cfg1.N) = t := Fin.ext he
      rw [acc, e]
    exact (key _ _ h0 (by omega)).symm
  · rw [if_neg (fun h => h0 ((cond2_iff t).mp h))]
    have key : ∀ (k : ℕ) (h : 3 * k + t.val % 3 < cfg1.N) (hk : k ≠ 0), 3 * k + t.val % 3 = t.val →
        acc W c (t.val % 3) k h = k1_pay3 (VecWindow.window f (k1_off2 (grid1.coords t)) S1x1024x2048.size (k1_off2_inb _)) (iblk W c 2 t) (codes W c t) := by
      intro k h hk he
      obtain ⟨k, rfl⟩ := Nat.exists_eq_succ_of_ne_zero hk
      have e : (⟨3 * (k + 1) + t.val % 3, h⟩ : Fin cfg1.N) = t := Fin.ext he
      have hw := hf ⟨t.val % 3, hm⟩ k (by show 3 * k + t.val % 3 < cfg1.N; omega) (by show 3 * k + t.val % 3 < t.val; omega) (by show t.val ≤ 3 * (k + 1) + t.val % 3; omega)
      rw [window_off f (off2_eq t)]
      show acc W c (t.val % 3) (k + 1) h = _
      rw [acc, e]
      exact congrArg (fun z => k1_pay3 z (iblk W c 2 t) (codes W c t)) hw.symm
    exact (key _ _ h0 (by omega)).symm

theorem holds_succ (c : Dev nD) (t : Fin cfg1.N) (f : Vec F S3x1024x2048 .f32) (hf : Holds W c t.val f) :
    Holds W c (t.val + 1) (accStep (grid1.coords t) (iblk W c 2 t) (codes W c t) f) := by
  have ht := hN t
  intro m k h h1 h2
  have hm := m.isLt
  unfold accStep
  by_cases e : m.val = t.val % 3
  · have ho : (![m.val, 0, 0] : Fin 3 → ℕ) = k1_off2 (grid1.coords t) := by rw [off2_eq t, e]
    rw [window_off _ ho, VecWindow.window_put_same, accSlice_eq W c t f hf]
    have key : ∀ (a b : ℕ) (h : 3 * b + a < cfg1.N) (a' b' : ℕ) (h' : 3 * b' + a' < cfg1.N), a = a' → b = b' → acc W c a b h = acc W c a' b' h' := by
      intro a b h a' b' h' e1 e2; subst e1; subst e2; rfl
    exact key _ _ _ _ _ _ e.symm (by omega)
  · have hd : (![m.val, 0, 0] : Fin 3 → ℕ) 0 + S1x1024x2048.size 0 ≤ k1_off2 (grid1.coords t) 0 ∨ k1_off2 (grid1.coords t) 0 + S1x1024x2048.size 0 ≤ (![m.val, 0, 0] : Fin 3 → ℕ) 0 := by
      rw [off2_eq t]
      show m.val + 1 ≤ t.val % 3 ∨ t.val % 3 + 1 ≤ m.val
      omega
    rw [VecWindow.window_put_of_disjoint _ _ _ _ _ _ _ 0 hd]
    have h3 : VecWindow.window (accClear (grid1.coords t) f) (![m.val, 0, 0] : Fin 3 → ℕ) S1x1024x2048.size (winb m) = VecWindow.window f (![m.val, 0, 0] : Fin 3 → ℕ) S1x1024x2048.size (winb m) := by
      unfold accClear
      split
      · exact VecWindow.window_put_of_disjoint _ _ _ _ _ _ _ 0 hd
      · rfl
    rw [h3]
    exact hf m k h (by omega) (by omega)

/-! ## The proof data of the region -/

/-- What the call carries between points beside the windows: the accumulator, every slice at its latest sum, and the
    other scratch memory at anything. -/
def Phi (c : Dev nD) (n : ℕ) : sProp 𝕄 :=
  iprop((∃ f, owns (c : Thread nD τ) (Memref.whole cc1_scratch0) fullShare f ∗ ⌜Holds W c n f⌝)
    ∗ Pipeline.scopedRestBut (Ix := Unit) (Name := ℕ) (U := UR sig nD τ) (Lvl := ℕ) (Val := Elt F) spec1 c [cc1_scratch0])

/-- The proof data: every input block in place, the codes of the point's token block, the result block scaled from the
    accumulated slice. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => k1_pay4 (iblk W c 0 t) (accT W c t) (iblk W c 1 t)
    | ⟨5, _⟩ => codes W c t
  Φ t := Phi W c t.val
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = k1_pay4 (iblk W c 0 t) (accT W c t) (iblk W c 1 t) := by dsimp only [dat]
theorem after_5 (c : Dev nD) (t : Fin cfg1.N) : (dat W c).after 5 t = codes W c t := by dsimp only [dat]

theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- Within a token block the codes buffer is found as the block's first point left it. -/
theorem before_5 (c : Dev nD) (t : Fin cfg1.N) (h : ¬ t.val % 3 = 0) (d) : (dat W c).before 5 t d = codes W c t := by
  have hc : ∀ (t : Fin cfg1.N) (h : ¬ t.val % 3 = 0), codes W c ⟨t.val - 1, by have := t.isLt; omega⟩ = codes W c t := by
    intro t h
    have e : base ⟨t.val - 1, by have := t.isLt; omega⟩ = base t := Fin.ext (by show 3 * ((t.val - 1) / 3) = 3 * (t.val / 3); omega)
    unfold codes; rw [e]
  rw [Dat.before_out_traj (dat W c) 5 rfl (fun _ _ => rfl) (by
    intro t ht hi hf
    rw [after_5, after_5]
    rw [fresh5 _ (Nat.le_of_lt t.isLt)] at hf
    exact (hc t (by simpa using hf)).symm) t.val t rfl d, fresh5 _ (Nat.le_of_lt t.isLt), if_neg (by simpa using h), after_5]
  exact hc t h

/-! ## One point of the body -/

theorem lv0 (c : Dev nD) (t : Fin cfg1.N) : (dat W c).leavesExact 0 t = owns (c : Thread nD τ) (st1_0 t) fullShare (iblk W c 0 t) := by
  rw [← after_0]
theorem lv1 (c : Dev nD) (t : Fin cfg1.N) : (dat W c).leavesExact 1 t = owns (c : Thread nD τ) (st1_1 t) fullShare (iblk W c 1 t) := by
  rw [← after_1]
theorem lv2 (c : Dev nD) (t : Fin cfg1.N) : (dat W c).leavesExact 2 t = owns (c : Thread nD τ) (st1_2 t) fullShare (iblk W c 2 t) := by
  rw [← after_2]
theorem lv3 (c : Dev nD) (t : Fin cfg1.N) : (dat W c).leavesExact 3 t = owns (c : Thread nD τ) (st1_3 t) fullShare (iblk W c 3 t) := by
  rw [← after_3]

theorem lv4 (c : Dev nD) (t : Fin cfg1.N) (d) :
    owns (c : Thread nD τ) (st1_4 t) fullShare (dwStep (grid1.coords t) (iblk W c 0 t) (iblk W c 1 t) (accT W c t) ((dat W c).before 4 t d)) ⊢ (dat W c).leavesExact 4 t := by
  unfold dwStep
  by_cases h : t.val / 3 = 7
  · rw [if_pos ((cond3_iff t).mpr h), ← after_4]
    rw [show (dat W c).leavesExact 4 t = owns (c : Thread nD τ) (st1_4 t) fullShare ((dat W c).after 4 t) from by
      unfold Dat.leavesExact; rw [idle4 t]; simp only [h, decide_true, Bool.not_true]]
  · rw [if_neg (fun e => h ((cond3_iff t).mp e))]
    rw [Dat.leavesExact_idle (dat W c) 4 t (by rw [idle4 t, decide_eq_false h]; rfl) (flush4 t h)]
    iintro H; iexists d; iexact H

theorem lv5 (c : Dev nD) (t : Fin cfg1.N) (d : (cfg1.win 5).block.Idx → Elt F (cfg1.win 5).elt) :
    owns (c : Thread nD τ) (st1_5 t) fullShare (codes W c t) ⊢ (dat W c).leavesExact 5 t := by
  by_cases h : t.val % 3 = 0
  · rw [← after_5, show (dat W c).leavesExact 5 t = owns (c : Thread nD τ) (st1_5 t) fullShare ((dat W c).after 5 t) from by
      unfold Dat.leavesExact; rw [idle5 t]; simp only [h, decide_true, Bool.not_true]]
  · by_cases hf : t.val % 3 = 3 - 1
    · rw [← after_5, show (dat W c).leavesExact 5 t = owns (c : Thread nD τ) (st1_5 t) fullShare ((dat W c).after 5 t) from by
        unfold Dat.leavesExact; rw [idle5 t, flush5 t, decide_eq_true hf]; split <;> rfl]
    · rw [Dat.leavesExact_idle (dat W c) 5 t (by rw [idle5 t, decide_eq_false h]; rfl) (by rw [flush5 t, decide_eq_false hf]), ← before_5 W c t h d]
      iintro H; iexists d; iexact H

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d)))

/-- and what it returns. -/
def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t)

theorem cod_eq (c : Dev nD) (t : Fin cfg1.N) (d) : codStep (grid1.coords t) (iblk W c 1 t) (iblk W c 3 t) ((dat W c).before 5 t d) = codes W c t := by
  unfold codStep
  by_cases h : t.val % 3 = 0
  · rw [if_pos ((cond1_iff t).mpr h)]; unfold codes; rw [base_of_zero t h]
  · rw [if_neg (fun e => h ((cond1_iff t).mp e)), before_5 W c t h d]

set_option maxHeartbeats 1000000 in
/-- One point of the body does what the proof data say. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, lv0, lv1, lv2, lv3]
  rw [show (dat W c).owesAt () t.succ = (dat W c).owesAt () t.castSucc from rfl]
  rw [show (dat W c).Φ t.succ = Phi W c (t.val + 1) from rfl, show (dat W c).Φ t.castSucc = Phi W c t.val from rfl]
  unfold Phi
  iintro ⟨⟨⟨%f, HS0, %hf⟩, Hg⟩, Ho, ⟨%d0, H0⟩, ⟨%d1, H1⟩, ⟨%d2, H2⟩, ⟨%d3, H3⟩, ⟨%d4, H4⟩, ⟨%d5, H5⟩⟩
  iapply (run c (grid1.coords t) _ _ _ _ _ _ _ _ _ _ _ _ _ _ (fun h => by have h1 := (cond2_iff t).mp h.1; have h2 := (cond3_iff t).mp h.2; omega) (iblk W c 0 t) (iblk W c 1 t) (iblk W c 2 t) (iblk W c 3 t) ((dat W c).before 4 t d4) ((dat W c).before 5 t d5) f Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  rw [cod_eq W c t d5, accSlice_eq W c t f hf]
  iintro ⟨H0, H1, H2, H3, H4, H5, HS0⟩
  isplitl [HS0 Hg]
  · isplitl [HS0]
    · iexists _; isplitl [HS0]; · iexact HS0
      ipureintro; exact holds_succ W c t f hf
    iexact Hg
  isplitl [Ho]; · iexact Ho
  isplitl [H0]; · iexact H0
  isplitl [H1]; · iexact H1
  isplitl [H2]; · iexact H2
  isplitl [H3]; · iexact H3
  isplitl [H4]; · iapply (lv4 W c t d4); iexact H4
  iapply (lv5 W c t d5); iexact H5

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- The region is entered with the scratch memory at anything, -/
theorem hin (c : Dev nD) : Pipeline.scopedRest (Ix := Unit) (Name := ℕ) (U := UR sig nD τ) (Lvl := ℕ) (Val := Elt F) spec1 c ⊢ (dat W c).Φ 0 := by
  rw [show (dat W c).Φ 0 = Phi W c 0 from rfl, scopedRest1_split]
  unfold Phi
  iintro ⟨⟨%f, H⟩, Hg⟩
  isplitl [H]
  · iexists f; isplitl [H]
    · rw [owns_whole]; iexact H
    ipureintro; exact holds_zero W c f
  iexact Hg

/-- and left with it at anything. -/
theorem hout (c : Dev nD) : (dat W c).Φ (Fin.last cfg1.N) ⊢ Pipeline.scopedRest (Ix := Unit) (Name := ℕ) (U := UR sig nD τ) (Lvl := ℕ) (Val := Elt F) spec1 c := by
  rw [show (dat W c).Φ (Fin.last cfg1.N) = Phi W c cfg1.N from rfl, scopedRest1_split]
  unfold Phi
  simp only [owns_whole]
  iintro ⟨⟨%f, H, %hf⟩, Hg⟩
  isplitl [H]
  · iexists f; iexact H
  iexact Hg

end Cert.Kernel.Wgrad1

end
-- ==== Proof.Kernel.WgradTwoRun.lean ====
/-
  One grid point of the dW2 call: what `cc2_wgrad2` leaves in its buffers, as functions of what it finds in them.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import proofs.«01_k».proof.Proof.WindowFacts

@[expose] public section

set_option maxRecDepth 16384

noncomputable section

namespace Cert.Kernel.Wgrad2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Cert.WindowFacts

variable {F : FTy → Type} [FloatOps F]

local notation "𝕄" => MT nD τ sig Unit (Elt F) ℕ (UR sig nD τ) ℕ

/-- The codes buffer after a point: quantised anew at the first feature block, kept otherwise. -/
def codStep (i : grid2.Coords) (cs : Vec F S1x3072 .f32) (g : Vec F S1024x3072 .bf16) (old : Vec F S1024x3072 .fp8e5m2) : Vec F S1024x3072 .fp8e5m2 :=
  if k2_cond1 i = 1#1 then k2_pay1 g cs else old

/-- The accumulator with the point's slice cleared at the first token block. -/
def accClear (i : grid2.Coords) (a : Vec F S1x1024x3072 .f32) : Vec F S1x1024x3072 .f32 :=
  if k2_cond2 i = 1#1 then VecWindow.put a (k2_off2 i) S1x1024x3072.size (k2_pay2 (F := F)) else a

/-- The accumulator slice the point adds: the slice found plus the block's product. -/
def accSlice (i : grid2.Coords) (x : Vec F S1024x1024 .fp8e4m3) (cod : Vec F S1024x3072 .fp8e5m2) (a : Vec F S1x1024x3072 .f32) : Vec F S1x1024x3072 .f32 :=
  k2_pay3 (VecWindow.window (accClear i a) (k2_off2 i) S1x1024x3072.size (k2_off2_inb i)) x cod

/-- The accumulator after a point. -/
def accStep (i : grid2.Coords) (x : Vec F S1024x1024 .fp8e4m3) (cod : Vec F S1024x3072 .fp8e5m2) (a : Vec F S1x1024x3072 .f32) : Vec F S1x1024x3072 .f32 :=
  VecWindow.put (accClear i a) (k2_off2 i) S1x1024x3072.size (accSlice i x cod a)

/-- The result block after a point: the scaled slice at the last token block, kept otherwise. -/
def dwStep (i : grid2.Coords) (xs : Vec F S1x1024 .f32) (cs : Vec F S1x3072 .f32) (sl : Vec F S1x1024x3072 .f32) (old : Vec F S1024x3072 .bf16) : Vec F S1024x3072 .bf16 :=
  if k2_cond3 i = 1#1 then k2_pay4 xs sl cs else old

section Cases
set_option maxHeartbeats 2000000
variable (c : Dev nD) (i : grid2.Coords) (arg2 : Memref sig .tc .vmem S1x1024 .f32) (harg2 : arg2.IsWhole) (arg3 : Memref sig .tc .vmem S1x3072 .f32) (harg3 : arg3.IsWhole) (arg4 : Memref sig .tc .vmem S1024x1024 .fp8e4m3) (harg4 : arg4.IsWhole) (arg5 : Memref sig .tc .vmem S1024x3072 .bf16) (harg5 : arg5.IsWhole) (arg6 : Memref sig .tc .vmem S1024x3072 .bf16) (harg6 : arg6.IsWhole) (arg7 : Memref sig .tc .vmem S1024x3072 .fp8e5m2) (harg7 : arg7.IsWhole) (arg8 : Memref sig .tc .vmem S1x1024x3072 .f32) (harg8 : arg8.IsWhole) (x0 : Vec F S1x1024 .f32) (x1 : Vec F S1x3072 .f32) (x2 : Vec F S1024x1024 .fp8e4m3) (x3 : Vec F S1024x3072 .bf16) (x4 : Vec F S1024x3072 .bf16) (x5 : Vec F S1024x3072 .fp8e5m2) (a : Vec F S1x1024x3072 .f32) (E : Set ℕ)

/-- What one point does: the inputs are left as found; the codes, the accumulator and the result block step. -/
def Steps (K : PUnit → sProp 𝕄) : Prop :=
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc2_wgrad2 i arg2 harg2 arg3 harg3 arg4 harg4 arg5 harg5 arg6 harg6 arg7 harg7 arg8 harg8) K

theorem run_A (K : PUnit → sProp 𝕄) (hc0 : k2_cond1 i = 1#1) (hc1 : k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_pos hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k2_pay1 ((View.readAt_full _ _ _).trans (harg5.read_unread _))) ((View.readAt_full _ _ _).trans (harg3.read_unread _)))
  iexists _; isplitr; swap; · iexact HS0
  ipureintro
  exact (View.read_writes_cons_put _ _ _ _ _ (rfl : k2_off2 i = k2_off2 i)).trans (put_congr ((View.read_writes_cons_put _ _ _ _ _ (rfl : k2_off1 i = k2_off2 i)).trans (put_congr (harg8.read_unread _) _ _ rfl)) _ _ (congr (congr (congrArg k2_pay3 (readCov_head _ _ _ rfl _ _)) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))

theorem run_B (K : PUnit → sProp 𝕄) (hc0 : k2_cond1 i = 1#1) (hc1 : ¬k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k2_pay1 ((View.readAt_full _ _ _).trans (harg5.read_unread _))) ((View.readAt_full _ _ _).trans (harg3.read_unread _)))
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))

theorem run_C (K : PUnit → sProp 𝕄) (hc0 : k2_cond1 i = 1#1) (hc1 : ¬k2_cond2 i = 1#1) (hc2 : k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_pos hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k2_pay4 ((View.readAt_full _ _ _).trans (harg2.read_unread _))) ((readCov_head _ _ _ rfl _ _).trans (congr (congr (congrArg k2_pay3 ((View.readAt_unit _ _ _ rfl (k2_off2_inb i)).trans (window_congr (harg8.read_unread _) _ _ _))) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))) ((View.readAt_full _ _ _).trans (harg3.read_unread _)))
  isplitl [H5]
  · iexists _; isplitr; swap; · iexact H5
    ipureintro
    exact (View.read_writes_full _ _ _ _ _).trans (congr (congrArg k2_pay1 ((View.readAt_full _ _ _).trans (harg5.read_unread _))) ((View.readAt_full _ _ _).trans (harg3.read_unread _)))
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))

theorem run_D (K : PUnit → sProp 𝕄) (hc0 : ¬k2_cond1 i = 1#1) (hc1 : k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_pos hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k2_off2 i = k2_off2 i)).trans (put_congr ((View.read_writes_cons_put _ _ _ _ _ (rfl : k2_off1 i = k2_off2 i)).trans (put_congr (harg8.read_unread _) _ _ rfl)) _ _ (congr (congr (congrArg k2_pay3 (readCov_head _ _ _ rfl _ _)) ((View.readAt_full _ _ _).trans (harg4.read_unread _))) ((View.readAt_full _ _ _).trans (harg7.read_unread _))))

theorem run_E (K : PUnit → sProp 𝕄) (hc0 : ¬k2_cond1 i = 1#1) (hc1 : ¬k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readAt_full _ _ _).trans (harg7.read_unread _))))

theorem run_G (K : PUnit → sProp 𝕄) (hc0 : ¬k2_cond1 i = 1#1) (hc1 : ¬k2_cond2 i = 1#1) (hc2 : k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_pos hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k2_pay4 ((View.readAt_full _ _ _).trans (harg2.read_unread _))) ((readCov_head _ _ _ rfl _ _).trans (congr (congr (congrArg k2_pay3 ((View.readAt_unit _ _ _ rfl (k2_off2_inb i)).trans (window_congr (harg8.read_unread _) _ _ _))) ((View.readAt_full _ _ _).trans (harg4.read_unread _))) ((View.readAt_full _ _ _).trans (harg7.read_unread _))))) ((View.readAt_full _ _ _).trans (harg3.read_unread _)))
  isplitl [H5]
  · iexists _; isplitr; swap; · iexact H5
    ipureintro
    exact harg7.read_unread _
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readAt_full _ _ _).trans (harg7.read_unread _))))

end Cases

/-- One point: the inputs are left as found; the codes, the accumulator and the result block step. -/
theorem run (c : Dev nD) (i : grid2.Coords) (arg2 : Memref sig .tc .vmem S1x1024 .f32) (harg2 : arg2.IsWhole) (arg3 : Memref sig .tc .vmem S1x3072 .f32) (harg3 : arg3.IsWhole) (arg4 : Memref sig .tc .vmem S1024x1024 .fp8e4m3) (harg4 : arg4.IsWhole) (arg5 : Memref sig .tc .vmem S1024x3072 .bf16) (harg5 : arg5.IsWhole) (arg6 : Memref sig .tc .vmem S1024x3072 .bf16) (harg6 : arg6.IsWhole) (arg7 : Memref sig .tc .vmem S1024x3072 .fp8e5m2) (harg7 : arg7.IsWhole) (arg8 : Memref sig .tc .vmem S1x1024x3072 .f32) (harg8 : arg8.IsWhole) (hx : ¬(k2_cond2 i = 1#1 ∧ k2_cond3 i = 1#1))
    (x0 : Vec F S1x1024 .f32) (x1 : Vec F S1x3072 .f32) (x2 : Vec F S1024x1024 .fp8e4m3) (x3 : Vec F S1024x3072 .bf16) (x4 : Vec F S1024x3072 .bf16) (x5 : Vec F S1024x3072 .fp8e5m2) (a : Vec F S1x1024x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc2_wgrad2 i arg2 harg2 arg3 harg3 arg4 harg4 arg5 harg5 arg6 harg6 arg7 harg7 arg8 harg8) K := by
  by_cases hc0 : k2_cond1 i = 1#1 <;> by_cases hc1 : k2_cond2 i = 1#1 <;> by_cases hc2 : k2_cond3 i = 1#1
  · exact absurd ⟨hc1, hc2⟩ hx
  · exact run_A c i arg2 harg2 arg3 harg3 arg4 harg4 arg5 harg5 arg6 harg6 arg7 harg7 arg8 harg8 x0 x1 x2 x3 x4 x5 a E K hc0 hc1 hc2
  · exact run_C c i arg2 harg2 arg3 harg3 arg4 harg4 arg5 harg5 arg6 harg6 arg7 harg7 arg8 harg8 x0 x1 x2 x3 x4 x5 a E K hc0 hc1 hc2
  · exact run_B c i arg2 harg2 arg3 harg3 arg4 harg4 arg5 harg5 arg6 harg6 arg7 harg7 arg8 harg8 x0 x1 x2 x3 x4 x5 a E K hc0 hc1 hc2
  · exact absurd ⟨hc1, hc2⟩ hx
  · exact run_D c i arg2 harg2 arg3 harg3 arg4 harg4 arg5 harg5 arg6 harg6 arg7 harg7 arg8 harg8 x0 x1 x2 x3 x4 x5 a E K hc0 hc1 hc2
  · exact run_G c i arg2 harg2 arg3 harg3 arg4 harg4 arg5 harg5 arg6 harg6 arg7 harg7 arg8 harg8 x0 x1 x2 x3 x4 x5 a E K hc0 hc1 hc2
  · exact run_E c i arg2 harg2 arg3 harg3 arg4 harg4 arg5 harg5 arg6 harg6 arg7 harg7 arg8 harg8 x0 x1 x2 x3 x4 x5 a E K hc0 hc1 hc2

end Cert.Kernel.Wgrad2

end
-- ==== Proof.Kernel.WgradTwo.lean ====
/-
  The dW2 call as one pipeline region: its proof data (what every staging buffer and the accumulator hold after
  each grid point) and the proof that one point of the body does what the data say.
-/
module

public import proofs.«01_k».proof.Proof.Kernel.WgradTwoRun
public import Idealize.ShloMosaic.Lib.Pipeline.TableIdle
public import Idealize.ShloMosaic.Lib.Pipeline.FrameTail

@[expose] public section

set_option maxRecDepth 16384

noncomputable section

namespace Cert.Kernel.Wgrad2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The point's conditions, in closed form -/

theorem hN (t : Fin cfg2.N) : t.val < 8 := lt_of_lt_of_eq t.isLt (show cfg2.N = 8 from N_2)

theorem cond1_iff : ∀ t : Fin cfg2.N, k2_cond1 (grid2.coords t) = 1#1 ↔ t.val % 1 = 0 := by decide +kernel
theorem cond2_iff : ∀ t : Fin cfg2.N, k2_cond2 (grid2.coords t) = 1#1 ↔ t.val / 1 = 0 := by decide +kernel
theorem cond3_iff : ∀ t : Fin cfg2.N, k2_cond3 (grid2.coords t) = 1#1 ↔ t.val / 1 = 7 := by decide +kernel
theorem off2_eq : ∀ t : Fin cfg2.N, k2_off2 (grid2.coords t) = ![t.val % 1, 0, 0] := by decide +kernel
theorem idle4 : ∀ t : Fin cfg2.N, cfg2.idle 4 (grid2.coords t) = !(decide (t.val / 1 = 7)) := by decide +kernel
theorem idle5 : ∀ t : Fin cfg2.N, cfg2.idle 5 (grid2.coords t) = !(decide (t.val % 1 = 0)) := by decide +kernel
theorem flush4 : ∀ t : Fin cfg2.N, ¬ t.val / 1 = 7 → (cfg2.win 4).flush t = false := by decide +kernel
theorem flush5 : ∀ t : Fin cfg2.N, (cfg2.win 5).flush t = decide (t.val % 1 = 1 - 1) := by decide +kernel

theorem fresh5 : ∀ n, n ≤ cfg2.N → cfg2.fresh 5 n = decide (n % 1 = 0) :=
  cfg2.fresh_tab 5 (fun n => decide (n % 1 = 0)) rfl (fun t => by
    rw [flush5 t, idle5 t]
    have := hN t
    by_cases h : t.val % 1 = 1 - 1
    · have h2 : (t.val + 1) % 1 = 0 := by omega
      simp [h, h2]
    · have h2 : ¬ (t.val + 1) % 1 = 0 := by omega
      by_cases h3 : t.val % 1 = 0 <;> simp [h, h2, h3])

/-! ## What the buffers hold -/

variable (W : Dev nD → Valuation τ sig (Elt F))

/-- Window `w`'s block at point `t` of the array the region finds. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The first point of the token block of point `t`. -/
def base (t : Fin cfg2.N) : Fin cfg2.N := ⟨1 * (t.val / 1), Nat.lt_of_le_of_lt (Nat.mul_div_le _ _) t.isLt⟩

theorem base_of_zero (t : Fin cfg2.N) (h : t.val % 1 = 0) : base t = t := Fin.ext (by show 1 * (t.val / 1) = t.val; omega)

/-- The codes of the token block of point `t`. -/
def codes (c : Dev nD) (t : Fin cfg2.N) : Vec F S1024x3072 .fp8e5m2 :=
  k2_pay1 (iblk W c 3 (base t)) (iblk W c 1 (base t))

/-- The accumulator slice of feature block `m` after token blocks `0 … k`. -/
def acc (c : Dev nD) (m : ℕ) : (k : ℕ) → (1 * k + m < cfg2.N) → Vec F S1x1024x3072 .f32
  | 0, h => k2_pay3 k2_pay2 (iblk W c 2 ⟨1 * 0 + m, h⟩) (codes W c ⟨1 * 0 + m, h⟩)
  | k + 1, h => k2_pay3 (acc c m k (by omega)) (iblk W c 2 ⟨1 * (k + 1) + m, h⟩) (codes W c ⟨1 * (k + 1) + m, h⟩)

theorem accT_lt (t : Fin cfg2.N) : 1 * (t.val / 1) + t.val % 1 < cfg2.N := by
  have := t.isLt; omega

/-- The accumulator slice point `t` leaves. -/
def accT (c : Dev nD) (t : Fin cfg2.N) : Vec F S1x1024x3072 .f32 := acc W c (t.val % 1) (t.val / 1) (accT_lt t)

theorem winb (m : Fin 1) : ∀ a, (![m.val, 0, 0] : Fin 3 → ℕ) a + S1x1024x3072.size a ≤ S1x1024x3072.size a := by
  revert m; decide +kernel

/-- What the accumulator is known to hold before point `n`: every slice its latest sum. -/
def Holds (c : Dev nD) (n : ℕ) (f : Vec F S1x1024x3072 .f32) : Prop :=
  ∀ (m : Fin 1) (k : ℕ) (h : 1 * k + m.val < cfg2.N), 1 * k + m.val < n → n ≤ 1 * (k + 1) + m.val →
    VecWindow.window f (![m.val, 0, 0] : Fin 3 → ℕ) S1x1024x3072.size (winb m) = acc W c m.val k h

theorem holds_zero (c : Dev nD) (f : Vec F S1x1024x3072 .f32) : Holds W c 0 f := fun m k h h1 => absurd h1 (Nat.not_lt_zero _)

theorem window_off {s : Shape} {α : Type} (x : s.Idx → α) {off off' size : Fin s.rank → ℕ} (h : off = off') (inb : ∀ a, off a + size a ≤ s.size a) :
    VecWindow.window x off size inb = VecWindow.window x off' size (h ▸ inb) := by subst h; rfl

theorem accSlice_eq (c : Dev nD) (t : Fin cfg2.N) (f : Vec F S1x1024x3072 .f32) (hf : Holds W c t.val f) :
    accSlice (grid2.coords t) (iblk W c 2 t) (codes W c t) f = accT W c t := by
  have ht := hN t
  have hm : t.val % 1 < 1 := Nat.mod_lt _ (by decide)
  unfold accSlice accClear accT
  by_cases h0 : t.val / 1 = 0
  · rw [if_pos ((cond2_iff t).mpr h0), VecWindow.window_put_same]
    have key : ∀ (k : ℕ) (h : 1 * k + t.val % 1 < cfg2.N), k = 0 → 1 * k + t.val % 1 = t.val →
        acc W c (t.val % 1) k h = k2_pay3 k2_pay2 (iblk W c 2 t) (codes W c t) := by
      intro k h hk he; subst hk
      have e : (⟨1 * 0 + t.val % 1, h⟩ : Fin cfg2.N) = t := Fin.ext he
      rw [acc, e]
    exact (key _ _ h0 (by omega)).symm
  · rw [if_neg (fun h => h0 ((cond2_iff t).mp h))]
    have key : ∀ (k : ℕ) (h : 1 * k + t.val % 1 < cfg2.N) (hk : k ≠ 0), 1 * k + t.val % 1 = t.val →
        acc W c (t.val % 1) k h = k2_pay3 (VecWindow.window f (k2_off2 (grid2.coords t)) S1x1024x3072.size (k2_off2_inb _)) (iblk W c 2 t) (codes W c t) := by
      intro k h hk he
      obtain ⟨k, rfl⟩ := Nat.exists_eq_succ_of_ne_zero hk
      have e : (⟨1 * (k + 1) + t.val % 1, h⟩ : Fin cfg2.N) = t := Fin.ext he
      have hw := hf ⟨t.val % 1, hm⟩ k (by show 1 * k + t.val % 1 < cfg2.N; omega) (by show 1 * k + t.val % 1 < t.val; omega) (by show t.val ≤ 1 * (k + 1) + t.val % 1; omega)
      rw [window_off f (off2_eq t)]
      show acc W c (t.val % 1) (k + 1) h = _
      rw [acc, e]
      exact congrArg (fun z => k2_pay3 z (iblk W c 2 t) (codes W c t)) hw.symm
    exact (key _ _ h0 (by omega)).symm

theorem holds_succ (c : Dev nD) (t : Fin cfg2.N) (f : Vec F S1x1024x3072 .f32) (hf : Holds W c t.val f) :
    Holds W c (t.val + 1) (accStep (grid2.coords t) (iblk W c 2 t) (codes W c t) f) := by
  have ht := hN t
  intro m k h h1 h2
  have hm := m.isLt
  unfold accStep
  by_cases e : m.val = t.val % 1
  · have ho : (![m.val, 0, 0] : Fin 3 → ℕ) = k2_off2 (grid2.coords t) := by rw [off2_eq t, e]
    rw [window_off _ ho, VecWindow.window_put_same, accSlice_eq W c t f hf]
    have key : ∀ (a b : ℕ) (h : 1 * b + a < cfg2.N) (a' b' : ℕ) (h' : 1 * b' + a' < cfg2.N), a = a' → b = b' → acc W c a b h = acc W c a' b' h' := by
      intro a b h a' b' h' e1 e2; subst e1; subst e2; rfl
    exact key _ _ _ _ _ _ e.symm (by omega)
  · have hd : (![m.val, 0, 0] : Fin 3 → ℕ) 0 + S1x1024x3072.size 0 ≤ k2_off2 (grid2.coords t) 0 ∨ k2_off2 (grid2.coords t) 0 + S1x1024x3072.size 0 ≤ (![m.val, 0, 0] : Fin 3 → ℕ) 0 := by
      rw [off2_eq t]
      show m.val + 1 ≤ t.val % 1 ∨ t.val % 1 + 1 ≤ m.val
      omega
    rw [VecWindow.window_put_of_disjoint _ _ _ _ _ _ _ 0 hd]
    have h3 : VecWindow.window (accClear (grid2.coords t) f) (![m.val, 0, 0] : Fin 3 → ℕ) S1x1024x3072.size (winb m) = VecWindow.window f (![m.val, 0, 0] : Fin 3 → ℕ) S1x1024x3072.size (winb m) := by
      unfold accClear
      split
      · exact VecWindow.window_put_of_disjoint _ _ _ _ _ _ _ 0 hd
      · rfl
    rw [h3]
    exact hf m k h (by omega) (by omega)

/-! ## The proof data of the region -/

/-- What the call carries between points beside the windows: the accumulator, every slice at its latest sum, and the
    other scratch memory at anything. -/
def Phi (c : Dev nD) (n : ℕ) : sProp 𝕄 :=
  iprop((∃ f, owns (c : Thread nD τ) (Memref.whole cc2_scratch0) fullShare f ∗ ⌜Holds W c n f⌝)
    ∗ Pipeline.scopedRestBut (Ix := Unit) (Name := ℕ) (U := UR sig nD τ) (Lvl := ℕ) (Val := Elt F) spec2 c [cc2_scratch0])

/-- The proof data: every input block in place, the codes of the point's token block, the result block scaled from the
    accumulated slice. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => iblk W c 3 t
    | ⟨4, _⟩ => k2_pay4 (iblk W c 0 t) (accT W c t) (iblk W c 1 t)
    | ⟨5, _⟩ => codes W c t
  Φ t := Phi W c t.val
  q _ := fullShare
  owed _ := 0

theorem A_eq (c : Dev nD) (w : Fin cfg2.W) : (dat W c).A w = W c (Proc.devRef .tc (Pipeline.arrRef spec2 w)) := by
  dsimp only [dat]

theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = iblk W c 3 t := by dsimp only [dat]
theorem after_4 (c : Dev nD) (t : Fin cfg2.N) : (dat W c).after 4 t = k2_pay4 (iblk W c 0 t) (accT W c t) (iblk W c 1 t) := by dsimp only [dat]
theorem after_5 (c : Dev nD) (t : Fin cfg2.N) : (dat W c).after 5 t = codes W c t := by dsimp only [dat]

theorem before_0 (c : Dev nD) (t : Fin cfg2.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- Within a token block the codes buffer is found as the block's first point left it. -/
theorem before_5 (c : Dev nD) (t : Fin cfg2.N) (h : ¬ t.val % 1 = 0) (d) : (dat W c).before 5 t d = codes W c t := by
  have hc : ∀ (t : Fin cfg2.N) (h : ¬ t.val % 1 = 0), codes W c ⟨t.val - 1, by have := t.isLt; omega⟩ = codes W c t := by
    intro t h
    have e : base ⟨t.val - 1, by have := t.isLt; omega⟩ = base t := Fin.ext (by show 1 * ((t.val - 1) / 1) = 1 * (t.val / 1); omega)
    unfold codes; rw [e]
  rw [Dat.before_out_traj (dat W c) 5 rfl (fun _ _ => rfl) (by
    intro t ht hi hf
    rw [after_5, after_5]
    rw [fresh5 _ (Nat.le_of_lt t.isLt)] at hf
    exact (hc t (by simpa using hf)).symm) t.val t rfl d, fresh5 _ (Nat.le_of_lt t.isLt), if_neg (by simpa using h), after_5]
  exact hc t h

/-! ## One point of the body -/

theorem lv0 (c : Dev nD) (t : Fin cfg2.N) : (dat W c).leavesExact 0 t = owns (c : Thread nD τ) (st2_0 t) fullShare (iblk W c 0 t) := by
  rw [← after_0]
theorem lv1 (c : Dev nD) (t : Fin cfg2.N) : (dat W c).leavesExact 1 t = owns (c : Thread nD τ) (st2_1 t) fullShare (iblk W c 1 t) := by
  rw [← after_1]
theorem lv2 (c : Dev nD) (t : Fin cfg2.N) : (dat W c).leavesExact 2 t = owns (c : Thread nD τ) (st2_2 t) fullShare (iblk W c 2 t) := by
  rw [← after_2]
theorem lv3 (c : Dev nD) (t : Fin cfg2.N) : (dat W c).leavesExact 3 t = owns (c : Thread nD τ) (st2_3 t) fullShare (iblk W c 3 t) := by
  rw [← after_3]

theorem lv4 (c : Dev nD) (t : Fin cfg2.N) (d) :
    owns (c : Thread nD τ) (st2_4 t) fullShare (dwStep (grid2.coords t) (iblk W c 0 t) (iblk W c 1 t) (accT W c t) ((dat W c).before 4 t d)) ⊢ (dat W c).leavesExact 4 t := by
  unfold dwStep
  by_cases h : t.val / 1 = 7
  · rw [if_pos ((cond3_iff t).mpr h), ← after_4]
    rw [show (dat W c).leavesExact 4 t = owns (c : Thread nD τ) (st2_4 t) fullShare ((dat W c).after 4 t) from by
      unfold Dat.leavesExact; rw [idle4 t]; simp only [h, decide_true, Bool.not_true]]
  · rw [if_neg (fun e => h ((cond3_iff t).mp e))]
    rw [Dat.leavesExact_idle (dat W c) 4 t (by rw [idle4 t, decide_eq_false h]; rfl) (flush4 t h)]
    iintro H; iexists d; iexact H

theorem lv5 (c : Dev nD) (t : Fin cfg2.N) (d : (cfg2.win 5).block.Idx → Elt F (cfg2.win 5).elt) :
    owns (c : Thread nD τ) (st2_5 t) fullShare (codes W c t) ⊢ (dat W c).leavesExact 5 t := by
  by_cases h : t.val % 1 = 0
  · rw [← after_5, show (dat W c).leavesExact 5 t = owns (c : Thread nD τ) (st2_5 t) fullShare ((dat W c).after 5 t) from by
      unfold Dat.leavesExact; rw [idle5 t]; simp only [h, decide_true, Bool.not_true]]
  · by_cases hf : t.val % 1 = 1 - 1
    · rw [← after_5, show (dat W c).leavesExact 5 t = owns (c : Thread nD τ) (st2_5 t) fullShare ((dat W c).after 5 t) from by
        unfold Dat.leavesExact; rw [idle5 t, flush5 t, decide_eq_true hf]; split <;> rfl]
    · rw [Dat.leavesExact_idle (dat W c) 5 t (by rw [idle5 t, decide_eq_false h]; rfl) (by rw [flush5 t, decide_eq_false hf]), ← before_5 W c t h d]
      iintro H; iexists d; iexact H

/-- What the body is called with at point `t`, -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d)))

/-- and what it returns. -/
def bodyPost (c : Dev nD) (t : Fin cfg2.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t)

theorem cod_eq (c : Dev nD) (t : Fin cfg2.N) (d) : codStep (grid2.coords t) (iblk W c 1 t) (iblk W c 3 t) ((dat W c).before 5 t d) = codes W c t := by
  unfold codStep
  by_cases h : t.val % 1 = 0
  · rw [if_pos ((cond1_iff t).mpr h)]; unfold codes; rw [base_of_zero t h]
  · rw [if_neg (fun e => h ((cond1_iff t).mp e)), before_5 W c t h d]

set_option maxHeartbeats 1000000 in
/-- One point of the body does what the proof data say. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3, lv0, lv1, lv2, lv3]
  rw [show (dat W c).owesAt () t.succ = (dat W c).owesAt () t.castSucc from rfl]
  rw [show (dat W c).Φ t.succ = Phi W c (t.val + 1) from rfl, show (dat W c).Φ t.castSucc = Phi W c t.val from rfl]
  unfold Phi
  iintro ⟨⟨⟨%f, HS0, %hf⟩, Hg⟩, Ho, ⟨%d0, H0⟩, ⟨%d1, H1⟩, ⟨%d2, H2⟩, ⟨%d3, H3⟩, ⟨%d4, H4⟩, ⟨%d5, H5⟩⟩
  iapply (run c (grid2.coords t) _ _ _ _ _ _ _ _ _ _ _ _ _ _ (fun h => by have h1 := (cond2_iff t).mp h.1; have h2 := (cond3_iff t).mp h.2; omega) (iblk W c 0 t) (iblk W c 1 t) (iblk W c 2 t) (iblk W c 3 t) ((dat W c).before 4 t d4) ((dat W c).before 5 t d5) f Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  rw [cod_eq W c t d5, accSlice_eq W c t f hf]
  iintro ⟨H0, H1, H2, H3, H4, H5, HS0⟩
  isplitl [HS0 Hg]
  · isplitl [HS0]
    · iexists _; isplitl [HS0]; · iexact HS0
      ipureintro; exact holds_succ W c t f hf
    iexact Hg
  isplitl [Ho]; · iexact Ho
  isplitl [H0]; · iexact H0
  isplitl [H1]; · iexact H1
  isplitl [H2]; · iexact H2
  isplitl [H3]; · iexact H3
  isplitl [H4]; · iapply (lv4 W c t d4); iexact H4
  iapply (lv5 W c t d5); iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The body obligation, at every point. -/
theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

/-- The region is entered with the scratch memory at anything, -/
theorem hin (c : Dev nD) : Pipeline.scopedRest (Ix := Unit) (Name := ℕ) (U := UR sig nD τ) (Lvl := ℕ) (Val := Elt F) spec2 c ⊢ (dat W c).Φ 0 := by
  rw [show (dat W c).Φ 0 = Phi W c 0 from rfl, scopedRest2_split]
  unfold Phi
  iintro ⟨⟨%f, H⟩, Hg⟩
  isplitl [H]
  · iexists f; isplitl [H]
    · rw [owns_whole]; iexact H
    ipureintro; exact holds_zero W c f
  iexact Hg

/-- and left with it at anything. -/
theorem hout (c : Dev nD) : (dat W c).Φ (Fin.last cfg2.N) ⊢ Pipeline.scopedRest (Ix := Unit) (Name := ℕ) (U := UR sig nD τ) (Lvl := ℕ) (Val := Elt F) spec2 c := by
  rw [show (dat W c).Φ (Fin.last cfg2.N) = Phi W c cfg2.N from rfl, scopedRest2_split]
  unfold Phi
  simp only [owns_whole]
  iintro ⟨⟨%f, H, %hf⟩, Hg⟩
  isplitl [H]
  · iexists f; iexact H
  iexact Hg

end Cert.Kernel.Wgrad2

end
-- ==== Proof.Kernel.Run.lean ====
/-
  The whole program as one run: the host stretches and the three calls chained, every unscoped buffer of a core named
  at the end; from it, that the arguments end as launched.
-/
module

public import proofs.«01_k».proof.Proof.RegionRel
public import proofs.«01_k».proof.Proof.Kernel.Rows
public import proofs.«01_k».proof.Proof.Kernel.WgradOne
public import proofs.«01_k».proof.Proof.Kernel.WgradTwo
public import proofs.«01_k».proof.Proof.Gen.Kernel.Regions

@[expose] public section

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- A core's buffers at launch, -/
def W0 (c : Dev nD) : Valuation τ sig (Elt F) := fun b => m (c, b)
/-- after the first host stretch, -/
def W1 (c : Dev nD) : Valuation τ sig (Elt F) := StableHlo.after hostOps0 (W0 m c)
/-- after the rows call, -/
def W2 (c : Dev nD) : Valuation τ sig (Elt F) := afterRegion (Rows.dat (W1 m) c) (W1 m c)
/-- after the second host stretch, -/
def W3 (c : Dev nD) : Valuation τ sig (Elt F) := StableHlo.after hostOps1 (W2 m c)
/-- after the dW1 call, -/
def W4 (c : Dev nD) : Valuation τ sig (Elt F) := afterRegion (Wgrad1.dat (W3 m) c) (W3 m c)
/-- after the third host stretch, -/
def W5 (c : Dev nD) : Valuation τ sig (Elt F) := StableHlo.after hostOps2 (W4 m c)
/-- after the dW2 call, -/
def W6 (c : Dev nD) : Valuation τ sig (Elt F) := afterRegion (Wgrad2.dat (W5 m) c) (W5 m c)
/-- and at the end. -/
def W7 (c : Dev nD) : Valuation τ sig (Elt F) := StableHlo.after hostOps3 (W6 m c)

/-- The three regions' proof data. -/
def rdats : (p : Fin 3) → (c : Dev nD) → RDat τ (Elt F) Unit ℕ (UR sig nD τ) ℕ (pin (pcfgs (F := F)) adm p) c
  | 0 => fun c => Rows.rdat (W1 m) c
  | 1 => fun c => (Wgrad1.dat (W3 m) c).toR
  | 2 => fun c => (Wgrad2.dat (W5 m) c).toR
  | ⟨_ + 3, h⟩ => absurd h (by omega)

/-- No level is used: no core owes anything. -/
def lev : GSem nD τ sig → Finset Unit := fun _ => ∅

theorem sub_uc0 : arrRefs (τ := τ) (pcfgs (F := F) 0).spec ⊆ ucRefs τ sig := arrRefs_sub_ucRefs _ launch0.win.arr_unscoped
theorem sub_uc1 : arrRefs (τ := τ) (pcfgs (F := F) 1).spec ⊆ ucRefs τ sig := arrRefs_sub_ucRefs _ launch1.win.arr_unscoped
theorem sub_uc2 : arrRefs (τ := τ) (pcfgs (F := F) 2).spec ⊆ ucRefs τ sig := arrRefs_sub_ucRefs _ launch2.win.arr_unscoped

/-- The rows call as a segment. -/
def reg0 : RDat.RegionSeg (pcfgs (F := F)) adm (rdats m) () defs₀ Variants.none lev (fun _ _ => 0) 0 :=
  RegionRel.seg (pcfgs (F := F)) adm (rdats m) defs₀ Variants.none lev (fun _ _ => 0) 0 (ucRefs τ sig) sub_uc0 launch0.toP rfl
    (fun c => Rows.body_obligation (W1 m) c) (fun _ _ => rfl) (fun _ => rfl)
    (fun c w => by show (Rows.rdat (W1 m) c).share w = fullShare; unfold RDat.share; split <;> rfl)
    (fun c => Rows.hin (W1 m) c) (fun c => Rows.hout (W1 m) c) (W1 m) (W2 m)
    (fun c w => Rows.A_eq (W1 m) c w)
    (fun c w G h => (Rows.arrAt_eq (W1 m) c w G h).trans (afterRegion_arr (Rows.dat (W1 m) c) (W1 m c) launch0.win.arr_inj w).symm)
    (fun c => afterRegion_off (Rows.dat (W1 m) c) (W1 m c) (ucRefs τ sig))

/-- The dW1 call as a segment. -/
def reg1 : RDat.RegionSeg (pcfgs (F := F)) adm (rdats m) () defs₀ Variants.none lev (fun _ _ => 0) 1 :=
  RegionRel.seg (pcfgs (F := F)) adm (rdats m) defs₀ Variants.none lev (fun _ _ => 0) 1 (ucRefs τ sig) sub_uc1 launch1.toP rfl
    (fun c => (Wgrad1.body_obligation (W3 m) c).loose.toR) (fun _ _ => rfl) (fun _ => rfl)
    (fun c w => by show (Wgrad1.dat (W3 m) c).share w = fullShare; unfold Dat.share; split <;> rfl)
    (fun c => Wgrad1.hin (W3 m) c) (fun c => Wgrad1.hout (W3 m) c) (W3 m) (W4 m)
    (fun c w => Wgrad1.A_eq (W3 m) c w)
    (fun c w G h => ((Wgrad1.dat (W3 m) c).toR_arrAt w _ G h).trans (afterRegion_arr (Wgrad1.dat (W3 m) c) (W3 m c) launch1.win.arr_inj w).symm)
    (fun c => afterRegion_off (Wgrad1.dat (W3 m) c) (W3 m c) (ucRefs τ sig))

/-- The dW2 call as a segment. -/
def reg2 : RDat.RegionSeg (pcfgs (F := F)) adm (rdats m) () defs₀ Variants.none lev (fun _ _ => 0) 2 :=
  RegionRel.seg (pcfgs (F := F)) adm (rdats m) defs₀ Variants.none lev (fun _ _ => 0) 2 (ucRefs τ sig) sub_uc2 launch2.toP rfl
    (fun c => (Wgrad2.body_obligation (W5 m) c).loose.toR) (fun _ _ => rfl) (fun _ => rfl)
    (fun c w => by show (Wgrad2.dat (W5 m) c).share w = fullShare; unfold Dat.share; split <;> rfl)
    (fun c => Wgrad2.hin (W5 m) c) (fun c => Wgrad2.hout (W5 m) c) (W5 m) (W6 m)
    (fun c w => Wgrad2.A_eq (W5 m) c w)
    (fun c w G h => ((Wgrad2.dat (W5 m) c).toR_arrAt w _ G h).trans (afterRegion_arr (Wgrad2.dat (W5 m) c) (W5 m c) launch2.win.arr_inj w).symm)
    (fun c => afterRegion_off (Wgrad2.dat (W5 m) c) (W5 m c) (ucRefs τ sig))

/-- What rides beside the buffers: the core owes nothing. -/
def rest (c : Dev nD) : sProp 𝕄 := iprop(∃ Wd, owes (c : Thread nD τ) (0 : CellTallies nD τ sig Unit) Wd)

/-- A host stretch as a segment. -/
def host0 : HostSeg (Ix := Unit) (Name := ℕ) (U := UR sig nD τ) (Lvl := ℕ) (pcfgs (F := F)) defs₀ Variants.none lev (fun _ _ => 0) :=
  HostSeg.ofOps _ _ _ _ _ (ucRefs τ sig) hostOps0
    (fun op h => sub_ucRefs op ((List.forall_iff_forall_mem.mp hostOps0_sub) op h))
    (fun op h => (List.forall_iff_forall_mem.mp hostOps0_fresh) op h) (W0 m) rest
/-- A host stretch as a segment. -/
def host1 : HostSeg (Ix := Unit) (Name := ℕ) (U := UR sig nD τ) (Lvl := ℕ) (pcfgs (F := F)) defs₀ Variants.none lev (fun _ _ => 0) :=
  HostSeg.ofOps _ _ _ _ _ (ucRefs τ sig) hostOps1
    (fun op h => sub_ucRefs op ((List.forall_iff_forall_mem.mp hostOps1_sub) op h))
    (fun op h => (List.forall_iff_forall_mem.mp hostOps1_fresh) op h) (W2 m) rest
/-- A host stretch as a segment. -/
def host2 : HostSeg (Ix := Unit) (Name := ℕ) (U := UR sig nD τ) (Lvl := ℕ) (pcfgs (F := F)) defs₀ Variants.none lev (fun _ _ => 0) :=
  HostSeg.ofOps _ _ _ _ _ (ucRefs τ sig) hostOps2
    (fun op h => sub_ucRefs op ((List.forall_iff_forall_mem.mp hostOps2_sub) op h))
    (fun op h => (List.forall_iff_forall_mem.mp hostOps2_fresh) op h) (W4 m) rest
/-- A host stretch as a segment. -/
def host3 : HostSeg (Ix := Unit) (Name := ℕ) (U := UR sig nD τ) (Lvl := ℕ) (pcfgs (F := F)) defs₀ Variants.none lev (fun _ _ => 0) :=
  HostSeg.ofOps _ _ _ _ _ (ucRefs τ sig) hostOps3
    (fun op h => sub_ucRefs op ((List.forall_iff_forall_mem.mp hostOps3_sub) op h))
    (fun op h => (List.forall_iff_forall_mem.mp hostOps3_fresh) op h) (W6 m) rest

/-- @main as its segments. -/
def segs : List (RDat.Seg (pcfgs (F := F)) adm (rdats m) () defs₀ Variants.none lev (fun _ _ => 0)) :=
  [.host (host0 m), .region (reg0 m), .host (host1 m), .region (reg1 m), .host (host2 m), .region (reg2 m), .host (host3 m)]

set_option backward.isDefEq.respectTransparency.types false in
/-- The run: every unscoped buffer ends at `W7`, every semaphore at zero. -/
theorem run_main (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W7 m c (Proc.devRef .tc b))
        ∧ r.2.sem = fun _ => 0) := by
  refine RDat.θ_run_regions_kit_sems (pcfgs (F := F)) adm (rdats m) () (launch0.toP.cellOf_inj adm) emb₁ defs₀ Variants.none lev (fun _ _ => 0) m ρ main
    (segs m)
    (fun c Q => by
      rewrite [main_chain c, RDat.Seg.run_eq_chain,
        show (segs m).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, RDat.Seg.pipes_host, RDat.Seg.pipes_region, RDat.Seg.pipes_nil]; decide)
    (O₀ := 0) (hL := fun _ _ => rfl)
    (G := fun _ => iprop(emp)) (u₀ := initOf (cells (pin (pcfgs (F := F)) adm) (launch0.toP.cellOf_inj adm)) (launchToks (pin (pcfgs (F := F)) adm) (launch0.toP.cellOf_inj adm)))
    (hu₀ := by
      iintro Hu; imodintro
      isplitl [Hu]
      · iapply (show (ownU _ : sProp 𝕄) ⊢ BI.own (emb₁ (initOf (cells (pin (pcfgs (F := F)) adm) (launch0.toP.cellOf_inj adm)) (launchToks (pin (pcfgs (F := F)) adm) (launch0.toP.cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (W0 m c) ∗ rest c))
    (Tₙ := fun c => StableHlo.held (c.tc : Thread nD τ) (ucRefs τ sig) (W7 m c))
    (hch := ⟨fun _ => .rfl, fun _ => .rfl, fun _ => .rfl, fun _ => .rfl, fun _ => .rfl, fun _ => .rfl, fun _ => .rfl, fun _ => .rfl⟩)
    (hinit := by
      refine initEach lev (fun _ _ => 0) fun c => ?_
      rw [show unscopedBufs c (fun b => m ((c.tc : Thread nD τ).loc b)) = StableHlo.held (c.tc : Thread nD τ) (ucRefs τ sig) (W0 m c)
          from unscopedBufs_held (Ix := Unit) (Name := ℕ) (U := UR sig nD τ) (Lvl := ℕ) c (W0 m c)]
      iintro ⟨⟨Hh, -, HO, -⟩, -⟩
      imodintro
      isplitl [Hh]; · iexact Hh
      unfold rest
      iexists _; iexact HO)
    (QY := fun c s => ∀ b ∈ ucRefs τ sig, s.mem ((c.tc : Thread nD τ).1, b) = W7 m c b)
    (hfin := fun c s' => by
      unfold StableHlo.held
      iintro ⟨Hh, HSI⟩
      ihave Hr := (pointsTo_read_all (ucRefs τ sig) (fun b => ((c.tc : Thread nD τ).1, b)) (W7 m c) s') $$ [Hh HSI]
      · isplitl [Hh] <;> iassumption
      imodintro; iexact Hr)
    (hQ := fun _ h hz => ⟨fun c b hb => h c (Proc.devRef .tc b) (devRef_mem_ucRefs hb), funext fun g => hz g (.inr (regions_no_unscoped g.2))⟩)

/-! ## No item writes an argument -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, arrRef spec0 w = r → (cfg0.win w).isOut = false) : W2 m c r = W1 m c r :=
  afterRegion_keeps (Rows.dat (W1 m) c) (W1 m c) launch0.win.arr_inj (fun w => Rows.datA_eq (W1 m) c w) r h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : ∀ w, arrRef spec1 w = r → (cfg1.win w).isOut = false) : W4 m c r = W3 m c r :=
  afterRegion_keeps (Wgrad1.dat (W3 m) c) (W3 m c) launch1.win.arr_inj (fun w => Wgrad1.A_eq (W3 m) c w) r h
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : ∀ w, arrRef spec2 w = r → (cfg2.win w).isOut = false) : W6 m c r = W5 m c r :=
  afterRegion_keeps (Wgrad2.dat (W5 m) c) (W5 m c) launch2.win.arr_inj (fun w => Wgrad2.A_eq (W5 m) c w) r h
theorem W7_of (c : Dev nD) (r : Ref sig .tc) (h : r ∉ hostOps3_W) : W7 m c r = W6 m c r :=
  StableHlo.after_of_writes_sub hostOps3 _ hostOps3_writes h

/-- `main_arg0` ends as launched. -/
theorem W7_arg0 (c : Dev nD) : W7 m c main_arg0 = m ((c : Thread nD τ).loc main_arg0) :=
  (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
/-- `main_arg1` ends as launched. -/
theorem W7_arg1 (c : Dev nD) : W7 m c main_arg1 = m ((c : Thread nD τ).loc main_arg1) :=
  (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
/-- `main_arg2` ends as launched. -/
theorem W7_arg2 (c : Dev nD) : W7 m c main_arg2 = m ((c : Thread nD τ).loc main_arg2) :=
  (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl
/-- `main_arg3` ends as launched. -/
theorem W7_arg3 (c : Dev nD) : W7 m c main_arg3 = m ((c : Thread nD τ).loc main_arg3) :=
  (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans rfl
/-- `main_arg4` ends as launched. -/
theorem W7_arg4 (c : Dev nD) : W7 m c main_arg4 = m ((c : Thread nD τ).loc main_arg4) :=
  (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans rfl
/-- `main_arg5` ends as launched. -/
theorem W7_arg5 (c : Dev nD) : W7 m c main_arg5 = m ((c : Thread nD τ).loc main_arg5) :=
  (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans rfl
/-- `main_arg6` ends as launched. -/
theorem W7_arg6 (c : Dev nD) : W7 m c main_arg6 = m ((c : Thread nD τ).loc main_arg6) :=
  (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans rfl
/-- `main_arg7` ends as launched. -/
theorem W7_arg7 (c : Dev nD) : W7 m c main_arg7 = m ((c : Thread nD τ).loc main_arg7) :=
  (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans rfl
/-- `main_arg8` ends as launched. -/
theorem W7_arg8 (c : Dev nD) : W7 m c main_arg8 = m ((c : Thread nD τ).loc main_arg8) :=
  (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans rfl
/-- `main_arg9` ends as launched. -/
theorem W7_arg9 (c : Dev nD) : W7 m c main_arg9 = m ((c : Thread nD τ).loc main_arg9) :=
  (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans rfl

/-- The frame: every run ends with the arguments as launched and every semaphore at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs (onTc (τ := τ) (main (F := F))) ⟨m, fun _ => 0, ρ⟩).mono
    (fun r h => ⟨fun c => ⟨(h.1 c main_arg0 rfl).trans (W7_arg0 m c), (h.1 c main_arg1 rfl).trans (W7_arg1 m c), (h.1 c main_arg2 rfl).trans (W7_arg2 m c), (h.1 c main_arg3 rfl).trans (W7_arg3 m c), (h.1 c main_arg4 rfl).trans (W7_arg4 m c), (h.1 c main_arg5 rfl).trans (W7_arg5 m c), (h.1 c main_arg6 rfl).trans (W7_arg6 m c), (h.1 c main_arg7 rfl).trans (W7_arg7 m c), (h.1 c main_arg8 rfl).trans (W7_arg8 m c), (h.1 c main_arg9 rfl).trans (W7_arg9 m c)⟩, h.2⟩) (run_main m ρ)

end Cert.Kernel.Run

end
-- ==== Proof.KernelIdeal.RowsDefs.lean ====
/-
  One block of 512 rows of the call `rows`: the values its body computes, and its parts one by one.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.OwnsStep
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What a grid point of `rows` computes from: the two scalar scales, the blocks of dy and gu, the two weight-code
    matrices, and the two column maxima it starts from. -/
structure Ins (F : FTy → Type) where
  x1 : Vec F S1x1 .f32
  x2 : Vec F S1x1 .f32
  x3 : Vec F S512x3072 .bf16
  x4 : Vec F S512x2048 .bf16
  x5 : Vec F S3072x2048 .fp8e4m3
  x6 : Vec F S1024x3072 .fp8e4m3
  a15 : Vec F S1x3072 .bf16
  a16 : Vec F S1x2048 .f32

/-- The one index of a 1×1 array. -/
def z11 : S1x1.Idx := fun k => ⟨0, by match k with | 0 => exact Nat.one_pos | 1 => exact Nat.one_pos⟩

instance : Subsingleton S1x1.Idx := ⟨fun a b => funext fun k => by
  have h : S1x1.size k = 1 := by match k with | 0 => rfl | 1 => rfl
  exact Fin.ext (by have := (a k).isLt; have := (b k).isLt; omega)⟩

/-! The values the body computes (`vN`) and the contents of its buffers after each store (`cK_N`: buffer K). -/

def v33 (q : Ins F) : FVec F S512x3072 .bf16 := k0_pay6 q.x3
def v34 (q : Ins F) : FVec F S512x3072 .bf16 := k0_pay7 q.x3
def v36 (q : Ins F) : FVec F S3072 .bf16 := k0_pay8 q.x3
def c15_1 (q : Ins F) : Vec F S1x3072 .bf16 := (k0_pay9 (F := F) q.a15 (v36 q))
def v91 (q : Ins F) : FVec F S512x1 .f32 := k0_pay10 (v34 q)
def c8_1 (q : Ins F) : Vec F S512x3072 .fp8e5m2 := (k0_pay13 (F := F) (v33 q) (v91 q) (Scalar.ofBits (F := F) .f32 0x37924925#32))
def c9_1 (q : Ins F) (i : grid0.Coords) (x : Vec F S8x1024 .f32) : Vec F S8x1024 .f32 := VecWindow.put x (k0_off1 i) S1x512.size (k0_pay14 (F := F) (v91 q) (Scalar.ofBits (F := F) .f32 0x37924925#32))
def v114 (q : Ins F) : FVec F S512x1 .f32 := (k0_pay12 (v91 q) (Scalar.ofBits (F := F) .f32 0x37924925#32))
def c12_1 (q : Ins F) (x : Vec F S512x2048 .bf16) : Vec F S512x2048 .bf16 := VecWindow.put x ![0, 0] S512x256.size (k0_pay21 (F := F) (v114 q) (q.x2 z11) (c8_1 q) (VecWindow.window q.x6 ![0, 0] S256x3072.size inb_S1024x3072_S256x3072_0_0) (VecWindow.window q.x4 ![0, 0] S512x256.size inb_S512x2048_S512x256_0_0) (VecWindow.window q.x4 ![0, 1024] S512x256.size inb_S512x2048_S512x256_0_1024))
def v137 (q : Ins F) : FVec F S512x1 .f32 := k0_pay15 (v114 q) (q.x2 z11)
def v161 (q : Ins F) : FVec F S512x256 .f32 := k0_pay20 (v114 q) (q.x2 z11) (c8_1 q) (VecWindow.window q.x6 ![0, 0] S256x3072.size inb_S1024x3072_S256x3072_0_0) (VecWindow.window q.x4 ![0, 0] S512x256.size inb_S512x2048_S512x256_0_0)
def v168 (q : Ins F) : FVec F S512x128 .f32 := k0_pay23 (v114 q) (q.x2 z11) (c8_1 q) (VecWindow.window q.x6 ![0, 0] S256x3072.size inb_S1024x3072_S256x3072_0_0) (VecWindow.window q.x4 ![0, 0] S512x256.size inb_S512x2048_S512x256_0_0) (VecWindow.window q.x4 ![0, 1024] S512x256.size inb_S512x2048_S512x256_0_1024)
def v172 (q : Ins F) : FVec F S1x256 .f32 := k0_pay24 (v114 q) (q.x2 z11) (c8_1 q) (VecWindow.window q.x6 ![0, 0] S256x3072.size inb_S1024x3072_S256x3072_0_0) (VecWindow.window q.x4 ![0, 0] S512x256.size inb_S512x2048_S512x256_0_0) (VecWindow.window q.x4 ![0, 1024] S512x256.size inb_S512x2048_S512x256_0_1024) (VecWindow.window q.a16 ![0, 0] S1x256.size inb_S1x2048_S1x256_0_0)
def v173 (q : Ins F) : Vec F S1x256 .f32 := (VecWindow.window q.a16 ![0, 0] S1x256.size inb_S1x2048_S1x256_0_0)
def c16_1 (q : Ins F) : Vec F S1x2048 .f32 := VecWindow.put q.a16 ![0, 0] S1x256.size (k0_pay25 (F := F) (v172 q))
def c12_2 (q : Ins F) (x : Vec F S512x2048 .bf16) : Vec F S512x2048 .bf16 := VecWindow.put (c12_1 q x) ![0, 1024] S512x256.size (k0_pay26 (F := F) (v161 q))
def c16_2 (q : Ins F) : Vec F S1x2048 .f32 := VecWindow.put (c16_1 q) ![0, 1024] S1x256.size (k0_pay29 (F := F) (v161 q) (VecWindow.window (c16_1 q) ![0, 1024] S1x256.size inb_S1x2048_S1x256_0_1024))
def v182 (q : Ins F) : FVec F S512x128 .f32 := k0_pay28 (v161 q) (v168 q)
def v210 (q : Ins F) : FVec F S512x256 .f32 := k0_pay33 (v137 q) (c8_1 q) (VecWindow.window q.x6 ![256, 0] S256x3072.size inb_S1024x3072_S256x3072_256_0) (VecWindow.window q.x4 ![0, 256] S512x256.size inb_S512x2048_S512x256_0_256) (VecWindow.window q.x4 ![0, 1280] S512x256.size inb_S512x2048_S512x256_0_1280)
def v212 (q : Ins F) : FVec F S512x256 .f32 := k0_pay34 (v137 q) (c8_1 q) (VecWindow.window q.x6 ![256, 0] S256x3072.size inb_S1024x3072_S256x3072_256_0) (VecWindow.window q.x4 ![0, 256] S512x256.size inb_S512x2048_S512x256_0_256)
def c12_3 (q : Ins F) (x : Vec F S512x2048 .bf16) : Vec F S512x2048 .bf16 := VecWindow.put (c12_2 q x) ![0, 256] S512x256.size (k0_pay35 (F := F) (v210 q))
def c16_3 (q : Ins F) : Vec F S1x2048 .f32 := VecWindow.put (c16_2 q) ![0, 256] S1x256.size (k0_pay37 (F := F) (v210 q) (VecWindow.window (c16_2 q) ![0, 256] S1x256.size inb_S1x2048_S1x256_0_256))
def c12_4 (q : Ins F) (x : Vec F S512x2048 .bf16) : Vec F S512x2048 .bf16 := VecWindow.put (c12_3 q x) ![0, 1280] S512x256.size (k0_pay38 (F := F) (v212 q))
def c16_4 (q : Ins F) : Vec F S1x2048 .f32 := VecWindow.put (c16_3 q) ![0, 1280] S1x256.size (k0_pay41 (F := F) (v212 q) (VecWindow.window (c16_3 q) ![0, 1280] S1x256.size inb_S1x2048_S1x256_0_1280))
def v233 (q : Ins F) : FVec F S512x128 .f32 := k0_pay40 (v182 q) (v210 q) (v212 q)
def v246 (q : Ins F) : FVec F S512x256 .f32 := k0_pay42 (v137 q) (c8_1 q) (VecWindow.window q.x6 ![512, 0] S256x3072.size inb_S1024x3072_S256x3072_512_0)
def v247 (q : Ins F) : Vec F S512x256 .bf16 := (VecWindow.window q.x4 ![0, 512] S512x256.size inb_S512x2048_S512x256_0_512)
def c12_5 (q : Ins F) (x : Vec F S512x2048 .bf16) : Vec F S512x2048 .bf16 := VecWindow.put (c12_4 q x) ![0, 512] S512x256.size (k0_pay47 (F := F) (v246 q) (v247 q) (VecWindow.window q.x4 ![0, 1536] S512x256.size inb_S512x2048_S512x256_0_1536))
def c16_5 (q : Ins F) : Vec F S1x2048 .f32 := VecWindow.put (c16_4 q) ![0, 512] S1x256.size (k0_pay49 (F := F) (v246 q) (v247 q) (VecWindow.window q.x4 ![0, 1536] S512x256.size inb_S512x2048_S512x256_0_1536) (VecWindow.window (c16_4 q) ![0, 512] S1x256.size inb_S1x2048_S1x256_0_512))
def c12_6 (q : Ins F) (x : Vec F S512x2048 .bf16) : Vec F S512x2048 .bf16 := VecWindow.put (c12_5 q x) ![0, 1536] S512x256.size (k0_pay50 (F := F) (v246 q) (v247 q))
def v284 (q : Ins F) : FVec F S512x128 .f32 := k0_pay52 (v233 q) (v246 q) (v247 q) (VecWindow.window q.x4 ![0, 1536] S512x256.size inb_S512x2048_S512x256_0_1536)
def v288 (q : Ins F) : FVec F S1x256 .f32 := k0_pay53 (v246 q) (v247 q) (VecWindow.window (c16_5 q) ![0, 1536] S1x256.size inb_S1x2048_S1x256_0_1536)
def c16_6 (q : Ins F) : Vec F S1x2048 .f32 := VecWindow.put (c16_5 q) ![0, 1536] S1x256.size (k0_pay54 (F := F) (v288 q))
def c12_7 (q : Ins F) (x : Vec F S512x2048 .bf16) : Vec F S512x2048 .bf16 := VecWindow.put (c12_6 q x) ![0, 768] S512x256.size (k0_pay60 (F := F) (v137 q) (c8_1 q) (VecWindow.window q.x6 ![768, 0] S256x3072.size inb_S1024x3072_S256x3072_768_0) (VecWindow.window q.x4 ![0, 768] S512x256.size inb_S512x2048_S512x256_0_768) (VecWindow.window q.x4 ![0, 1792] S512x256.size inb_S512x2048_S512x256_0_1792))
def v314 (q : Ins F) : FVec F S512x256 .f32 := k0_pay59 (v137 q) (c8_1 q) (VecWindow.window q.x6 ![768, 0] S256x3072.size inb_S1024x3072_S256x3072_768_0) (VecWindow.window q.x4 ![0, 768] S512x256.size inb_S512x2048_S512x256_0_768)
def v321 (q : Ins F) : FVec F S512x128 .f32 := k0_pay62 (v137 q) (v284 q) (c8_1 q) (VecWindow.window q.x6 ![768, 0] S256x3072.size inb_S1024x3072_S256x3072_768_0) (VecWindow.window q.x4 ![0, 768] S512x256.size inb_S512x2048_S512x256_0_768) (VecWindow.window q.x4 ![0, 1792] S512x256.size inb_S512x2048_S512x256_0_1792)
def v325 (q : Ins F) : FVec F S1x256 .f32 := k0_pay63 (v137 q) (c8_1 q) (VecWindow.window q.x6 ![768, 0] S256x3072.size inb_S1024x3072_S256x3072_768_0) (VecWindow.window q.x4 ![0, 768] S512x256.size inb_S512x2048_S512x256_0_768) (VecWindow.window q.x4 ![0, 1792] S512x256.size inb_S512x2048_S512x256_0_1792) (VecWindow.window (c16_6 q) ![0, 768] S1x256.size inb_S1x2048_S1x256_0_768)
def v326 (q : Ins F) : Vec F S1x256 .f32 := (VecWindow.window (c16_6 q) ![0, 768] S1x256.size inb_S1x2048_S1x256_0_768)
def c16_7 (q : Ins F) : Vec F S1x2048 .f32 := VecWindow.put (c16_6 q) ![0, 768] S1x256.size (k0_pay64 (F := F) (v325 q))
def c12_8 (q : Ins F) (x : Vec F S512x2048 .bf16) : Vec F S512x2048 .bf16 := VecWindow.put (c12_7 q x) ![0, 1792] S512x256.size (k0_pay65 (F := F) (v314 q))
def c16_8 (q : Ins F) : Vec F S1x2048 .f32 := VecWindow.put (c16_7 q) ![0, 1792] S1x256.size (k0_pay67 (F := F) (v314 q) (VecWindow.window (c16_7 q) ![0, 1792] S1x256.size inb_S1x2048_S1x256_0_1792))
def v362 (q : Ins F) : IVec S512x1 32 := k0_pay68 (v314 q) (v321 q)
def v366 (q : Ins F) : IVec S512x1 32 := k0_pay69 (v314 q) (v321 q)

/-- Storing the same payload keeps two arrays' agreement and adds the stored window to it. -/
theorem put_agree {α : Type} {s : Shape} {x x' : s.Idx → α} {P : s.Idx → Prop} (h : ∀ y, P y → x y = x' y) (off size : Fin s.rank → ℕ) (w : ((a : Fin s.rank) → Fin (size a)) → α) :
    ∀ y, (P y ∨ ∀ a, off a ≤ (y a).val ∧ (y a).val < off a + size a) → VecWindow.put x off size w y = VecWindow.put x' off size w y := by
  intro y hy
  unfold VecWindow.put
  split
  · rfl
  · rename_i hn
    rcases hy with hp | hw
    · exact h y hp
    · exact absurd hw hn

/-- The dh block a point leaves. -/
def dh (q : Ins F) : Vec F S512x2048 .bf16 := c12_8 q q.x4

/-- It covers the whole buffer: what was there before does not matter. -/
theorem c12_full (q : Ins F) (x : Vec F S512x2048 .bf16) : c12_8 q x = dh q := by
  funext y
  refine (put_agree (put_agree (put_agree (put_agree (put_agree (put_agree (put_agree (put_agree (fun _ (h : False) => h.elim) _ _ _) _ _ _) _ _ _) _ _ _) _ _ _) _ _ _) _ _ _) _ _ _) y ?_
  have hr : (y 0).val < 512 := (y 0).isLt
  have hc : (y 1).val < 2048 := (y 1).isLt
  have key : ∀ o, o ≤ (y 1).val → (y 1).val < o + 256 → ∀ a : Fin 2, (![0, o] : Fin 2 → ℕ) a ≤ (y a).val ∧ (y a).val < (![0, o] : Fin 2 → ℕ) a + S512x256.size a := fun o h h' a => by
    match a with
    | 0 => exact ⟨Nat.zero_le _, by show (y 0).val < 0 + 512; omega⟩
    | 1 => exact ⟨h, h'⟩
  by_contra hn
  simp only [not_or] at hn
  obtain ⟨⟨⟨⟨⟨⟨⟨⟨-, n0⟩, n1⟩, n2⟩, n3⟩, n4⟩, n5⟩, n6⟩, n7⟩ := hn
  have m0 : ¬(0 ≤ (y 1).val ∧ (y 1).val < 0 + 256) := fun h => n0 (key 0 h.1 h.2)
  have m1 : ¬(1024 ≤ (y 1).val ∧ (y 1).val < 1024 + 256) := fun h => n1 (key 1024 h.1 h.2)
  have m2 : ¬(256 ≤ (y 1).val ∧ (y 1).val < 256 + 256) := fun h => n2 (key 256 h.1 h.2)
  have m3 : ¬(1280 ≤ (y 1).val ∧ (y 1).val < 1280 + 256) := fun h => n3 (key 1280 h.1 h.2)
  have m4 : ¬(512 ≤ (y 1).val ∧ (y 1).val < 512 + 256) := fun h => n4 (key 512 h.1 h.2)
  have m5 : ¬(1536 ≤ (y 1).val ∧ (y 1).val < 1536 + 256) := fun h => n5 (key 1536 h.1 h.2)
  have m6 : ¬(768 ≤ (y 1).val ∧ (y 1).val < 768 + 256) := fun h => n6 (key 768 h.1 h.2)
  have m7 : ¬(1792 ≤ (y 1).val ∧ (y 1).val < 1792 + 256) := fun h => n7 (key 1792 h.1 h.2)
  omega

def c11_1 (q : Ins F) (i : grid0.Coords) (x : Vec F S8x1024 .f32) : Vec F S8x1024 .f32 := VecWindow.put x (k0_off1 i) S1x512.size (k0_pay71 (F := F) (v366 q))
def c10_1 (q : Ins F) : Vec F S512x2048 .fp8e5m2 := (k0_pay72 (F := F) (v362 q) (dh q))
def c7_1 (q : Ins F) (x : Vec F S512x3072 .bf16) : Vec F S512x3072 .bf16 := VecWindow.put x ![0, 0] S512x256.size (k0_pay74 (F := F) (v366 q) (q.x1 z11) (c10_1 q) (VecWindow.window q.x5 ![0, 0] S256x2048.size inb_S3072x2048_S256x2048_0_0))
def v392 (q : Ins F) : FVec F S512x1 .f32 := k0_pay73 (v366 q) (q.x1 z11)
def v402 (q : Ins F) : FVec F S512x2048 .fp8e5m2 := k0_pay75 (c10_1 q)
def c7_2 (q : Ins F) (x : Vec F S512x3072 .bf16) : Vec F S512x3072 .bf16 := VecWindow.put (c7_1 q x) ![0, 256] S512x256.size (k0_pay76 (F := F) (v392 q) (v402 q) (VecWindow.window q.x5 ![256, 0] S256x2048.size inb_S3072x2048_S256x2048_256_0))
def c7_3 (q : Ins F) (x : Vec F S512x3072 .bf16) : Vec F S512x3072 .bf16 := VecWindow.put (c7_2 q x) ![0, 512] S512x256.size (k0_pay77 (F := F) (v392 q) (c10_1 q) (VecWindow.window q.x5 ![512, 0] S256x2048.size inb_S3072x2048_S256x2048_512_0))
def c7_4 (q : Ins F) (x : Vec F S512x3072 .bf16) : Vec F S512x3072 .bf16 := VecWindow.put (c7_3 q x) ![0, 768] S512x256.size (k0_pay78 (F := F) (v392 q) (c10_1 q) (VecWindow.window q.x5 ![768, 0] S256x2048.size inb_S3072x2048_S256x2048_768_0))
def c7_5 (q : Ins F) (x : Vec F S512x3072 .bf16) : Vec F S512x3072 .bf16 := VecWindow.put (c7_4 q x) ![0, 1024] S512x256.size (k0_pay79 (F := F) (v392 q) (c10_1 q) (VecWindow.window q.x5 ![1024, 0] S256x2048.size inb_S3072x2048_S256x2048_1024_0))
def c7_6 (q : Ins F) (x : Vec F S512x3072 .bf16) : Vec F S512x3072 .bf16 := VecWindow.put (c7_5 q x) ![0, 1280] S512x256.size (k0_pay80 (F := F) (v392 q) (c10_1 q) (VecWindow.window q.x5 ![1280, 0] S256x2048.size inb_S3072x2048_S256x2048_1280_0))
def c7_7 (q : Ins F) (x : Vec F S512x3072 .bf16) : Vec F S512x3072 .bf16 := VecWindow.put (c7_6 q x) ![0, 1536] S512x256.size (k0_pay81 (F := F) (v392 q) (c10_1 q) (VecWindow.window q.x5 ![1536, 0] S256x2048.size inb_S3072x2048_S256x2048_1536_0))
def c7_8 (q : Ins F) (x : Vec F S512x3072 .bf16) : Vec F S512x3072 .bf16 := VecWindow.put (c7_7 q x) ![0, 1792] S512x256.size (k0_pay82 (F := F) (v392 q) (c10_1 q) (VecWindow.window q.x5 ![1792, 0] S256x2048.size inb_S3072x2048_S256x2048_1792_0))
def v463 (q : Ins F) : FVec F S512x256 .bf16 := (k0_pay83 (v392 q) (c10_1 q) (VecWindow.window q.x5 ![2048, 0] S256x2048.size inb_S3072x2048_S256x2048_2048_0))
def c7_9 (q : Ins F) (x : Vec F S512x3072 .bf16) : Vec F S512x3072 .bf16 := VecWindow.put (c7_8 q x) ![0, 2048] S512x256.size (v463 q)
def c7_10 (q : Ins F) (x : Vec F S512x3072 .bf16) : Vec F S512x3072 .bf16 := VecWindow.put (c7_9 q x) ![0, 2304] S512x256.size (k0_pay84 (F := F) (v392 q) (c10_1 q) (VecWindow.window q.x5 ![2304, 0] S256x2048.size inb_S3072x2048_S256x2048_2304_0))
def c7_11 (q : Ins F) (x : Vec F S512x3072 .bf16) : Vec F S512x3072 .bf16 := VecWindow.put (c7_10 q x) ![0, 2560] S512x256.size (k0_pay85 (F := F) (v392 q) (c10_1 q) (VecWindow.window q.x5 ![2560, 0] S256x2048.size inb_S3072x2048_S256x2048_2560_0))
def v487 (q : Ins F) : FVec F S512x256 .bf16 := k0_pay86 (v392 q) (c10_1 q) (VecWindow.window q.x5 ![2816, 0] S256x2048.size inb_S3072x2048_S256x2048_2816_0)
def c7_12 (q : Ins F) (x : Vec F S512x3072 .bf16) : Vec F S512x3072 .bf16 := VecWindow.put (c7_11 q x) ![0, 2816] S512x256.size (v487 q)

/-- The dX block a point leaves. -/
def dx (q : Ins F) : Vec F S512x3072 .bf16 := c7_12 q q.x3

/-- It covers the whole buffer: what was there before does not matter. -/
theorem c7_full (q : Ins F) (x : Vec F S512x3072 .bf16) : c7_12 q x = dx q := by
  funext y
  refine (put_agree (put_agree (put_agree (put_agree (put_agree (put_agree (put_agree (put_agree (put_agree (put_agree (put_agree (put_agree (fun _ (h : False) => h.elim) _ _ _) _ _ _) _ _ _) _ _ _) _ _ _) _ _ _) _ _ _) _ _ _) _ _ _) _ _ _) _ _ _) _ _ _) y ?_
  have hr : (y 0).val < 512 := (y 0).isLt
  have hc : (y 1).val < 3072 := (y 1).isLt
  have key : ∀ o, o ≤ (y 1).val → (y 1).val < o + 256 → ∀ a : Fin 2, (![0, o] : Fin 2 → ℕ) a ≤ (y a).val ∧ (y a).val < (![0, o] : Fin 2 → ℕ) a + S512x256.size a := fun o h h' a => by
    match a with
    | 0 => exact ⟨Nat.zero_le _, by show (y 0).val < 0 + 512; omega⟩
    | 1 => exact ⟨h, h'⟩
  by_contra hn
  simp only [not_or] at hn
  obtain ⟨⟨⟨⟨⟨⟨⟨⟨⟨⟨⟨⟨-, n0⟩, n1⟩, n2⟩, n3⟩, n4⟩, n5⟩, n6⟩, n7⟩, n8⟩, n9⟩, n10⟩, n11⟩ := hn
  have m0 : ¬(0 ≤ (y 1).val ∧ (y 1).val < 0 + 256) := fun h => n0 (key 0 h.1 h.2)
  have m1 : ¬(256 ≤ (y 1).val ∧ (y 1).val < 256 + 256) := fun h => n1 (key 256 h.1 h.2)
  have m2 : ¬(512 ≤ (y 1).val ∧ (y 1).val < 512 + 256) := fun h => n2 (key 512 h.1 h.2)
  have m3 : ¬(768 ≤ (y 1).val ∧ (y 1).val < 768 + 256) := fun h => n3 (key 768 h.1 h.2)
  have m4 : ¬(1024 ≤ (y 1).val ∧ (y 1).val < 1024 + 256) := fun h => n4 (key 1024 h.1 h.2)
  have m5 : ¬(1280 ≤ (y 1).val ∧ (y 1).val < 1280 + 256) := fun h => n5 (key 1280 h.1 h.2)
  have m6 : ¬(1536 ≤ (y 1).val ∧ (y 1).val < 1536 + 256) := fun h => n6 (key 1536 h.1 h.2)
  have m7 : ¬(1792 ≤ (y 1).val ∧ (y 1).val < 1792 + 256) := fun h => n7 (key 1792 h.1 h.2)
  have m8 : ¬(2048 ≤ (y 1).val ∧ (y 1).val < 2048 + 256) := fun h => n8 (key 2048 h.1 h.2)
  have m9 : ¬(2304 ≤ (y 1).val ∧ (y 1).val < 2304 + 256) := fun h => n9 (key 2304 h.1 h.2)
  have m10 : ¬(2560 ≤ (y 1).val ∧ (y 1).val < 2560 + 256) := fun h => n10 (key 2560 h.1 h.2)
  have m11 : ¬(2816 ≤ (y 1).val ∧ (y 1).val < 2816 + 256) := fun h => n11 (key 2816 h.1 h.2)
  omega
/-- Whether the point is the first of the grid, as the body tests it. -/
def first (i : grid0.Coords) : BitVec 1 := Scalar.cmpi .ne ((Scalar.extui (Scalar.cmpi .eq (BitVec.ofNat 32 (i 0).val) 0#32) : BitVec 32)) 0#32

/-- The column maximum of |dy| a point starts from: zero at the first. -/
def clear15 (i : grid0.Coords) (x : Vec F S1x3072 .bf16) : Vec F S1x3072 .bf16 := if first i = 1#1 then k0_pay4 (F := F) else x

/-- The column maximum of |dh| a point starts from: zero at the first. -/
def clear16 (i : grid0.Coords) (x : Vec F S1x2048 .f32) : Vec F S1x2048 .f32 := if first i = 1#1 then k0_pay5 (F := F) else x

/-- The column scales of dy after a point: written at the last. -/
def last13 (q : Ins F) (i : grid0.Coords) (x : Vec F S1x3072 .f32) : Vec F S1x3072 .f32 := if k0_cond2 i = 1#1 then k0_pay2 (c15_1 q) else x

/-- The column scales of dh after a point: written at the last. -/
def last14 (q : Ins F) (i : grid0.Coords) (x : Vec F S1x2048 .f32) : Vec F S1x2048 .f32 := if k0_cond2 i = 1#1 then k0_pay1 (F := F) (k0_pay3 (c16_8 q)) 0#32 else x

end Cert.KernelIdeal.Rows

end
-- ==== Proof.KernelIdeal.RowsPartsOne.lean ====
/-
  The parts of one block of `rows`: quantising dy, and the four column blocks of dh.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KernelIdeal.RowsDefs
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
theorem part2_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (x3 : Vec F S512x3072 .bf16) (x15 : Vec F S1x3072 .bf16) (x16 : Vec F S1x2048 .f32) (E : Set ℕ)
    (K : (Σ' (arg0 : BitVec 32) (v19 : BitVec 32) (v31 : BitVec 32) (v33 : FVec F S512x3072 .bf16) (v34 : FVec F S512x3072 .bf16) (v35 : Vec F S1x3072 .bf16), FVec F S3072 .bf16) → sProp 𝕄) :
    iprop(owns (c : Thread nD τ) arg3 fullShare x3 ∗ owns (c : Thread nD τ) arg15 fullShare x15 ∗ owns (c : Thread nD τ) arg16 fullShare x16
        ∗ (∀ a0 v19 v31, iprop(owns (c : Thread nD τ) arg3 fullShare x3 ∗ owns (c : Thread nD τ) arg15 fullShare (clear15 i x15) ∗ owns (c : Thread nD τ) arg16 fullShare (clear16 i x16)) -∗ K ⟨a0, v19, v31, k0_pay6 x3, k0_pay7 x3, clear15 i x15, k0_pay8 x3⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part2_eq_skeleton]; unfold k0_part2_skel
  iintro ⟨H3, H15, H16, Hk⟩
  by_cases h : first i = 1#1
  · have h0 := h; unfold first at h0
    dsimp only
    rw [dif_pos h0]
    iapply (OwnsStep.load_full (defs := defs₀ (F := F)) Variants.none c none E arg15) $$ H15; iintro H15
    iapply (OwnsStep.store_full (defs := defs₀ (F := F)) Variants.none c none E arg15) $$ H15; iintro H15
    iapply (OwnsStep.load_full (defs := defs₀ (F := F)) Variants.none c none E arg16) $$ H16; iintro H16
    iapply (OwnsStep.store_full (defs := defs₀ (F := F)) Variants.none c none E arg16) $$ H16; iintro H16
    iapply (OwnsStep.load_full (defs := defs₀ (F := F)) Variants.none c none E arg3) $$ H3; iintro H3
    iapply (OwnsStep.load_full (defs := defs₀ (F := F)) Variants.none c none E arg15) $$ H15; iintro H15
    iapply (le_wp_ret _ _ _ _ _)
    simp only [clear15, clear16, if_pos h]
    iapply Hk
    isplitl [H3]; · iexact H3
    isplitl [H15]; · iexact H15
    iexact H16
  · have h0 := h; unfold first at h0
    dsimp only
    rw [dif_neg h0]
    iapply (OwnsStep.load_full (defs := defs₀ (F := F)) Variants.none c none E arg3) $$ H3; iintro H3
    iapply (OwnsStep.load_full (defs := defs₀ (F := F)) Variants.none c none E arg15) $$ H15; iintro H15
    iapply (le_wp_ret _ _ _ _ _)
    simp only [clear15, clear16, if_neg h]
    iapply Hk
    isplitl [H3]; · iexact H3
    isplitl [H15]; · iexact H15
    iexact H16

set_option maxHeartbeats 1000000 in
theorem part1_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (x13 : Vec F S1x3072 .f32) (x15 : Vec F S1x3072 .bf16) (x16 : Vec F S1x2048 .f32) (E : Set ℕ)
    (K : (Σ' (v530 : IVec S1x2048 32), BitVec 32) → sProp 𝕄) :
    iprop(owns (c : Thread nD τ) arg13 fullShare x13 ∗ owns (c : Thread nD τ) arg15 fullShare x15 ∗ owns (c : Thread nD τ) arg16 fullShare x16
        ∗ (iprop(owns (c : Thread nD τ) arg13 fullShare (k0_pay2 x15) ∗ owns (c : Thread nD τ) arg15 fullShare x15 ∗ owns (c : Thread nD τ) arg16 fullShare x16) -∗ K ⟨k0_pay3 x16, 0#32⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part1_eq_skeleton]; unfold k0_part1_skel
  iintro ⟨H13, H15, H16, Hk⟩
  iapply (OwnsStep.load_full (defs := defs₀ (F := F)) Variants.none c none E arg15) $$ H15; iintro H15
  iapply (OwnsStep.load_full (defs := defs₀ (F := F)) Variants.none c none E arg13) $$ H13; iintro H13
  iapply (OwnsStep.store_full (defs := defs₀ (F := F)) Variants.none c none E arg13) $$ H13; iintro H13
  iapply (OwnsStep.load_full (defs := defs₀ (F := F)) Variants.none c none E arg16) $$ H16; iintro H16
  iapply (le_wp_ret _ _ _ _ _)
  iapply Hk
  isplitl [H13]; · iexact H13
  isplitl [H15]; · iexact H15
  iexact H16

set_option maxHeartbeats 1000000 in
theorem part3_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F)   (E : Set ℕ) (K : (Σ' (v91 : FVec F S512x1 .f32), F .f32) → sProp 𝕄) :
    iprop(owns (c : Thread nD τ) arg15 fullShare q.a15
        ∗ (iprop(owns (c : Thread nD τ) arg15 fullShare (c15_1 q)) -∗ K ⟨(v91 q), (Scalar.ofBits (F := F) .f32 0x37924925#32)⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v34 q) q.a15 (v36 q)) K := by
  rw [k0_part3_eq_skeleton]; unfold k0_part3_skel
  iintro ⟨H15, Hk⟩
  iapply (OwnsStep.load_full (defs := defs₀ (F := F)) Variants.none c none E arg15) $$ H15; iintro H15
  iapply (OwnsStep.store_full (defs := defs₀ (F := F)) Variants.none c none E arg15) $$ H15; iintro H15
  iapply (le_wp_ret _ _ _ _ _)
  dsimp only [c15_1, v91]
  iapply Hk
  iexact H15

set_option maxHeartbeats 1000000 in
theorem part4_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x8 : Vec F S512x3072 .fp8e5m2) (x9 : Vec F S8x1024 .f32) (v19 : BitVec 32) (v31 : BitVec 32) (E : Set ℕ) (K : (FVec F S512x1 .f32) → sProp 𝕄) :
    iprop(owns (c : Thread nD τ) arg8 fullShare x8 ∗ owns (c : Thread nD τ) arg9 fullShare x9
        ∗ (iprop(owns (c : Thread nD τ) arg8 fullShare (c8_1 q) ∗ owns (c : Thread nD τ) arg9 fullShare (c9_1 q i x9)) -∗ K (v114 q)))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v31 (v33 q) (v91 q) (Scalar.ofBits (F := F) .f32 0x37924925#32)) K := by
  rw [k0_part4_eq_skeleton]; unfold k0_part4_skel
  iintro ⟨H8, H9, Hk⟩
  iapply (OwnsStep.load_full (defs := defs₀ (F := F)) Variants.none c none E arg8) $$ H8; iintro H8
  iapply (OwnsStep.store_full (defs := defs₀ (F := F)) Variants.none c none E arg8) $$ H8; iintro H8
  iapply (OwnsStep.load (defs := defs₀ (F := F)) Variants.none c none E arg9) $$ H9; iintro H9
  iapply (OwnsStep.store (defs := defs₀ (F := F)) Variants.none c none E arg9) $$ H9; iintro H9
  iapply (le_wp_ret _ _ _ _ _)
  dsimp only [c8_1, c9_1, v114]
  iapply Hk
  isplitl [H8]; · iexact H8
  iexact H9

set_option maxHeartbeats 1000000 in
theorem part5_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v137 : FVec F S512x1 .f32) (v161 : FVec F S512x256 .f32) (v168 : FVec F S512x128 .f32) (v172 : FVec F S1x256 .f32), Vec F S1x256 .f32) → sProp 𝕄) :
    iprop(owns (c : Thread nD τ) arg2 fullShare q.x2 ∗ owns (c : Thread nD τ) arg8 fullShare (c8_1 q) ∗ owns (c : Thread nD τ) arg6 fullShare q.x6 ∗ owns (c : Thread nD τ) arg4 fullShare q.x4 ∗ owns (c : Thread nD τ) arg12 fullShare x12 ∗ owns (c : Thread nD τ) arg16 fullShare q.a16
        ∗ (iprop(owns (c : Thread nD τ) arg2 fullShare q.x2 ∗ owns (c : Thread nD τ) arg8 fullShare (c8_1 q) ∗ owns (c : Thread nD τ) arg6 fullShare q.x6 ∗ owns (c : Thread nD τ) arg4 fullShare q.x4 ∗ owns (c : Thread nD τ) arg12 fullShare (c12_1 q x12) ∗ owns (c : Thread nD τ) arg16 fullShare q.a16) -∗ K ⟨(v137 q), (v161 q), (v168 q), (v172 q), (v173 q)⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v114 q)) K := by
  rw [k0_part5_eq_skeleton]; unfold k0_part5_skel
  iintro ⟨H2, H8, H6, H4, H12, H16, Hk⟩
  iapply (OwnsStep.smem (defs := defs₀ (F := F)) Variants.none c none E arg2 (h1 := numel1_S1x1) (hp := rfl) z11) $$ H2; iintro H2
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (OwnsStep.load (defs := defs₀ (F := F)) Variants.none c none E arg4) $$ H4; iintro H4
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (le_wp_ret _ _ _ _ _)
  dsimp only [c12_1, v137, v161, v168, v172, v173]
  iapply Hk
  isplitl [H2]; · iexact H2
  isplitl [H8]; · iexact H8
  isplitl [H6]; · iexact H6
  isplitl [H4]; · iexact H4
  isplitl [H12]; · iexact H12
  iexact H16

set_option maxHeartbeats 1000000 in
theorem part6_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v182 : FVec F S512x128 .f32) (v210 : FVec F S512x256 .f32), FVec F S512x256 .f32) → sProp 𝕄) :
    iprop(owns (c : Thread nD τ) arg16 fullShare q.a16 ∗ owns (c : Thread nD τ) arg12 fullShare (c12_1 q x12) ∗ owns (c : Thread nD τ) arg8 fullShare (c8_1 q) ∗ owns (c : Thread nD τ) arg6 fullShare q.x6 ∗ owns (c : Thread nD τ) arg4 fullShare q.x4
        ∗ (iprop(owns (c : Thread nD τ) arg16 fullShare (c16_2 q) ∗ owns (c : Thread nD τ) arg12 fullShare (c12_2 q x12) ∗ owns (c : Thread nD τ) arg8 fullShare (c8_1 q) ∗ owns (c : Thread nD τ) arg6 fullShare q.x6 ∗ owns (c : Thread nD τ) arg4 fullShare q.x4) -∗ K ⟨(v182 q), (v210 q), (v212 q)⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v137 q) (v161 q) (v168 q) (v172 q) (v173 q)) K := by
  rw [k0_part6_eq_skeleton]; unfold k0_part6_skel
  iintro ⟨H16, H12, H8, H6, H4, Hk⟩
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (OwnsStep.load (defs := defs₀ (F := F)) Variants.none c none E arg4) $$ H4; iintro H4
  iapply (le_wp_ret _ _ _ _ _)
  dsimp only [c12_2, c16_1, c16_2, v182, v210, v212]
  iapply Hk
  isplitl [H16]; · iexact H16
  isplitl [H12]; · iexact H12
  isplitl [H8]; · iexact H8
  isplitl [H6]; · iexact H6
  iexact H4

set_option maxHeartbeats 1000000 in
theorem part7_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v233 : FVec F S512x128 .f32) (v246 : FVec F S512x256 .f32), Vec F S512x256 .bf16) → sProp 𝕄) :
    iprop(owns (c : Thread nD τ) arg12 fullShare (c12_2 q x12) ∗ owns (c : Thread nD τ) arg16 fullShare (c16_2 q) ∗ owns (c : Thread nD τ) arg8 fullShare (c8_1 q) ∗ owns (c : Thread nD τ) arg6 fullShare q.x6 ∗ owns (c : Thread nD τ) arg4 fullShare q.x4
        ∗ (iprop(owns (c : Thread nD τ) arg12 fullShare (c12_4 q x12) ∗ owns (c : Thread nD τ) arg16 fullShare (c16_4 q) ∗ owns (c : Thread nD τ) arg8 fullShare (c8_1 q) ∗ owns (c : Thread nD τ) arg6 fullShare q.x6 ∗ owns (c : Thread nD τ) arg4 fullShare q.x4) -∗ K ⟨(v233 q), (v246 q), (v247 q)⟩))
      ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v137 q) (v182 q) (v210 q) (v212 q)) K := by
  rw [k0_part7_eq_skeleton]; unfold k0_part7_skel
  iintro ⟨H12, H16, H8, H6, H4, Hk⟩
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (le_wp_ret _ _ _ _ _)
  dsimp only [c12_3, c12_4, c16_3, c16_4, v233, v246, v247]
  iapply Hk
  isplitl [H12]; · iexact H12
  isplitl [H16]; · iexact H16
  isplitl [H8]; · iexact H8
  isplitl [H6]; · iexact H6
  iexact H4

end Cert.KernelIdeal.Rows

end
-- ==== Proof.KernelIdeal.RowsPartsTwo.lean ====
/-
  The parts of one block of `rows`, continued: quantising dh, and the column blocks of dX.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KernelIdeal.RowsDefs
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
theorem part8_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v284 : FVec F S512x128 .f32), FVec F S1x256 .f32) → sProp 𝕄) :
    iprop(owns (c : Thread nD τ) arg4 fullShare q.x4 ∗ owns (c : Thread nD τ) arg12 fullShare (c12_4 q x12) ∗ owns (c : Thread nD τ) arg16 fullShare (c16_4 q)
        ∗ (iprop(owns (c : Thread nD τ) arg4 fullShare q.x4 ∗ owns (c : Thread nD τ) arg12 fullShare (c12_6 q x12) ∗ owns (c : Thread nD τ) arg16 fullShare (c16_5 q)) -∗ K ⟨(v284 q), (v288 q)⟩))
      ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v233 q) (v246 q) (v247 q)) K := by
  rw [k0_part8_eq_skeleton]; unfold k0_part8_skel
  iintro ⟨H4, H12, H16, Hk⟩
  iapply (OwnsStep.load (defs := defs₀ (F := F)) Variants.none c none E arg4) $$ H4; iintro H4
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (le_wp_ret _ _ _ _ _)
  dsimp only [c12_5, c12_6, c16_5, v284, v288]
  iapply Hk
  isplitl [H4]; · iexact H4
  isplitl [H12]; · iexact H12
  iexact H16

set_option maxHeartbeats 1000000 in
theorem part9_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v314 : FVec F S512x256 .f32) (v321 : FVec F S512x128 .f32) (v325 : FVec F S1x256 .f32), Vec F S1x256 .f32) → sProp 𝕄) :
    iprop(owns (c : Thread nD τ) arg16 fullShare (c16_5 q) ∗ owns (c : Thread nD τ) arg8 fullShare (c8_1 q) ∗ owns (c : Thread nD τ) arg6 fullShare q.x6 ∗ owns (c : Thread nD τ) arg4 fullShare q.x4 ∗ owns (c : Thread nD τ) arg12 fullShare (c12_6 q x12)
        ∗ (iprop(owns (c : Thread nD τ) arg16 fullShare (c16_6 q) ∗ owns (c : Thread nD τ) arg8 fullShare (c8_1 q) ∗ owns (c : Thread nD τ) arg6 fullShare q.x6 ∗ owns (c : Thread nD τ) arg4 fullShare q.x4 ∗ owns (c : Thread nD τ) arg12 fullShare (c12_7 q x12)) -∗ K ⟨(v314 q), (v321 q), (v325 q), (v326 q)⟩))
      ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v137 q) (v284 q) (v288 q)) K := by
  rw [k0_part9_eq_skeleton]; unfold k0_part9_skel
  iintro ⟨H16, H8, H6, H4, H12, Hk⟩
  iapply (OwnsStep.load (defs := defs₀ (F := F)) Variants.none c none E arg16) $$ H16; iintro H16
  iapply (OwnsStep.store (defs := defs₀ (F := F)) Variants.none c none E arg16) $$ H16; iintro H16
  iapply (OwnsStep.load_full (defs := defs₀ (F := F)) Variants.none c none E arg8) $$ H8; iintro H8
  iapply (OwnsStep.load (defs := defs₀ (F := F)) Variants.none c none E arg6) $$ H6; iintro H6
  iapply (OwnsStep.load (defs := defs₀ (F := F)) Variants.none c none E arg4) $$ H4; iintro H4
  iapply (OwnsStep.load (defs := defs₀ (F := F)) Variants.none c none E arg4) $$ H4; iintro H4
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (le_wp_ret _ _ _ _ _)
  dsimp only [c12_7, c16_6, v314, v321, v325, v326]
  iapply Hk
  isplitl [H16]; · iexact H16
  isplitl [H8]; · iexact H8
  isplitl [H6]; · iexact H6
  isplitl [H4]; · iexact H4
  iexact H12

set_option maxHeartbeats 1000000 in
theorem part10_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x12 : Vec F S512x2048 .bf16)  (E : Set ℕ) (K : (Σ' (v362 : IVec S512x1 32), IVec S512x1 32) → sProp 𝕄) :
    iprop(owns (c : Thread nD τ) arg16 fullShare (c16_6 q) ∗ owns (c : Thread nD τ) arg12 fullShare (c12_7 q x12)
        ∗ (iprop(owns (c : Thread nD τ) arg16 fullShare (c16_8 q) ∗ owns (c : Thread nD τ) arg12 fullShare (c12_8 q x12)) -∗ K ⟨(v362 q), (v366 q)⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v314 q) (v321 q) (v325 q) (v326 q)) K := by
  rw [k0_part10_eq_skeleton]; unfold k0_part10_skel
  iintro ⟨H16, H12, Hk⟩
  iapply (OwnsStep.store (defs := defs₀ (F := F)) Variants.none c none E arg16) $$ H16; iintro H16
  iapply (OwnsStep.load (defs := defs₀ (F := F)) Variants.none c none E arg12) $$ H12; iintro H12
  iapply (OwnsStep.store (defs := defs₀ (F := F)) Variants.none c none E arg12) $$ H12; iintro H12
  iapply (OwnsStep.load (defs := defs₀ (F := F)) Variants.none c none E arg16) $$ H16; iintro H16
  iapply (OwnsStep.load (defs := defs₀ (F := F)) Variants.none c none E arg16) $$ H16; iintro H16
  iapply (OwnsStep.store (defs := defs₀ (F := F)) Variants.none c none E arg16) $$ H16; iintro H16
  iapply (le_wp_ret _ _ _ _ _)
  dsimp only [c12_8, c16_7, c16_8, v362, v366]
  iapply Hk
  isplitl [H16]; · iexact H16
  iexact H12

set_option maxHeartbeats 1000000 in
theorem part11_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x11 : Vec F S8x1024 .f32) (x10 : Vec F S512x2048 .fp8e5m2) (x7 : Vec F S512x3072 .bf16) (v19 : BitVec 32) (v31 : BitVec 32) (E : Set ℕ) (K : (Σ' (v392 : FVec F S512x1 .f32), FVec F S512x2048 .fp8e5m2) → sProp 𝕄) :
    iprop(owns (c : Thread nD τ) arg11 fullShare x11 ∗ owns (c : Thread nD τ) arg12 fullShare (dh q) ∗ owns (c : Thread nD τ) arg10 fullShare x10 ∗ owns (c : Thread nD τ) arg1 fullShare q.x1 ∗ owns (c : Thread nD τ) arg5 fullShare q.x5 ∗ owns (c : Thread nD τ) arg7 fullShare x7
        ∗ (iprop(owns (c : Thread nD τ) arg11 fullShare (c11_1 q i x11) ∗ owns (c : Thread nD τ) arg12 fullShare (dh q) ∗ owns (c : Thread nD τ) arg10 fullShare (c10_1 q) ∗ owns (c : Thread nD τ) arg1 fullShare q.x1 ∗ owns (c : Thread nD τ) arg5 fullShare q.x5 ∗ owns (c : Thread nD τ) arg7 fullShare (c7_1 q x7)) -∗ K ⟨(v392 q), (v402 q)⟩))
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v31 (v362 q) (v366 q)) K := by
  rw [k0_part11_eq_skeleton]; unfold k0_part11_skel
  iintro ⟨H11, H12, H10, H1, H5, H7, Hk⟩
  iapply (OwnsStep.load (defs := defs₀ (F := F)) Variants.none c none E arg11) $$ H11; iintro H11
  iapply (OwnsStep.store (defs := defs₀ (F := F)) Variants.none c none E arg11) $$ H11; iintro H11
  iapply (OwnsStep.load_full (defs := defs₀ (F := F)) Variants.none c none E arg12) $$ H12; iintro H12
  iapply (OwnsStep.load_full (defs := defs₀ (F := F)) Variants.none c none E arg10) $$ H10; iintro H10
  iapply (OwnsStep.store_full (defs := defs₀ (F := F)) Variants.none c none E arg10) $$ H10; iintro H10
  iapply (OwnsStep.smem (defs := defs₀ (F := F)) Variants.none c none E arg1 (h1 := numel1_S1x1) (hp := rfl) z11) $$ H1; iintro H1
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (le_wp_ret _ _ _ _ _)
  dsimp only [c10_1, c11_1, c7_1, v392, v402]
  iapply Hk
  isplitl [H11]; · iexact H11
  isplitl [H12]; · iexact H12
  isplitl [H10]; · iexact H10
  isplitl [H1]; · iexact H1
  isplitl [H5]; · iexact H5
  iexact H7

set_option maxHeartbeats 1000000 in
theorem part12_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16)  (E : Set ℕ) (K : (PUnit) → sProp 𝕄) :
    iprop(owns (c : Thread nD τ) arg5 fullShare q.x5 ∗ owns (c : Thread nD τ) arg7 fullShare (c7_1 q x7) ∗ owns (c : Thread nD τ) arg10 fullShare (c10_1 q)
        ∗ (iprop(owns (c : Thread nD τ) arg5 fullShare q.x5 ∗ owns (c : Thread nD τ) arg7 fullShare (c7_5 q x7) ∗ owns (c : Thread nD τ) arg10 fullShare (c10_1 q)) -∗ K ⟨⟩))
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v392 q) (v402 q)) K := by
  rw [k0_part12_eq_skeleton]; unfold k0_part12_skel
  iintro ⟨H5, H7, H10, Hk⟩
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (le_wp_ret _ _ _ _ _)
  dsimp only [c7_2, c7_3, c7_4, c7_5]
  iapply Hk
  isplitl [H5]; · iexact H5
  isplitl [H7]; · iexact H7
  iexact H10

set_option maxHeartbeats 1000000 in
theorem part13_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16)  (E : Set ℕ) (K : (FVec F S512x256 .bf16) → sProp 𝕄) :
    iprop(owns (c : Thread nD τ) arg10 fullShare (c10_1 q) ∗ owns (c : Thread nD τ) arg5 fullShare q.x5 ∗ owns (c : Thread nD τ) arg7 fullShare (c7_5 q x7)
        ∗ (iprop(owns (c : Thread nD τ) arg10 fullShare (c10_1 q) ∗ owns (c : Thread nD τ) arg5 fullShare q.x5 ∗ owns (c : Thread nD τ) arg7 fullShare (c7_8 q x7)) -∗ K (v463 q)))
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v392 q)) K := by
  rw [k0_part13_eq_skeleton]; unfold k0_part13_skel
  iintro ⟨H10, H5, H7, Hk⟩
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (le_wp_ret _ _ _ _ _)
  dsimp only [c7_6, c7_7, c7_8, v463]
  iapply Hk
  isplitl [H10]; · iexact H10
  isplitl [H5]; · iexact H5
  iexact H7

end Cert.KernelIdeal.Rows

end
-- ==== Proof.KernelIdeal.RowsRun.lean ====
/-
  One grid point of the call `rows`: what `cc0_rows` leaves in its buffers, as functions of what it finds in them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KernelIdeal.RowsPartsOne
public import proofs.«01_k».proof.Proof.KernelIdeal.RowsPartsTwo
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A return in front of a program is no step. -/
theorem wp_ret_then (c : Dev nD) {α β : Type} (a : α) (k : α → Prog (TpuEff nD τ sig (Elt F) Λ₀ .tc) β) (E : Set ℕ) (K : β → sProp 𝕄) :
    wp frame (wpE (defs₀ (F := F)) Variants.none (c : Thread nD τ) none) E (k a) K ⊢ wp frame (wpE (defs₀ (F := F)) Variants.none (c : Thread nD τ) none) E ((Prog.ret a).bind k) K := .rfl

set_option maxHeartbeats 4000000 in
/-- The part of the body before the last point's closing stores. -/
theorem main_run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16) (x8 : Vec F S512x3072 .fp8e5m2) (x9 : Vec F S8x1024 .f32) (x10 : Vec F S512x2048 .fp8e5m2) (x11 : Vec F S8x1024 .f32) (x12 : Vec F S512x2048 .bf16) (y15 : Vec F S1x3072 .bf16) (y16 : Vec F S1x2048 .f32) (h15 : clear15 i y15 = q.a15) (h16 : clear16 i y16 = q.a16) (E : Set ℕ) (K : (Σ' (arg0 : BitVec 32), FVec F S512x256 .bf16) → sProp 𝕄) :
    iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare y15 ∗ owns (c : Thread nD τ) arg16 fullShare y16
        ∗ (∀ a0, iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare (c7_11 q x7) ∗ owns (c : Thread nD τ) arg8 fullShare (c8_1 q) ∗ owns (c : Thread nD τ) arg9 fullShare (c9_1 q i x9) ∗ owns (c : Thread nD τ) arg10 fullShare (c10_1 q) ∗ owns (c : Thread nD τ) arg11 fullShare (c11_1 q i x11) ∗ owns (c : Thread nD τ) arg12 fullShare (dh q) ∗ owns (c : Thread nD τ) arg15 fullShare (c15_1 q) ∗ owns (c : Thread nD τ) arg16 fullShare (c16_8 q)) -∗ K ⟨a0, v487 q⟩))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part14_eq_skeleton]; unfold k0_part14_skel
  iintro ⟨H1, H2, H3, H4, H5, H6, H7, H8, H9, H10, H11, H12, H15, H16, Hk⟩
  rw [wp_bind]
  iapply (part2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q.x3 y15 y16 E _)
  isplitl [H3]; · iexact H3
  isplitl [H15]; · iexact H15
  isplitl [H16]; · iexact H16
  iintro %a0 %v19 %v31 ⟨H3, H15, H16⟩
  rw [h15, h16]
  rw [wp_bind]
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q   E _)
  isplitl [H15]; · iexact H15
  iintro ⟨H15⟩
  rw [wp_bind]
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _ _ v19 v31 E _)
  isplitl [H8]; · iexact H8
  isplitl [H9]; · iexact H9
  iintro ⟨H8, H9⟩
  rw [wp_bind]
  iapply (part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H2]; · iexact H2
  isplitl [H8]; · iexact H8
  isplitl [H6]; · iexact H6
  isplitl [H4]; · iexact H4
  isplitl [H12]; · iexact H12
  isplitl [H16]; · iexact H16
  iintro ⟨H2, H8, H6, H4, H12, H16⟩
  rw [wp_bind]
  iapply (part6_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H16]; · iexact H16
  isplitl [H12]; · iexact H12
  isplitl [H8]; · iexact H8
  isplitl [H6]; · iexact H6
  isplitl [H4]; · iexact H4
  iintro ⟨H16, H12, H8, H6, H4⟩
  rw [wp_bind]
  iapply (part7_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H12]; · iexact H12
  isplitl [H16]; · iexact H16
  isplitl [H8]; · iexact H8
  isplitl [H6]; · iexact H6
  isplitl [H4]; · iexact H4
  iintro ⟨H12, H16, H8, H6, H4⟩
  rw [wp_bind]
  iapply (part8_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H4]; · iexact H4
  isplitl [H12]; · iexact H12
  isplitl [H16]; · iexact H16
  iintro ⟨H4, H12, H16⟩
  rw [wp_bind]
  iapply (part9_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H16]; · iexact H16
  isplitl [H8]; · iexact H8
  isplitl [H6]; · iexact H6
  isplitl [H4]; · iexact H4
  isplitl [H12]; · iexact H12
  iintro ⟨H16, H8, H6, H4, H12⟩
  rw [wp_bind]
  iapply (part10_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H16]; · iexact H16
  isplitl [H12]; · iexact H12
  iintro ⟨H16, H12⟩
  rw [c12_full]
  rw [wp_bind]
  iapply (part11_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _ _ _ v19 v31 E _)
  isplitl [H11]; · iexact H11
  isplitl [H12]; · iexact H12
  isplitl [H10]; · iexact H10
  isplitl [H1]; · iexact H1
  isplitl [H5]; · iexact H5
  isplitl [H7]; · iexact H7
  iintro ⟨H11, H12, H10, H1, H5, H7⟩
  rw [wp_bind]
  iapply (part12_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H5]; · iexact H5
  isplitl [H7]; · iexact H7
  isplitl [H10]; · iexact H10
  iintro ⟨H5, H7, H10⟩
  rw [wp_bind]
  iapply (part13_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q _  E _)
  isplitl [H10]; · iexact H10
  isplitl [H5]; · iexact H5
  isplitl [H7]; · iexact H7
  iintro ⟨H10, H5, H7⟩
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (OwnsStep.load (defs := defs₀ (F := F)) Variants.none c none E arg7) $$ H7; iintro H7
  iapply (OwnsStep.store (defs := defs₀ (F := F)) Variants.none c none E arg7) $$ H7; iintro H7
  iapply (OwnsStep.load_full (defs := defs₀ (F := F)) Variants.none c none E arg10) $$ H10; iintro H10
  iapply (OwnsStep.load (defs := defs₀ (F := F)) Variants.none c none E arg5) $$ H5; iintro H5
  iapply (le_wp_ret _ _ _ _ _)
  dsimp only [v487, c7_11, c7_10, c7_9]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  iexact H16

set_option maxHeartbeats 4000000 in
/-- One grid point of `rows`: what it leaves in its buffers. -/
theorem run (c : Dev nD) (i : grid0.Coords) (arg1 : Memref sig .tc .smem S1x1 .f32) (harg1 : arg1.IsWhole) (arg2 : Memref sig .tc .smem S1x1 .f32) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S3072x2048 .fp8e4m3) (harg5 : arg5.IsWhole) (arg6 : Memref sig .tc .vmem S1024x3072 .fp8e4m3) (harg6 : arg6.IsWhole) (arg7 : Memref sig .tc .vmem S512x3072 .bf16) (harg7 : arg7.IsWhole) (arg8 : Memref sig .tc .vmem S512x3072 .fp8e5m2) (harg8 : arg8.IsWhole) (arg9 : Memref sig .tc .vmem S8x1024 .f32) (harg9 : arg9.IsWhole) (arg10 : Memref sig .tc .vmem S512x2048 .fp8e5m2) (harg10 : arg10.IsWhole) (arg11 : Memref sig .tc .vmem S8x1024 .f32) (harg11 : arg11.IsWhole) (arg12 : Memref sig .tc .vmem S512x2048 .bf16) (harg12 : arg12.IsWhole) (arg13 : Memref sig .tc .vmem S1x3072 .f32) (harg13 : arg13.IsWhole) (arg14 : Memref sig .tc .vmem S1x2048 .f32) (harg14 : arg14.IsWhole) (arg15 : Memref sig .tc .vmem S1x3072 .bf16) (harg15 : arg15.IsWhole) (arg16 : Memref sig .tc .vmem S1x2048 .f32) (harg16 : arg16.IsWhole)
    (q : Ins F) (x7 : Vec F S512x3072 .bf16) (x8 : Vec F S512x3072 .fp8e5m2) (x9 : Vec F S8x1024 .f32) (x10 : Vec F S512x2048 .fp8e5m2) (x11 : Vec F S8x1024 .f32) (x12 : Vec F S512x2048 .bf16) (x13 : Vec F S1x3072 .f32) (x14 : Vec F S1x2048 .f32) (y15 : Vec F S1x3072 .bf16) (y16 : Vec F S1x2048 .f32) (h15 : clear15 i y15 = q.a15) (h16 : clear16 i y16 = q.a16) (E : Set ℕ) (K : PUnit → sProp 𝕄) :
    iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare y15 ∗ owns (c : Thread nD τ) arg16 fullShare y16
        ∗ (iprop(owns (c : Thread nD τ) arg1 fullShare q.x1 ∗ owns (c : Thread nD τ) arg2 fullShare q.x2 ∗ owns (c : Thread nD τ) arg3 fullShare q.x3 ∗ owns (c : Thread nD τ) arg4 fullShare q.x4 ∗ owns (c : Thread nD τ) arg5 fullShare q.x5 ∗ owns (c : Thread nD τ) arg6 fullShare q.x6 ∗ owns (c : Thread nD τ) arg7 fullShare (dx q) ∗ owns (c : Thread nD τ) arg8 fullShare (c8_1 q) ∗ owns (c : Thread nD τ) arg9 fullShare (c9_1 q i x9) ∗ owns (c : Thread nD τ) arg10 fullShare (c10_1 q) ∗ owns (c : Thread nD τ) arg11 fullShare (c11_1 q i x11) ∗ owns (c : Thread nD τ) arg12 fullShare (dh q) ∗ owns (c : Thread nD τ) arg13 fullShare (last13 q i x13) ∗ owns (c : Thread nD τ) arg14 fullShare (last14 q i x14) ∗ owns (c : Thread nD τ) arg15 fullShare (c15_1 q) ∗ owns (c : Thread nD τ) arg16 fullShare (c16_8 q)) -∗ K ⟨⟩))
      ⊢ wp frame (wpE (defs₀ (F := F)) Variants.none c none) E (cc0_rows i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_rows_eq_skeleton]; unfold cc0_rows_skel
  iintro ⟨H1, H2, H3, H4, H5, H6, H7, H8, H9, H10, H11, H12, H13, H14, H15, H16, Hk⟩
  rw [wp_bind]
  iapply (main_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q x7 x8 x9 x10 x11 x12 y15 y16 h15 h16 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  isplitl [H16]; · iexact H16
  iintro %a0 ⟨H1, H2, H3, H4, H5, H6, H7, H8, H9, H10, H11, H12, H15, H16⟩
  iapply (OwnsStep.load (defs := defs₀ (F := F)) Variants.none c none E arg7) $$ H7; iintro H7
  iapply (OwnsStep.store (defs := defs₀ (F := F)) Variants.none c none E arg7) $$ H7; iintro H7
  rw [← c7_full q x7]
  dsimp only [c7_12]
  by_cases h : k0_cond2 i = 1#1
  · rw [dif_pos h]
    iapply (wp_ret_then _ _ _ _ _)
    rw [wp_bind]
    iapply (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ E _)
    isplitl [H13]; · iexact H13
    isplitl [H15]; · iexact H15
    isplitl [H16]; · iexact H16
    iintro ⟨H13, H15, H16⟩
    iapply (OwnsStep.load_full (defs := defs₀ (F := F)) Variants.none c none E arg14) $$ H14; iintro H14
    iapply (OwnsStep.store_full (defs := defs₀ (F := F)) Variants.none c none E arg14) $$ H14; iintro H14
    iapply (le_wp_ret _ _ _ _ _)
    simp only [last13, last14, if_pos h]
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg h]
    iapply (le_wp_ret _ _ _ _ _)
    simp only [last13, last14, if_neg h]
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Rows

end
-- ==== Proof.KernelIdeal.Rows.lean ====
/-
  The rows call as one pipeline region: its proof data (what every staging buffer and the two column maxima may hold
  after each grid point), the proof that one point of the body does what the data say, and what the call's result
  arrays hold at the end.
-/
module

public import proofs.«01_k».proof.Proof.KernelIdeal.RowsRun
public import Idealize.ShloMosaic.Lib.Pipeline.TableIdle
public import Idealize.ShloMosaic.Lib.Pipeline.FrameTail
public import Idealize.ShloMosaic.Lib.Pipeline.ArrRel

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen

variable {F : FTy → Type} [FloatOps F]

local notation "𝕄" => MT nD τ sig Unit (Elt F) ℕ (UR sig nD τ) ℕ

/-! ## The point's conditions, in closed form -/

theorem hN (t : Fin cfg0.N) : t.val < 16 := lt_of_lt_of_eq t.isLt (show cfg0.N = 16 from N_0)

theorem first_iff : ∀ t : Fin cfg0.N, first (grid0.coords t) = 1#1 ↔ t.val = 0 := by decide +kernel
theorem cond2_iff : ∀ t : Fin cfg0.N, k0_cond2 (grid0.coords t) = 1#1 ↔ t.val = 15 := by decide +kernel
theorem off1_eq : ∀ t : Fin cfg0.N, k0_off1 (grid0.coords t) = (![t.val / 2, 512 * (t.val % 2)] : Fin 2 → ℕ) := by decide +kernel

variable (W : Dev nD → Valuation τ sig (Elt F))

/-- Window `w`'s block at point `t`, read from the entry contents of its array. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What point `t` reads, the column maxima it starts from being `a`. -/
def insAt (c : Dev nD) (t : Fin cfg0.N) (a : Vec F S1x3072 .bf16 × Vec F S1x2048 .f32) : Ins F where
  x1 := iblk W c 0 t
  x2 := iblk W c 1 t
  x3 := iblk W c 2 t
  x4 := iblk W c 3 t
  x5 := iblk W c 4 t
  x6 := iblk W c 5 t
  a15 := a.1
  a16 := a.2

/-- The column maxima point `n` starts from. -/
def colIn (c : Dev nD) : (n : ℕ) → n < cfg0.N → Vec F S1x3072 .bf16 × Vec F S1x2048 .f32
  | 0, _ => (k0_pay4, k0_pay5)
  | n + 1, h => (c15_1 (insAt W c ⟨n, Nat.lt_of_succ_lt h⟩ (colIn c n (Nat.lt_of_succ_lt h))),
      c16_8 (insAt W c ⟨n, Nat.lt_of_succ_lt h⟩ (colIn c n (Nat.lt_of_succ_lt h))))

/-- What point `t` reads. -/
def ins (c : Dev nD) (t : Fin cfg0.N) : Ins F := insAt W c t (colIn W c t.val t.isLt)

/-- The row scales of dy, after the points up to `n`. -/
def scan8 (c : Dev nD) : (n : ℕ) → n < cfg0.N → Vec F S8x1024 .f32
  | 0, h => c9_1 (ins W c ⟨0, h⟩) (grid0.coords ⟨0, h⟩) (fun _ => FloatOps.ofBits .f32 0#32)
  | n + 1, h => c9_1 (ins W c ⟨n + 1, h⟩) (grid0.coords ⟨n + 1, h⟩) (scan8 c n (Nat.lt_of_succ_lt h))

/-- The row scales of dh, after the points up to `n`. -/
def scan10 (c : Dev nD) : (n : ℕ) → n < cfg0.N → Vec F S8x1024 .f32
  | 0, h => c11_1 (ins W c ⟨0, h⟩) (grid0.coords ⟨0, h⟩) (fun _ => FloatOps.ofBits .f32 0#32)
  | n + 1, h => c11_1 (ins W c ⟨n + 1, h⟩) (grid0.coords ⟨n + 1, h⟩) (scan10 c n (Nat.lt_of_succ_lt h))

/-- What the column maxima are known to be before point `n`: what the previous point left. -/
def Holds (c : Dev nD) (n : ℕ) (f15 : Vec F S1x3072 .bf16) (f16 : Vec F S1x2048 .f32) : Prop :=
  ∀ (k : ℕ) (h : k < cfg0.N), n = k + 1 → f15 = c15_1 (ins W c ⟨k, h⟩) ∧ f16 = c16_8 (ins W c ⟨k, h⟩)

theorem holds_zero (c : Dev nD) (f15 : Vec F S1x3072 .bf16) (f16 : Vec F S1x2048 .f32) : Holds W c 0 f15 f16 := fun k _ h => absurd h (Nat.succ_ne_zero k).symm

theorem holds_succ (c : Dev nD) (t : Fin cfg0.N) : Holds W c (t.val + 1) (c15_1 (ins W c t)) (c16_8 (ins W c t)) := by
  intro k h e
  obtain rfl : k = t.val := by omega
  exact ⟨rfl, rfl⟩

theorem clear_eq (c : Dev nD) (t : Fin cfg0.N) (f15 : Vec F S1x3072 .bf16) (f16 : Vec F S1x2048 .f32) (hf : Holds W c t.val f15 f16) :
    clear15 (grid0.coords t) f15 = (ins W c t).a15 ∧ clear16 (grid0.coords t) f16 = (ins W c t).a16 := by
  obtain ⟨n, h⟩ := t
  cases n with
  | zero =>
    have e : first (grid0.coords ⟨0, h⟩) = 1#1 := (first_iff ⟨0, h⟩).mpr rfl
    exact ⟨if_pos e, if_pos e⟩
  | succ n =>
    have e : ¬ first (grid0.coords ⟨n + 1, h⟩) = 1#1 := fun e => absurd ((first_iff ⟨n + 1, h⟩).mp e) (Nat.succ_ne_zero n)
    have hh := hf n (Nat.lt_of_succ_lt h) rfl
    exact ⟨(if_neg e).trans hh.1, (if_neg e).trans hh.2⟩

/-! ## The proof data of the region -/

/-- What the call carries between points beside the windows: the two column maxima and the other scratch memory. -/
def Phi (c : Dev nD) (n : ℕ) : sProp 𝕄 :=
  iprop((∃ f15 f16, owns (c : Thread nD τ) (Memref.whole cc0_scratch0) fullShare f15 ∗ owns (c : Thread nD τ) (Memref.whole cc0_scratch1) fullShare f16 ∗ ⌜Holds W c n f15 f16⌝)
    ∗ Pipeline.scopedRestBut (Ix := Unit) (Name := ℕ) (U := UR sig nD τ) (Lvl := ℕ) (Val := Elt F) spec0 c [cc0_scratch0, cc0_scratch1])

/-- The proof data: every input block kept; the gradient, the codes and dh of the point's rows; the two row-scale
    arrays with the point's piece overwritten; the column scales written at the last point. -/
def rdat (c : Dev nD) : RDat τ (Elt F) Unit ℕ (UR sig nD τ) ℕ cfg0 c where
  A w := W c (Proc.devRef .tc (Pipeline.arrRef spec0 w))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => X = dx (ins W c t)
    | ⟨7, _⟩ => fun _ X => X = c8_1 (ins W c t)
    | ⟨8, _⟩ => fun Y X => X = c9_1 (ins W c t) (grid0.coords t) Y
    | ⟨9, _⟩ => fun _ X => X = c10_1 (ins W c t)
    | ⟨10, _⟩ => fun Y X => X = c11_1 (ins W c t) (grid0.coords t) Y
    | ⟨11, _⟩ => fun _ X => X = dh (ins W c t)
    | ⟨12, _⟩ => fun Y X => X = last13 (ins W c t) (grid0.coords t) Y
    | ⟨13, _⟩ => fun Y X => X = last14 (ins W c t) (grid0.coords t) Y
  Φ t := Phi W c t.val
  q _ := fullShare
  owed _ := 0

/-- What every write-back writes: the rows' results, the whole row-scale arrays, the column scales. -/
def fin0 (c : Dev nD) (w : Fin cfg0.W) (t : Fin cfg0.N) : (cfg0.win w).block.Idx → Elt F (cfg0.win w).elt :=
  match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => dx (ins W c t)
    | ⟨7, _⟩ => c8_1 (ins W c t)
    | ⟨8, _⟩ => scan8 W c t.val t.isLt
    | ⟨9, _⟩ => c10_1 (ins W c t)
    | ⟨10, _⟩ => scan10 W c t.val t.isLt
    | ⟨11, _⟩ => dh (ins W c t)
    | ⟨12, _⟩ => k0_pay2 (c15_1 (ins W c t))
    | ⟨13, _⟩ => k0_pay1 (F := F) (k0_pay3 (c16_8 (ins W c t))) 0#32

/-- The exact data the result arrays are read from. -/
def dat (c : Dev nD) : Dat τ (Elt F) Unit ℕ (UR sig nD τ) ℕ cfg0 c := (rdat W c).withAfter (fin0 W c)

theorem A_eq (c : Dev nD) (w : Fin cfg0.W) : (rdat W c).A w = W c (Proc.devRef .tc (Pipeline.arrRef spec0 w)) := by
  dsimp only [rdat]
theorem datA_eq (c : Dev nD) (w : Fin cfg0.W) : (dat W c).A w = W c (Proc.devRef .tc (Pipeline.arrRef spec0 w)) := by
  dsimp only [dat, RDat.withAfter, rdat]

theorem aft_0 (c : Dev nD) (t : Fin cfg0.N) (Y X) : (rdat W c).after 0 t Y X ↔ X = Y := Iff.rfl
theorem finds_0 (c : Dev nD) (t : Fin cfg0.N) (Y) (h : (rdat W c).Finds 0 t Y) : Y = iblk W c 0 t := by
  obtain ⟨d, rfl⟩ := RDat.finds_in_eq_fetched (rdat W c) 0 rfl (fun _ _ _ => rfl) (fun t Y X h => (aft_0 W c t Y X).mp h) t Y h
  unfold RDat.fetched RDat.blockOf iblk; rw [A_eq]; try rfl
theorem aft_1 (c : Dev nD) (t : Fin cfg0.N) (Y X) : (rdat W c).after 1 t Y X ↔ X = Y := Iff.rfl
theorem finds_1 (c : Dev nD) (t : Fin cfg0.N) (Y) (h : (rdat W c).Finds 1 t Y) : Y = iblk W c 1 t := by
  obtain ⟨d, rfl⟩ := RDat.finds_in_eq_fetched (rdat W c) 1 rfl (fun _ _ _ => rfl) (fun t Y X h => (aft_1 W c t Y X).mp h) t Y h
  unfold RDat.fetched RDat.blockOf iblk; rw [A_eq]; try rfl
theorem aft_2 (c : Dev nD) (t : Fin cfg0.N) (Y X) : (rdat W c).after 2 t Y X ↔ X = Y := Iff.rfl
theorem finds_2 (c : Dev nD) (t : Fin cfg0.N) (Y) (h : (rdat W c).Finds 2 t Y) : Y = iblk W c 2 t := by
  obtain ⟨d, rfl⟩ := RDat.finds_in_eq_fetched (rdat W c) 2 rfl (fun _ _ _ => rfl) (fun t Y X h => (aft_2 W c t Y X).mp h) t Y h
  unfold RDat.fetched RDat.blockOf iblk; rw [A_eq]; try rfl
theorem aft_3 (c : Dev nD) (t : Fin cfg0.N) (Y X) : (rdat W c).after 3 t Y X ↔ X = Y := Iff.rfl
theorem finds_3 (c : Dev nD) (t : Fin cfg0.N) (Y) (h : (rdat W c).Finds 3 t Y) : Y = iblk W c 3 t := by
  obtain ⟨d, rfl⟩ := RDat.finds_in_eq_fetched (rdat W c) 3 rfl (fun _ _ _ => rfl) (fun t Y X h => (aft_3 W c t Y X).mp h) t Y h
  unfold RDat.fetched RDat.blockOf iblk; rw [A_eq]; try rfl
theorem aft_4 (c : Dev nD) (t : Fin cfg0.N) (Y X) : (rdat W c).after 4 t Y X ↔ X = Y := Iff.rfl
theorem finds_4 (c : Dev nD) (t : Fin cfg0.N) (Y) (h : (rdat W c).Finds 4 t Y) : Y = iblk W c 4 t := by
  obtain ⟨d, rfl⟩ := RDat.finds_in_eq_fetched (rdat W c) 4 rfl (fun _ _ _ => rfl) (fun t Y X h => (aft_4 W c t Y X).mp h) t Y h
  unfold RDat.fetched RDat.blockOf iblk; rw [A_eq]; try rfl
theorem aft_5 (c : Dev nD) (t : Fin cfg0.N) (Y X) : (rdat W c).after 5 t Y X ↔ X = Y := Iff.rfl
theorem finds_5 (c : Dev nD) (t : Fin cfg0.N) (Y) (h : (rdat W c).Finds 5 t Y) : Y = iblk W c 5 t := by
  obtain ⟨d, rfl⟩ := RDat.finds_in_eq_fetched (rdat W c) 5 rfl (fun _ _ _ => rfl) (fun t Y X h => (aft_5 W c t Y X).mp h) t Y h
  unfold RDat.fetched RDat.blockOf iblk; rw [A_eq]; try rfl
theorem aft_6 (c : Dev nD) (t : Fin cfg0.N) (Y X) : (rdat W c).after 6 t Y X ↔ X = dx (ins W c t) := Iff.rfl
theorem aft_7 (c : Dev nD) (t : Fin cfg0.N) (Y X) : (rdat W c).after 7 t Y X ↔ X = c8_1 (ins W c t) := Iff.rfl
theorem aft_8 (c : Dev nD) (t : Fin cfg0.N) (Y X) : (rdat W c).after 8 t Y X ↔ X = c9_1 (ins W c t) (grid0.coords t) Y := Iff.rfl
theorem aft_9 (c : Dev nD) (t : Fin cfg0.N) (Y X) : (rdat W c).after 9 t Y X ↔ X = c10_1 (ins W c t) := Iff.rfl
theorem aft_10 (c : Dev nD) (t : Fin cfg0.N) (Y X) : (rdat W c).after 10 t Y X ↔ X = c11_1 (ins W c t) (grid0.coords t) Y := Iff.rfl
theorem aft_11 (c : Dev nD) (t : Fin cfg0.N) (Y X) : (rdat W c).after 11 t Y X ↔ X = dh (ins W c t) := Iff.rfl
theorem aft_12 (c : Dev nD) (t : Fin cfg0.N) (Y X) : (rdat W c).after 12 t Y X ↔ X = last13 (ins W c t) (grid0.coords t) Y := Iff.rfl
theorem aft_13 (c : Dev nD) (t : Fin cfg0.N) (Y X) : (rdat W c).after 13 t Y X ↔ X = last14 (ins W c t) (grid0.coords t) Y := Iff.rfl
theorem fin_6 (c : Dev nD) (t : Fin cfg0.N) : (dat W c).after 6 t = dx (ins W c t) := by dsimp only [dat, RDat.withAfter, fin0]
theorem fin_7 (c : Dev nD) (t : Fin cfg0.N) : (dat W c).after 7 t = c8_1 (ins W c t) := by dsimp only [dat, RDat.withAfter, fin0]
theorem fin_8 (c : Dev nD) (t : Fin cfg0.N) : (dat W c).after 8 t = scan8 W c t.val t.isLt := by dsimp only [dat, RDat.withAfter, fin0]
theorem fin_9 (c : Dev nD) (t : Fin cfg0.N) : (dat W c).after 9 t = c10_1 (ins W c t) := by dsimp only [dat, RDat.withAfter, fin0]
theorem fin_10 (c : Dev nD) (t : Fin cfg0.N) : (dat W c).after 10 t = scan10 W c t.val t.isLt := by dsimp only [dat, RDat.withAfter, fin0]
theorem fin_11 (c : Dev nD) (t : Fin cfg0.N) : (dat W c).after 11 t = dh (ins W c t) := by dsimp only [dat, RDat.withAfter, fin0]
theorem fin_12 (c : Dev nD) (t : Fin cfg0.N) : (dat W c).after 12 t = k0_pay2 (c15_1 (ins W c t)) := by dsimp only [dat, RDat.withAfter, fin0]
theorem fin_13 (c : Dev nD) (t : Fin cfg0.N) : (dat W c).after 13 t = k0_pay1 (F := F) (k0_pay3 (c16_8 (ins W c t))) 0#32 := by dsimp only [dat, RDat.withAfter, fin0]

/-! ## What a write-back finds -/

theorem cover (y : S8x1024.Idx) (n : ℕ) (h : n < cfg0.N) (hy : 2 * (y 0).val + (y 1).val / 512 = n) :
    ∀ a : Fin 2, k0_off1 (grid0.coords ⟨n, h⟩) a ≤ (y a).val ∧ (y a).val < k0_off1 (grid0.coords ⟨n, h⟩) a + S1x512.size a := by
  have hc : (y 1).val < 1024 := (y 1).isLt
  rw [off1_eq]
  intro a
  match a with
  | 0 => show n / 2 ≤ (y 0).val ∧ (y 0).val < n / 2 + 1; omega
  | 1 => show 512 * (n % 2) ≤ (y 1).val ∧ (y 1).val < 512 * (n % 2) + 512; omega

theorem fetch_8 : ∀ t : Fin cfg0.N, (cfg0.win 8).fetch t = false := fun t => Window.fetch_out _ rfl t

theorem leaves_8 (c : Dev nD) : ∀ (n : ℕ) (h : n < cfg0.N) (X : Vec F S8x1024 .f32), (rdat W c).Leaves 8 ⟨n, h⟩ X →
    ∀ y : S8x1024.Idx, 2 * (y 0).val + (y 1).val / 512 ≤ n → X y = scan8 W c n h y := by
  intro n
  induction n with
  | zero =>
    intro h X hX y hy
    obtain ⟨Y, -, hA⟩ := hX
    rw [(aft_8 W c _ _ _).mp hA]
    rw [scan8]; unfold c9_1
    exact put_agree (P := fun _ => False) (fun _ h => h.elim) _ _ _ y (.inr (cover y 0 h (by omega)))
  | succ n ih =>
    intro h X hX y hy
    obtain ⟨Y, hY, hA⟩ := hX
    rw [(aft_8 W c _ _ _).mp hA]
    rcases (RDat.finds_of_pos (rdat W c) (w := 8) (t := ⟨n + 1, h⟩) (fetch_8 _) (Nat.succ_ne_zero n) Y).mp hY with hfl | hL
    · have := (flush0_8 _).mp hfl
      have h16 := hN ⟨n + 1, h⟩
      have h15 : n % 16 = 15 := this
      have : n + 1 < 16 := h16
      omega
    · refine put_agree (P := fun y => 2 * (y 0).val + (y 1).val / 512 ≤ n) (ih (Nat.lt_of_succ_lt h) Y hL) _ _ _ y ?_
      by_cases e : 2 * (y 0).val + (y 1).val / 512 = n + 1
      · exact .inr (cover y (n + 1) h e)
      · exact .inl (by omega)

theorem fetch_10 : ∀ t : Fin cfg0.N, (cfg0.win 10).fetch t = false := fun t => Window.fetch_out _ rfl t

theorem leaves_10 (c : Dev nD) : ∀ (n : ℕ) (h : n < cfg0.N) (X : Vec F S8x1024 .f32), (rdat W c).Leaves 10 ⟨n, h⟩ X →
    ∀ y : S8x1024.Idx, 2 * (y 0).val + (y 1).val / 512 ≤ n → X y = scan10 W c n h y := by
  intro n
  induction n with
  | zero =>
    intro h X hX y hy
    obtain ⟨Y, -, hA⟩ := hX
    rw [(aft_10 W c _ _ _).mp hA]
    rw [scan10]; unfold c11_1
    exact put_agree (P := fun _ => False) (fun _ h => h.elim) _ _ _ y (.inr (cover y 0 h (by omega)))
  | succ n ih =>
    intro h X hX y hy
    obtain ⟨Y, hY, hA⟩ := hX
    rw [(aft_10 W c _ _ _).mp hA]
    rcases (RDat.finds_of_pos (rdat W c) (w := 10) (t := ⟨n + 1, h⟩) (fetch_10 _) (Nat.succ_ne_zero n) Y).mp hY with hfl | hL
    · have := (flush0_10 _).mp hfl
      have h16 := hN ⟨n + 1, h⟩
      have h15 : n % 16 = 15 := this
      have : n + 1 < 16 := h16
      omega
    · refine put_agree (P := fun y => 2 * (y 0).val + (y 1).val / 512 ≤ n) (ih (Nat.lt_of_succ_lt h) Y hL) _ _ _ y ?_
      by_cases e : 2 * (y 0).val + (y 1).val / 512 = n + 1
      · exact .inr (cover y (n + 1) h e)
      · exact .inl (by omega)

/-- At a write-back the buffer holds what the exact data name. -/
theorem leaves_fin (c : Dev nD) (w : Fin cfg0.W) (u : Fin cfg0.N) (hf : (cfg0.win w).flush u = true) (X) (hX : (rdat W c).Leaves w u X) :
    X = fin0 W c w u := by
  match w, hf, X, hX with
  | ⟨0, _⟩, hf, X, hX => exact absurd (((cfg0.win 0).flush_in rfl u).symm.trans hf) Bool.false_ne_true
  | ⟨1, _⟩, hf, X, hX => exact absurd (((cfg0.win 1).flush_in rfl u).symm.trans hf) Bool.false_ne_true
  | ⟨2, _⟩, hf, X, hX => exact absurd (((cfg0.win 2).flush_in rfl u).symm.trans hf) Bool.false_ne_true
  | ⟨3, _⟩, hf, X, hX => exact absurd (((cfg0.win 3).flush_in rfl u).symm.trans hf) Bool.false_ne_true
  | ⟨4, _⟩, hf, X, hX => exact absurd (((cfg0.win 4).flush_in rfl u).symm.trans hf) Bool.false_ne_true
  | ⟨5, _⟩, hf, X, hX => exact absurd (((cfg0.win 5).flush_in rfl u).symm.trans hf) Bool.false_ne_true
  | ⟨6, _⟩, hf, X, hX =>
    obtain ⟨Y, -, hA⟩ := hX
    exact (aft_6 W c u Y X).mp hA
  | ⟨7, _⟩, hf, X, hX =>
    obtain ⟨Y, -, hA⟩ := hX
    exact (aft_7 W c u Y X).mp hA
  | ⟨8, _⟩, hf, X, hX =>
    have hu : u.val % 16 = 15 := (flush0_8 u).mp hf
    exact funext fun y => leaves_8 W c u.val u.isLt X hX y (by
      have h0 : (y 0).val < 8 := (y 0).isLt
      have h1 : (y 1).val < 1024 := (y 1).isLt
      have := hN u
      omega)
  | ⟨9, _⟩, hf, X, hX =>
    obtain ⟨Y, -, hA⟩ := hX
    exact (aft_9 W c u Y X).mp hA
  | ⟨10, _⟩, hf, X, hX =>
    have hu : u.val % 16 = 15 := (flush0_10 u).mp hf
    exact funext fun y => leaves_10 W c u.val u.isLt X hX y (by
      have h0 : (y 0).val < 8 := (y 0).isLt
      have h1 : (y 1).val < 1024 := (y 1).isLt
      have := hN u
      omega)
  | ⟨11, _⟩, hf, X, hX =>
    obtain ⟨Y, -, hA⟩ := hX
    exact (aft_11 W c u Y X).mp hA
  | ⟨12, _⟩, hf, X, hX =>
    obtain ⟨Y, -, hA⟩ := hX
    have hu : u.val % 16 = 15 := (flush0_12 u).mp hf
    have h16 := hN u
    exact ((aft_12 W c u Y X).mp hA).trans (if_pos ((cond2_iff u).mpr (by omega)))
  | ⟨13, _⟩, hf, X, hX =>
    obtain ⟨Y, -, hA⟩ := hX
    have hu : u.val % 16 = 15 := (flush0_13 u).mp hf
    have h16 := hN u
    exact ((aft_13 W c u Y X).mp hA).trans (if_pos ((cond2_iff u).mpr (by omega)))

/-- What an array may hold after the call is what the exact data say. -/
theorem arrAt_eq (c : Dev nD) (w : Fin cfg0.W) (G) (hG : (rdat W c).ArrAt w cfg0.N G) : G = (dat W c).arrAt w cfg0.N := by
  obtain ⟨X, hX, hA⟩ := hG.exists_exact
  exact hA (fin0 W c) fun u hu hf => (leaves_fin W c w u hf _ (hX u hu hf)).symm

/-! ## One point of the body -/

/-- Before the body at point `t`. -/
def bodyPre (c : Dev nD) (t : Fin cfg0.N) (Y : (w : Fin cfg0.W) → (cfg0.win w).block.Idx → Elt F (cfg0.win w).elt) : sProp 𝕄 :=
  iprop(Phi W c t.val ∗ (rdat W c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13))

/-- After it. -/
def bodyPost (c : Dev nD) (t : Fin cfg0.N) (Y : (w : Fin cfg0.W) → (cfg0.win w).block.Idx → Elt F (cfg0.win w).elt) : sProp 𝕄 :=
  iprop(Phi W c (t.val + 1) ∗ (rdat W c).owesAt () t.castSucc ∗ iprop(∃ X, ⌜(rdat W c).after 0 t (Y 0) X⌝ ∗ owns (c : Thread nD τ) (st0_0 t) fullShare X) ∗ iprop(∃ X, ⌜(rdat W c).after 1 t (Y 1) X⌝ ∗ owns (c : Thread nD τ) (st0_1 t) fullShare X) ∗ iprop(∃ X, ⌜(rdat W c).after 2 t (Y 2) X⌝ ∗ owns (c : Thread nD τ) (st0_2 t) fullShare X) ∗ iprop(∃ X, ⌜(rdat W c).after 3 t (Y 3) X⌝ ∗ owns (c : Thread nD τ) (st0_3 t) fullShare X) ∗ iprop(∃ X, ⌜(rdat W c).after 4 t (Y 4) X⌝ ∗ owns (c : Thread nD τ) (st0_4 t) fullShare X) ∗ iprop(∃ X, ⌜(rdat W c).after 5 t (Y 5) X⌝ ∗ owns (c : Thread nD τ) (st0_5 t) fullShare X) ∗ iprop(∃ X, ⌜(rdat W c).after 6 t (Y 6) X⌝ ∗ owns (c : Thread nD τ) (st0_6 t) fullShare X) ∗ iprop(∃ X, ⌜(rdat W c).after 7 t (Y 7) X⌝ ∗ owns (c : Thread nD τ) (st0_7 t) fullShare X) ∗ iprop(∃ X, ⌜(rdat W c).after 8 t (Y 8) X⌝ ∗ owns (c : Thread nD τ) (st0_8 t) fullShare X) ∗ iprop(∃ X, ⌜(rdat W c).after 9 t (Y 9) X⌝ ∗ owns (c : Thread nD τ) (st0_9 t) fullShare X) ∗ iprop(∃ X, ⌜(rdat W c).after 10 t (Y 10) X⌝ ∗ owns (c : Thread nD τ) (st0_10 t) fullShare X) ∗ iprop(∃ X, ⌜(rdat W c).after 11 t (Y 11) X⌝ ∗ owns (c : Thread nD τ) (st0_11 t) fullShare X) ∗ iprop(∃ X, ⌜(rdat W c).after 12 t (Y 12) X⌝ ∗ owns (c : Thread nD τ) (st0_12 t) fullShare X) ∗ iprop(∃ X, ⌜(rdat W c).after 13 t (Y 13) X⌝ ∗ owns (c : Thread nD τ) (st0_13 t) fullShare X))

set_option maxHeartbeats 4000000 in
/-- The body at point `t` does what the proof data say. -/
theorem sound_body (c : Dev nD) (t : Fin cfg0.N) (Y : (w : Fin cfg0.W) → (cfg0.win w).block.Idx → Elt F (cfg0.win w).elt)
    (hY : ∀ w, (rdat W c).Finds w t (Y w)) :
    bodyPre W c t Y ⊢ wp frame (wpE (defs₀ (F := F)) Variants.none c none) Set.univ (bodyAt0 (F := F) t) fun _ => bodyPost W c t Y := by
  unfold bodyPre bodyPost Phi
  have e0 := finds_0 W c t _ (hY 0)
  have e1 := finds_1 W c t _ (hY 1)
  have e2 := finds_2 W c t _ (hY 2)
  have e3 := finds_3 W c t _ (hY 3)
  have e4 := finds_4 W c t _ (hY 4)
  have e5 := finds_5 W c t _ (hY 5)
  iintro ⟨⟨⟨%f15, %f16, H15, H16, %hf⟩, HR⟩, HO, H1, H2, H3, H4, H5, H6, H7, H8, H9, H10, H11, H12, H13, H14⟩
  obtain ⟨h15, h16⟩ := clear_eq W c t f15 f16 hf
  unfold bodyAt0
  iapply (run c (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (win0_8.stage (cfg0.slots t 8)) _ (win0_9.stage (cfg0.slots t 9)) _ (win0_10.stage (cfg0.slots t 10)) _ (win0_11.stage (cfg0.slots t 11)) _ (win0_12.stage (cfg0.slots t 12)) _ (win0_13.stage (cfg0.slots t 13)) _ (Memref.whole cc0_scratch0) _ (Memref.whole cc0_scratch1) _
    (ins W c t) (Y 6) (Y 7) (Y 8) (Y 9) (Y 10) (Y 11) (Y 12) (Y 13) f15 f16 h15 h16)
  isplitl [H1]; · rw [e0]; iexact H1
  isplitl [H2]; · rw [e1]; iexact H2
  isplitl [H3]; · rw [e2]; iexact H3
  isplitl [H4]; · rw [e3]; iexact H4
  isplitl [H5]; · rw [e4]; iexact H5
  isplitl [H6]; · rw [e5]; iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  isplitl [H15 H16 HR]
  · isplitl [H15 H16]
    · iexists (c15_1 (ins W c t)); iexists (c16_8 (ins W c t))
      isplitl [H15]; · iexact H15
      isplitl [H16]; · iexact H16
      ipureintro; exact holds_succ W c t
    · iexact HR
  isplitl [HO]; · iexact HO
  isplitl [H1]
  · iexists (iblk W c 0 t); isplitr; · ipureintro; exact (aft_0 W c t _ _).mpr e0.symm
    iexact H1
  isplitl [H2]
  · iexists (iblk W c 1 t); isplitr; · ipureintro; exact (aft_1 W c t _ _).mpr e1.symm
    iexact H2
  isplitl [H3]
  · iexists (iblk W c 2 t); isplitr; · ipureintro; exact (aft_2 W c t _ _).mpr e2.symm
    iexact H3
  isplitl [H4]
  · iexists (iblk W c 3 t); isplitr; · ipureintro; exact (aft_3 W c t _ _).mpr e3.symm
    iexact H4
  isplitl [H5]
  · iexists (iblk W c 4 t); isplitr; · ipureintro; exact (aft_4 W c t _ _).mpr e4.symm
    iexact H5
  isplitl [H6]
  · iexists (iblk W c 5 t); isplitr; · ipureintro; exact (aft_5 W c t _ _).mpr e5.symm
    iexact H6
  isplitl [H7]
  · iexists (dx (ins W c t)); isplitr; · ipureintro; exact (aft_6 W c t _ _).mpr rfl
    iexact H7
  isplitl [H8]
  · iexists (c8_1 (ins W c t)); isplitr; · ipureintro; exact (aft_7 W c t _ _).mpr rfl
    iexact H8
  isplitl [H9]
  · iexists (c9_1 (ins W c t) (grid0.coords t) (Y 8)); isplitr; · ipureintro; exact (aft_8 W c t _ _).mpr rfl
    iexact H9
  isplitl [H10]
  · iexists (c10_1 (ins W c t)); isplitr; · ipureintro; exact (aft_9 W c t _ _).mpr rfl
    iexact H10
  isplitl [H11]
  · iexists (c11_1 (ins W c t) (grid0.coords t) (Y 10)); isplitr; · ipureintro; exact (aft_10 W c t _ _).mpr rfl
    iexact H11
  isplitl [H12]
  · iexists (dh (ins W c t)); isplitr; · ipureintro; exact (aft_11 W c t _ _).mpr rfl
    iexact H12
  isplitl [H13]
  · iexists (last13 (ins W c t) (grid0.coords t) (Y 12)); isplitr; · ipureintro; exact (aft_12 W c t _ _).mpr rfl
    iexact H13
  iexists (last14 (ins W c t) (grid0.coords t) (Y 13)); isplitr; · ipureintro; exact (aft_13 W c t _ _).mpr rfl
  iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat W c).BodyObligation defs₀ Variants.none () Set.univ :=
  fun t Y hY => by rw [bigSep_W0, bigSep_W0, defs₀_row]; exact triple_restated (sound_body W c t Y hY) rfl .rfl fun _ => .rfl

/-- The scoped memory the call takes is what its first point needs. -/
theorem hin (c : Dev nD) :
    (Pipeline.scopedRest (Ix := Unit) (Name := ℕ) (U := UR sig nD τ) (Lvl := ℕ) (Val := Elt F) spec0 c : sProp 𝕄) ⊢ (rdat W c).Φ 0 := by
  show _ ⊢ Phi W c 0
  rw [scopedRest0_split]
  unfold Phi
  simp only [owns_whole]
  iintro ⟨⟨⟨%f15, H15⟩, ⟨%f16, H16⟩⟩, HR⟩
  isplitl [H15 H16]
  · iexists f15; iexists f16
    isplitl [H15]; · iexact H15
    isplitl [H16]; · iexact H16
    ipureintro; exact holds_zero W c f15 f16
  · iexact HR

/-- And its last point gives it back. -/
theorem hout (c : Dev nD) :
    (rdat W c).Φ (Fin.last cfg0.N) ⊢ (Pipeline.scopedRest (Ix := Unit) (Name := ℕ) (U := UR sig nD τ) (Lvl := ℕ) (Val := Elt F) spec0 c : sProp 𝕄) := by
  show Phi W c (Fin.last cfg0.N).val ⊢ _
  rw [scopedRest0_split]
  unfold Phi
  simp only [owns_whole]
  iintro ⟨⟨%f15, %f16, H15, H16, -⟩, HR⟩
  isplitl [H15 H16]
  · isplitl [H15]
    · iexists f15; iexact H15
    · iexists f16; iexact H16
  · iexact HR

end Cert.KernelIdeal.Rows

end
-- ==== Proof.KernelIdeal.WgradOneRun.lean ====
/-
  One grid point of the dW1 call: what `cc1_wgrad1` leaves in its buffers, as functions of what it finds in them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import proofs.«01_k».proof.Proof.WindowFacts

@[expose] public section

set_option maxRecDepth 16384

noncomputable section

namespace Cert.KernelIdeal.Wgrad1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.WindowFacts

variable {F : FTy → Type} [FloatOps F]

local notation "𝕄" => MT nD τ sig Unit (Elt F) ℕ (UR sig nD τ) ℕ

/-- The codes buffer after a point: quantised anew at the first feature block, kept otherwise. -/
def codStep (i : grid1.Coords) (cs : Vec F S1x2048 .f32) (g : Vec F S1024x2048 .bf16) (old : Vec F S1024x2048 .fp8e5m2) : Vec F S1024x2048 .fp8e5m2 :=
  if k1_cond1 i = 1#1 then k1_pay1 g cs else old

/-- The accumulator with the point's slice cleared at the first token block. -/
def accClear (i : grid1.Coords) (a : Vec F S3x1024x2048 .f32) : Vec F S3x1024x2048 .f32 :=
  if k1_cond2 i = 1#1 then VecWindow.put a (k1_off2 i) S1x1024x2048.size (k1_pay2 (F := F)) else a

/-- The accumulator slice the point adds: the slice found plus the block's product. -/
def accSlice (i : grid1.Coords) (x : Vec F S1024x1024 .fp8e4m3) (cod : Vec F S1024x2048 .fp8e5m2) (a : Vec F S3x1024x2048 .f32) : Vec F S1x1024x2048 .f32 :=
  k1_pay3 (VecWindow.window (accClear i a) (k1_off2 i) S1x1024x2048.size (k1_off2_inb i)) x cod

/-- The accumulator after a point. -/
def accStep (i : grid1.Coords) (x : Vec F S1024x1024 .fp8e4m3) (cod : Vec F S1024x2048 .fp8e5m2) (a : Vec F S3x1024x2048 .f32) : Vec F S3x1024x2048 .f32 :=
  VecWindow.put (accClear i a) (k1_off2 i) S1x1024x2048.size (accSlice i x cod a)

/-- The result block after a point: the scaled slice at the last token block, kept otherwise. -/
def dwStep (i : grid1.Coords) (xs : Vec F S1x1024 .f32) (cs : Vec F S1x2048 .f32) (sl : Vec F S1x1024x2048 .f32) (old : Vec F S1024x2048 .bf16) : Vec F S1024x2048 .bf16 :=
  if k1_cond3 i = 1#1 then k1_pay4 xs sl cs else old

section Cases
set_option maxHeartbeats 2000000
variable (c : Dev nD) (i : grid1.Coords) (arg2 : Memref sig .tc .vmem S1x1024 .f32) (harg2 : arg2.IsWhole) (arg3 : Memref sig .tc .vmem S1x2048 .f32) (harg3 : arg3.IsWhole) (arg4 : Memref sig .tc .vmem S1024x1024 .fp8e4m3) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .fp8e5m2) (harg7 : arg7.IsWhole) (arg8 : Memref sig .tc .vmem S3x1024x2048 .f32) (harg8 : arg8.IsWhole) (x0 : Vec F S1x1024 .f32) (x1 : Vec F S1x2048 .f32) (x2 : Vec F S1024x1024 .fp8e4m3) (x3 : Vec F S1024x2048 .bf16) (x4 : Vec F S1024x2048 .bf16) (x5 : Vec F S1024x2048 .fp8e5m2) (a : Vec F S3x1024x2048 .f32) (E : Set ℕ)

/-- What one point does: the inputs are left as found; the codes, the accumulator and the result block step. -/
def Steps (K : PUnit → sProp 𝕄) : Prop :=
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc1_wgrad1 i arg2 harg2 arg3 harg3 arg4 harg4 arg5 harg5 arg6 harg6 arg7 harg7 arg8 harg8) K

theorem run_A (K : PUnit → sProp 𝕄) (hc0 : k1_cond1 i = 1#1) (hc1 : k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_pos hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k1_pay1 ((View.readAt_full _ _ _).trans (harg5.read_unread _))) ((View.readAt_full _ _ _).trans (harg3.read_unread _)))
  iexists _; isplitr; swap; · iexact HS0
  ipureintro
  exact (View.read_writes_cons_put _ _ _ _ _ (rfl : k1_off2 i = k1_off2 i)).trans (put_congr ((View.read_writes_cons_put _ _ _ _ _ (rfl : k1_off1 i = k1_off2 i)).trans (put_congr (harg8.read_unread _) _ _ rfl)) _ _ (congr (congr (congrArg k1_pay3 (readCov_head _ _ _ rfl _ _)) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))

theorem run_B (K : PUnit → sProp 𝕄) (hc0 : k1_cond1 i = 1#1) (hc1 : ¬k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k1_pay1 ((View.readAt_full _ _ _).trans (harg5.read_unread _))) ((View.readAt_full _ _ _).trans (harg3.read_unread _)))
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))

theorem run_C (K : PUnit → sProp 𝕄) (hc0 : k1_cond1 i = 1#1) (hc1 : ¬k1_cond2 i = 1#1) (hc2 : k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_pos hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k1_pay4 ((View.readAt_full _ _ _).trans (harg2.read_unread _))) ((readCov_head _ _ _ rfl _ _).trans (congr (congr (congrArg k1_pay3 ((View.readAt_unit _ _ _ rfl (k1_off2_inb i)).trans (window_congr (harg8.read_unread _) _ _ _))) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))) ((View.readAt_full _ _ _).trans (harg3.read_unread _)))
  isplitl [H5]
  · iexists _; isplitr; swap; · iexact H5
    ipureintro
    exact (View.read_writes_full _ _ _ _ _).trans (congr (congrArg k1_pay1 ((View.readAt_full _ _ _).trans (harg5.read_unread _))) ((View.readAt_full _ _ _).trans (harg3.read_unread _)))
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readCov_full _ _ _ _ _).trans (congr (congrArg k1_pay1 ((View.readAt_full _ _ _).trans (harg5.read_unread _))) ((View.readAt_full _ _ _).trans (harg3.read_unread _))))))

theorem run_D (K : PUnit → sProp 𝕄) (hc0 : ¬k1_cond1 i = 1#1) (hc1 : k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_pos hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k1_off2 i = k1_off2 i)).trans (put_congr ((View.read_writes_cons_put _ _ _ _ _ (rfl : k1_off1 i = k1_off2 i)).trans (put_congr (harg8.read_unread _) _ _ rfl)) _ _ (congr (congr (congrArg k1_pay3 (readCov_head _ _ _ rfl _ _)) ((View.readAt_full _ _ _).trans (harg4.read_unread _))) ((View.readAt_full _ _ _).trans (harg7.read_unread _))))

theorem run_E (K : PUnit → sProp 𝕄) (hc0 : ¬k1_cond1 i = 1#1) (hc1 : ¬k1_cond2 i = 1#1) (hc2 : ¬k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_neg hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readAt_full _ _ _).trans (harg7.read_unread _))))

theorem run_G (K : PUnit → sProp 𝕄) (hc0 : ¬k1_cond1 i = 1#1) (hc1 : ¬k1_cond2 i = 1#1) (hc2 : k1_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_pos hc2, VecWindow.window_put_same]
  simp only [cc1_wgrad1_eq_skeleton]; unfold cc1_wgrad1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k1_pay4 ((View.readAt_full _ _ _).trans (harg2.read_unread _))) ((readCov_head _ _ _ rfl _ _).trans (congr (congr (congrArg k1_pay3 ((View.readAt_unit _ _ _ rfl (k1_off2_inb i)).trans (window_congr (harg8.read_unread _) _ _ _))) ((View.readAt_full _ _ _).trans (harg4.read_unread _))) ((View.readAt_full _ _ _).trans (harg7.read_unread _))))) ((View.readAt_full _ _ _).trans (harg3.read_unread _)))
  isplitl [H5]
  · iexists _; isplitr; swap; · iexact H5
    ipureintro
    exact harg7.read_unread _
  iexists _; isplitr; swap; · iexact HS0
  ipureintro
  exact (View.read_writes_cons_put _ _ _ _ _ (rfl : k1_off2 i = k1_off2 i)).trans (put_congr (harg8.read_unread _) _ _ (congr (congr (congrArg k1_pay3 ((View.readAt_unit _ _ _ rfl (k1_off2_inb i)).trans (window_congr (harg8.read_unread _) _ _ _))) ((View.readAt_full _ _ _).trans (harg4.read_unread _))) ((View.readAt_full _ _ _).trans (harg7.read_unread _))))

end Cases

/-- One point: the inputs are left as found; the codes, the accumulator and the result block step. -/
theorem run (c : Dev nD) (i : grid1.Coords) (arg2 : Memref sig .tc .vmem S1x1024 .f32) (harg2 : arg2.IsWhole) (arg3 : Memref sig .tc .vmem S1x2048 .f32) (harg3 : arg3.IsWhole) (arg4 : Memref sig .tc .vmem S1024x1024 .fp8e4m3) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .fp8e5m2) (harg7 : arg7.IsWhole) (arg8 : Memref sig .tc .vmem S3x1024x2048 .f32) (harg8 : arg8.IsWhole) (hx : ¬(k1_cond2 i = 1#1 ∧ k1_cond3 i = 1#1))
    (x0 : Vec F S1x1024 .f32) (x1 : Vec F S1x2048 .f32) (x2 : Vec F S1024x1024 .fp8e4m3) (x3 : Vec F S1024x2048 .bf16) (x4 : Vec F S1024x2048 .bf16) (x5 : Vec F S1024x2048 .fp8e5m2) (a : Vec F S3x1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc1_wgrad1 i arg2 harg2 arg3 harg3 arg4 harg4 arg5 harg5 arg6 harg6 arg7 harg7 arg8 harg8) K := by
  by_cases hc0 : k1_cond1 i = 1#1 <;> by_cases hc1 : k1_cond2 i = 1#1 <;> by_cases hc2 : k1_cond3 i = 1#1
  · exact absurd ⟨hc1, hc2⟩ hx
  · exact run_A c i arg2 harg2 arg3 harg3 arg4 harg4 arg5 harg5 arg6 harg6 arg7 harg7 arg8 harg8 x0 x1 x2 x3 x4 x5 a E K hc0 hc1 hc2
  · exact run_C c i arg2 harg2 arg3 harg3 arg4 harg4 arg5 harg5 arg6 harg6 arg7 harg7 arg8 harg8 x0 x1 x2 x3 x4 x5 a E K hc0 hc1 hc2
  · exact run_B c i arg2 harg2 arg3 harg3 arg4 harg4 arg5 harg5 arg6 harg6 arg7 harg7 arg8 harg8 x0 x1 x2 x3 x4 x5 a E K hc0 hc1 hc2
  · exact absurd ⟨hc1, hc2⟩ hx
  · exact run_D c i arg2 harg2 arg3 harg3 arg4 harg4 arg5 harg5 arg6 harg6 arg7 harg7 arg8 harg8 x0 x1 x2 x3 x4 x5 a E K hc0 hc1 hc2
  · exact run_G c i arg2 harg2 arg3 harg3 arg4 harg4 arg5 harg5 arg6 harg6 arg7 harg7 arg8 harg8 x0 x1 x2 x3 x4 x5 a E K hc0 hc1 hc2
  · exact run_E c i arg2 harg2 arg3 harg3 arg4 harg4 arg5 harg5 arg6 harg6 arg7 harg7 arg8 harg8 x0 x1 x2 x3 x4 x5 a E K hc0 hc1 hc2

end Cert.KernelIdeal.Wgrad1

end
-- ==== Proof.KernelIdeal.WgradOne.lean ====
/-
  The dW1 call as one pipeline region: its proof data (what every staging buffer and the accumulator hold after
  each grid point) and the proof that one point of the body does what the data say.
-/
module

public import proofs.«01_k».proof.Proof.KernelIdeal.WgradOneRun
public import Idealize.ShloMosaic.Lib.Pipeline.TableIdle
public import Idealize.ShloMosaic.Lib.Pipeline.FrameTail

@[expose] public section

set_option maxRecDepth 16384

noncomputable section

namespace Cert.KernelIdeal.Wgrad1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The point's conditions, in closed form -/

theorem hN (t : Fin cfg1.N) : t.val < 24 := lt_of_lt_of_eq t.isLt (show cfg1.N = 24 from N_1)

theorem cond1_iff : ∀ t : Fin cfg1.N, k1_cond1 (grid1.coords t) = 1#1 ↔ t.val % 3 = 0 := by decide +kernel
theorem cond2_iff : ∀ t : Fin cfg1.N, k1_cond2 (grid1.coords t) = 1#1 ↔ t.val / 3 = 0 := by decide +kernel
theorem cond3_iff : ∀ t : Fin cfg1.N, k1_cond3 (grid1.coords t) = 1#1 ↔ t.val / 3 = 7 := by decide +kernel
theorem off2_eq : ∀ t : Fin cfg1.N, k1_off2 (grid1.coords t) = ![t.val % 3, 0, 0] := by decide +kernel
theorem idle4 : ∀ t : Fin cfg1.N, cfg1.idle 4 (grid1.coords t) = !(decide (t.val / 3 = 7)) := by decide +kernel
theorem idle5 : ∀ t : Fin cfg1.N, cfg1.idle 5 (grid1.coords t) = !(decide (t.val % 3 = 0)) := by decide +kernel
theorem flush4 : ∀ t : Fin cfg1.N, ¬ t.val / 3 = 7 → (cfg1.win 4).flush t = false := by decide +kernel
theorem flush5 : ∀ t : Fin cfg1.N, (cfg1.win 5).flush t = decide (t.val % 3 = 3 - 1) := by decide +kernel

theorem fresh5 : ∀ n, n ≤ cfg1.N → cfg1.fresh 5 n = decide (n % 3 = 0) :=
  cfg1.fresh_tab 5 (fun n => decide (n % 3 = 0)) rfl (fun t => by
    rw [flush5 t, idle5 t]
    have := hN t
    by_cases h : t.val % 3 = 3 - 1
    · have h2 : (t.val + 1) % 3 = 0 := by omega
      simp [h, h2]
    · have h2 : ¬ (t.val + 1) % 3 = 0 := by omega
      by_cases h3 : t.val % 3 = 0 <;> simp [h, h2, h3])

/-! ## What the buffers hold -/

variable (W : Dev nD → Valuation τ sig (Elt F))

/-- Window `w`'s block at point `t` of the array the region finds. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first point of the token block of point `t`. -/
def base (t : Fin cfg1.N) : Fin cfg1.N := ⟨3 * (t.val / 3), Nat.lt_of_le_of_lt (Nat.mul_div_le _ _) t.isLt⟩

theorem base_of_zero (t : Fin cfg1.N) (h : t.val % 3 = 0) : base t = t := Fin.ext (by show 3 * (t.val / 3) = t.val; omega)

/-- The codes of the token block of point `t`. -/
def codes (c : Dev nD) (t : Fin cfg1.N) : Vec F S1024x2048 .fp8e5m2 :=
  k1_pay1 (iblk W c 3 (base t)) (iblk W c 1 (base t))

/-- The accumulator slice of feature block `m` after token blocks `0 … k`. -/
def acc (c : Dev nD) (m : ℕ) : (k : ℕ) → (3 * k + m < cfg1.N) → Vec F S1x1024x2048 .f32
  | 0, h => k1_pay3 k1_pay2 (iblk W c 2 ⟨3 * 0 + m, h⟩) (codes W c ⟨3 * 0 + m, h⟩)
  | k + 1, h => k1_pay3 (acc c m k (by omega)) (iblk W c 2 ⟨3 * (k + 1) + m, h⟩) (codes W c ⟨3 * (k + 1) + m, h⟩)

theorem accT_lt (t : Fin cfg1.N) : 3 * (t.val / 3) + t.val % 3 < cfg1.N := by
  have := t.isLt; omega

/-- The accumulator slice point `t` leaves. -/
def accT (c : Dev nD) (t : Fin cfg1.N) : Vec F S1x1024x2048 .f32 := acc W c (t.val % 3) (t.val / 3) (accT_lt t)

theorem winb (m : Fin 3) : ∀ a, (![m.val, 0, 0] : Fin 3 → ℕ) a + S1x1024x2048.size a ≤ S3x1024x2048.size a := by
  revert m; decide +kernel

/-- What the accumulator is known to hold before point `n`: every slice its latest sum. -/
def Holds (c : Dev nD) (n : ℕ) (f : Vec F S3x1024x2048 .f32) : Prop :=
  ∀ (m : Fin 3) (k : ℕ) (h : 3 * k + m.val < cfg1.N), 3 * k + m.val < n → n ≤ 3 * (k + 1) + m.val →
    VecWindow.window f (![m.val, 0, 0] : Fin 3 → ℕ) S1x1024x2048.size (winb m) = acc W c m.val k h

theorem holds_zero (c : Dev nD) (f : Vec F S3x1024x2048 .f32) : Holds W c 0 f := fun m k h h1 => absurd h1 (Nat.not_lt_zero _)

theorem window_off {s : Shape} {α : Type} (x : s.Idx → α) {off off' size : Fin s.rank → ℕ} (h : off = off') (inb : ∀ a, off a + size a ≤ s.size a) :
    VecWindow.window x off size inb = VecWindow.window x off' size (h ▸ inb) := by subst h; rfl

theorem accSlice_eq (c : Dev nD) (t : Fin cfg1.N) (f : Vec F S3x1024x2048 .f32) (hf : Holds W c t.val f) :
    accSlice (grid1.coords t) (iblk W c 2 t) (codes W c t) f = accT W c t := by
  have ht := hN t
  have hm : t.val % 3 < 3 := Nat.mod_lt _ (by decide)
  unfold accSlice accClear accT
  by_cases h0 : t.val / 3 = 0
  · rw [if_pos ((cond2_iff t).mpr h0), VecWindow.window_put_same]
    have key : ∀ (k : ℕ) (h : 3 * k + t.val % 3 < cfg1.N), k = 0 → 3 * k + t.val % 3 = t.val →
        acc W c (t.val % 3) k h = k1_pay3 k1_pay2 (iblk W c 2 t) (codes W c t) := by
      intro k h hk he; subst hk
      have e : (⟨3 * 0 + t.val % 3, h⟩ : Fin cfg1.N) = t := Fin.ext he
      rw [acc, e]
    exact (key _ _ h0 (by omega)).symm
  · rw [if_neg (fun h => h0 ((cond2_iff t).mp h))]
    have key : ∀ (k : ℕ) (h : 3 * k + t.val % 3 < cfg1.N) (hk : k ≠ 0), 3 * k + t.val % 3 = t.val →
        acc W c (t.val % 3) k h = k1_pay3 (VecWindow.window f (k1_off2 (grid1.coords t)) S1x1024x2048.size (k1_off2_inb _)) (iblk W c 2 t) (codes W c t) := by
      intro k h hk he
      obtain ⟨k, rfl⟩ := Nat.exists_eq_succ_of_ne_zero hk
      have e : (⟨3 * (k + 1) + t.val % 3, h⟩ : Fin cfg1.N) = t := Fin.ext he
      have hw := hf ⟨t.val % 3, hm⟩ k (by show 3 * k + t.val % 3 < cfg1.N; omega) (by show 3 * k + t.val % 3 < t.val; omega) (by show t.val ≤ 3 * (k + 1) + t.val % 3; omega)
      rw [window_off f (off2_eq t)]
      show acc W c (t.val % 3) (k + 1) h = _
      rw [acc, e]
      exact congrArg (fun z => k1_pay3 z (iblk W c 2 t) (codes W c t)) hw.symm
    exact (key _ _ h0 (by omega)).symm

theorem holds_succ (c : Dev nD) (t : Fin cfg1.N) (f : Vec F S3x1024x2048 .f32) (hf : Holds W c t.val f) :
    Holds W c (t.val + 1) (accStep (grid1.coords t) (iblk W c 2 t) (codes W c t) f) := by
  have ht := hN t
  intro m k h h1 h2
  have hm := m.isLt
  unfold accStep
  by_cases e : m.val = t.val % 3
  · have ho : (![m.val, 0, 0] : Fin 3 → ℕ) = k1_off2 (grid1.coords t) := by rw [off2_eq t, e]
    rw [window_off _ ho, VecWindow.window_put_same, accSlice_eq W c t f hf]
    have key : ∀ (a b : ℕ) (h : 3 * b + a < cfg1.N) (a' b' : ℕ) (h' : 3 * b' + a' < cfg1.N), a = a' → b = b' → acc W c a b h = acc W c a' b' h' := by
      intro a b h a' b' h' e1 e2; subst e1; subst e2; rfl
    exact key _ _ _ _ _ _ e.symm (by omega)
  · have hd : (![m.val, 0, 0] : Fin 3 → ℕ) 0 + S1x1024x2048.size 0 ≤ k1_off2 (grid1.coords t) 0 ∨ k1_off2 (grid1.coords t) 0 + S1x1024x2048.size 0 ≤ (![m.val, 0, 0] : Fin 3 → ℕ) 0 := by
      rw [off2_eq t]
      show m.val + 1 ≤ t.val % 3 ∨ t.val % 3 + 1 ≤ m.val
      omega
    rw [VecWindow.window_put_of_disjoint _ _ _ _ _ _ _ 0 hd]
    have h3 : VecWindow.window (accClear (grid1.coords t) f) (![m.val, 0, 0] : Fin 3 → ℕ) S1x1024x2048.size (winb m) = VecWindow.window f (![m.val, 0, 0] : Fin 3 → ℕ) S1x1024x2048.size (winb m) := by
      unfold accClear
      split
      · exact VecWindow.window_put_of_disjoint _ _ _ _ _ _ _ 0 hd
      · rfl
    rw [h3]
    exact hf m k h (by omega) (by omega)

/-! ## The proof data of the region -/

/-- What the call carries between points beside the windows: the accumulator, every slice at its latest sum, and the
    other scratch memory at anything. -/
def Phi (c : Dev nD) (n : ℕ) : sProp 𝕄 :=
  iprop((∃ f, owns (c : Thread nD τ) (Memref.whole cc1_scratch0) fullShare f ∗ ⌜Holds W c n f⌝)
    ∗ Pipeline.scopedRestBut (Ix := Unit) (Name := ℕ) (U := UR sig nD τ) (Lvl := ℕ) (Val := Elt F) spec1 c [cc1_scratch0])

/-- The proof data: every input block in place, the codes of the point's token block, the result block scaled from the
    accumulated slice. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => k1_pay4 (iblk W c 0 t) (accT W c t) (iblk W c 1 t)
    | ⟨5, _⟩ => codes W c t
  Φ t := Phi W c t.val
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = k1_pay4 (iblk W c 0 t) (accT W c t) (iblk W c 1 t) := by dsimp only [dat]
theorem after_5 (c : Dev nD) (t : Fin cfg1.N) : (dat W c).after 5 t = codes W c t := by dsimp only [dat]

theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- Within a token block the codes buffer is found as the block's first point left it. -/
theorem before_5 (c : Dev nD) (t : Fin cfg1.N) (h : ¬ t.val % 3 = 0) (d) : (dat W c).before 5 t d = codes W c t := by
  have hc : ∀ (t : Fin cfg1.N) (h : ¬ t.val % 3 = 0), codes W c ⟨t.val - 1, by have := t.isLt; omega⟩ = codes W c t := by
    intro t h
    have e : base ⟨t.val - 1, by have := t.isLt; omega⟩ = base t := Fin.ext (by show 3 * ((t.val - 1) / 3) = 3 * (t.val / 3); omega)
    unfold codes; rw [e]
  rw [Dat.before_out_traj (dat W c) 5 rfl (fun _ _ => rfl) (by
    intro t ht hi hf
    rw [after_5, after_5]
    rw [fresh5 _ (Nat.le_of_lt t.isLt)] at hf
    exact (hc t (by simpa using hf)).symm) t.val t rfl d, fresh5 _ (Nat.le_of_lt t.isLt), if_neg (by simpa using h), after_5]
  exact hc t h

/-! ## One point of the body -/

theorem lv0 (c : Dev nD) (t : Fin cfg1.N) : (dat W c).leavesExact 0 t = owns (c : Thread nD τ) (st1_0 t) fullShare (iblk W c 0 t) := by
  rw [← after_0]
theorem lv1 (c : Dev nD) (t : Fin cfg1.N) : (dat W c).leavesExact 1 t = owns (c : Thread nD τ) (st1_1 t) fullShare (iblk W c 1 t) := by
  rw [← after_1]
theorem lv2 (c : Dev nD) (t : Fin cfg1.N) : (dat W c).leavesExact 2 t = owns (c : Thread nD τ) (st1_2 t) fullShare (iblk W c 2 t) := by
  rw [← after_2]
theorem lv3 (c : Dev nD) (t : Fin cfg1.N) : (dat W c).leavesExact 3 t = owns (c : Thread nD τ) (st1_3 t) fullShare (iblk W c 3 t) := by
  rw [← after_3]

theorem lv4 (c : Dev nD) (t : Fin cfg1.N) (d) :
    owns (c : Thread nD τ) (st1_4 t) fullShare (dwStep (grid1.coords t) (iblk W c 0 t) (iblk W c 1 t) (accT W c t) ((dat W c).before 4 t d)) ⊢ (dat W c).leavesExact 4 t := by
  unfold dwStep
  by_cases h : t.val / 3 = 7
  · rw [if_pos ((cond3_iff t).mpr h), ← after_4]
    rw [show (dat W c).leavesExact 4 t = owns (c : Thread nD τ) (st1_4 t) fullShare ((dat W c).after 4 t) from by
      unfold Dat.leavesExact; rw [idle4 t]; simp only [h, decide_true, Bool.not_true]]
  · rw [if_neg (fun e => h ((cond3_iff t).mp e))]
    rw [Dat.leavesExact_idle (dat W c) 4 t (by rw [idle4 t, decide_eq_false h]; rfl) (flush4 t h)]
    iintro H; iexists d; iexact H

theorem lv5 (c : Dev nD) (t : Fin cfg1.N) (d : (cfg1.win 5).block.Idx → Elt F (cfg1.win 5).elt) :
    owns (c : Thread nD τ) (st1_5 t) fullShare (codes W c t) ⊢ (dat W c).leavesExact 5 t := by
  by_cases h : t.val % 3 = 0
  · rw [← after_5, show (dat W c).leavesExact 5 t = owns (c : Thread nD τ) (st1_5 t) fullShare ((dat W c).after 5 t) from by
      unfold Dat.leavesExact; rw [idle5 t]; simp only [h, decide_true, Bool.not_true]]
  · by_cases hf : t.val % 3 = 3 - 1
    · rw [← after_5, show (dat W c).leavesExact 5 t = owns (c : Thread nD τ) (st1_5 t) fullShare ((dat W c).after 5 t) from by
        unfold Dat.leavesExact; rw [idle5 t, flush5 t, decide_eq_true hf]; split <;> rfl]
    · rw [Dat.leavesExact_idle (dat W c) 5 t (by rw [idle5 t, decide_eq_false h]; rfl) (by rw [flush5 t, decide_eq_false hf]), ← before_5 W c t h d]
      iintro H; iexists d; iexact H

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d)))

/-- and what it returns. -/
def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t)

theorem cod_eq (c : Dev nD) (t : Fin cfg1.N) (d) : codStep (grid1.coords t) (iblk W c 1 t) (iblk W c 3 t) ((dat W c).before 5 t d) = codes W c t := by
  unfold codStep
  by_cases h : t.val % 3 = 0
  · rw [if_pos ((cond1_iff t).mpr h)]; unfold codes; rw [base_of_zero t h]
  · rw [if_neg (fun e => h ((cond1_iff t).mp e)), before_5 W c t h d]

set_option maxHeartbeats 1000000 in
/-- One point of the body does what the proof data say. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, lv0, lv1, lv2, lv3]
  rw [show (dat W c).owesAt () t.succ = (dat W c).owesAt () t.castSucc from rfl]
  rw [show (dat W c).Φ t.succ = Phi W c (t.val + 1) from rfl, show (dat W c).Φ t.castSucc = Phi W c t.val from rfl]
  unfold Phi
  iintro ⟨⟨⟨%f, HS0, %hf⟩, Hg⟩, Ho, ⟨%d0, H0⟩, ⟨%d1, H1⟩, ⟨%d2, H2⟩, ⟨%d3, H3⟩, ⟨%d4, H4⟩, ⟨%d5, H5⟩⟩
  iapply (run c (grid1.coords t) _ _ _ _ _ _ _ _ _ _ _ _ _ _ (fun h => by have h1 := (cond2_iff t).mp h.1; have h2 := (cond3_iff t).mp h.2; omega) (iblk W c 0 t) (iblk W c 1 t) (iblk W c 2 t) (iblk W c 3 t) ((dat W c).before 4 t d4) ((dat W c).before 5 t d5) f Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  rw [cod_eq W c t d5, accSlice_eq W c t f hf]
  iintro ⟨H0, H1, H2, H3, H4, H5, HS0⟩
  isplitl [HS0 Hg]
  · isplitl [HS0]
    · iexists _; isplitl [HS0]; · iexact HS0
      ipureintro; exact holds_succ W c t f hf
    iexact Hg
  isplitl [Ho]; · iexact Ho
  isplitl [H0]; · iexact H0
  isplitl [H1]; · iexact H1
  isplitl [H2]; · iexact H2
  isplitl [H3]; · iexact H3
  isplitl [H4]; · iapply (lv4 W c t d4); iexact H4
  iapply (lv5 W c t d5); iexact H5

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- The region is entered with the scratch memory at anything, -/
theorem hin (c : Dev nD) : Pipeline.scopedRest (Ix := Unit) (Name := ℕ) (U := UR sig nD τ) (Lvl := ℕ) (Val := Elt F) spec1 c ⊢ (dat W c).Φ 0 := by
  rw [show (dat W c).Φ 0 = Phi W c 0 from rfl, scopedRest1_split]
  unfold Phi
  iintro ⟨⟨%f, H⟩, Hg⟩
  isplitl [H]
  · iexists f; isplitl [H]
    · rw [owns_whole]; iexact H
    ipureintro; exact holds_zero W c f
  iexact Hg

/-- and left with it at anything. -/
theorem hout (c : Dev nD) : (dat W c).Φ (Fin.last cfg1.N) ⊢ Pipeline.scopedRest (Ix := Unit) (Name := ℕ) (U := UR sig nD τ) (Lvl := ℕ) (Val := Elt F) spec1 c := by
  rw [show (dat W c).Φ (Fin.last cfg1.N) = Phi W c cfg1.N from rfl, scopedRest1_split]
  unfold Phi
  simp only [owns_whole]
  iintro ⟨⟨%f, H, %hf⟩, Hg⟩
  isplitl [H]
  · iexists f; iexact H
  iexact Hg

end Cert.KernelIdeal.Wgrad1

end
-- ==== Proof.KernelIdeal.WgradTwoRun.lean ====
/-
  One grid point of the dW2 call: what `cc2_wgrad2` leaves in its buffers, as functions of what it finds in them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import proofs.«01_k».proof.Proof.WindowFacts

@[expose] public section

set_option maxRecDepth 16384

noncomputable section

namespace Cert.KernelIdeal.Wgrad2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.WindowFacts

variable {F : FTy → Type} [FloatOps F]

local notation "𝕄" => MT nD τ sig Unit (Elt F) ℕ (UR sig nD τ) ℕ

/-- The codes buffer after a point: quantised anew at the first feature block, kept otherwise. -/
def codStep (i : grid2.Coords) (cs : Vec F S1x3072 .f32) (g : Vec F S1024x3072 .bf16) (old : Vec F S1024x3072 .fp8e5m2) : Vec F S1024x3072 .fp8e5m2 :=
  if k2_cond1 i = 1#1 then k2_pay1 g cs else old

/-- The accumulator with the point's slice cleared at the first token block. -/
def accClear (i : grid2.Coords) (a : Vec F S1x1024x3072 .f32) : Vec F S1x1024x3072 .f32 :=
  if k2_cond2 i = 1#1 then VecWindow.put a (k2_off2 i) S1x1024x3072.size (k2_pay2 (F := F)) else a

/-- The accumulator slice the point adds: the slice found plus the block's product. -/
def accSlice (i : grid2.Coords) (x : Vec F S1024x1024 .fp8e4m3) (cod : Vec F S1024x3072 .fp8e5m2) (a : Vec F S1x1024x3072 .f32) : Vec F S1x1024x3072 .f32 :=
  k2_pay3 (VecWindow.window (accClear i a) (k2_off2 i) S1x1024x3072.size (k2_off2_inb i)) x cod

/-- The accumulator after a point. -/
def accStep (i : grid2.Coords) (x : Vec F S1024x1024 .fp8e4m3) (cod : Vec F S1024x3072 .fp8e5m2) (a : Vec F S1x1024x3072 .f32) : Vec F S1x1024x3072 .f32 :=
  VecWindow.put (accClear i a) (k2_off2 i) S1x1024x3072.size (accSlice i x cod a)

/-- The result block after a point: the scaled slice at the last token block, kept otherwise. -/
def dwStep (i : grid2.Coords) (xs : Vec F S1x1024 .f32) (cs : Vec F S1x3072 .f32) (sl : Vec F S1x1024x3072 .f32) (old : Vec F S1024x3072 .bf16) : Vec F S1024x3072 .bf16 :=
  if k2_cond3 i = 1#1 then k2_pay4 xs sl cs else old

section Cases
set_option maxHeartbeats 2000000
variable (c : Dev nD) (i : grid2.Coords) (arg2 : Memref sig .tc .vmem S1x1024 .f32) (harg2 : arg2.IsWhole) (arg3 : Memref sig .tc .vmem S1x3072 .f32) (harg3 : arg3.IsWhole) (arg4 : Memref sig .tc .vmem S1024x1024 .fp8e4m3) (harg4 : arg4.IsWhole) (arg5 : Memref sig .tc .vmem S1024x3072 .bf16) (harg5 : arg5.IsWhole) (arg6 : Memref sig .tc .vmem S1024x3072 .bf16) (harg6 : arg6.IsWhole) (arg7 : Memref sig .tc .vmem S1024x3072 .fp8e5m2) (harg7 : arg7.IsWhole) (arg8 : Memref sig .tc .vmem S1x1024x3072 .f32) (harg8 : arg8.IsWhole) (x0 : Vec F S1x1024 .f32) (x1 : Vec F S1x3072 .f32) (x2 : Vec F S1024x1024 .fp8e4m3) (x3 : Vec F S1024x3072 .bf16) (x4 : Vec F S1024x3072 .bf16) (x5 : Vec F S1024x3072 .fp8e5m2) (a : Vec F S1x1024x3072 .f32) (E : Set ℕ)

/-- What one point does: the inputs are left as found; the codes, the accumulator and the result block step. -/
def Steps (K : PUnit → sProp 𝕄) : Prop :=
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc2_wgrad2 i arg2 harg2 arg3 harg3 arg4 harg4 arg5 harg5 arg6 harg6 arg7 harg7 arg8 harg8) K

theorem run_A (K : PUnit → sProp 𝕄) (hc0 : k2_cond1 i = 1#1) (hc1 : k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_pos hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k2_pay1 ((View.readAt_full _ _ _).trans (harg5.read_unread _))) ((View.readAt_full _ _ _).trans (harg3.read_unread _)))
  iexists _; isplitr; swap; · iexact HS0
  ipureintro
  exact (View.read_writes_cons_put _ _ _ _ _ (rfl : k2_off2 i = k2_off2 i)).trans (put_congr ((View.read_writes_cons_put _ _ _ _ _ (rfl : k2_off1 i = k2_off2 i)).trans (put_congr (harg8.read_unread _) _ _ rfl)) _ _ (congr (congr (congrArg k2_pay3 (readCov_head _ _ _ rfl _ _)) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))

theorem run_B (K : PUnit → sProp 𝕄) (hc0 : k2_cond1 i = 1#1) (hc1 : ¬k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact (View.read_writes_full _ _ _ _ _).trans (congr (congrArg k2_pay1 ((View.readAt_full _ _ _).trans (harg5.read_unread _))) ((View.readAt_full _ _ _).trans (harg3.read_unread _)))
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))

theorem run_C (K : PUnit → sProp 𝕄) (hc0 : k2_cond1 i = 1#1) (hc1 : ¬k2_cond2 i = 1#1) (hc2 : k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_pos hc0, if_neg hc1, if_pos hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k2_pay4 ((View.readAt_full _ _ _).trans (harg2.read_unread _))) ((readCov_head _ _ _ rfl _ _).trans (congr (congr (congrArg k2_pay3 ((View.readAt_unit _ _ _ rfl (k2_off2_inb i)).trans (window_congr (harg8.read_unread _) _ _ _))) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))) ((View.readAt_full _ _ _).trans (harg3.read_unread _)))
  isplitl [H5]
  · iexists _; isplitr; swap; · iexact H5
    ipureintro
    exact (View.read_writes_full _ _ _ _ _).trans (congr (congrArg k2_pay1 ((View.readAt_full _ _ _).trans (harg5.read_unread _))) ((View.readAt_full _ _ _).trans (harg3.read_unread _)))
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readCov_full _ _ _ _ _).trans (congr (congrArg k2_pay1 ((View.readAt_full _ _ _).trans (harg5.read_unread _))) ((View.readAt_full _ _ _).trans (harg3.read_unread _))))))

theorem run_D (K : PUnit → sProp 𝕄) (hc0 : ¬k2_cond1 i = 1#1) (hc1 : k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_pos hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k2_off2 i = k2_off2 i)).trans (put_congr ((View.read_writes_cons_put _ _ _ _ _ (rfl : k2_off1 i = k2_off2 i)).trans (put_congr (harg8.read_unread _) _ _ rfl)) _ _ (congr (congr (congrArg k2_pay3 (readCov_head _ _ _ rfl _ _)) ((View.readAt_full _ _ _).trans (harg4.read_unread _))) ((View.readAt_full _ _ _).trans (harg7.read_unread _))))

theorem run_E (K : PUnit → sProp 𝕄) (hc0 : ¬k2_cond1 i = 1#1) (hc1 : ¬k2_cond2 i = 1#1) (hc2 : ¬k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_neg hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readAt_full _ _ _).trans (harg7.read_unread _))))

theorem run_G (K : PUnit → sProp 𝕄) (hc0 : ¬k2_cond1 i = 1#1) (hc1 : ¬k2_cond2 i = 1#1) (hc2 : k2_cond3 i = 1#1) : Steps c i arg2 harg2 arg3 harg3 arg4 harg4 arg5 harg5 arg6 harg6 arg7 harg7 arg8 harg8 x0 x1 x2 x3 x4 x5 a E K := by
  unfold Steps
  simp only [dwStep, accStep, accSlice, accClear, codStep, if_neg hc0, if_neg hc1, if_pos hc2, VecWindow.window_put_same]
  simp only [cc2_wgrad2_eq_skeleton]; unfold cc2_wgrad2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congr (congr (congrArg k2_pay4 ((View.readAt_full _ _ _).trans (harg2.read_unread _))) ((readCov_head _ _ _ rfl _ _).trans (congr (congr (congrArg k2_pay3 ((View.readAt_unit _ _ _ rfl (k2_off2_inb i)).trans (window_congr (harg8.read_unread _) _ _ _))) ((View.readAt_full _ _ _).trans (harg4.read_unread _))) ((View.readAt_full _ _ _).trans (harg7.read_unread _))))) ((View.readAt_full _ _ _).trans (harg3.read_unread _)))
  isplitl [H5]
  · iexists _; isplitr; swap; · iexact H5
    ipureintro
    exact harg7.read_unread _
  iexists _; isplitr; swap; · iexact HS0
  ipureintro
  exact (View.read_writes_cons_put _ _ _ _ _ (rfl : k2_off2 i = k2_off2 i)).trans (put_congr (harg8.read_unread _) _ _ (congr (congr (congrArg k2_pay3 ((View.readAt_unit _ _ _ rfl (k2_off2_inb i)).trans (window_congr (harg8.read_unread _) _ _ _))) ((View.readAt_full _ _ _).trans (harg4.read_unread _))) ((View.readAt_full _ _ _).trans (harg7.read_unread _))))

end Cases

/-- One point: the inputs are left as found; the codes, the accumulator and the result block step. -/
theorem run (c : Dev nD) (i : grid2.Coords) (arg2 : Memref sig .tc .vmem S1x1024 .f32) (harg2 : arg2.IsWhole) (arg3 : Memref sig .tc .vmem S1x3072 .f32) (harg3 : arg3.IsWhole) (arg4 : Memref sig .tc .vmem S1024x1024 .fp8e4m3) (harg4 : arg4.IsWhole) (arg5 : Memref sig .tc .vmem S1024x3072 .bf16) (harg5 : arg5.IsWhole) (arg6 : Memref sig .tc .vmem S1024x3072 .bf16) (harg6 : arg6.IsWhole) (arg7 : Memref sig .tc .vmem S1024x3072 .fp8e5m2) (harg7 : arg7.IsWhole) (arg8 : Memref sig .tc .vmem S1x1024x3072 .f32) (harg8 : arg8.IsWhole) (hx : ¬(k2_cond2 i = 1#1 ∧ k2_cond3 i = 1#1))
    (x0 : Vec F S1x1024 .f32) (x1 : Vec F S1x3072 .f32) (x2 : Vec F S1024x1024 .fp8e4m3) (x3 : Vec F S1024x3072 .bf16) (x4 : Vec F S1024x3072 .bf16) (x5 : Vec F S1024x3072 .fp8e5m2) (a : Vec F S1x1024x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dwStep i x0 x1 (accSlice i x2 (codStep i x1 x3 x5) a) x4) ∗ owns (c : Thread nD τ) arg7 fullShare (codStep i x1 x3 x5) ∗ owns (c : Thread nD τ) arg8 fullShare (accStep i x2 (codStep i x1 x3 x5) a)) -∗ K ⟨⟩))
      ⊢ wp frame (wpE (defs₀ (F := F)) Variants.none c none) E (cc2_wgrad2 i arg2 harg2 arg3 harg3 arg4 harg4 arg5 harg5 arg6 harg6 arg7 harg7 arg8 harg8) K := by
  by_cases hc0 : k2_cond1 i = 1#1 <;> by_cases hc1 : k2_cond2 i = 1#1 <;> by_cases hc2 : k2_cond3 i = 1#1
  · exact absurd ⟨hc1, hc2⟩ hx
  · exact run_A c i arg2 harg2 arg3 harg3 arg4 harg4 arg5 harg5 arg6 harg6 arg7 harg7 arg8 harg8 x0 x1 x2 x3 x4 x5 a E K hc0 hc1 hc2
  · exact run_C c i arg2 harg2 arg3 harg3 arg4 harg4 arg5 harg5 arg6 harg6 arg7 harg7 arg8 harg8 x0 x1 x2 x3 x4 x5 a E K hc0 hc1 hc2
  · exact run_B c i arg2 harg2 arg3 harg3 arg4 harg4 arg5 harg5 arg6 harg6 arg7 harg7 arg8 harg8 x0 x1 x2 x3 x4 x5 a E K hc0 hc1 hc2
  · exact absurd ⟨hc1, hc2⟩ hx
  · exact run_D c i arg2 harg2 arg3 harg3 arg4 harg4 arg5 harg5 arg6 harg6 arg7 harg7 arg8 harg8 x0 x1 x2 x3 x4 x5 a E K hc0 hc1 hc2
  · exact run_G c i arg2 harg2 arg3 harg3 arg4 harg4 arg5 harg5 arg6 harg6 arg7 harg7 arg8 harg8 x0 x1 x2 x3 x4 x5 a E K hc0 hc1 hc2
  · exact run_E c i arg2 harg2 arg3 harg3 arg4 harg4 arg5 harg5 arg6 harg6 arg7 harg7 arg8 harg8 x0 x1 x2 x3 x4 x5 a E K hc0 hc1 hc2

end Cert.KernelIdeal.Wgrad2

end
-- ==== Proof.KernelIdeal.WgradTwo.lean ====
/-
  The dW2 call as one pipeline region: its proof data (what every staging buffer and the accumulator hold after
  each grid point) and the proof that one point of the body does what the data say.
-/
module

public import proofs.«01_k».proof.Proof.KernelIdeal.WgradTwoRun
public import Idealize.ShloMosaic.Lib.Pipeline.TableIdle
public import Idealize.ShloMosaic.Lib.Pipeline.FrameTail

@[expose] public section

set_option maxRecDepth 16384

noncomputable section

namespace Cert.KernelIdeal.Wgrad2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The point's conditions, in closed form -/

theorem hN (t : Fin cfg2.N) : t.val < 8 := lt_of_lt_of_eq t.isLt (show cfg2.N = 8 from N_2)

theorem cond1_iff : ∀ t : Fin cfg2.N, k2_cond1 (grid2.coords t) = 1#1 ↔ t.val % 1 = 0 := by decide +kernel
theorem cond2_iff : ∀ t : Fin cfg2.N, k2_cond2 (grid2.coords t) = 1#1 ↔ t.val / 1 = 0 := by decide +kernel
theorem cond3_iff : ∀ t : Fin cfg2.N, k2_cond3 (grid2.coords t) = 1#1 ↔ t.val / 1 = 7 := by decide +kernel
theorem off2_eq : ∀ t : Fin cfg2.N, k2_off2 (grid2.coords t) = ![t.val % 1, 0, 0] := by decide +kernel
theorem idle4 : ∀ t : Fin cfg2.N, cfg2.idle 4 (grid2.coords t) = !(decide (t.val / 1 = 7)) := by decide +kernel
theorem idle5 : ∀ t : Fin cfg2.N, cfg2.idle 5 (grid2.coords t) = !(decide (t.val % 1 = 0)) := by decide +kernel
theorem flush4 : ∀ t : Fin cfg2.N, ¬ t.val / 1 = 7 → (cfg2.win 4).flush t = false := by decide +kernel
theorem flush5 : ∀ t : Fin cfg2.N, (cfg2.win 5).flush t = decide (t.val % 1 = 1 - 1) := by decide +kernel

theorem fresh5 : ∀ n, n ≤ cfg2.N → cfg2.fresh 5 n = decide (n % 1 = 0) :=
  cfg2.fresh_tab 5 (fun n => decide (n % 1 = 0)) rfl (fun t => by
    rw [flush5 t, idle5 t]
    have := hN t
    by_cases h : t.val % 1 = 1 - 1
    · have h2 : (t.val + 1) % 1 = 0 := by omega
      simp [h, h2]
    · have h2 : ¬ (t.val + 1) % 1 = 0 := by omega
      by_cases h3 : t.val % 1 = 0 <;> simp [h, h2, h3])

/-! ## What the buffers hold -/

variable (W : Dev nD → Valuation τ sig (Elt F))

/-- Window `w`'s block at point `t` of the array the region finds. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The first point of the token block of point `t`. -/
def base (t : Fin cfg2.N) : Fin cfg2.N := ⟨1 * (t.val / 1), Nat.lt_of_le_of_lt (Nat.mul_div_le _ _) t.isLt⟩

theorem base_of_zero (t : Fin cfg2.N) (h : t.val % 1 = 0) : base t = t := Fin.ext (by show 1 * (t.val / 1) = t.val; omega)

/-- The codes of the token block of point `t`. -/
def codes (c : Dev nD) (t : Fin cfg2.N) : Vec F S1024x3072 .fp8e5m2 :=
  k2_pay1 (iblk W c 3 (base t)) (iblk W c 1 (base t))

/-- The accumulator slice of feature block `m` after token blocks `0 … k`. -/
def acc (c : Dev nD) (m : ℕ) : (k : ℕ) → (1 * k + m < cfg2.N) → Vec F S1x1024x3072 .f32
  | 0, h => k2_pay3 k2_pay2 (iblk W c 2 ⟨1 * 0 + m, h⟩) (codes W c ⟨1 * 0 + m, h⟩)
  | k + 1, h => k2_pay3 (acc c m k (by omega)) (iblk W c 2 ⟨1 * (k + 1) + m, h⟩) (codes W c ⟨1 * (k + 1) + m, h⟩)

theorem accT_lt (t : Fin cfg2.N) : 1 * (t.val / 1) + t.val % 1 < cfg2.N := by
  have := t.isLt; omega

/-- The accumulator slice point `t` leaves. -/
def accT (c : Dev nD) (t : Fin cfg2.N) : Vec F S1x1024x3072 .f32 := acc W c (t.val % 1) (t.val / 1) (accT_lt t)

theorem winb (m : Fin 1) : ∀ a, (![m.val, 0, 0] : Fin 3 → ℕ) a + S1x1024x3072.size a ≤ S1x1024x3072.size a := by
  revert m; decide +kernel

/-- What the accumulator is known to hold before point `n`: every slice its latest sum. -/
def Holds (c : Dev nD) (n : ℕ) (f : Vec F S1x1024x3072 .f32) : Prop :=
  ∀ (m : Fin 1) (k : ℕ) (h : 1 * k + m.val < cfg2.N), 1 * k + m.val < n → n ≤ 1 * (k + 1) + m.val →
    VecWindow.window f (![m.val, 0, 0] : Fin 3 → ℕ) S1x1024x3072.size (winb m) = acc W c m.val k h

theorem holds_zero (c : Dev nD) (f : Vec F S1x1024x3072 .f32) : Holds W c 0 f := fun m k h h1 => absurd h1 (Nat.not_lt_zero _)

theorem window_off {s : Shape} {α : Type} (x : s.Idx → α) {off off' size : Fin s.rank → ℕ} (h : off = off') (inb : ∀ a, off a + size a ≤ s.size a) :
    VecWindow.window x off size inb = VecWindow.window x off' size (h ▸ inb) := by subst h; rfl

theorem accSlice_eq (c : Dev nD) (t : Fin cfg2.N) (f : Vec F S1x1024x3072 .f32) (hf : Holds W c t.val f) :
    accSlice (grid2.coords t) (iblk W c 2 t) (codes W c t) f = accT W c t := by
  have ht := hN t
  have hm : t.val % 1 < 1 := Nat.mod_lt _ (by decide)
  unfold accSlice accClear accT
  by_cases h0 : t.val / 1 = 0
  · rw [if_pos ((cond2_iff t).mpr h0), VecWindow.window_put_same]
    have key : ∀ (k : ℕ) (h : 1 * k + t.val % 1 < cfg2.N), k = 0 → 1 * k + t.val % 1 = t.val →
        acc W c (t.val % 1) k h = k2_pay3 k2_pay2 (iblk W c 2 t) (codes W c t) := by
      intro k h hk he; subst hk
      have e : (⟨1 * 0 + t.val % 1, h⟩ : Fin cfg2.N) = t := Fin.ext he
      rw [acc, e]
    exact (key _ _ h0 (by omega)).symm
  · rw [if_neg (fun h => h0 ((cond2_iff t).mp h))]
    have key : ∀ (k : ℕ) (h : 1 * k + t.val % 1 < cfg2.N) (hk : k ≠ 0), 1 * k + t.val % 1 = t.val →
        acc W c (t.val % 1) k h = k2_pay3 (VecWindow.window f (k2_off2 (grid2.coords t)) S1x1024x3072.size (k2_off2_inb _)) (iblk W c 2 t) (codes W c t) := by
      intro k h hk he
      obtain ⟨k, rfl⟩ := Nat.exists_eq_succ_of_ne_zero hk
      have e : (⟨1 * (k + 1) + t.val % 1, h⟩ : Fin cfg2.N) = t := Fin.ext he
      have hw := hf ⟨t.val % 1, hm⟩ k (by show 1 * k + t.val % 1 < cfg2.N; omega) (by show 1 * k + t.val % 1 < t.val; omega) (by show t.val ≤ 1 * (k + 1) + t.val % 1; omega)
      rw [window_off f (off2_eq t)]
      show acc W c (t.val % 1) (k + 1) h = _
      rw [acc, e]
      exact congrArg (fun z => k2_pay3 z (iblk W c 2 t) (codes W c t)) hw.symm
    exact (key _ _ h0 (by omega)).symm

theorem holds_succ (c : Dev nD) (t : Fin cfg2.N) (f : Vec F S1x1024x3072 .f32) (hf : Holds W c t.val f) :
    Holds W c (t.val + 1) (accStep (grid2.coords t) (iblk W c 2 t) (codes W c t) f) := by
  have ht := hN t
  intro m k h h1 h2
  have hm := m.isLt
  unfold accStep
  by_cases e : m.val = t.val % 1
  · have ho : (![m.val, 0, 0] : Fin 3 → ℕ) = k2_off2 (grid2.coords t) := by rw [off2_eq t, e]
    rw [window_off _ ho, VecWindow.window_put_same, accSlice_eq W c t f hf]
    have key : ∀ (a b : ℕ) (h : 1 * b + a < cfg2.N) (a' b' : ℕ) (h' : 1 * b' + a' < cfg2.N), a = a' → b = b' → acc W c a b h = acc W c a' b' h' := by
      intro a b h a' b' h' e1 e2; subst e1; subst e2; rfl
    exact key _ _ _ _ _ _ e.symm (by omega)
  · have hd : (![m.val, 0, 0] : Fin 3 → ℕ) 0 + S1x1024x3072.size 0 ≤ k2_off2 (grid2.coords t) 0 ∨ k2_off2 (grid2.coords t) 0 + S1x1024x3072.size 0 ≤ (![m.val, 0, 0] : Fin 3 → ℕ) 0 := by
      rw [off2_eq t]
      show m.val + 1 ≤ t.val % 1 ∨ t.val % 1 + 1 ≤ m.val
      omega
    rw [VecWindow.window_put_of_disjoint _ _ _ _ _ _ _ 0 hd]
    have h3 : VecWindow.window (accClear (grid2.coords t) f) (![m.val, 0, 0] : Fin 3 → ℕ) S1x1024x3072.size (winb m) = VecWindow.window f (![m.val, 0, 0] : Fin 3 → ℕ) S1x1024x3072.size (winb m) := by
      unfold accClear
      split
      · exact VecWindow.window_put_of_disjoint _ _ _ _ _ _ _ 0 hd
      · rfl
    rw [h3]
    exact hf m k h (by omega) (by omega)

/-! ## The proof data of the region -/

/-- What the call carries between points beside the windows: the accumulator, every slice at its latest sum, and the
    other scratch memory at anything. -/
def Phi (c : Dev nD) (n : ℕ) : sProp 𝕄 :=
  iprop((∃ f, owns (c : Thread nD τ) (Memref.whole cc2_scratch0) fullShare f ∗ ⌜Holds W c n f⌝)
    ∗ Pipeline.scopedRestBut (Ix := Unit) (Name := ℕ) (U := UR sig nD τ) (Lvl := ℕ) (Val := Elt F) spec2 c [cc2_scratch0])

/-- The proof data: every input block in place, the codes of the point's token block, the result block scaled from the
    accumulated slice. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => iblk W c 3 t
    | ⟨4, _⟩ => k2_pay4 (iblk W c 0 t) (accT W c t) (iblk W c 1 t)
    | ⟨5, _⟩ => codes W c t
  Φ t := Phi W c t.val
  q _ := fullShare
  owed _ := 0

theorem A_eq (c : Dev nD) (w : Fin cfg2.W) : (dat W c).A w = W c (Proc.devRef .tc (Pipeline.arrRef spec2 w)) := by
  dsimp only [dat]

theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = iblk W c 3 t := by dsimp only [dat]
theorem after_4 (c : Dev nD) (t : Fin cfg2.N) : (dat W c).after 4 t = k2_pay4 (iblk W c 0 t) (accT W c t) (iblk W c 1 t) := by dsimp only [dat]
theorem after_5 (c : Dev nD) (t : Fin cfg2.N) : (dat W c).after 5 t = codes W c t := by dsimp only [dat]

theorem before_0 (c : Dev nD) (t : Fin cfg2.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- Within a token block the codes buffer is found as the block's first point left it. -/
theorem before_5 (c : Dev nD) (t : Fin cfg2.N) (h : ¬ t.val % 1 = 0) (d) : (dat W c).before 5 t d = codes W c t := by
  have hc : ∀ (t : Fin cfg2.N) (h : ¬ t.val % 1 = 0), codes W c ⟨t.val - 1, by have := t.isLt; omega⟩ = codes W c t := by
    intro t h
    have e : base ⟨t.val - 1, by have := t.isLt; omega⟩ = base t := Fin.ext (by show 1 * ((t.val - 1) / 1) = 1 * (t.val / 1); omega)
    unfold codes; rw [e]
  rw [Dat.before_out_traj (dat W c) 5 rfl (fun _ _ => rfl) (by
    intro t ht hi hf
    rw [after_5, after_5]
    rw [fresh5 _ (Nat.le_of_lt t.isLt)] at hf
    exact (hc t (by simpa using hf)).symm) t.val t rfl d, fresh5 _ (Nat.le_of_lt t.isLt), if_neg (by simpa using h), after_5]
  exact hc t h

/-! ## One point of the body -/

theorem lv0 (c : Dev nD) (t : Fin cfg2.N) : (dat W c).leavesExact 0 t = owns (c : Thread nD τ) (st2_0 t) fullShare (iblk W c 0 t) := by
  rw [← after_0]
theorem lv1 (c : Dev nD) (t : Fin cfg2.N) : (dat W c).leavesExact 1 t = owns (c : Thread nD τ) (st2_1 t) fullShare (iblk W c 1 t) := by
  rw [← after_1]
theorem lv2 (c : Dev nD) (t : Fin cfg2.N) : (dat W c).leavesExact 2 t = owns (c : Thread nD τ) (st2_2 t) fullShare (iblk W c 2 t) := by
  rw [← after_2]
theorem lv3 (c : Dev nD) (t : Fin cfg2.N) : (dat W c).leavesExact 3 t = owns (c : Thread nD τ) (st2_3 t) fullShare (iblk W c 3 t) := by
  rw [← after_3]

theorem lv4 (c : Dev nD) (t : Fin cfg2.N) (d) :
    owns (c : Thread nD τ) (st2_4 t) fullShare (dwStep (grid2.coords t) (iblk W c 0 t) (iblk W c 1 t) (accT W c t) ((dat W c).before 4 t d)) ⊢ (dat W c).leavesExact 4 t := by
  unfold dwStep
  by_cases h : t.val / 1 = 7
  · rw [if_pos ((cond3_iff t).mpr h), ← after_4]
    rw [show (dat W c).leavesExact 4 t = owns (c : Thread nD τ) (st2_4 t) fullShare ((dat W c).after 4 t) from by
      unfold Dat.leavesExact; rw [idle4 t]; simp only [h, decide_true, Bool.not_true]]
  · rw [if_neg (fun e => h ((cond3_iff t).mp e))]
    rw [Dat.leavesExact_idle (dat W c) 4 t (by rw [idle4 t, decide_eq_false h]; rfl) (flush4 t h)]
    iintro H; iexists d; iexact H

theorem lv5 (c : Dev nD) (t : Fin cfg2.N) (d : (cfg2.win 5).block.Idx → Elt F (cfg2.win 5).elt) :
    owns (c : Thread nD τ) (st2_5 t) fullShare (codes W c t) ⊢ (dat W c).leavesExact 5 t := by
  by_cases h : t.val % 1 = 0
  · rw [← after_5, show (dat W c).leavesExact 5 t = owns (c : Thread nD τ) (st2_5 t) fullShare ((dat W c).after 5 t) from by
      unfold Dat.leavesExact; rw [idle5 t]; simp only [h, decide_true, Bool.not_true]]
  · by_cases hf : t.val % 1 = 1 - 1
    · rw [← after_5, show (dat W c).leavesExact 5 t = owns (c : Thread nD τ) (st2_5 t) fullShare ((dat W c).after 5 t) from by
        unfold Dat.leavesExact; rw [idle5 t, flush5 t, decide_eq_true hf]; split <;> rfl]
    · rw [Dat.leavesExact_idle (dat W c) 5 t (by rw [idle5 t, decide_eq_false h]; rfl) (by rw [flush5 t, decide_eq_false hf]), ← before_5 W c t h d]
      iintro H; iexists d; iexact H

/-- What the body is called with at point `t`, -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d)))

/-- and what it returns. -/
def bodyPost (c : Dev nD) (t : Fin cfg2.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t)

theorem cod_eq (c : Dev nD) (t : Fin cfg2.N) (d) : codStep (grid2.coords t) (iblk W c 1 t) (iblk W c 3 t) ((dat W c).before 5 t d) = codes W c t := by
  unfold codStep
  by_cases h : t.val % 1 = 0
  · rw [if_pos ((cond1_iff t).mpr h)]; unfold codes; rw [base_of_zero t h]
  · rw [if_neg (fun e => h ((cond1_iff t).mp e)), before_5 W c t h d]

set_option maxHeartbeats 1000000 in
/-- One point of the body does what the proof data say. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3, lv0, lv1, lv2, lv3]
  rw [show (dat W c).owesAt () t.succ = (dat W c).owesAt () t.castSucc from rfl]
  rw [show (dat W c).Φ t.succ = Phi W c (t.val + 1) from rfl, show (dat W c).Φ t.castSucc = Phi W c t.val from rfl]
  unfold Phi
  iintro ⟨⟨⟨%f, HS0, %hf⟩, Hg⟩, Ho, ⟨%d0, H0⟩, ⟨%d1, H1⟩, ⟨%d2, H2⟩, ⟨%d3, H3⟩, ⟨%d4, H4⟩, ⟨%d5, H5⟩⟩
  iapply (run c (grid2.coords t) _ _ _ _ _ _ _ _ _ _ _ _ _ _ (fun h => by have h1 := (cond2_iff t).mp h.1; have h2 := (cond3_iff t).mp h.2; omega) (iblk W c 0 t) (iblk W c 1 t) (iblk W c 2 t) (iblk W c 3 t) ((dat W c).before 4 t d4) ((dat W c).before 5 t d5) f Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  rw [cod_eq W c t d5, accSlice_eq W c t f hf]
  iintro ⟨H0, H1, H2, H3, H4, H5, HS0⟩
  isplitl [HS0 Hg]
  · isplitl [HS0]
    · iexists _; isplitl [HS0]; · iexact HS0
      ipureintro; exact holds_succ W c t f hf
    iexact Hg
  isplitl [Ho]; · iexact Ho
  isplitl [H0]; · iexact H0
  isplitl [H1]; · iexact H1
  isplitl [H2]; · iexact H2
  isplitl [H3]; · iexact H3
  isplitl [H4]; · iapply (lv4 W c t d4); iexact H4
  iapply (lv5 W c t d5); iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The body obligation, at every point. -/
theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

/-- The region is entered with the scratch memory at anything, -/
theorem hin (c : Dev nD) : Pipeline.scopedRest (Ix := Unit) (Name := ℕ) (U := UR sig nD τ) (Lvl := ℕ) (Val := Elt F) spec2 c ⊢ (dat W c).Φ 0 := by
  rw [show (dat W c).Φ 0 = Phi W c 0 from rfl, scopedRest2_split]
  unfold Phi
  iintro ⟨⟨%f, H⟩, Hg⟩
  isplitl [H]
  · iexists f; isplitl [H]
    · rw [owns_whole]; iexact H
    ipureintro; exact holds_zero W c f
  iexact Hg

/-- and left with it at anything. -/
theorem hout (c : Dev nD) : (dat W c).Φ (Fin.last cfg2.N) ⊢ Pipeline.scopedRest (Ix := Unit) (Name := ℕ) (U := UR sig nD τ) (Lvl := ℕ) (Val := Elt F) spec2 c := by
  rw [show (dat W c).Φ (Fin.last cfg2.N) = Phi W c cfg2.N from rfl, scopedRest2_split]
  unfold Phi
  simp only [owns_whole]
  iintro ⟨⟨%f, H, %hf⟩, Hg⟩
  isplitl [H]
  · iexists f; iexact H
  iexact Hg

end Cert.KernelIdeal.Wgrad2

end
-- ==== Proof.KernelIdeal.Run.lean ====
/-
  The whole program as one run: the host stretches and the three calls chained, every unscoped buffer of a core named
  at the end; from it, that the arguments end as launched.
-/
module

public import proofs.«01_k».proof.Proof.RegionRel
public import proofs.«01_k».proof.Proof.KernelIdeal.Rows
public import proofs.«01_k».proof.Proof.KernelIdeal.WgradOne
public import proofs.«01_k».proof.Proof.KernelIdeal.WgradTwo
public import proofs.«01_k».proof.Proof.Gen.KernelIdeal.Regions

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- A core's buffers at launch, -/
def W0 (c : Dev nD) : Valuation τ sig (Elt F) := fun b => m (c, b)
/-- after the first host stretch, -/
def W1 (c : Dev nD) : Valuation τ sig (Elt F) := StableHlo.after hostOps0 (W0 m c)
/-- after the rows call, -/
def W2 (c : Dev nD) : Valuation τ sig (Elt F) := afterRegion (Rows.dat (W1 m) c) (W1 m c)
/-- after the second host stretch, -/
def W3 (c : Dev nD) : Valuation τ sig (Elt F) := StableHlo.after hostOps1 (W2 m c)
/-- after the dW1 call, -/
def W4 (c : Dev nD) : Valuation τ sig (Elt F) := afterRegion (Wgrad1.dat (W3 m) c) (W3 m c)
/-- after the third host stretch, -/
def W5 (c : Dev nD) : Valuation τ sig (Elt F) := StableHlo.after hostOps2 (W4 m c)
/-- after the dW2 call, -/
def W6 (c : Dev nD) : Valuation τ sig (Elt F) := afterRegion (Wgrad2.dat (W5 m) c) (W5 m c)
/-- and at the end. -/
def W7 (c : Dev nD) : Valuation τ sig (Elt F) := StableHlo.after hostOps3 (W6 m c)

/-- The three regions' proof data. -/
def rdats : (p : Fin 3) → (c : Dev nD) → RDat τ (Elt F) Unit ℕ (UR sig nD τ) ℕ (pin (pcfgs (F := F)) adm p) c
  | 0 => fun c => Rows.rdat (W1 m) c
  | 1 => fun c => (Wgrad1.dat (W3 m) c).toR
  | 2 => fun c => (Wgrad2.dat (W5 m) c).toR
  | ⟨_ + 3, h⟩ => absurd h (by omega)

/-- No level is used: no core owes anything. -/
def lev : GSem nD τ sig → Finset Unit := fun _ => ∅

theorem sub_uc0 : arrRefs (τ := τ) (pcfgs (F := F) 0).spec ⊆ ucRefs τ sig := arrRefs_sub_ucRefs _ launch0.win.arr_unscoped
theorem sub_uc1 : arrRefs (τ := τ) (pcfgs (F := F) 1).spec ⊆ ucRefs τ sig := arrRefs_sub_ucRefs _ launch1.win.arr_unscoped
theorem sub_uc2 : arrRefs (τ := τ) (pcfgs (F := F) 2).spec ⊆ ucRefs τ sig := arrRefs_sub_ucRefs _ launch2.win.arr_unscoped

/-- The rows call as a segment. -/
def reg0 : RDat.RegionSeg (pcfgs (F := F)) adm (rdats m) () defs₀ Variants.none lev (fun _ _ => 0) 0 :=
  RegionRel.seg (pcfgs (F := F)) adm (rdats m) defs₀ Variants.none lev (fun _ _ => 0) 0 (ucRefs τ sig) sub_uc0 launch0.toP rfl
    (fun c => Rows.body_obligation (W1 m) c) (fun _ _ => rfl) (fun _ => rfl)
    (fun c w => by show (Rows.rdat (W1 m) c).share w = fullShare; unfold RDat.share; split <;> rfl)
    (fun c => Rows.hin (W1 m) c) (fun c => Rows.hout (W1 m) c) (W1 m) (W2 m)
    (fun c w => Rows.A_eq (W1 m) c w)
    (fun c w G h => (Rows.arrAt_eq (W1 m) c w G h).trans (afterRegion_arr (Rows.dat (W1 m) c) (W1 m c) launch0.win.arr_inj w).symm)
    (fun c => afterRegion_off (Rows.dat (W1 m) c) (W1 m c) (ucRefs τ sig))

/-- The dW1 call as a segment. -/
def reg1 : RDat.RegionSeg (pcfgs (F := F)) adm (rdats m) () defs₀ Variants.none lev (fun _ _ => 0) 1 :=
  RegionRel.seg (pcfgs (F := F)) adm (rdats m) defs₀ Variants.none lev (fun _ _ => 0) 1 (ucRefs τ sig) sub_uc1 launch1.toP rfl
    (fun c => (Wgrad1.body_obligation (W3 m) c).loose.toR) (fun _ _ => rfl) (fun _ => rfl)
    (fun c w => by show (Wgrad1.dat (W3 m) c).share w = fullShare; unfold Dat.share; split <;> rfl)
    (fun c => Wgrad1.hin (W3 m) c) (fun c => Wgrad1.hout (W3 m) c) (W3 m) (W4 m)
    (fun c w => Wgrad1.A_eq (W3 m) c w)
    (fun c w G h => ((Wgrad1.dat (W3 m) c).toR_arrAt w _ G h).trans (afterRegion_arr (Wgrad1.dat (W3 m) c) (W3 m c) launch1.win.arr_inj w).symm)
    (fun c => afterRegion_off (Wgrad1.dat (W3 m) c) (W3 m c) (ucRefs τ sig))

/-- The dW2 call as a segment. -/
def reg2 : RDat.RegionSeg (pcfgs (F := F)) adm (rdats m) () defs₀ Variants.none lev (fun _ _ => 0) 2 :=
  RegionRel.seg (pcfgs (F := F)) adm (rdats m) defs₀ Variants.none lev (fun _ _ => 0) 2 (ucRefs τ sig) sub_uc2 launch2.toP rfl
    (fun c => (Wgrad2.body_obligation (W5 m) c).loose.toR) (fun _ _ => rfl) (fun _ => rfl)
    (fun c w => by show (Wgrad2.dat (W5 m) c).share w = fullShare; unfold Dat.share; split <;> rfl)
    (fun c => Wgrad2.hin (W5 m) c) (fun c => Wgrad2.hout (W5 m) c) (W5 m) (W6 m)
    (fun c w => Wgrad2.A_eq (W5 m) c w)
    (fun c w G h => ((Wgrad2.dat (W5 m) c).toR_arrAt w _ G h).trans (afterRegion_arr (Wgrad2.dat (W5 m) c) (W5 m c) launch2.win.arr_inj w).symm)
    (fun c => afterRegion_off (Wgrad2.dat (W5 m) c) (W5 m c) (ucRefs τ sig))

/-- What rides beside the buffers: the core owes nothing. -/
def rest (c : Dev nD) : sProp 𝕄 := iprop(∃ Wd, owes (c : Thread nD τ) (0 : CellTallies nD τ sig Unit) Wd)

/-- A host stretch as a segment. -/
def host0 : HostSeg (Ix := Unit) (Name := ℕ) (U := UR sig nD τ) (Lvl := ℕ) (pcfgs (F := F)) defs₀ Variants.none lev (fun _ _ => 0) :=
  HostSeg.ofOps _ _ _ _ _ (ucRefs τ sig) hostOps0
    (fun op h => sub_ucRefs op ((List.forall_iff_forall_mem.mp hostOps0_sub) op h))
    (fun op h => (List.forall_iff_forall_mem.mp hostOps0_fresh) op h) (W0 m) rest
/-- A host stretch as a segment. -/
def host1 : HostSeg (Ix := Unit) (Name := ℕ) (U := UR sig nD τ) (Lvl := ℕ) (pcfgs (F := F)) defs₀ Variants.none lev (fun _ _ => 0) :=
  HostSeg.ofOps _ _ _ _ _ (ucRefs τ sig) hostOps1
    (fun op h => sub_ucRefs op ((List.forall_iff_forall_mem.mp hostOps1_sub) op h))
    (fun op h => (List.forall_iff_forall_mem.mp hostOps1_fresh) op h) (W2 m) rest
/-- A host stretch as a segment. -/
def host2 : HostSeg (Ix := Unit) (Name := ℕ) (U := UR sig nD τ) (Lvl := ℕ) (pcfgs (F := F)) defs₀ Variants.none lev (fun _ _ => 0) :=
  HostSeg.ofOps _ _ _ _ _ (ucRefs τ sig) hostOps2
    (fun op h => sub_ucRefs op ((List.forall_iff_forall_mem.mp hostOps2_sub) op h))
    (fun op h => (List.forall_iff_forall_mem.mp hostOps2_fresh) op h) (W4 m) rest
/-- A host stretch as a segment. -/
def host3 : HostSeg (Ix := Unit) (Name := ℕ) (U := UR sig nD τ) (Lvl := ℕ) (pcfgs (F := F)) defs₀ Variants.none lev (fun _ _ => 0) :=
  HostSeg.ofOps _ _ _ _ _ (ucRefs τ sig) hostOps3
    (fun op h => sub_ucRefs op ((List.forall_iff_forall_mem.mp hostOps3_sub) op h))
    (fun op h => (List.forall_iff_forall_mem.mp hostOps3_fresh) op h) (W6 m) rest

/-- @main as its segments. -/
def segs : List (RDat.Seg (pcfgs (F := F)) adm (rdats m) () defs₀ Variants.none lev (fun _ _ => 0)) :=
  [.host (host0 m), .region (reg0 m), .host (host1 m), .region (reg1 m), .host (host2 m), .region (reg2 m), .host (host3 m)]

set_option backward.isDefEq.respectTransparency.types false in
/-- The run: every unscoped buffer ends at `W7`, every semaphore at zero. -/
theorem run_main (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W7 m c (Proc.devRef .tc b))
        ∧ r.2.sem = fun _ => 0) := by
  refine RDat.θ_run_regions_kit_sems (pcfgs (F := F)) adm (rdats m) () (launch0.toP.cellOf_inj adm) emb₁ defs₀ Variants.none lev (fun _ _ => 0) m ρ main
    (segs m)
    (fun c Q => by
      rewrite [main_chain c, RDat.Seg.run_eq_chain,
        show (segs m).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, RDat.Seg.pipes_host, RDat.Seg.pipes_region, RDat.Seg.pipes_nil]; decide)
    (O₀ := 0) (hL := fun _ _ => rfl)
    (G := fun _ => iprop(emp)) (u₀ := initOf (cells (pin (pcfgs (F := F)) adm) (launch0.toP.cellOf_inj adm)) (launchToks (pin (pcfgs (F := F)) adm) (launch0.toP.cellOf_inj adm)))
    (hu₀ := by
      iintro Hu; imodintro
      isplitl [Hu]
      · iapply (show (ownU _ : sProp 𝕄) ⊢ BI.own (emb₁ (initOf (cells (pin (pcfgs (F := F)) adm) (launch0.toP.cellOf_inj adm)) (launchToks (pin (pcfgs (F := F)) adm) (launch0.toP.cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (W0 m c) ∗ rest c))
    (Tₙ := fun c => StableHlo.held (c.tc : Thread nD τ) (ucRefs τ sig) (W7 m c))
    (hch := ⟨fun _ => .rfl, fun _ => .rfl, fun _ => .rfl, fun _ => .rfl, fun _ => .rfl, fun _ => .rfl, fun _ => .rfl, fun _ => .rfl⟩)
    (hinit := by
      refine initEach lev (fun _ _ => 0) fun c => ?_
      rw [show unscopedBufs c (fun b => m ((c.tc : Thread nD τ).loc b)) = StableHlo.held (c.tc : Thread nD τ) (ucRefs τ sig) (W0 m c)
          from unscopedBufs_held (Ix := Unit) (Name := ℕ) (U := UR sig nD τ) (Lvl := ℕ) c (W0 m c)]
      iintro ⟨⟨Hh, -, HO, -⟩, -⟩
      imodintro
      isplitl [Hh]; · iexact Hh
      unfold rest
      iexists _; iexact HO)
    (QY := fun c s => ∀ b ∈ ucRefs τ sig, s.mem ((c.tc : Thread nD τ).1, b) = W7 m c b)
    (hfin := fun c s' => by
      unfold StableHlo.held
      iintro ⟨Hh, HSI⟩
      ihave Hr := (pointsTo_read_all (ucRefs τ sig) (fun b => ((c.tc : Thread nD τ).1, b)) (W7 m c) s') $$ [Hh HSI]
      · isplitl [Hh] <;> iassumption
      imodintro; iexact Hr)
    (hQ := fun _ h hz => ⟨fun c b hb => h c (Proc.devRef .tc b) (devRef_mem_ucRefs hb), funext fun g => hz g (.inr (regions_no_unscoped g.2))⟩)

/-! ## No item writes an argument -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, arrRef spec0 w = r → (cfg0.win w).isOut = false) : W2 m c r = W1 m c r :=
  afterRegion_keeps (Rows.dat (W1 m) c) (W1 m c) launch0.win.arr_inj (fun w => Rows.datA_eq (W1 m) c w) r h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : ∀ w, arrRef spec1 w = r → (cfg1.win w).isOut = false) : W4 m c r = W3 m c r :=
  afterRegion_keeps (Wgrad1.dat (W3 m) c) (W3 m c) launch1.win.arr_inj (fun w => Wgrad1.A_eq (W3 m) c w) r h
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : ∀ w, arrRef spec2 w = r → (cfg2.win w).isOut = false) : W6 m c r = W5 m c r :=
  afterRegion_keeps (Wgrad2.dat (W5 m) c) (W5 m c) launch2.win.arr_inj (fun w => Wgrad2.A_eq (W5 m) c w) r h
theorem W7_of (c : Dev nD) (r : Ref sig .tc) (h : r ∉ hostOps3_W) : W7 m c r = W6 m c r :=
  StableHlo.after_of_writes_sub hostOps3 _ hostOps3_writes h

/-- `main_arg0` ends as launched. -/
theorem W7_arg0 (c : Dev nD) : W7 m c main_arg0 = m ((c : Thread nD τ).loc main_arg0) :=
  (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
/-- `main_arg1` ends as launched. -/
theorem W7_arg1 (c : Dev nD) : W7 m c main_arg1 = m ((c : Thread nD τ).loc main_arg1) :=
  (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
/-- `main_arg2` ends as launched. -/
theorem W7_arg2 (c : Dev nD) : W7 m c main_arg2 = m ((c : Thread nD τ).loc main_arg2) :=
  (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl
/-- `main_arg3` ends as launched. -/
theorem W7_arg3 (c : Dev nD) : W7 m c main_arg3 = m ((c : Thread nD τ).loc main_arg3) :=
  (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans rfl
/-- `main_arg4` ends as launched. -/
theorem W7_arg4 (c : Dev nD) : W7 m c main_arg4 = m ((c : Thread nD τ).loc main_arg4) :=
  (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans rfl
/-- `main_arg5` ends as launched. -/
theorem W7_arg5 (c : Dev nD) : W7 m c main_arg5 = m ((c : Thread nD τ).loc main_arg5) :=
  (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans rfl
/-- `main_arg6` ends as launched. -/
theorem W7_arg6 (c : Dev nD) : W7 m c main_arg6 = m ((c : Thread nD τ).loc main_arg6) :=
  (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans rfl
/-- `main_arg7` ends as launched. -/
theorem W7_arg7 (c : Dev nD) : W7 m c main_arg7 = m ((c : Thread nD τ).loc main_arg7) :=
  (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans rfl
/-- `main_arg8` ends as launched. -/
theorem W7_arg8 (c : Dev nD) : W7 m c main_arg8 = m ((c : Thread nD τ).loc main_arg8) :=
  (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans rfl
/-- `main_arg9` ends as launched. -/
theorem W7_arg9 (c : Dev nD) : W7 m c main_arg9 = m ((c : Thread nD τ).loc main_arg9) :=
  (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans rfl

/-- The frame: every run ends with the arguments as launched and every semaphore at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs (onTc (τ := τ) (main (F := F))) ⟨m, fun _ => 0, ρ⟩).mono
    (fun r h => ⟨fun c => ⟨(h.1 c main_arg0 rfl).trans (W7_arg0 m c), (h.1 c main_arg1 rfl).trans (W7_arg1 m c), (h.1 c main_arg2 rfl).trans (W7_arg2 m c), (h.1 c main_arg3 rfl).trans (W7_arg3 m c), (h.1 c main_arg4 rfl).trans (W7_arg4 m c), (h.1 c main_arg5 rfl).trans (W7_arg5 m c), (h.1 c main_arg6 rfl).trans (W7_arg6 m c), (h.1 c main_arg7 rfl).trans (W7_arg7 m c), (h.1 c main_arg8 rfl).trans (W7_arg8 m c), (h.1 c main_arg9 rfl).trans (W7_arg9 m c)⟩, h.2⟩) (run_main m ρ)

end Cert.KernelIdeal.Run

end
-- ==== Proof.Values.Quant.lean ====
/-
  The power-of-two scale of a quantiser over the extended reals: the kernel's integer search for
  the exponent finds the scale that the reference states by a logarithm and a floor.
-/
module

public import Idealize.ShloMosaic.Lib.Pointwise

@[expose] public section

set_option maxRecDepth 16384

noncomputable section

namespace Cert.Values

open Idealize.ShloMosaic

/-- The absolute value over the extended reals. -/
def ab (x : EReal) : EReal := max x (-x)

/-- The factor by which a maximum is scaled before its exponent is taken. -/
def cQ : EReal := Ideal.ofBits .f32 0x37924925#32

/-- The exponent of a scale as the reference states it, of a scaled maximum `x`. -/
def expo (x : EReal) : EReal :=
  if x < Ideal.ofBits .f32 0x00800000#32 then 0
  else min (Ideal.liftRound Int.floor (Ideal.div (Ideal.log x) (Ideal.log (Ideal.ofBits .f32 0x40000000#32))) + 1)
    (Ideal.ofBits .f32 0x42E20000#32)

/-- The scale of a row or column whose absolute maximum is `a`. -/
def scale (a : EReal) : EReal := Ideal.exp2 (expo (a * cQ))

/-- The inverse of that scale. -/
def inv (a : EReal) : EReal := Ideal.exp2 (0 - expo (a * cQ))

/-- A value brought into the range of the format. -/
def clip (x : EReal) : EReal := min (Ideal.ofBits .f32 0x47600000#32) (max (Ideal.ofBits .f32 0xC7600000#32) x)

/-- The kernel's biased exponent: the greatest `k` below 240 whose power of two is at most `x`. -/
def kBias (x : EReal) : BitVec 32 :=
  Finset.fold IntOp.maxsi 2147483648#32
    (fun k : Fin 240 => if Ideal.ofBits .f32 (IntOp.shli ArithUnit.vector (BitVec.ofNat 32 k) 23#32) ≤ x then BitVec.ofNat 32 k else 0#32)
    Finset.univ

/-- The kernel's exponent. -/
def kExpo (x : EReal) : BitVec 32 :=
  Scalar.select (IntOp.cmpi .eq (kBias x) 0#32) 0#32 (IntOp.subi (kBias x) 126#32)

/-- The kernel's scale of a row or column whose absolute maximum is `a`. -/
def kScale (a : EReal) : EReal :=
  Ideal.ofBits .f32 (IntOp.shli ArithUnit.vector (IntOp.addi (kExpo (a * cQ)) 127#32) 23#32)

/-- The kernel's inverse of that scale. -/
def kInv (a : EReal) : EReal :=
  Ideal.ofBits .f32 (IntOp.shli ArithUnit.vector (IntOp.subi 127#32 (kExpo (a * cQ))) 23#32)

/-! ### Bit patterns -/

theorem shl_fields : ∀ k : Fin 255,
    ((IntOp.shli ArithUnit.vector (BitVec.ofNat 32 k) 23#32).extractLsb' 31 1 == 1#1) = false ∧
    ((IntOp.shli ArithUnit.vector (BitVec.ofNat 32 k) 23#32).extractLsb' 23 8).toNat = k ∧
    ((IntOp.shli ArithUnit.vector (BitVec.ofNat 32 k) 23#32).extractLsb' 0 23).toNat = 0 := by
  decide

/-- The word `k` shifted to the exponent field is the power of two `2 ^ (k - 127)`, and zero at `k = 0`. -/
theorem ofBits_shl (k : ℕ) (hk : k < 255) :
    Ideal.ofBits .f32 (IntOp.shli ArithUnit.vector (BitVec.ofNat 32 k) 23#32)
      = if k = 0 then (0 : EReal) else (((2 : ℝ) ^ ((k : ℤ) - 127) : ℝ) : EReal) := by
  obtain ⟨h1, h2, h3⟩ := shl_fields ⟨k, hk⟩
  simp only at h1 h2 h3
  unfold Ideal.ofBits Ideal.ieee
  simp only [h1, h2, h3]
  have hne : ¬ k = 2 ^ 8 - 1 := by omega
  simp only [if_neg hne]
  by_cases h0 : k = 0
  · simp [h0]
  · simp only [if_neg h0]
    refine congrArg (fun z : ℝ => (z : EReal)) ?_
    have : ((k : ℤ) - (2 ^ (8 - 1) - 1) - (23 : ℕ)) = ((k : ℤ) - 127) + (-23) := by norm_num; ring
    rw [this, zpow_add₀ (by norm_num)]
    generalize (2 : ℝ) ^ ((k : ℤ) - 127) = p
    norm_num
    ring

theorem ofBits_min : Ideal.ofBits .f32 0x00800000#32 = (((2 : ℝ) ^ (-126 : ℤ) : ℝ) : EReal) := by
  have e : IntOp.shli ArithUnit.vector (BitVec.ofNat 32 1) 23#32 = 0x00800000#32 := by decide
  rw [← e, ofBits_shl 1 (by norm_num)]
  norm_num

theorem ofBits_two : Ideal.ofBits .f32 0x40000000#32 = ((2 : ℝ) : EReal) := by
  have e : IntOp.shli ArithUnit.vector (BitVec.ofNat 32 128) 23#32 = 0x40000000#32 := by decide
  rw [← e, ofBits_shl 128 (by norm_num)]
  norm_num

theorem ofBits_one : Ideal.ofBits .f32 0x3F800000#32 = 1 := by
  have e : IntOp.shli ArithUnit.vector (BitVec.ofNat 32 127) 23#32 = 0x3F800000#32 := by decide
  rw [← e, ofBits_shl 127 (by norm_num)]
  norm_num

theorem ofBits_zero : Ideal.ofBits .f32 0x00000000#32 = 0 := by
  have e : IntOp.shli ArithUnit.vector (BitVec.ofNat 32 0) 23#32 = 0x00000000#32 := by decide
  rw [← e, ofBits_shl 0 (by norm_num)]
  norm_num

theorem ofBits_top : Ideal.ofBits .f32 0x42E20000#32 = ((113 : ℝ) : EReal) := by
  have h1 : ((0x42E20000#32 : BitVec 32).extractLsb' 31 1 == 1#1) = false := by decide
  have h2 : ((0x42E20000#32 : BitVec 32).extractLsb' 23 8).toNat = 133 := by decide
  have h3 : ((0x42E20000#32 : BitVec 32).extractLsb' 0 23).toNat = 6422528 := by decide
  unfold Ideal.ofBits Ideal.ieee
  simp only [h1, h2, h3]
  norm_num

theorem ofBits_bot : Ideal.ofBits .f32 0xFF800000#32 = ⊥ := by
  have h1 : ((0xFF800000#32 : BitVec 32).extractLsb' 31 1 == 1#1) = true := by decide
  have h2 : ((0xFF800000#32 : BitVec 32).extractLsb' 23 8).toNat = 255 := by decide
  have h3 : ((0xFF800000#32 : BitVec 32).extractLsb' 0 23).toNat = 0 := by decide
  unfold Ideal.ofBits Ideal.ieee
  simp only [h1, h2, h3]
  norm_num

theorem ofBits_bot16 : Ideal.ofBits .bf16 0xFF80#16 = ⊥ := by
  have h1 : ((0xFF80#16 : BitVec 16).extractLsb' 15 1 == 1#1) = true := by decide
  have h2 : ((0xFF80#16 : BitVec 16).extractLsb' 7 8).toNat = 255 := by decide
  have h3 : ((0xFF80#16 : BitVec 16).extractLsb' 0 7).toNat = 0 := by decide
  unfold Ideal.ofBits Ideal.ieee
  simp only [h1, h2, h3]
  norm_num

theorem ofBits_zero16 : Ideal.ofBits .bf16 0x0000#16 = 0 := by
  have h1 : ((0x0000#16 : BitVec 16).extractLsb' 15 1 == 1#1) = false := by decide
  have h2 : ((0x0000#16 : BitVec 16).extractLsb' 7 8).toNat = 0 := by decide
  have h3 : ((0x0000#16 : BitVec 16).extractLsb' 0 7).toNat = 0 := by decide
  unfold Ideal.ofBits Ideal.ieee
  simp only [h1, h2, h3]
  norm_num

/-! ### The search for the exponent -/

theorem maxsi_eq {w : ℕ} (a b : BitVec w) : (IntOp.maxsi a b = a ∨ IntOp.maxsi a b = b) ∧
    a.toInt ≤ (IntOp.maxsi a b).toInt ∧ b.toInt ≤ (IntOp.maxsi a b).toInt := by
  simp only [IntOp.maxsi, BitVec.slt, decide_eq_true_eq]
  split_ifs with h
  · exact ⟨.inl rfl, le_refl _, h.le⟩
  · exact ⟨.inr rfl, by omega, le_refl _⟩

theorem fold_maxsi {ι : Type} {w : ℕ} (s : Finset ι) (b : BitVec w) (f : ι → BitVec w) :
    (s.fold IntOp.maxsi b f = b ∨ ∃ k ∈ s, s.fold IntOp.maxsi b f = f k) ∧
    b.toInt ≤ (s.fold IntOp.maxsi b f).toInt ∧ ∀ k ∈ s, (f k).toInt ≤ (s.fold IntOp.maxsi b f).toInt := by
  classical
  induction s using Finset.induction with
  | empty => simp
  | insert a s ha ih =>
    rw [Finset.fold_insert ha]
    obtain ⟨h1, h2, h3⟩ := ih
    obtain ⟨m1, m2, m3⟩ := maxsi_eq (f a) (s.fold IntOp.maxsi b f)
    refine ⟨?_, h2.trans m3, ?_⟩
    · rcases m1 with m | m
      · exact .inr ⟨a, Finset.mem_insert_self _ _, m⟩
      · rcases h1 with h | ⟨k, hk, h⟩
        · exact .inl (m.trans h)
        · exact .inr ⟨k, Finset.mem_insert_of_mem hk, m.trans h⟩
    · intro k hk
      rcases Finset.mem_insert.1 hk with rfl | hk
      · exact m2
      · exact (h3 k hk).trans m3

theorem toInt_small : ∀ k : Fin 240, (BitVec.ofNat 32 (k : ℕ)).toInt = (k : ℕ) := by decide

/-- A word below 240 that is attained and bounds every other is the kernel's biased exponent. -/
theorem kBias_eq (x : EReal) (K : ℕ) (hK : K < 240)
    (hat : K = 0 ∨ Ideal.ofBits .f32 (IntOp.shli ArithUnit.vector (BitVec.ofNat 32 K) 23#32) ≤ x)
    (hub : ∀ k < 240, Ideal.ofBits .f32 (IntOp.shli ArithUnit.vector (BitVec.ofNat 32 k) 23#32) ≤ x → k ≤ K) :
    kBias x = BitVec.ofNat 32 K := by
  obtain ⟨h1, h2, h3⟩ := fold_maxsi (Finset.univ : Finset (Fin 240)) (2147483648#32)
    (fun k : Fin 240 => if Ideal.ofBits .f32 (IntOp.shli ArithUnit.vector (BitVec.ofNat 32 k) 23#32) ≤ x then BitVec.ofNat 32 k else 0#32)
  change (kBias x = _ ∨ ∃ k ∈ Finset.univ, kBias x = _) at h1
  change ∀ k ∈ Finset.univ, _ ≤ (kBias x).toInt at h3
  have hKv := toInt_small ⟨K, hK⟩
  have hlow := h3 ⟨K, hK⟩ (Finset.mem_univ _)
  have hfK : (if Ideal.ofBits .f32 (IntOp.shli ArithUnit.vector (BitVec.ofNat 32 K) 23#32) ≤ x then BitVec.ofNat 32 K else 0#32)
      = BitVec.ofNat 32 K := by
    rcases hat with rfl | h
    · split_ifs <;> rfl
    · exact if_pos h
  simp only [hfK] at hlow
  simp only at hKv
  apply BitVec.eq_of_toInt_eq
  refine le_antisymm ?_ hlow
  rcases h1 with h | ⟨k, -, h⟩
  · rw [h, hKv]
    have : (2147483648#32 : BitVec 32).toInt = -2147483648 := by decide
    omega
  · rw [h, hKv]
    split_ifs with hc
    · rw [toInt_small k]
      exact_mod_cast hub k k.2 hc
    · simp

/-- The biased exponent in numbers: zero below the least normal, else the floor of the base-two
    logarithm, biased, and at most 239. -/
theorem kBias_low (x : EReal) (hx : x < (((2 : ℝ) ^ (-126 : ℤ) : ℝ) : EReal)) : kBias x = 0#32 := by
  refine kBias_eq x 0 (by norm_num) (.inl rfl) fun k hk hle => ?_
  rw [ofBits_shl k (by omega)] at hle
  by_contra hne
  rw [if_neg (by omega)] at hle
  have h := lt_of_le_of_lt hle hx
  rw [EReal.coe_lt_coe_iff] at h
  have := (zpow_lt_zpow_iff_right₀ (by norm_num : (1 : ℝ) < 2)).1 h
  omega

theorem kBias_mid (r : ℝ) (n : ℤ) (h1 : (2 : ℝ) ^ n ≤ r) (h2 : r < (2 : ℝ) ^ (n + 1)) (hn : -126 ≤ n) :
    kBias (r : EReal) = BitVec.ofNat 32 (min (n + 127) 239).toNat := by
  refine kBias_eq _ _ (by omega) (.inr ?_) fun k hk hle => ?_
  · rw [ofBits_shl _ (by omega), if_neg (by omega), EReal.coe_le_coe_iff]
    refine le_trans ?_ h1
    exact (zpow_le_zpow_iff_right₀ (by norm_num : (1 : ℝ) < 2)).2 (by omega)
  · by_cases h0 : k = 0
    · omega
    rw [ofBits_shl k (by omega), if_neg h0, EReal.coe_le_coe_iff] at hle
    have := (zpow_lt_zpow_iff_right₀ (by norm_num : (1 : ℝ) < 2)).1 (lt_of_le_of_lt hle h2)
    omega

theorem kBias_top : kBias ⊤ = BitVec.ofNat 32 239 :=
  kBias_eq _ _ (by norm_num) (.inr le_top) fun k hk _ => by omega

theorem kExpo_words : ∀ K : Fin 240,
    IntOp.addi (Scalar.select (IntOp.cmpi .eq (BitVec.ofNat 32 (K : ℕ)) 0#32) 0#32 (IntOp.subi (BitVec.ofNat 32 (K : ℕ)) 126#32)) 127#32
      = BitVec.ofNat 32 (if (K : ℕ) = 0 then 127 else K + 1) ∧
    IntOp.subi 127#32 (Scalar.select (IntOp.cmpi .eq (BitVec.ofNat 32 (K : ℕ)) 0#32) 0#32 (IntOp.subi (BitVec.ofNat 32 (K : ℕ)) 126#32))
      = BitVec.ofNat 32 (if (K : ℕ) = 0 then 127 else 253 - K) := by
  decide

/-- The integer exponent that both programs take. -/
theorem expo_cases (x : EReal) : ∃ K : Fin 240, kBias x = BitVec.ofNat 32 (K : ℕ) ∧
    expo x = (((if (K : ℕ) = 0 then 0 else (K : ℤ) - 126 : ℤ) : ℝ) : EReal) := by
  unfold expo
  rw [ofBits_min, ofBits_two, ofBits_top]
  by_cases hx : x < (((2 : ℝ) ^ (-126 : ℤ) : ℝ) : EReal)
  · exact ⟨0, kBias_low x hx, by rw [if_pos hx]; simp⟩
  · rw [if_neg hx]
    have hl2 : Real.log 2 ≠ 0 := (Real.log_pos (by norm_num)).ne'
    have hlog2 : Ideal.log ((2 : ℝ) : EReal) = ((Real.log 2 : ℝ) : EReal) := by
      show (if (2 : ℝ) ≤ 0 then (⊥ : EReal) else ((Real.log 2 : ℝ) : EReal)) = _
      rw [if_neg (by norm_num)]
    rw [hlog2]
    have hdiv : ∀ y : EReal, Ideal.div y ((Real.log 2 : ℝ) : EReal) = y * (((Real.log 2)⁻¹ : ℝ) : EReal) := fun y => by
      unfold Ideal.div
      rw [if_neg (by exact_mod_cast hl2), EReal.coe_inv]
    rw [hdiv]
    induction x using EReal.rec with
    | bot => exact absurd (EReal.bot_lt_coe _) hx
    | top =>
      refine ⟨239, kBias_top, ?_⟩
      show min (Ideal.liftRound Int.floor ((⊤ : EReal) * _) + 1) _ = _
      rw [EReal.top_mul_coe_of_pos (inv_pos.2 (Real.log_pos (by norm_num)))]
      show min ((⊤ : EReal) + 1) _ = _
      rw [show (⊤ : EReal) + 1 = ⊤ from EReal.top_add_coe 1, min_eq_right le_top]
      norm_num
    | coe r =>
      have hr : (2 : ℝ) ^ (-126 : ℤ) ≤ r := by
        rw [not_lt, EReal.coe_le_coe_iff] at hx; exact hx
      have hpos : 0 < r := lt_of_lt_of_le (by positivity) hr
      have hlogr : Ideal.log (r : EReal) = ((Real.log r : ℝ) : EReal) := by
        show (if r ≤ 0 then (⊥ : EReal) else ((Real.log r : ℝ) : EReal)) = _
        rw [if_neg (by linarith)]
      rw [hlogr, ← EReal.coe_mul]
      show ∃ K : Fin 240, _ ∧ min ((((⌊Real.log r * (Real.log 2)⁻¹⌋ : ℤ) : ℝ) : EReal) + 1) _ = _
      set n : ℤ := ⌊Real.log r * (Real.log 2)⁻¹⌋ with hn
      have hL : (0 : ℝ) < Real.log 2 := Real.log_pos (by norm_num)
      have e1 : (2 : ℝ) ^ n ≤ r := by
        rw [← Real.log_le_log_iff (by positivity) hpos, Real.log_zpow, ← le_div_iff₀ hL, div_eq_mul_inv]
        exact Int.floor_le _
      have e2 : r < (2 : ℝ) ^ (n + 1) := by
        rw [← Real.log_lt_log_iff hpos (by positivity), Real.log_zpow, ← div_lt_iff₀ hL, div_eq_mul_inv]
        push_cast
        exact Int.lt_floor_add_one _
      have e3 : -126 ≤ n := by
        have := (zpow_lt_zpow_iff_right₀ (by norm_num : (1 : ℝ) < 2)).1 (lt_of_le_of_lt hr e2)
        omega
      refine ⟨⟨(min (n + 127) 239).toNat, by omega⟩, kBias_mid r n e1 e2 e3, ?_⟩
      simp only
      rw [if_neg (by omega)]
      have h1 : ((((n : ℤ) : ℝ) : EReal) + 1) = (((n + 1 : ℤ) : ℝ) : EReal) := by push_cast; rfl
      rw [h1, show ((113 : ℝ) : EReal) = (((113 : ℤ) : ℝ) : EReal) by norm_num]
      have h2 : (((min (n + 127) 239).toNat : ℕ) : ℤ) - 126 = min (n + 1) 113 := by omega
      rw [h2]
      rcases le_total (n + 1) 113 with h | h
      · rw [min_eq_left h, min_eq_left (by exact_mod_cast h)]
      · rw [min_eq_right h, min_eq_right (by exact_mod_cast h)]

theorem exp2_int (n : ℤ) : Ideal.exp2 (((n : ℤ) : ℝ) : EReal) = (((2 : ℝ) ^ n : ℝ) : EReal) := by
  show ((Real.rpow 2 (n : ℝ) : ℝ) : EReal) = _
  rw [← Real.rpow_intCast]; rfl

/-- The kernel's scale is the reference's. -/
theorem kScale_eq (a : EReal) : kScale a = scale a := by
  obtain ⟨K, h1, h2⟩ := expo_cases (a * cQ)
  unfold kScale scale kExpo
  rw [h1, h2, (kExpo_words K).1, ofBits_shl _ (by have := K.2; split_ifs <;> omega), exp2_int]
  by_cases h : (K : ℕ) = 0
  · simp [h]
  · simp only [if_neg h, if_neg (Nat.succ_ne_zero _)]
    congr 2
    push_cast; ring

/-- The kernel's inverse scale is the reference's. -/
theorem kInv_eq (a : EReal) : kInv a = inv a := by
  obtain ⟨K, h1, h2⟩ := expo_cases (a * cQ)
  have hK := K.2
  unfold kInv inv kExpo
  rw [h1, h2, (kExpo_words K).2, ofBits_shl _ (by split_ifs <;> omega)]
  have : ∀ z : ℤ, (0 : EReal) - (((z : ℤ) : ℝ) : EReal) = (((-z : ℤ) : ℝ) : EReal) := fun z => by
    rw [zero_sub]; push_cast; rfl
  rw [this, exp2_int]
  by_cases h : (K : ℕ) = 0
  · simp [h]
  · simp only [if_neg h]
    rw [if_neg (by omega)]
    congr 2
    omega

/-- One over the scale is the inverse scale. -/
theorem one_div_scale (a : EReal) : Ideal.div 1 (scale a) = inv a := by
  obtain ⟨K, h1, h2⟩ := expo_cases (a * cQ)
  unfold scale inv
  rw [h2]
  generalize (if (K : ℕ) = 0 then 0 else (K : ℤ) - 126 : ℤ) = z
  have : (0 : EReal) - (((z : ℤ) : ℝ) : EReal) = (((-z : ℤ) : ℝ) : EReal) := by
    rw [zero_sub]; push_cast; rfl
  rw [this, exp2_int, exp2_int]
  unfold Ideal.div
  have hz : (2 : ℝ) ^ z ≠ 0 := by positivity
  rw [if_neg (by exact_mod_cast hz), one_mul, ← EReal.coe_inv, zpow_neg]

end Cert.Values

end
-- ==== Proof.Values.Read.lean ====
/-
  Reading the vector operations at an index, over the extended reals.
-/
module

public import proofs.«01_k».proof.Proof.Values.Quant

@[expose] public section

set_option maxRecDepth 16384

noncomputable section

namespace Cert.Values

open Idealize.ShloMosaic

section Elementwise
variable {s : Shape} {φ ψ : FTy}

theorem e_mul (x y : FVec Ideal s φ) (i : s.Idx) : mulf x y i = (x i * y i : EReal) := rfl
theorem e_add (x y : FVec Ideal s φ) (i : s.Idx) : addf x y i = (x i + y i : EReal) := rfl
theorem e_sub (x y : FVec Ideal s φ) (i : s.Idx) : subf x y i = (x i - y i : EReal) := rfl
theorem e_div (x y : FVec Ideal s φ) (i : s.Idx) : divf x y i = Ideal.div (x i) (y i) := rfl
theorem e_max (x y : FVec Ideal s φ) (i : s.Idx) : maximumf x y i = max (x i : EReal) (y i) := rfl
theorem e_min (x y : FVec Ideal s φ) (i : s.Idx) : minimumf x y i = min (x i : EReal) (y i) := rfl
theorem e_abs (x : FVec Ideal s φ) (i : s.Idx) : absf x i = ab (x i) := rfl
theorem e_exp2 (x : FVec Ideal s φ) (i : s.Idx) : exp2 x i = Ideal.exp2 (x i) := rfl
theorem e_log (x : FVec Ideal s φ) (i : s.Idx) : log x i = Ideal.log (x i) := rfl
theorem e_floor (x : FVec Ideal s φ) (i : s.Idx) : floor x i = Ideal.liftRound Int.floor (x i) := rfl
theorem e_logistic (x : FVec Ideal s φ) (i : s.Idx) : logistic x i = Ideal.logistic (x i) := rfl
theorem e_ext (x : FVec Ideal s φ) (h) (i : s.Idx) : extf ψ x h i = x i := rfl
theorem e_trunc (x : FVec Ideal s φ) (h) (i : s.Idx) : truncf ψ x h i = x i := rfl
theorem s_trunc (x : Ideal φ) (h) : Scalar.truncf (F := Ideal) ψ h x = x := rfl
theorem s_bits (b : BitVec φ.bits) : Scalar.ofBits (F := Ideal) φ b = Ideal.ofBits φ b := rfl
theorem e_bc {α : Type} (x : α) (i : s.Idx) : broadcast s x i = x := rfl
theorem e_const (b : BitVec φ.bits) (i : s.Idx) : constant (F := Ideal) s φ b i = Ideal.ofBits φ b := rfl
theorem e_sel {α : Type} (c : IVec s 1) (x y : s.Idx → α) (i : s.Idx) : select c x y i = Scalar.select (c i) (x i) (y i) := rfl
theorem e_cmpi {w : ℕ} (p) (x y : IVec s w) (i : s.Idx) : cmpi p x y i = IntOp.cmpi p (x i) (y i) := rfl
theorem e_cmpf (p) (x y : FVec Ideal s φ) (i : s.Idx) : cmpf p x y i = Ideal.cmp p (x i) (y i) := rfl
theorem e_addi {w : ℕ} (x y : IVec s w) (i : s.Idx) : addi x y i = IntOp.addi (x i) (y i) := rfl
theorem e_subi {w : ℕ} (x y : IVec s w) (i : s.Idx) : subi x y i = IntOp.subi (x i) (y i) := rfl
theorem e_shli (x y : IVec s 32) (i : s.Idx) : shli x y i = IntOp.shli ArithUnit.vector (x i) (y i) := rfl
theorem e_bits (x : IVec s 32) (i : s.Idx) : bitcastToFloat (F := Ideal) .f32 x i = Ideal.ofBits .f32 (x i) := rfl

/-- A selection on a comparison is a case distinction. -/
theorem sel_lt {α : Type} (a b : EReal) (x y : α) : Scalar.select (Ideal.cmp .olt a b) x y = if a < b then x else y := by
  unfold Scalar.select Ideal.cmp
  by_cases h : a < b <;> simp [h]

theorem sel_ge {α : Type} (a b : EReal) (x y : α) : Scalar.select (Ideal.cmp .oge a b) x y = if b ≤ a then x else y := by
  unfold Scalar.select Ideal.cmp
  by_cases h : b ≤ a <;> simp [h]

end Elementwise

section Shapes
variable {α : Type} {n m : ℕ}

/-- A column laid out over the columns of a matrix. -/
theorem r_bcol (x : (⟨2, ![n, 1]⟩ : Shape).Idx → α) (h : (⟨2, ![n, 1]⟩ : Shape).Broadcasts ⟨2, ![n, m]⟩) (r : Fin n) (l : Fin m) :
    broadcastTo ⟨2, ![n, m]⟩ x h (ix2 r l) = x (ix2 r 0) := by
  unfold broadcastTo
  refine congrArg x (funext fun a => ?_)
  match a with
  | 0 =>
    by_cases hn : (⟨2, ![n, 1]⟩ : Shape).size 0 = 1
    · have : n = 1 := hn
      subst this
      exact Subsingleton.elim (α := Fin 1) _ _
    · simp only [hn]; rfl
  | 1 => exact Subsingleton.elim (α := Fin 1) _ _

/-- A row laid out over the rows of a matrix. -/
theorem r_brow (x : (⟨2, ![1, m]⟩ : Shape).Idx → α) (h : (⟨2, ![1, m]⟩ : Shape).Broadcasts ⟨2, ![n, m]⟩) (r : Fin n) (l : Fin m) :
    broadcastTo ⟨2, ![n, m]⟩ x h (ix2 r l) = x (ix2 0 l) := by
  unfold broadcastTo
  refine congrArg x (funext fun a => ?_)
  match a with
  | 0 => exact Subsingleton.elim (α := Fin 1) _ _
  | 1 =>
    by_cases hm : (⟨2, ![1, m]⟩ : Shape).size 1 = 1
    · have : m = 1 := hm
      subst this
      exact Subsingleton.elim (α := Fin 1) _ _
    · simp only [hm]; rfl

/-- A vector as a column. -/
theorem r_ccol (x : (⟨1, ![n]⟩ : Shape).Idx → α) (h) (r : Fin n) (z : Fin 1) : shapeCast ⟨2, ![n, 1]⟩ x h (ix2 r z) = x (ix1 r) := by
  show x (Shape.reshapeEquiv _ _) = _
  refine congrArg x (Shape.reshapeEquiv_eq_of_rowMajor _ ?_)
  have : z = 0 := Subsingleton.elim _ _
  subst this
  simp [Shape.rowMajor_val_one, Shape.rowMajor_val_two]

/-- A vector as a row. -/
theorem r_crow (x : (⟨1, ![m]⟩ : Shape).Idx → α) (h) (l : Fin m) (z : Fin 1) : shapeCast ⟨2, ![1, m]⟩ x h (ix2 z l) = x (ix1 l) := by
  show x (Shape.reshapeEquiv _ _) = _
  refine congrArg x (Shape.reshapeEquiv_eq_of_rowMajor _ ?_)
  have : z = 0 := Subsingleton.elim _ _
  subst this
  simp [Shape.rowMajor_val_one, Shape.rowMajor_val_two]

/-- A column as a row. -/
theorem r_ctr (x : (⟨2, ![m, 1]⟩ : Shape).Idx → α) (h) (l : Fin m) (z : Fin 1) : shapeCast ⟨2, ![1, m]⟩ x h (ix2 z l) = x (ix2 l 0) := by
  show x (Shape.reshapeEquiv _ _) = _
  refine congrArg x (Shape.reshapeEquiv_eq_of_rowMajor _ ?_)
  have : z = 0 := Subsingleton.elim _ _
  subst this
  simp [Shape.rowMajor_val_two]

/-- The maximum along rows. -/
theorem r_maxr (x : FVec Ideal ⟨2, ![n, m]⟩ .f32) (h) (h1) (h2) (r : Fin n) :
    multiReduction .maximumf [1] ⟨1, ![n]⟩ x 0xFF800000#32 h h1 h2 (ix1 r) = (Finset.univ.sup fun l => (x (ix2 r l) : EReal)) := by
  have e : multiReduction .maximumf [1] ⟨1, ![n]⟩ x 0xFF800000#32 h h1 h2 (ix1 r)
      = Finset.fold max (Ideal.ofBits .f32 0xFF800000#32) (fun l => x (ix2 r l)) Finset.univ := by pointwise
  rw [e, ofBits_bot]; rfl

/-- The maximum along columns. -/
theorem r_maxc (x : FVec Ideal ⟨2, ![n, m]⟩ .f32) (h) (h1) (h2) (l : Fin m) :
    multiReduction .maximumf [0] ⟨1, ![m]⟩ x 0xFF800000#32 h h1 h2 (ix1 l) = (Finset.univ.sup fun r => (x (ix2 r l) : EReal)) := by
  have e : multiReduction .maximumf [0] ⟨1, ![m]⟩ x 0xFF800000#32 h h1 h2 (ix1 l)
      = Finset.fold max (Ideal.ofBits .f32 0xFF800000#32) (fun r => x (ix2 r l)) Finset.univ := by pointwise
  rw [e, ofBits_bot]; rfl

theorem r_maxc16 (x : FVec Ideal ⟨2, ![n, m]⟩ .bf16) (h) (h1) (h2) (l : Fin m) :
    multiReduction .maximumf [0] ⟨1, ![m]⟩ x 0xFF80#16 h h1 h2 (ix1 l) = (Finset.univ.sup fun r => (x (ix2 r l) : EReal)) := by
  have e : multiReduction .maximumf [0] ⟨1, ![m]⟩ x 0xFF80#16 h h1 h2 (ix1 l)
      = Finset.fold max (Ideal.ofBits .bf16 0xFF80#16) (fun r => x (ix2 r l)) Finset.univ := by pointwise
  rw [e, ofBits_bot16]; rfl

/-- A window of columns. -/
theorem r_slice {k : ℕ} (x : (⟨2, ![n, m]⟩ : Shape).Idx → α) (o : ℕ) (h : (⟨2, ![n, m]⟩ : Shape).Slices ![0, o] ⟨2, ![n, k]⟩) (r : Fin n) (l : Fin k)
    (hl : o + l.val < m) : extractStridedSlice ⟨2, ![n, k]⟩ ![0, o] x h (ix2 r l) = x (ix2 r ⟨o + l.val, hl⟩) := by
  unfold extractStridedSlice
  refine congrArg x (funext fun a => ?_)
  match a with
  | 0 => exact Fin.ext (Nat.zero_add _)
  | 1 => rfl

end Shapes

end Cert.Values

end
-- ==== Proof.Values.Spec.lean ====
/-
  What the backward pass computes, over the extended reals, as functions of row and column numbers.
-/
module

public import proofs.«01_k».proof.Proof.Values.Read

@[expose] public section

noncomputable section

namespace Cert.Values

open Idealize.ShloMosaic

/-- A matrix with extended-real entries. -/
abbrev Mat (n m : ℕ) : Type := Fin n → Fin m → EReal

/-- An array of rank two as a matrix. -/
def mat {n m : ℕ} (x : Shape.Idx ⟨2, ![n, m]⟩ → EReal) : Mat n m := fun r l => x (ix2 r l)

/-- The absolute maximum of each row. -/
def rowMax {n m : ℕ} (v : Mat n m) (r : Fin n) : EReal := Finset.univ.sup fun l => ab (v r l)

/-- The absolute maximum of each column. -/
def colMax {n m : ℕ} (v : Mat n m) (l : Fin m) : EReal := Finset.univ.sup fun r => ab (v r l)

/-- The codes of a matrix quantised by rows. -/
def quR {n m : ℕ} (v : Mat n m) : Mat n m := fun r l => clip (v r l * inv (rowMax v r))

/-- The codes of a matrix quantised by columns. -/
def quC {n m : ℕ} (v : Mat n m) : Mat n m := fun r l => clip (v r l * inv (colMax v l))

/-- The gradient of the activation: the row codes of dy times W2, rescaled. -/
def dA {n : ℕ} (dy : Mat n 3072) (w2 : Mat 1024 3072) (w2s : EReal) : Mat n 1024 := fun r k =>
  (∑ l, quR dy r l * w2 k l) * (scale (rowMax dy r) * w2s)

/-- The gradient of the gate, from the gradient of the activation and the gate and up values. -/
def gateG (da g u : EReal) : EReal := da * u * Ideal.logistic g * (1 + g * (1 - Ideal.logistic g))

/-- The gradient of the up value. -/
def upG (da g : EReal) : EReal := da * g * Ideal.logistic g

/-- The gradient of the hidden layer: gate gradients in the first 1024 columns, up gradients in the others. -/
def dH {n : ℕ} (dy : Mat n 3072) (gu : Mat n 2048) (w2 : Mat 1024 3072) (w2s : EReal) : Mat n 2048 := fun r k =>
  if h : k.val < 1024 then
    gateG (dA dy w2 w2s r ⟨k.val, h⟩) (gu r ⟨k.val, k.isLt⟩) (gu r ⟨1024 + k.val, by omega⟩)
  else
    upG (dA dy w2 w2s r ⟨k.val - 1024, by omega⟩) (gu r ⟨k.val - 1024, by omega⟩)

/-- The gradient of the input. -/
def dX {n : ℕ} (dh : Mat n 2048) (w1 : Mat 3072 2048) (w1s : EReal) : Mat n 3072 := fun r l =>
  (∑ k, quR dh r k * w1 l k) * (scale (rowMax dh r) * w1s)

/-- A weight gradient: the codes of the input times the column codes of the gradient, rescaled. -/
def dW {t a b : ℕ} (xc : Mat t a) (xs : Fin a → EReal) (v : Mat t b) : Mat a b := fun i j =>
  (∑ k, xc k i * quC v k j) * (xs i * scale (colMax v j))

end Cert.Values

end
-- ==== Proof.Values.Windows.lean ====
/-
  Windows of columns put into a matrix one after another, and maxima taken window by window.
-/
module

public import proofs.«01_k».proof.Proof.Values.Spec
public import Idealize.ShloMosaic.Lib.VecWindow

@[expose] public section

set_option maxRecDepth 16384

noncomputable section

namespace Cert.Values

open Idealize.ShloMosaic

section Windows
variable {α : Type} {n m : ℕ}

/-- A window read at an index. -/
theorem window_at {k j : ℕ} (x : (⟨2, ![n, m]⟩ : Shape).Idx → α) (o p : ℕ)
    (inb : ∀ a, (![o, p] : Fin 2 → ℕ) a + (![k, j] : Fin 2 → ℕ) a ≤ (⟨2, ![n, m]⟩ : Shape).size a)
    (r : Fin k) (l : Fin j) (hr : o + r.val < n) (hl : p + l.val < m) :
    VecWindow.window x ![o, p] ![k, j] inb (ix2 r l) = x (ix2 ⟨o + r.val, hr⟩ ⟨p + l.val, hl⟩) := by
  unfold VecWindow.window
  refine congrArg x (funext fun a => Fin.ext ?_)
  match a with
  | 0 => show o + 1 * r.val = o + r.val; omega
  | 1 => show p + 1 * l.val = p + l.val; omega

/-- A put of a window of columns, read at an index. -/
theorem put_at {k : ℕ} (x : (⟨2, ![n, m]⟩ : Shape).Idx → α) (o : ℕ) (w : (⟨2, ![n, k]⟩ : Shape).Idx → α) (r : Fin n) (c : Fin m) :
    VecWindow.put x ![0, o] (⟨2, ![n, k]⟩ : Shape).size w (ix2 r c)
      = if h : o ≤ c.val ∧ c.val < o + k then w (ix2 r ⟨c.val - o, by omega⟩) else x (ix2 r c) := by
  unfold VecWindow.put
  by_cases h : o ≤ c.val ∧ c.val < o + k
  · have h' : ∀ a : Fin 2, (![0, o] : Fin 2 → ℕ) a ≤ ((ix2 r c : (⟨2, ![n, m]⟩ : Shape).Idx) a).val
        ∧ ((ix2 r c : (⟨2, ![n, m]⟩ : Shape).Idx) a).val < (![0, o] : Fin 2 → ℕ) a + (⟨2, ![n, k]⟩ : Shape).size a := fun a => by
      match a with
      | 0 => exact ⟨Nat.zero_le _, by show r.val < 0 + n; have := r.isLt; omega⟩
      | 1 => exact h
    rw [dif_pos h, dif_pos h']
    refine congrArg w (funext fun a => Fin.ext ?_)
    match a with
    | 0 => show r.val - 0 = r.val; omega
    | 1 => rfl
  · rw [dif_neg h, dif_neg]
    exact fun h' => h (h' 1)

/-- Two matrices agree on the columns of `P`. -/
def Agree (x : (⟨2, ![n, m]⟩ : Shape).Idx → α) (D : Fin n → Fin m → α) (P : ℕ → Prop) : Prop :=
  ∀ r c, P c.val → x (ix2 r c) = D r c

theorem agree_none (x : (⟨2, ![n, m]⟩ : Shape).Idx → α) (D : Fin n → Fin m → α) : Agree x D fun _ => False := fun _ _ h => h.elim

/-- A further window of columns. -/
theorem agree_put {k : ℕ} {x : (⟨2, ![n, m]⟩ : Shape).Idx → α} {D : Fin n → Fin m → α} {P : ℕ → Prop} (hx : Agree x D P) (o : ℕ)
    (w : (⟨2, ![n, k]⟩ : Shape).Idx → α) (hw : ∀ r (c : Fin k) (h : o + c.val < m), w (ix2 r c) = D r ⟨o + c.val, h⟩) :
    Agree (VecWindow.put x ![0, o] (⟨2, ![n, k]⟩ : Shape).size w) D fun c => P c ∨ (o ≤ c ∧ c < o + k) := fun r c hc => by
  rw [put_at]
  by_cases h : o ≤ c.val ∧ c.val < o + k
  · rw [dif_pos h, hw r ⟨c.val - o, by omega⟩ (by have := c.isLt; show o + (c.val - o) < m; omega)]
    exact congrArg (D r) (Fin.ext (by show o + (c.val - o) = c.val; omega))
  · rw [dif_neg h]
    exact hx r c (hc.resolve_right h)

/-- A row of running maxima: at the columns of `P` the maximum with `D`, elsewhere what it was. -/
def Raised (a x : (⟨2, ![1, m]⟩ : Shape).Idx → EReal) (D : Fin m → EReal) (P : ℕ → Prop) : Prop :=
  ∀ c : Fin m, (P c.val → x (ix2 0 c) = max (a (ix2 0 c)) (D c)) ∧ (¬ P c.val → x (ix2 0 c) = a (ix2 0 c))

theorem raised_none (a : (⟨2, ![1, m]⟩ : Shape).Idx → EReal) (D : Fin m → EReal) : Raised a a D fun _ => False :=
  fun _ => ⟨fun h => h.elim, fun _ => rfl⟩

theorem raised_put {k : ℕ} {a x : (⟨2, ![1, m]⟩ : Shape).Idx → EReal} {D : Fin m → EReal} {P : ℕ → Prop} (hx : Raised a x D P) (o : ℕ)
    (hP : ∀ c, o ≤ c → c < o + k → ¬ P c) (w : (⟨2, ![1, k]⟩ : Shape).Idx → EReal)
    (hw : ∀ (c : Fin k) (h : o + c.val < m), w (ix2 0 c) = max (x (ix2 0 ⟨o + c.val, h⟩)) (D ⟨o + c.val, h⟩)) :
    Raised a (VecWindow.put x ![0, o] (⟨2, ![1, k]⟩ : Shape).size w) D fun c => P c ∨ (o ≤ c ∧ c < o + k) := fun c => by
  rw [put_at]
  by_cases h : o ≤ c.val ∧ c.val < o + k
  · rw [dif_pos h, hw ⟨c.val - o, by omega⟩ (by have := c.isLt; show o + (c.val - o) < m; omega)]
    have e : (⟨o + (c.val - o), by have := c.isLt; omega⟩ : Fin m) = c := Fin.ext (by show o + (c.val - o) = c.val; omega)
    refine ⟨fun _ => ?_, fun hn => absurd (Or.inr h) hn⟩
    show max (x (ix2 0 ⟨o + (c.val - o), _⟩)) (D ⟨o + (c.val - o), _⟩) = _
    rw [e, (hx c).2 (hP _ h.1 h.2)]
  · rw [dif_neg h]
    exact ⟨fun hc => (hx c).1 (hc.resolve_right h), fun hn => (hx c).2 fun hp => hn (Or.inl hp)⟩

end Windows

theorem ab_nonneg (x : EReal) : 0 ≤ ab x := by
  unfold ab
  rcases le_total 0 x with h | h
  · exact le_max_of_le_left h
  · exact le_max_of_le_right (EReal.neg_nonneg.mpr h)

/-- A maximum taken over lanes of maxima over windows of 128 columns is the maximum over all columns. -/
theorem sup_lanes {n : ℕ} (K : ℕ) (hn : n = 128 * K) (f : Fin n → EReal) (T : Fin 128 → EReal)
    (hT : ∀ l c, T l ≤ c ↔ (∀ j : Fin K, f ⟨128 * j.val + l.val, by have := j.isLt; have := l.isLt; omega⟩ ≤ c)) :
    Finset.univ.sup T = Finset.univ.sup f := by
  subst hn
  refine eq_of_forall_ge_iff fun c => ?_
  rw [Finset.sup_le_iff, Finset.sup_le_iff]
  constructor
  · intro h i _
    have hl : i.val % 128 < 128 := Nat.mod_lt _ (by norm_num)
    have := (hT ⟨i.val % 128, hl⟩ c).mp (h _ (Finset.mem_univ _)) ⟨i.val / 128, by have := i.isLt; omega⟩
    have e : (⟨128 * (i.val / 128) + i.val % 128, by have := i.isLt; omega⟩ : Fin (128 * K)) = i := Fin.ext (Nat.div_add_mod _ _)
    rwa [← e]
  · intro h l _
    exact (hT l c).mpr fun j => h _ (Finset.mem_univ _)

end Cert.Values

end
-- ==== Proof.Values.RowsQuant.lean ====
/-
  One block of 512 rows of `rows`: the absolute maxima, the scales and the codes of dy, read at an index.
-/
module

public import proofs.«01_k».proof.Proof.KernelIdeal.RowsDefs
public import proofs.«01_k».proof.Proof.Values.Windows

@[expose] public section

set_option maxRecDepth 16384

noncomputable section

namespace Cert.KernelIdeal.Values

open Idealize.ShloMosaic Cert.Values
open Cert.KernelIdeal Cert.KernelIdeal.Gen Cert.KernelIdeal.Rows

/-- The search for the exponents of a column of maxima. -/
theorem bias_rows (v : FVec Ideal S512x1 .f32) (r : Fin 512) :
    multiReductionI .maxsi [1] S512
      (select (cmpf .oge (broadcastTo S512x240 v broadcasts_S512x1_S512x240)
          (bitcastToFloat (F := Ideal) .f32 (shli (iota .tc S512x240 32 [1] iota_S512x240_d1_w32) (broadcast S512x240 23#32))))
        (iota .tc S512x240 32 [1] iota_S512x240_d1_w32) (broadcast S512x240 0#32))
      2147483648#32 reduces_S512x240_S512 rfl (ix1 r) = kBias (v (ix2 r 0)) := by
  pointwise
  refine Finset.fold_congr fun k _ => ?_
  first | rfl | congr

theorem bias_3072 (v : FVec Ideal S1x3072 .f32) (l : Fin 3072) :
    multiReductionI .maxsi [0] S3072
      (select (cmpf .oge (broadcastTo S240x3072 v broadcasts_S1x3072_S240x3072)
          (bitcastToFloat (F := Ideal) .f32 (shli (iota .tc S240x3072 32 [0] iota_S240x3072_d0_w32) (broadcast S240x3072 23#32))))
        (iota .tc S240x3072 32 [0] iota_S240x3072_d0_w32) (broadcast S240x3072 0#32))
      2147483648#32 reduces_S240x3072_S3072 rfl (ix1 l) = kBias (v (ix2 0 l)) := by
  pointwise
  refine Finset.fold_congr fun k _ => ?_
  first | rfl | congr

theorem bias_2048 (v : FVec Ideal S1x2048 .f32) (l : Fin 2048) :
    multiReductionI .maxsi [0] S2048
      (select (cmpf .oge (broadcastTo S240x2048 v broadcasts_S1x2048_S240x2048)
          (bitcastToFloat (F := Ideal) .f32 (shli (iota .tc S240x2048 32 [0] iota_S240x2048_d0_w32) (broadcast S240x2048 23#32))))
        (iota .tc S240x2048 32 [0] iota_S240x2048_d0_w32) (broadcast S240x2048 0#32))
      2147483648#32 reduces_S240x2048_S2048 rfl (ix1 l) = kBias (v (ix2 0 l)) := by
  pointwise
  refine Finset.fold_congr fun k _ => ?_
  first | rfl | congr

/-- The exponent words of a column of row maxima. -/
theorem pay11_eq (v : FVec Ideal S512x1 .f32) (r : Fin 512) :
    k0_pay11 v (Scalar.ofBits (F := Ideal) .f32 0x37924925#32) (ix2 r 0) = kExpo (v (ix2 r 0) * cQ) := by
  unfold k0_pay11
  simp only [e_sel, e_cmpi, e_subi, e_bc]
  rw [r_ccol, bias_rows]
  rfl

theorem pay12_eq (v : FVec Ideal S512x1 .f32) (r : Fin 512) :
    k0_pay12 v (Scalar.ofBits (F := Ideal) .f32 0x37924925#32) (ix2 r 0) = scale (v (ix2 r 0)) := by
  unfold k0_pay12
  simp only [e_bits, e_shli, e_addi, e_bc, pay11_eq]
  exact kScale_eq _

/-- The column scales of dy from its column maxima. -/
theorem pay2_eq (v : Vec Ideal S1x3072 .bf16) (l : Fin 3072) : k0_pay2 v (ix2 0 l) = scale (v (ix2 0 l)) := by
  unfold k0_pay2
  simp only [e_bits, e_shli, e_addi, e_bc, e_sel, e_cmpi, e_subi]
  rw [r_crow, bias_3072]
  exact kScale_eq _

/-- The column scales of dh from its column maxima. -/
theorem pay1_eq (v : Vec Ideal S1x2048 .f32) (l : Fin 2048) : k0_pay1 (F := Ideal) (k0_pay3 v) 0#32 (ix2 0 l) = scale (v (ix2 0 l)) := by
  unfold k0_pay1 k0_pay3
  simp only [e_bits, e_shli, e_addi, e_bc, e_sel, e_cmpi, e_subi]
  rw [r_crow, bias_2048]
  exact kScale_eq _

theorem v91_eq (q : Ins Ideal) (r : Fin 512) : v91 q (ix2 r 0) = rowMax (mat q.x3) r := by
  unfold v91 k0_pay10
  rw [r_ccol]
  refine (r_maxr _ _ _ _ _).trans ?_
  refine sup_lanes 24 rfl _ _ fun l c => ?_
  have e : ∀ (o : ℕ) (h) (ho : o + 128 ≤ 3072), extractStridedSlice S512x128 ![0, o] (v34 q) h (ix2 r l)
      = ab (mat q.x3 r ⟨o + l.val, by have := l.isLt; omega⟩) := fun o h ho => by
    rw [r_slice _ o _ _ _ (by have := l.isLt; omega)]
    unfold v34 k0_pay7 k0_pay6
    rw [shapeCast_id]
    rfl
  simp only [e_ext, e_max]
  rw [e 0 _ (by omega), e 128 _ (by omega), e 256 _ (by omega), e 384 _ (by omega), e 512 _ (by omega), e 640 _ (by omega), e 768 _ (by omega),
    e 896 _ (by omega), e 1024 _ (by omega), e 1152 _ (by omega), e 1280 _ (by omega), e 1408 _ (by omega), e 1536 _ (by omega), e 1664 _ (by omega),
    e 1792 _ (by omega), e 1920 _ (by omega), e 2048 _ (by omega), e 2176 _ (by omega), e 2304 _ (by omega), e 2432 _ (by omega), e 2560 _ (by omega),
    e 2688 _ (by omega), e 2816 _ (by omega), e 2944 _ (by omega)]
  simp only [max_le_iff]
  simp only [Fin.forall_fin_succ, and_assoc]
  simp [and_assoc]

theorem v114_eq (q : Ins Ideal) (r : Fin 512) : v114 q (ix2 r 0) = scale (rowMax (mat q.x3) r) := by
  unfold v114
  rw [pay12_eq, v91_eq]

/-- The row codes of dy. -/
theorem c8_eq (q : Ins Ideal) (r : Fin 512) (l : Fin 3072) : c8_1 q (ix2 r l) = quR (mat q.x3) r l := by
  unfold c8_1 k0_pay13 v33 k0_pay6
  simp only [e_trunc, e_min, e_max, e_bc, e_mul, shapeCast_id, s_trunc, s_bits]
  rw [r_bcol]
  simp only [e_trunc, e_bits, e_shli, e_subi, e_bc]
  have e : k0_pay11 (v91 q) (Ideal.ofBits .f32 0x37924925#32) (ix2 r 0) = kExpo (rowMax (mat q.x3) r * cQ) := by
    rw [← v91_eq]; exact pay11_eq _ _
  rw [e]
  show clip (q.x3 (ix2 r l) * kInv (rowMax (mat q.x3) r)) = _
  rw [kInv_eq]
  rfl

theorem pay14_eq (q : Ins Ideal) (r : Fin 512) :
    k0_pay14 (v91 q) (Scalar.ofBits (F := Ideal) .f32 0x37924925#32) (ix2 0 r) = scale (rowMax (mat q.x3) r) := by
  unfold k0_pay14
  rw [r_ctr, pay12_eq, v91_eq]

/-- The running column maxima of dy. -/
theorem c15_eq (q : Ins Ideal) (l : Fin 3072) : c15_1 q (ix2 0 l) = max (q.a15 (ix2 0 l) : EReal) (colMax (mat q.x3) l) := by
  unfold c15_1 k0_pay9 v36 k0_pay8 k0_pay7 k0_pay6
  simp only [shapeCast_id, e_max]
  rw [r_crow]
  exact congrArg (max (q.a15 (ix2 0 l) : EReal)) (r_maxc16 _ _ _ _ _)

end Cert.KernelIdeal.Values

end
-- ==== Proof.Values.RowsHid.lean ====
/-
  One block of 512 rows of `rows`: the gradient of the hidden layer, its maxima, its codes, and the gradient of the input.
-/
module

public import proofs.«01_k».proof.Proof.Values.RowsQuant

@[expose] public section

set_option maxRecDepth 16384

noncomputable section

namespace Cert.KernelIdeal.Values

open Idealize.ShloMosaic Cert.Values
open Cert.KernelIdeal Cert.KernelIdeal.Gen Cert.KernelIdeal.Rows

theorem dot_da (x : FVec Ideal S512x3072 .fp8e5m2) (y : FVec Ideal S256x3072 .fp8e4m3) (r : Fin 512) (k : Fin 256) :
    matmul dot_S512x3072_S256x3072_S512x256_1_1_0_0_n_n none x y (constant S512x256 .f32 0x00000000#32) (ix2 r k)
      = ∑ l : Fin 3072, mat x r l * mat y k l := by
  pointwise [dot_S512x3072_S256x3072_S512x256_1_1_0_0_n_n]
  try rw [ofBits_zero, zero_add]
  rfl

theorem dot_dx (x : FVec Ideal S512x2048 .fp8e5m2) (y : FVec Ideal S256x2048 .fp8e4m3) (r : Fin 512) (k : Fin 256) :
    matmul dot_S512x2048_S256x2048_S512x256_1_1_0_0_n_n none x y (constant S512x256 .f32 0x00000000#32) (ix2 r k)
      = ∑ l : Fin 2048, mat x r l * mat y k l := by
  pointwise [dot_S512x2048_S256x2048_S512x256_1_1_0_0_n_n]
  try rw [ofBits_zero, zero_add]
  rfl

/-- The gradient of the hidden layer over the block. -/
def hid (q : Ins Ideal) : Mat 512 2048 := dH (mat q.x3) (mat q.x4) (mat q.x6) (q.x2 z11)

/-- Rows `o …` of the second weight codes. -/
abbrev wWin (q : Ins Ideal) (o : ℕ) (h : ∀ a, (![o, 0] : Fin 2 → ℕ) a + S256x3072.size a ≤ S1024x3072.size a) : Vec Ideal S256x3072 .fp8e4m3 :=
  VecWindow.window q.x6 ![o, 0] S256x3072.size h

/-- Columns `o …` of the gate and up values. -/
abbrev gWin (q : Ins Ideal) (o : ℕ) (h : ∀ a, (![0, o] : Fin 2 → ℕ) a + S512x256.size a ≤ S512x2048.size a) : Vec Ideal S512x256 .bf16 :=
  VecWindow.window q.x4 ![0, o] S512x256.size h

theorem gWin_at (q : Ins Ideal) (o : ℕ) (h) (r : Fin 512) (c : Fin 256) (ho : o + c.val < 2048) : gWin q o h (ix2 r c) = mat q.x4 r ⟨o + c.val, ho⟩ := by
  refine (window_at q.x4 0 o h r c (by have := r.isLt; omega) ho).trans ?_
  exact congrArg (fun r => q.x4 (ix2 r _)) (Fin.ext (Nat.zero_add _))

theorem wWin_at (q : Ins Ideal) (o : ℕ) (h) (k : Fin 256) (l : Fin 3072) (ho : o + k.val < 1024) : wWin q o h (ix2 k l) = mat q.x6 ⟨o + k.val, ho⟩ l := by
  refine (window_at q.x6 o 0 h k l ho (by have := l.isLt; omega)).trans ?_
  exact congrArg (fun l => q.x6 (ix2 _ l)) (Fin.ext (Nat.zero_add _))

/-- A chunk of the gradient of the activation. -/
theorem da_chunk (q : Ins Ideal) (o : ℕ) (h) (r : Fin 512) (c : Fin 256) (ho : o + c.val < 1024) :
    k0_pay30 (v137 q) (c8_1 q) (wWin q o h) (ix2 r c) = dA (mat q.x3) (mat q.x6) (q.x2 z11) r ⟨o + c.val, ho⟩ := by
  unfold k0_pay30
  simp only [e_mul, shapeCast_id]
  rw [r_bcol, dot_da]
  unfold v137 k0_pay15
  simp only [e_mul, e_bc, v114_eq]
  unfold dA
  refine congrArg₂ (· * ·) (Finset.sum_congr rfl fun l _ => ?_) rfl
  exact congrArg₂ (· * ·) (c8_eq q r l) (wWin_at q o h c l ho)

/-- A chunk of the gate gradients. -/
theorem gate_chunk (q : Ins Ideal) (o p : ℕ) (hw hg hu) (ho : o + 256 ≤ 1024) (hp : p = 1024 + o) (r : Fin 512) (c : Fin 256) (h : o + c.val < 2048) :
    k0_pay33 (v137 q) (c8_1 q) (wWin q o hw) (gWin q o hg) (gWin q p hu) (ix2 r c) = hid q r ⟨o + c.val, h⟩ := by
  have hc := c.isLt
  unfold k0_pay33 k0_pay32 k0_pay31
  simp only [e_mul, e_sub, e_add, e_ext, e_logistic, e_bc, s_bits, ofBits_one, shapeCast_id]
  rw [da_chunk q o hw r c (by omega), gWin_at q o hg r c h, gWin_at q p hu r c (by omega)]
  unfold hid dH
  rw [dif_pos (show (⟨o + c.val, h⟩ : Fin 2048).val < 1024 by show o + c.val < 1024; omega)]
  have e : (⟨p + c.val, by omega⟩ : Fin 2048) = ⟨1024 + (o + c.val), by omega⟩ := Fin.ext (by show p + c.val = 1024 + (o + c.val); omega)
  rw [e]
  rfl

/-- A chunk of the up gradients. -/
theorem up_chunk (q : Ins Ideal) (o p : ℕ) (hw hg) (ho : o + 256 ≤ 1024) (hp : p = 1024 + o) (r : Fin 512) (c : Fin 256) (h : p + c.val < 2048) :
    k0_pay34 (v137 q) (c8_1 q) (wWin q o hw) (gWin q o hg) (ix2 r c) = hid q r ⟨p + c.val, h⟩ := by
  have hc := c.isLt
  unfold k0_pay34 k0_pay32 k0_pay31
  simp only [e_mul, e_ext, e_logistic, shapeCast_id]
  rw [da_chunk q o hw r c (by omega), gWin_at q o hg r c (by omega)]
  unfold hid dH
  rw [dif_neg (show ¬(⟨p + c.val, h⟩ : Fin 2048).val < 1024 by show ¬(p + c.val < 1024); omega)]
  have e : (⟨o + c.val, by omega⟩ : Fin 1024) = ⟨p + c.val - 1024, by omega⟩ := Fin.ext (by show o + c.val = p + c.val - 1024; omega)
  have e' : (⟨o + c.val, by omega⟩ : Fin 2048) = ⟨p + c.val - 1024, by omega⟩ := Fin.ext (by show o + c.val = p + c.val - 1024; omega)
  rw [e, e']
  rfl

/-- The chunks of the block's dh as the body computes them. -/
def gch (q : Ins Ideal) (o p : ℕ) (hw : ∀ a, (![o, 0] : Fin 2 → ℕ) a + S256x3072.size a ≤ S1024x3072.size a)
    (hg : ∀ a, (![0, o] : Fin 2 → ℕ) a + S512x256.size a ≤ S512x2048.size a) (hu : ∀ a, (![0, p] : Fin 2 → ℕ) a + S512x256.size a ≤ S512x2048.size a) : FVec Ideal S512x256 .f32 := k0_pay33 (v137 q) (c8_1 q) (wWin q o hw) (gWin q o hg) (gWin q p hu)
def uch (q : Ins Ideal) (o : ℕ) (hw : ∀ a, (![o, 0] : Fin 2 → ℕ) a + S256x3072.size a ≤ S1024x3072.size a)
    (hg : ∀ a, (![0, o] : Fin 2 → ℕ) a + S512x256.size a ≤ S512x2048.size a) : FVec Ideal S512x256 .f32 := k0_pay34 (v137 q) (c8_1 q) (wWin q o hw) (gWin q o hg)

def g0 (q : Ins Ideal) := gch q 0 1024 inb_S1024x3072_S256x3072_0_0 inb_S512x2048_S512x256_0_0 inb_S512x2048_S512x256_0_1024
def g1 (q : Ins Ideal) := gch q 256 1280 inb_S1024x3072_S256x3072_256_0 inb_S512x2048_S512x256_0_256 inb_S512x2048_S512x256_0_1280
def g2 (q : Ins Ideal) := gch q 512 1536 inb_S1024x3072_S256x3072_512_0 inb_S512x2048_S512x256_0_512 inb_S512x2048_S512x256_0_1536
def g3 (q : Ins Ideal) := gch q 768 1792 inb_S1024x3072_S256x3072_768_0 inb_S512x2048_S512x256_0_768 inb_S512x2048_S512x256_0_1792
def u0 (q : Ins Ideal) := uch q 0 inb_S1024x3072_S256x3072_0_0 inb_S512x2048_S512x256_0_0
def u1 (q : Ins Ideal) := uch q 256 inb_S1024x3072_S256x3072_256_0 inb_S512x2048_S512x256_0_256
def u2 (q : Ins Ideal) := uch q 512 inb_S1024x3072_S256x3072_512_0 inb_S512x2048_S512x256_0_512
def u3 (q : Ins Ideal) := uch q 768 inb_S1024x3072_S256x3072_768_0 inb_S512x2048_S512x256_0_768

variable (q : Ins Ideal)

theorem g0_at (r : Fin 512) (c : Fin 256) (h : 0 + c.val < 2048) : g0 q (ix2 r c) = hid q r ⟨0 + c.val, h⟩ := gate_chunk q 0 1024 _ _ _ (by omega) rfl r c h
theorem g1_at (r : Fin 512) (c : Fin 256) (h : 256 + c.val < 2048) : g1 q (ix2 r c) = hid q r ⟨256 + c.val, h⟩ := gate_chunk q 256 1280 _ _ _ (by omega) rfl r c h
theorem g2_at (r : Fin 512) (c : Fin 256) (h : 512 + c.val < 2048) : g2 q (ix2 r c) = hid q r ⟨512 + c.val, h⟩ := gate_chunk q 512 1536 _ _ _ (by omega) rfl r c h
theorem g3_at (r : Fin 512) (c : Fin 256) (h : 768 + c.val < 2048) : g3 q (ix2 r c) = hid q r ⟨768 + c.val, h⟩ := gate_chunk q 768 1792 _ _ _ (by omega) rfl r c h
theorem u0_at (r : Fin 512) (c : Fin 256) (h : 1024 + c.val < 2048) : u0 q (ix2 r c) = hid q r ⟨1024 + c.val, h⟩ := up_chunk q 0 1024 _ _ (by omega) rfl r c h
theorem u1_at (r : Fin 512) (c : Fin 256) (h : 1280 + c.val < 2048) : u1 q (ix2 r c) = hid q r ⟨1280 + c.val, h⟩ := up_chunk q 256 1280 _ _ (by omega) rfl r c h
theorem u2_at (r : Fin 512) (c : Fin 256) (h : 1536 + c.val < 2048) : u2 q (ix2 r c) = hid q r ⟨1536 + c.val, h⟩ := up_chunk q 512 1536 _ _ (by omega) rfl r c h
theorem u3_at (r : Fin 512) (c : Fin 256) (h : 1792 + c.val < 2048) : u3 q (ix2 r c) = hid q r ⟨1792 + c.val, h⟩ := up_chunk q 768 1792 _ _ (by omega) rfl r c h

/-! ### The block of dh -/

theorem c12_eq (x : Vec Ideal S512x2048 .bf16) (r : Fin 512) (k : Fin 2048) : c12_8 q x (ix2 r k) = hid q r k := by
  have s1 : Agree (c12_1 q x) (hid q) _ := agree_put (agree_none x _) 0 _ (g0_at q)
  have s2 : Agree (c12_2 q x) (hid q) _ := agree_put s1 1024 _ (u0_at q)
  have s3 : Agree (c12_3 q x) (hid q) _ := agree_put s2 256 _ (g1_at q)
  have s4 : Agree (c12_4 q x) (hid q) _ := agree_put s3 1280 _ (u1_at q)
  have s5 : Agree (c12_5 q x) (hid q) _ := agree_put s4 512 _ (g2_at q)
  have s6 : Agree (c12_6 q x) (hid q) _ := agree_put s5 1536 _ (u2_at q)
  have s7 : Agree (c12_7 q x) (hid q) _ := agree_put s6 768 _ (g3_at q)
  have s8 : Agree (c12_8 q x) (hid q) _ := agree_put s7 1792 _ (u3_at q)
  exact s8 r k (by have := k.isLt; omega)

theorem dh_eq (r : Fin 512) (k : Fin 2048) : dh q (ix2 r k) = hid q r k := c12_eq q _ r k

/-! ### Its column maxima -/

/-- The column maxima of a chunk over what was there. -/
theorem colmax_chunk (g : FVec Ideal S512x256 .f32) (x : Vec Ideal S1x2048 .f32) (o : ℕ) (h) (hg : ∀ r (c : Fin 256) (ho : o + c.val < 2048), g (ix2 r c) = hid q r ⟨o + c.val, ho⟩)
    (c : Fin 256) (ho : o + c.val < 2048) :
    k0_pay37 g (VecWindow.window x ![0, o] S1x256.size h) (ix2 0 c) = max (x (ix2 0 ⟨o + c.val, ho⟩) : EReal) (colMax (hid q) ⟨o + c.val, ho⟩) := by
  unfold k0_pay37 k0_pay36
  simp only [shapeCast_id, e_max]
  rw [r_crow]
  refine congrArg₂ max ?_ ((r_maxc _ _ _ _ _).trans ?_)
  · exact (window_at x 0 o h 0 c (by decide) ho).trans (congrArg (fun z => x (ix2 z _)) (Subsingleton.elim _ _))
  · unfold colMax
    refine congrArg (Finset.univ.sup ·) (funext fun r => ?_)
    rw [e_abs, hg r c ho]

theorem c16_eq (k : Fin 2048) : c16_8 q (ix2 0 k) = max (q.a16 (ix2 0 k) : EReal) (colMax (hid q) k) := by
  have s1 : Raised q.a16 (c16_1 q) (colMax (hid q)) _ := raised_put (raised_none q.a16 _) 0 (by simp) _ (colmax_chunk q (g0 q) q.a16 0 inb_S1x2048_S1x256_0_0 (g0_at q))
  have s2 : Raised q.a16 (c16_2 q) (colMax (hid q)) _ := raised_put s1 1024 (fun c h1 h2 h3 => by simp only [false_or] at h3; omega) _ (colmax_chunk q (u0 q) (c16_1 q) 1024 inb_S1x2048_S1x256_0_1024 (u0_at q))
  have s3 : Raised q.a16 (c16_3 q) (colMax (hid q)) _ := raised_put s2 256 (fun c h1 h2 h3 => by simp only [false_or] at h3; omega) _ (colmax_chunk q (g1 q) (c16_2 q) 256 inb_S1x2048_S1x256_0_256 (g1_at q))
  have s4 : Raised q.a16 (c16_4 q) (colMax (hid q)) _ := raised_put s3 1280 (fun c h1 h2 h3 => by simp only [false_or] at h3; omega) _ (colmax_chunk q (u1 q) (c16_3 q) 1280 inb_S1x2048_S1x256_0_1280 (u1_at q))
  have s5 : Raised q.a16 (c16_5 q) (colMax (hid q)) _ := raised_put s4 512 (fun c h1 h2 h3 => by simp only [false_or] at h3; omega) _ (colmax_chunk q (g2 q) (c16_4 q) 512 inb_S1x2048_S1x256_0_512 (g2_at q))
  have s6 : Raised q.a16 (c16_6 q) (colMax (hid q)) _ := raised_put s5 1536 (fun c h1 h2 h3 => by simp only [false_or] at h3; omega) _ (colmax_chunk q (u2 q) (c16_5 q) 1536 inb_S1x2048_S1x256_0_1536 (u2_at q))
  have s7 : Raised q.a16 (c16_7 q) (colMax (hid q)) _ := raised_put s6 768 (fun c h1 h2 h3 => by simp only [false_or] at h3; omega) _ (colmax_chunk q (g3 q) (c16_6 q) 768 inb_S1x2048_S1x256_0_768 (g3_at q))
  have s8 : Raised q.a16 (c16_8 q) (colMax (hid q)) _ := raised_put s7 1792 (fun c h1 h2 h3 => by simp only [false_or] at h3; omega) _ (colmax_chunk q (u3 q) (c16_7 q) 1792 inb_S1x2048_S1x256_0_1792 (u3_at q))
  exact (s8 k).1 (by have := k.isLt; omega)

/-! ### Its row maxima -/

/-- The two halves of a chunk, lane by lane. -/
theorem lanes_le (g : FVec Ideal S512x256 .f32) (o : ℕ) (ho : o + 256 ≤ 2048) (hg : ∀ r (c : Fin 256) (ho : o + c.val < 2048), g (ix2 r c) = hid q r ⟨o + c.val, ho⟩)
    (r : Fin 512) (l : Fin 128) (h h') :
    maximumf (extractStridedSlice S512x128 ![0, 0] (absf g) h) (extractStridedSlice S512x128 ![0, 128] (absf g) h') (ix2 r l)
      = max (ab (hid q r ⟨o + l.val, by have := l.isLt; omega⟩)) (ab (hid q r ⟨o + 128 + l.val, by have := l.isLt; omega⟩)) := by
  have hl := l.isLt
  rw [e_max, r_slice _ 0 _ _ _ (by omega), r_slice _ 128 _ _ _ (by omega)]
  simp only [e_abs]
  rw [hg r ⟨0 + l.val, by omega⟩ (by show o + (0 + l.val) < 2048; omega), hg r ⟨128 + l.val, by omega⟩ (by show o + (128 + l.val) < 2048; omega)]
  have e : (⟨o + (0 + l.val), by omega⟩ : Fin 2048) = ⟨o + l.val, by omega⟩ := Fin.ext (by show o + (0 + l.val) = o + l.val; omega)
  have e' : (⟨o + (128 + l.val), by omega⟩ : Fin 2048) = ⟨o + 128 + l.val, by omega⟩ := Fin.ext (by show o + (128 + l.val) = o + 128 + l.val; omega)
  show max (ab (hid q r ⟨o + (0 + l.val), _⟩)) (ab (hid q r ⟨o + (128 + l.val), _⟩)) = _
  rw [e, e']

/-- The lane maxima over all chunks. -/
def lanes : FVec Ideal S512x128 .f32 :=
  maximumf (v321 q) (maximumf (extractStridedSlice S512x128 ![0, 0] (absf (u3 q)) slices_S512x256_o0_0_S512x128) (extractStridedSlice S512x128 ![0, 128] (absf (u3 q)) slices_S512x256_o0_128_S512x128))

/-- Maxima of two lanes. -/
abbrev two (g : FVec Ideal S512x256 .f32) : FVec Ideal S512x128 .f32 :=
  maximumf (extractStridedSlice S512x128 ![0, 0] (absf g) slices_S512x256_o0_0_S512x128) (extractStridedSlice S512x128 ![0, 128] (absf g) slices_S512x256_o0_128_S512x128)

theorem lanes_def : lanes q = maximumf (maximumf (maximumf (maximumf (maximumf (maximumf (maximumf (maximumf
    (broadcast S512x128 (Scalar.ofBits (F := Ideal) .f32 0x00000000#32)) (two (g0 q))) (two (u0 q))) (two (g1 q))) (two (u1 q))) (two (g2 q))) (two (u2 q))) (two (g3 q))) (two (u3 q)) := rfl

theorem lanes_row (r : Fin 512) : (Finset.univ.sup fun l : Fin 128 => (lanes q (ix2 r l) : EReal)) = rowMax (hid q) r := by
  refine sup_lanes 16 rfl _ _ fun l c => ?_
  rw [lanes_def]
  simp only [e_max, e_bc, s_bits, ofBits_zero]
  have e0 := lanes_le q (g0 q) 0 (by omega) (g0_at q) r l slices_S512x256_o0_0_S512x128 slices_S512x256_o0_128_S512x128
  have e1 := lanes_le q (g1 q) 256 (by omega) (g1_at q) r l slices_S512x256_o0_0_S512x128 slices_S512x256_o0_128_S512x128
  have e2 := lanes_le q (g2 q) 512 (by omega) (g2_at q) r l slices_S512x256_o0_0_S512x128 slices_S512x256_o0_128_S512x128
  have e3 := lanes_le q (g3 q) 768 (by omega) (g3_at q) r l slices_S512x256_o0_0_S512x128 slices_S512x256_o0_128_S512x128
  have f0 := lanes_le q (u0 q) 1024 (by omega) (u0_at q) r l slices_S512x256_o0_0_S512x128 slices_S512x256_o0_128_S512x128
  have f1 := lanes_le q (u1 q) 1280 (by omega) (u1_at q) r l slices_S512x256_o0_0_S512x128 slices_S512x256_o0_128_S512x128
  have f2 := lanes_le q (u2 q) 1536 (by omega) (u2_at q) r l slices_S512x256_o0_0_S512x128 slices_S512x256_o0_128_S512x128
  have f3 := lanes_le q (u3 q) 1792 (by omega) (u3_at q) r l slices_S512x256_o0_0_S512x128 slices_S512x256_o0_128_S512x128
  simp only [e_max] at e0 e1 e2 e3 f0 f1 f2 f3
  rw [e0, e1, e2, e3, f0, f1, f2, f3]
  simp only [max_le_iff]
  constructor
  · rintro ⟨⟨⟨⟨⟨⟨⟨⟨-, a0, a1⟩, b0, b1⟩, a2, a3⟩, b2, b3⟩, a4, a5⟩, b4, b5⟩, a6, a7⟩, b6, b7⟩ j
    fin_cases j
    exacts [a0, a1, a2, a3, a4, a5, a6, a7, b0, b1, b2, b3, b4, b5, b6, b7]
  · intro h
    exact ⟨⟨⟨⟨⟨⟨⟨⟨(ab_nonneg _).trans (h 0), h 0, h 1⟩, h 8, h 9⟩, h 2, h 3⟩, h 10, h 11⟩, h 4, h 5⟩, h 12, h 13⟩, h 6, h 7⟩, h 14, h 15⟩

theorem v362_eq (r : Fin 512) : v362 q (ix2 r 0) = kExpo (rowMax (hid q) r * cQ) := by
  show k0_pay11 (shapeCast S512x1 (multiReduction .maximumf [1] S512 (lanes q) 0xFF800000#32 reduces_S512x128_S512 (.inl rfl) rfl) shapeCasts_S512_S512x1)
    (Scalar.ofBits (F := Ideal) .f32 0x37924925#32) (ix2 r 0) = _
  rw [pay11_eq, r_ccol, ← lanes_row]
  exact congrArg (fun z : EReal => kExpo (z * cQ)) (r_maxr _ _ _ _ _)

theorem pay70_eq (r : Fin 512) : k0_pay70 (F := Ideal) (v366 q) (ix2 r 0) = scale (rowMax (hid q) r) := by
  unfold k0_pay70 v366 k0_pay69
  simp only [e_bits, e_shli, e_addi, e_bc]
  have e := v362_eq q r
  unfold v362 at e
  rw [e]
  exact kScale_eq _

/-- The row scales of dh. -/
theorem pay71_eq (r : Fin 512) : k0_pay71 (F := Ideal) (v366 q) (ix2 0 r) = scale (rowMax (hid q) r) := by
  unfold k0_pay71
  rw [r_ctr, pay70_eq]

/-- The row codes of dh. -/
theorem c10_eq (r : Fin 512) (k : Fin 2048) : c10_1 q (ix2 r k) = quR (hid q) r k := by
  unfold c10_1 k0_pay72
  simp only [e_trunc, e_min, e_max, e_bc, e_mul, shapeCast_id, s_trunc, s_bits]
  rw [r_bcol]
  simp only [e_trunc, e_bits, e_shli, e_subi, e_bc]
  rw [v362_eq, dh_eq]
  show clip (hid q r k * kInv (rowMax (hid q) r)) = _
  rw [kInv_eq]
  rfl

/-! ### The gradient of the input -/

/-- The gradient of the input over the block. -/
def inp : Mat 512 3072 := dX (hid q) (mat q.x5) (q.x1 z11)

theorem dx_chunk (o : ℕ) (h) (r : Fin 512) (c : Fin 256) (ho : o + c.val < 3072) :
    k0_pay77 (v392 q) (c10_1 q) (VecWindow.window q.x5 ![o, 0] S256x2048.size h) (ix2 r c) = inp q r ⟨o + c.val, ho⟩ := by
  unfold k0_pay77
  simp only [e_mul, e_trunc, shapeCast_id]
  rw [r_bcol, dot_dx]
  unfold v392 k0_pay73
  simp only [e_mul, e_bc, pay70_eq]
  unfold inp dX
  refine congrArg₂ (· * ·) (Finset.sum_congr rfl fun k _ => ?_) rfl
  refine congrArg₂ (· * ·) (c10_eq q r k) ?_
  refine (window_at q.x5 o 0 h c k ho (by have := k.isLt; omega)).trans ?_
  exact congrArg (fun l => q.x5 (ix2 _ l)) (Fin.ext (Nat.zero_add _))

theorem dx_eq (r : Fin 512) (l : Fin 3072) : dx q (ix2 r l) = inp q r l := by
  have s1 : Agree (c7_1 q q.x3) (inp q) _ := agree_put (agree_none q.x3 _) 0 _ (dx_chunk q 0 inb_S3072x2048_S256x2048_0_0)
  have s2 : Agree (c7_2 q q.x3) (inp q) _ := agree_put s1 256 _ (dx_chunk q 256 inb_S3072x2048_S256x2048_256_0)
  have s3 : Agree (c7_3 q q.x3) (inp q) _ := agree_put s2 512 _ (dx_chunk q 512 inb_S3072x2048_S256x2048_512_0)
  have s4 : Agree (c7_4 q q.x3) (inp q) _ := agree_put s3 768 _ (dx_chunk q 768 inb_S3072x2048_S256x2048_768_0)
  have s5 : Agree (c7_5 q q.x3) (inp q) _ := agree_put s4 1024 _ (dx_chunk q 1024 inb_S3072x2048_S256x2048_1024_0)
  have s6 : Agree (c7_6 q q.x3) (inp q) _ := agree_put s5 1280 _ (dx_chunk q 1280 inb_S3072x2048_S256x2048_1280_0)
  have s7 : Agree (c7_7 q q.x3) (inp q) _ := agree_put s6 1536 _ (dx_chunk q 1536 inb_S3072x2048_S256x2048_1536_0)
  have s8 : Agree (c7_8 q q.x3) (inp q) _ := agree_put s7 1792 _ (dx_chunk q 1792 inb_S3072x2048_S256x2048_1792_0)
  have s9 : Agree (c7_9 q q.x3) (inp q) _ := agree_put s8 2048 _ (dx_chunk q 2048 inb_S3072x2048_S256x2048_2048_0)
  have s10 : Agree (c7_10 q q.x3) (inp q) _ := agree_put s9 2304 _ (dx_chunk q 2304 inb_S3072x2048_S256x2048_2304_0)
  have s11 : Agree (c7_11 q q.x3) (inp q) _ := agree_put s10 2560 _ (dx_chunk q 2560 inb_S3072x2048_S256x2048_2560_0)
  have s12 : Agree (c7_12 q q.x3) (inp q) _ := agree_put s11 2816 _ (dx_chunk q 2816 inb_S3072x2048_S256x2048_2816_0)
  exact s12 r l (by have := l.isLt; omega)

end Cert.KernelIdeal.Values

end
-- ==== Proof.Values.RowsArr.lean ====
/-
  What the result arrays of `rows` hold after the call, as functions of the arrays it reads.
-/
module

public import proofs.«01_k».proof.Proof.KernelIdeal.Rows
public import proofs.«01_k».proof.Proof.Values.RowsHid
public import Idealize.ShloMosaic.Lib.Pipeline.ValueKit

@[expose] public section

set_option maxRecDepth 16384

noncomputable section

namespace Cert.KernelIdeal.Values

open Idealize.ShloMosaic Cert.Values Idealize.ShloMosaic.TcCoe
open Cert.KernelIdeal Cert.KernelIdeal.Gen Cert.KernelIdeal.Rows

theorem eta2 {n m : ℕ} (y : (⟨2, ![n, m]⟩ : Shape).Idx) : y = ix2 (y 0) (y 1) := funext fun a => by
  match a with
  | 0 => rfl
  | 1 => rfl

variable (W : Dev nD → Valuation τ sig (Elt Ideal)) (c : Dev nD)

/-! ### What the call reads -/

def DY : Mat 8192 3072 := fun r l => W c main_v0 (ix2 r l)
def GU : Mat 8192 2048 := fun r l => W c main_v1 (ix2 r l)
def WA : Mat 3072 2048 := fun r l => W c main_arg6 (ix2 r l)
def WB : Mat 1024 3072 := fun r l => W c main_arg8 (ix2 r l)
def SA : EReal := W c main_v2 (ix2 0 0)
def SB : EReal := W c main_v3 (ix2 0 0)

/-- The gradient of the hidden layer. -/
def DH : Mat 8192 2048 := dH (DY W c) (GU W c) (WB W c) (SB W c)

/-- Rows `512 t …` of a matrix. -/
def rb {m : ℕ} (v : Mat 8192 m) (t : Fin cfg0.N) : Mat 512 m := fun r => v ⟨512 * t.val + r.val, by have := hN t; have := r.isLt; omega⟩

theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)
theorem idx_9 : ∀ t : Fin cfg0.N, win0_9.index t = ![t.val, 0] := (by decide +kernel : ∀ t : Fin grid0.N, _)
theorem idx_11 : ∀ t : Fin cfg0.N, win0_11.index t = ![t.val, 0] := (by decide +kernel : ∀ t : Fin grid0.N, _)

theorem blk_0 (t : Fin cfg0.N) : iblk W c 0 t z11 = SA W c := by
  blk_simp [iblk]
  exact congrArg (W c main_v2) (Subsingleton.elim (α := S1x1.Idx) _ _)

theorem blk_1 (t : Fin cfg0.N) : iblk W c 1 t z11 = SB W c := by
  blk_simp [iblk]
  exact congrArg (W c main_v3) (Subsingleton.elim (α := S1x1.Idx) _ _)

theorem blk_2 (t : Fin cfg0.N) (r : Fin 512) (l : Fin 3072) : iblk W c 2 t (ix2 r l) = rb (DY W c) t r l := by
  unfold rb DY
  blk_ext [iblk, idx_2 t]

theorem blk_3 (t : Fin cfg0.N) (r : Fin 512) (l : Fin 2048) : iblk W c 3 t (ix2 r l) = rb (GU W c) t r l := by
  unfold rb GU
  blk_ext [iblk, idx_3 t]

theorem blk_4 (t : Fin cfg0.N) (r : Fin 3072) (l : Fin 2048) : iblk W c 4 t (ix2 r l) = WA W c r l := by
  unfold WA
  blk_ext [iblk, idx_4 t]

theorem blk_5 (t : Fin cfg0.N) (r : Fin 1024) (l : Fin 3072) : iblk W c 5 t (ix2 r l) = WB W c r l := by
  unfold WB
  blk_ext [iblk, idx_5 t]

variable (t : Fin cfg0.N) (a : Vec Ideal S1x3072 .bf16 × Vec Ideal S1x2048 .f32)

theorem x3_eq : mat (insAt W c t a).x3 = rb (DY W c) t := funext fun r => funext fun l => blk_2 W c t r l
theorem x4_eq : mat (insAt W c t a).x4 = rb (GU W c) t := funext fun r => funext fun l => blk_3 W c t r l
theorem x5_eq : mat (insAt W c t a).x5 = WA W c := funext fun r => funext fun l => blk_4 W c t r l
theorem x6_eq : mat (insAt W c t a).x6 = WB W c := funext fun r => funext fun l => blk_5 W c t r l

theorem hid_eq : hid (insAt W c t a) = rb (DH W c) t := by
  unfold hid
  rw [x3_eq, x4_eq, x6_eq, show (insAt W c t a).x2 z11 = SB W c from blk_1 W c t]
  rfl

theorem inp_eq : inp (insAt W c t a) = rb (dX (DH W c) (WA W c) (SA W c)) t := by
  unfold inp
  rw [hid_eq, x5_eq, show (insAt W c t a).x1 z11 = SA W c from blk_0 W c t]
  rfl

/-! ### The column maxima -/

/-- The maximum over the first rows, block by block. -/
theorem le_blocks (f : Fin 8192 → EReal) (n : ℕ) (hn : n < cfg0.N) (x p : EReal)
    (hp : p ≤ x ↔ 0 ≤ x ∧ ∀ r : Fin 8192, r.val < 512 * n → f r ≤ x) :
    max p (Finset.univ.sup fun r : Fin 512 => f ⟨512 * n + r.val, by have := hN ⟨n, hn⟩; have : n < 16 := this; have := r.isLt; omega⟩) ≤ x
      ↔ 0 ≤ x ∧ ∀ r : Fin 8192, r.val < 512 * (n + 1) → f r ≤ x := by
  have h16 : n < 16 := hN ⟨n, hn⟩
  rw [max_le_iff, hp, Finset.sup_le_iff]
  constructor
  · rintro ⟨⟨h0, h1⟩, h2⟩
    refine ⟨h0, fun r hr => ?_⟩
    by_cases h : r.val < 512 * n
    · exact h1 r h
    · have := h2 ⟨r.val - 512 * n, by omega⟩ (Finset.mem_univ _)
      have e : (⟨512 * n + (r.val - 512 * n), by have := r.isLt; omega⟩ : Fin 8192) = r := Fin.ext (by show 512 * n + (r.val - 512 * n) = r.val; omega)
      rwa [← e]
  · rintro ⟨h0, h1⟩
    exact ⟨⟨h0, fun r hr => h1 r (by omega)⟩, fun r _ => h1 _ (by have := r.isLt; show 512 * n + r.val < _; omega)⟩

theorem colIn_le (l : Fin 3072) (k : Fin 2048) : ∀ (n : ℕ) (h : n < cfg0.N) (x : EReal),
    (((colIn W c n h).1 (ix2 0 l) : EReal) ≤ x ↔ 0 ≤ x ∧ ∀ r : Fin 8192, r.val < 512 * n → ab (DY W c r l) ≤ x)
    ∧ (((colIn W c n h).2 (ix2 0 k) : EReal) ≤ x ↔ 0 ≤ x ∧ ∀ r : Fin 8192, r.val < 512 * n → ab (DH W c r k) ≤ x) := by
  intro n
  induction n with
  | zero =>
    intro h x
    have e1 : ((colIn W c 0 h).1 (ix2 0 l) : EReal) = 0 := by
      show k0_pay4 (F := Ideal) (ix2 0 l) = (0 : EReal)
      unfold k0_pay4
      rw [shapeCast_id]
      exact ofBits_zero16
    have e2 : ((colIn W c 0 h).2 (ix2 0 k) : EReal) = 0 := by
      show k0_pay5 (F := Ideal) (ix2 0 k) = (0 : EReal)
      unfold k0_pay5
      rw [shapeCast_id]
      exact ofBits_zero
    rw [e1, e2]
    refine ⟨⟨fun h => ⟨h, fun r hr => ?_⟩, fun h => h.1⟩, ⟨fun h => ⟨h, fun r hr => ?_⟩, fun h => h.1⟩⟩ <;> exact absurd hr (by omega)
  | succ n ih =>
    intro h x
    have h' : n < cfg0.N := Nat.lt_of_succ_lt h
    refine ⟨?_, ?_⟩
    · show (c15_1 (insAt W c ⟨n, h'⟩ (colIn W c n h')) (ix2 0 l) : EReal) ≤ x ↔ _
      rw [c15_eq, x3_eq]
      exact le_blocks (fun r => ab (DY W c r l)) n h' x _ (ih h' x).1
    · show (c16_8 (insAt W c ⟨n, h'⟩ (colIn W c n h')) (ix2 0 k) : EReal) ≤ x ↔ _
      rw [c16_eq, hid_eq]
      exact le_blocks (fun r => ab (DH W c r k)) n h' x _ (ih h' x).2

theorem all_rows (f : Fin 8192 → EReal) (x : EReal) : (0 ≤ x ∧ ∀ r : Fin 8192, r.val < 512 * (15 + 1) → ab (f r) ≤ x) ↔ (Finset.univ.sup fun r => ab (f r)) ≤ x := by
  rw [Finset.sup_le_iff]
  exact ⟨fun h r _ => h.2 r r.isLt, fun h => ⟨(ab_nonneg (f 0)).trans (h 0 (Finset.mem_univ _)), fun r _ => h r (Finset.mem_univ _)⟩⟩

theorem c15_last (l : Fin 3072) : c15_1 (ins W c t0_15) (ix2 0 l) = colMax (DY W c) l := by
  refine eq_of_forall_ge_iff fun x => ?_
  unfold ins
  rw [c15_eq, x3_eq]
  exact (le_blocks (fun r => ab (DY W c r l)) 15 t0_15.isLt x _ (colIn_le W c l 0 15 t0_15.isLt x).1).trans (all_rows _ x)

theorem c16_last (k : Fin 2048) : c16_8 (ins W c t0_15) (ix2 0 k) = colMax (DH W c) k := by
  refine eq_of_forall_ge_iff fun x => ?_
  unfold ins
  rw [c16_eq, hid_eq]
  exact (le_blocks (fun r => ab (DH W c r k)) 15 t0_15.isLt x _ (colIn_le W c 0 k 15 t0_15.isLt x).2).trans (all_rows _ x)

/-! ### The row scales -/

theorem put_row (x : Vec Ideal S8x1024 .f32) (w : FVec Ideal S1x512 .f32) (y : S8x1024.Idx) :
    VecWindow.put x (k0_off1 (grid0.coords t)) S1x512.size w y
      = if 2 * (y 0).val + (y 1).val / 512 = t.val then w (ix2 0 ⟨(y 1).val % 512, Nat.mod_lt _ (by norm_num)⟩) else x y := by
  have hc : (y 1).val < 1024 := (y 1).isLt
  by_cases h : 2 * (y 0).val + (y 1).val / 512 = t.val
  · rw [if_pos h]
    unfold VecWindow.put
    rw [dif_pos (cover y t.val t.isLt h)]
    refine congrArg w (funext fun a => Fin.ext ?_)
    show (y a).val - k0_off1 (grid0.coords t) a = _
    rw [off1_eq]
    match a with
    | 0 => show (y 0).val - t.val / 2 = 0; omega
    | 1 => show (y 1).val - 512 * (t.val % 2) = (y 1).val % 512; omega
  · rw [if_neg h]
    unfold VecWindow.put
    rw [dif_neg]
    intro hh
    rw [off1_eq] at hh
    have h0 : t.val / 2 ≤ (y 0).val ∧ (y 0).val < t.val / 2 + 1 := hh 0
    have h1 : 512 * (t.val % 2) ≤ (y 1).val ∧ (y 1).val < 512 * (t.val % 2) + 512 := hh 1
    omega

/-- The row of the token at place `y`. -/
def tok (y : S8x1024.Idx) : Fin 8192 := ⟨1024 * (y 0).val + (y 1).val, by have h0 : (y 0).val < 8 := (y 0).isLt; have h1 : (y 1).val < 1024 := (y 1).isLt; omega⟩

theorem tok_eq (y : S8x1024.Idx) (h : 2 * (y 0).val + (y 1).val / 512 = t.val) (f : Fin 8192 → EReal) (hb) :
    f ⟨512 * t.val + (y 1).val % 512, hb⟩ = f (tok y) :=
  congrArg f (Fin.ext (by show 512 * t.val + (y 1).val % 512 = 1024 * (y 0).val + (y 1).val; omega))

theorem scan8_eq (y : S8x1024.Idx) : ∀ (n : ℕ) (h : n < cfg0.N), 2 * (y 0).val + (y 1).val / 512 ≤ n →
    scan8 W c n h y = scale (rowMax (DY W c) (tok y)) := by
  have key : ∀ (n : ℕ) (h : n < cfg0.N) (x), 2 * (y 0).val + (y 1).val / 512 = n → c9_1 (ins W c ⟨n, h⟩) (grid0.coords ⟨n, h⟩) x y = scale (rowMax (DY W c) (tok y)) := fun n h x e => by
    unfold c9_1
    rw [put_row, if_pos e, pay14_eq]
    unfold ins
    rw [x3_eq]
    exact congrArg scale (tok_eq ⟨n, h⟩ y e (rowMax (DY W c)) _)
  intro n
  induction n with
  | zero => exact fun h hy => key 0 h _ (by omega)
  | succ n ih =>
    intro h hy
    by_cases e : 2 * (y 0).val + (y 1).val / 512 = n + 1
    · exact key (n + 1) h _ e
    · rw [scan8]
      unfold c9_1
      rw [put_row, if_neg e]
      exact ih _ (by omega)

theorem scan10_eq (y : S8x1024.Idx) : ∀ (n : ℕ) (h : n < cfg0.N), 2 * (y 0).val + (y 1).val / 512 ≤ n →
    scan10 W c n h y = scale (rowMax (DH W c) (tok y)) := by
  have key : ∀ (n : ℕ) (h : n < cfg0.N) (x), 2 * (y 0).val + (y 1).val / 512 = n → c11_1 (ins W c ⟨n, h⟩) (grid0.coords ⟨n, h⟩) x y = scale (rowMax (DH W c) (tok y)) := fun n h x e => by
    unfold c11_1
    rw [put_row, if_pos e, pay71_eq]
    unfold ins
    rw [hid_eq]
    exact congrArg scale (tok_eq ⟨n, h⟩ y e (rowMax (DH W c)) _)
  intro n
  induction n with
  | zero => exact fun h hy => key 0 h _ (by omega)
  | succ n ih =>
    intro h hy
    by_cases e : 2 * (y 0).val + (y 1).val / 512 = n + 1
    · exact key (n + 1) h _ e
    · rw [scan10]
      unfold c11_1
      rw [put_row, if_neg e]
      exact ih _ (by omega)

/-! ### The result arrays -/

theorem row0 {m : ℕ} (y : (⟨2, ![1, m]⟩ : Shape).Idx) : y = ix2 0 (y 1) := (eta2 y).trans (congrArg (ix2 · (y 1)) (Subsingleton.elim (α := Fin 1) _ _))

theorem at_6 (y : S512x3072.Idx) : dx (ins W c t) y = rb (dX (DH W c) (WA W c) (SA W c)) t (y 0) (y 1) := by
  refine (congrArg (dx (ins W c t)) (eta2 y)).trans ((dx_eq _ _ _).trans ?_)
  unfold ins
  exact congrFun (congrFun (inp_eq W c t _) _) _

theorem at_7 (y : S512x3072.Idx) : c8_1 (ins W c t) y = rb (quR (DY W c)) t (y 0) (y 1) := by
  refine (congrArg (c8_1 (ins W c t)) (eta2 y)).trans ((c8_eq _ _ _).trans ?_)
  unfold ins
  rw [x3_eq]
  rfl

theorem at_9 (y : S512x2048.Idx) : c10_1 (ins W c t) y = rb (quR (DH W c)) t (y 0) (y 1) := by
  refine (congrArg (c10_1 (ins W c t)) (eta2 y)).trans ((c10_eq _ _ _).trans ?_)
  unfold ins
  rw [hid_eq]
  rfl

theorem at_11 (y : S512x2048.Idx) : dh (ins W c t) y = rb (DH W c) t (y 0) (y 1) := by
  refine (congrArg (dh (ins W c t)) (eta2 y)).trans ((dh_eq _ _ _).trans ?_)
  unfold ins
  exact congrFun (congrFun (hid_eq W c t _) _) _

theorem at_12 (y : S1x3072.Idx) : k0_pay2 (c15_1 (ins W c t0_15)) y = scale (colMax (DY W c) (y 1)) :=
  (congrArg (k0_pay2 (c15_1 (ins W c t0_15))) (row0 y)).trans ((pay2_eq _ _).trans (congrArg scale (c15_last W c _)))

theorem at_13 (y : S1x2048.Idx) : k0_pay1 (F := Ideal) (k0_pay3 (c16_8 (ins W c t0_15))) 0#32 y = scale (colMax (DH W c) (y 1)) :=
  (congrArg (k0_pay1 (F := Ideal) (k0_pay3 (c16_8 (ins W c t0_15))) 0#32) (row0 y)).trans ((pay1_eq _ _).trans (congrArg scale (c16_last W c _)))

theorem arr_6 : (dat W c).arrAt 6 cfg0.N = (fun i => dX (DH W c) (WA W c) (SA W c) (i 0) (i 1) : S8192x3072.Idx → EReal) := by
  refine (dat W c).arrAt_eq_of_covers 6 _ (by decide +kernel) fun t hf y => ?_
  blk_simp
  rw [fin_6]
  refine (at_6 W c t y).trans (congrArg₂ (dX (DH W c) (WA W c) (SA W c)) (Fin.ext ?_) (Fin.ext ?_))
  · blk_simp [idx_6 t]
    exact congrArg (· + (y 0).val) (Nat.mul_comm _ _)
  · blk_simp [idx_6 t]

theorem arr_7 : (dat W c).arrAt 7 cfg0.N = (fun i => quR (DY W c) (i 0) (i 1) : S8192x3072.Idx → EReal) := by
  refine (dat W c).arrAt_eq_of_covers 7 _ (by decide +kernel) fun t hf y => ?_
  blk_simp
  rw [fin_7]
  refine (at_7 W c t y).trans (congrArg₂ (quR (DY W c)) (Fin.ext ?_) (Fin.ext ?_))
  · blk_simp [idx_7 t]
    exact congrArg (· + (y 0).val) (Nat.mul_comm _ _)
  · blk_simp [idx_7 t]

theorem arr_9 : (dat W c).arrAt 9 cfg0.N = (fun i => quR (DH W c) (i 0) (i 1) : S8192x2048.Idx → EReal) := by
  refine (dat W c).arrAt_eq_of_covers 9 _ (by decide +kernel) fun t hf y => ?_
  blk_simp
  rw [fin_9]
  refine (at_9 W c t y).trans (congrArg₂ (quR (DH W c)) (Fin.ext ?_) (Fin.ext ?_))
  · blk_simp [idx_9 t]
    exact congrArg (· + (y 0).val) (Nat.mul_comm _ _)
  · blk_simp [idx_9 t]

theorem arr_11 : (dat W c).arrAt 11 cfg0.N = (fun i => DH W c (i 0) (i 1) : S8192x2048.Idx → EReal) := by
  refine (dat W c).arrAt_eq_of_covers 11 _ (by decide +kernel) fun t hf y => ?_
  blk_simp
  rw [fin_11]
  refine (at_11 W c t y).trans (congrArg₂ (DH W c) (Fin.ext ?_) (Fin.ext ?_))
  · blk_simp [idx_11 t]
    exact congrArg (· + (y 0).val) (Nat.mul_comm _ _)
  · blk_simp [idx_11 t]

theorem arr_8 : (dat W c).arrAt 8 cfg0.N = (fun i => scale (rowMax (DY W c) (tok i)) : S8x1024.Idx → EReal) := by
  refine (dat W c).arrAt_eq_of_after_last 8 t0_15 (by decide +kernel) _ fun j => ?_
  blk_simp
  rw [fin_8]
  have h0 : (j 0).val < 8 := (j 0).isLt
  have h1 : (j 1).val < 1024 := (j 1).isLt
  exact scan8_eq W c j 15 t0_15.isLt (by omega)

theorem arr_10 : (dat W c).arrAt 10 cfg0.N = (fun i => scale (rowMax (DH W c) (tok i)) : S8x1024.Idx → EReal) := by
  refine (dat W c).arrAt_eq_of_after_last 10 t0_15 (by decide +kernel) _ fun j => ?_
  blk_simp
  rw [fin_10]
  have h0 : (j 0).val < 8 := (j 0).isLt
  have h1 : (j 1).val < 1024 := (j 1).isLt
  exact scan10_eq W c j 15 t0_15.isLt (by omega)

theorem arr_12 : (dat W c).arrAt 12 cfg0.N = (fun i => scale (colMax (DY W c) (i 1)) : S1x3072.Idx → EReal) := by
  refine (dat W c).arrAt_eq_of_after_last 12 t0_15 (by decide +kernel) _ fun j => ?_
  blk_simp
  rw [fin_12]
  exact at_12 W c j

theorem arr_13 : (dat W c).arrAt 13 cfg0.N = (fun i => scale (colMax (DH W c) (i 1)) : S1x2048.Idx → EReal) := by
  refine (dat W c).arrAt_eq_of_after_last 13 t0_15 (by decide +kernel) _ fun j => ?_
  blk_simp
  rw [fin_13]
  exact at_13 W c j

end Cert.KernelIdeal.Values

end
-- ==== Proof.Values.Point.lean ====
/-
  The reference's quantiser and rescalings, read at an index, at any size.
-/
module

public import proofs.«01_k».proof.Proof.Values.Spec
public import proofs.«01_k».proof.Proof.Values.Read

@[expose] public section

noncomputable section

namespace Cert.Values

open Idealize.ShloMosaic

section Elementwise
variable {s : Shape}

theorem p_expo (v : FVec Ideal s .f32) (i : s.Idx) :
    select (cmpf .olt v (broadcast s (Scalar.ofBits (F := Ideal) .f32 0x00800000#32))) (broadcast s (Scalar.ofBits (F := Ideal) .f32 0x00000000#32))
      (minimumf (addf (floor (divf (log v) (log (broadcast s (Scalar.ofBits (F := Ideal) .f32 0x40000000#32))))) (broadcast s (Scalar.ofBits (F := Ideal) .f32 0x3F800000#32)))
        (broadcast s (Scalar.ofBits (F := Ideal) .f32 0x42E20000#32))) i = expo (v i) := by
  rw [e_sel]
  show Scalar.select (Ideal.cmp .olt (v i) (Ideal.ofBits .f32 0x00800000#32)) (Ideal.ofBits .f32 0x00000000#32)
    (min (Ideal.liftRound Int.floor (Ideal.div (Ideal.log (v i)) (Ideal.log (Ideal.ofBits .f32 0x40000000#32))) + Ideal.ofBits .f32 0x3F800000#32) (Ideal.ofBits .f32 0x42E20000#32) : EReal) = _
  rw [sel_lt, ofBits_zero, ofBits_one]
  rfl

theorem p_gate (d : FVec Ideal s .f32) (g u : FVec Ideal s .bf16) (h h' : FTy.bf16.bits < FTy.f32.bits) (i : s.Idx) :
    mulf (mulf (mulf d (extf .f32 u h)) (logistic (extf .f32 g h')))
      (addf (broadcast s (Scalar.ofBits (F := Ideal) .f32 0x3F800000#32)) (mulf (extf .f32 g h') (subf (broadcast s (Scalar.ofBits (F := Ideal) .f32 0x3F800000#32)) (logistic (extf .f32 g h'))))) i
      = gateG (d i) (g i) (u i) := by
  show ((d i : EReal) * u i * Ideal.logistic (g i) * (Ideal.ofBits .f32 0x3F800000#32 + g i * (Ideal.ofBits .f32 0x3F800000#32 - Ideal.logistic (g i))) : EReal) = _
  rw [ofBits_one]
  rfl

theorem p_up (d : FVec Ideal s .f32) (g : FVec Ideal s .bf16) (h' : FTy.bf16.bits < FTy.f32.bits) (i : s.Idx) :
    mulf (mulf d (extf .f32 g h')) (logistic (extf .f32 g h')) i = upG (d i) (g i) := rfl

end Elementwise

section Shapes
variable {n m : ℕ}

theorem p_quR (v : FVec Ideal ⟨2, ![n, m]⟩ .f32) (e : FVec Ideal ⟨2, ![n, 1]⟩ .f32) (h) (hh : FTy.fp8e5m2.bits < FTy.f32.bits) (r : Fin n) (l : Fin m) (a : EReal) (he : (e (ix2 r 0) : EReal) = expo (a * cQ)) :
    truncf .fp8e5m2 (minimumf (broadcast ⟨2, ![n, m]⟩ (Scalar.ofBits (F := Ideal) .f32 0x47600000#32)) (maximumf (broadcast ⟨2, ![n, m]⟩ (Scalar.ofBits (F := Ideal) .f32 0xC7600000#32))
      (mulf v (broadcastTo ⟨2, ![n, m]⟩ (exp2 (subf (broadcast ⟨2, ![n, 1]⟩ (Scalar.ofBits (F := Ideal) .f32 0x00000000#32)) e)) h)))) hh (ix2 r l)
      = clip (v (ix2 r l) * inv a) := by
  rw [e_trunc, e_min, e_max, e_mul, r_bcol]
  show clip (v (ix2 r l) * Ideal.exp2 (Ideal.ofBits .f32 0x00000000#32 - e (ix2 r 0) : EReal)) = _
  rw [ofBits_zero, he]
  rfl

theorem p_quC (v : FVec Ideal ⟨2, ![n, m]⟩ .f32) (e : FVec Ideal ⟨2, ![1, m]⟩ .f32) (h) (hh : FTy.fp8e5m2.bits < FTy.f32.bits) (r : Fin n) (l : Fin m) (a : EReal) (he : (e (ix2 0 l) : EReal) = expo (a * cQ)) :
    truncf .fp8e5m2 (minimumf (broadcast ⟨2, ![n, m]⟩ (Scalar.ofBits (F := Ideal) .f32 0x47600000#32)) (maximumf (broadcast ⟨2, ![n, m]⟩ (Scalar.ofBits (F := Ideal) .f32 0xC7600000#32))
      (mulf v (broadcastTo ⟨2, ![n, m]⟩ (exp2 (subf (broadcast ⟨2, ![1, m]⟩ (Scalar.ofBits (F := Ideal) .f32 0x00000000#32)) e)) h)))) hh (ix2 r l)
      = clip (v (ix2 r l) * inv a) := by
  rw [e_trunc, e_min, e_max, e_mul, r_brow]
  show clip (v (ix2 r l) * Ideal.exp2 (Ideal.ofBits .f32 0x00000000#32 - e (ix2 0 l) : EReal)) = _
  rw [ofBits_zero, he]
  rfl

theorem p_rowMax (v : FVec Ideal ⟨2, ![n, m]⟩ .f32) (h h1 h2 h3) (r : Fin n) :
    mulf (shapeCast ⟨2, ![n, 1]⟩ (multiReduction .maximumf [1] ⟨1, ![n]⟩ (absf v) 0xFF800000#32 h h1 h2) h3) (broadcast ⟨2, ![n, 1]⟩ (Scalar.ofBits (F := Ideal) .f32 0x37924925#32)) (ix2 r 0)
      = (rowMax (mat v) r * cQ : EReal) := by
  rw [e_mul, r_ccol]
  exact congrArg (· * cQ) (r_maxr _ _ _ _ _)

theorem p_colMax (v : FVec Ideal ⟨2, ![n, m]⟩ .f32) (h h1 h2 h3) (l : Fin m) :
    mulf (shapeCast ⟨2, ![1, m]⟩ (multiReduction .maximumf [0] ⟨1, ![m]⟩ (absf v) 0xFF800000#32 h h1 h2) h3) (broadcast ⟨2, ![1, m]⟩ (Scalar.ofBits (F := Ideal) .f32 0x37924925#32)) (ix2 0 l)
      = (colMax (mat v) l * cQ : EReal) := by
  rw [e_mul, r_crow]
  exact congrArg (· * cQ) (r_maxc _ _ _ _ _)

theorem p_rescale (p : FVec Ideal ⟨2, ![n, m]⟩ .f32) (s : FVec Ideal ⟨2, ![n, 1]⟩ .f32) (w : FVec Ideal ⟨2, ![1, 1]⟩ .f32) (h h1 h2) (r : Fin n) (l : Fin m) :
    mulf p (broadcastTo ⟨2, ![n, m]⟩ (mulf s (broadcastTo ⟨2, ![n, 1]⟩ (shapeCast ⟨2, ![1, 1]⟩ w h) h1)) h2) (ix2 r l)
      = (p (ix2 r l) * (s (ix2 r 0) * w (ix2 0 0)) : EReal) := by
  rw [e_mul, r_bcol, e_mul, shapeCast_id, r_brow]

theorem p_rescaleW (p : FVec Ideal ⟨2, ![n, m]⟩ .f32) (x : FVec Ideal ⟨2, ![n, 1]⟩ .f32) (s : FVec Ideal ⟨2, ![1, m]⟩ .f32) (h h1 h2) (r : Fin n) (l : Fin m) :
    mulf p (mulf (broadcastTo ⟨2, ![n, m]⟩ (shapeCast ⟨2, ![n, 1]⟩ x h) h1) (broadcastTo ⟨2, ![n, m]⟩ s h2)) (ix2 r l)
      = (p (ix2 r l) * (x (ix2 r 0) * s (ix2 0 l)) : EReal) := by
  rw [e_mul, e_mul, r_bcol, r_brow, shapeCast_id]

/-- The kernel's column codes from the scales. -/
theorem p_codes (v : FVec Ideal ⟨2, ![n, m]⟩ .bf16) (s : FVec Ideal ⟨2, ![1, m]⟩ .f32) (h h' h1) (hb : FTy.bf16.bits < FTy.f32.bits) (hc : FTy.fp8e5m2.bits < FTy.bf16.bits) (r : Fin n) (l : Fin m) :
    truncf .fp8e5m2 (minimumf (broadcast ⟨2, ![n, m]⟩ (Scalar.truncf (F := Ideal) .bf16 hb (Scalar.ofBits (F := Ideal) .f32 0x47600000#32)))
      (maximumf (broadcast ⟨2, ![n, m]⟩ (Scalar.truncf (F := Ideal) .bf16 hb (Scalar.ofBits (F := Ideal) .f32 0xC7600000#32)))
        (mulf (shapeCast ⟨2, ![n, m]⟩ v h) (broadcastTo ⟨2, ![n, m]⟩ (truncf .bf16 (divf (broadcast ⟨2, ![1, m]⟩ (Scalar.ofBits (F := Ideal) .f32 0x3F800000#32)) (shapeCast ⟨2, ![1, m]⟩ s h')) hb) h1)))) hc (ix2 r l)
      = clip (v (ix2 r l) * Ideal.div 1 (s (ix2 0 l))) := by
  rw [e_trunc, e_min, e_max, e_mul, r_brow, shapeCast_id, shapeCast_id]
  show clip (v (ix2 r l) * Ideal.div (Ideal.ofBits .f32 0x3F800000#32) (s (ix2 0 l))) = _
  rw [ofBits_one]

/-- A matrix as the one slice of an array of rank three. -/
theorem r_add {α : Type} (x : (⟨2, ![n, m]⟩ : Shape).Idx → α) (h) (r : Fin n) (l : Fin m) : shapeCast ⟨3, ![1, n, m]⟩ x h (ix3 0 r l) = x (ix2 r l) := by
  show x (Shape.reshapeEquiv _ _) = _
  refine congrArg x (Shape.reshapeEquiv_eq_of_rowMajor _ ?_)
  simp [Shape.rowMajor_val_three, Shape.rowMajor_val_two]

/-- The one slice of an array of rank three as a matrix. -/
theorem r_drop {α : Type} (x : (⟨3, ![1, n, m]⟩ : Shape).Idx → α) (h) (r : Fin n) (l : Fin m) : shapeCast ⟨2, ![n, m]⟩ x h (ix2 r l) = x (ix3 0 r l) := by
  show x (Shape.reshapeEquiv _ _) = _
  refine congrArg x (Shape.reshapeEquiv_eq_of_rowMajor _ ?_)
  simp [Shape.rowMajor_val_three, Shape.rowMajor_val_two]

/-- A transposed matrix. -/
theorem r_tr {α : Type} (x : (⟨2, ![n, m]⟩ : Shape).Idx → α) (h) (r : Fin m) (l : Fin n) : transpose ⟨2, ![m, n]⟩ [1, 0] x h (ix2 r l) = x (ix2 l r) := by
  refine transpose_apply _ _ _ _ _ ?_
  intro b
  match b with
  | 0 => rfl
  | 1 => rfl

/-- The kernel's rescaling of a weight gradient. -/
theorem p_rescaleT (p : FVec Ideal ⟨3, ![1, n, m]⟩ .f32) (x : FVec Ideal ⟨2, ![1, n]⟩ .f32) (s : FVec Ideal ⟨2, ![1, m]⟩ .f32) (h0 h1 h2 h3 h4 h5 h6 h7 h8) (hb : FTy.bf16.bits < FTy.f32.bits) (r : Fin n) (l : Fin m) :
    truncf .bf16 (mulf (shapeCast ⟨2, ![n, m]⟩ p h0) (mulf (broadcastTo ⟨2, ![n, m]⟩ (extractStridedSlice ⟨2, ![n, 1]⟩ ![0, 0] (transpose ⟨2, ![n, 128]⟩ [1, 0]
      (broadcastTo ⟨2, ![128, n]⟩ (shapeCast ⟨2, ![1, n]⟩ (shapeCast ⟨2, ![1, n]⟩ x h1) h2) h3) h4) h5) h6) (broadcastTo ⟨2, ![n, m]⟩ (shapeCast ⟨2, ![1, m]⟩ s h7) h8))) hb (ix2 r l)
      = (p (ix3 0 r l) * (x (ix2 0 r) * s (ix2 0 l)) : EReal) := by
  rw [e_trunc, e_mul, e_mul, r_drop, r_bcol, r_brow, r_slice _ 0 _ _ _ (by norm_num), r_tr, r_brow, shapeCast_id, shapeCast_id, shapeCast_id]

/-- The terms below a bound, as a sum over natural numbers. -/
def below (f : Fin 8192 → EReal) (n : ℕ) : EReal := if h : n < 8192 then f ⟨n, h⟩ else 0

/-- A sum by blocks of 1024. -/
theorem below_step (f : Fin 8192 → EReal) (k : ℕ) (hk : k < 8) (b : ℕ) (hb : b = 1024 * k) :
    ∑ n ∈ Finset.range (1024 * (k + 1)), below f n
      = (∑ n ∈ Finset.range b, below f n) + ∑ q : Fin 1024, f ⟨1024 * k + q.val, by have := q.isLt; omega⟩ := by
  subst hb
  rw [show 1024 * (k + 1) = 1024 * k + 1024 from rfl, Finset.sum_range_add, Finset.sum_range (n := 1024)]
  refine congrArg (_ + ·) (Finset.sum_congr rfl fun q _ => ?_)
  exact dif_pos _

theorem below_all (f : Fin 8192 → EReal) : ∑ n ∈ Finset.range (1024 * (7 + 1)), below f n = ∑ k, f k := by
  rw [show 1024 * (7 + 1) = 8192 from rfl, Finset.sum_range (n := 8192)]
  exact Finset.sum_congr rfl fun q _ => dif_pos q.isLt

end Shapes

end Cert.Values

end
-- ==== Proof.Values.WgradOne.lean ====
/-
  What the result arrays of `wgrad1` hold after the call, as functions of the arrays it reads.
-/
module

public import proofs.«01_k».proof.Proof.KernelIdeal.WgradOne
public import proofs.«01_k».proof.Proof.Values.Point
public import Idealize.ShloMosaic.Lib.Pipeline.ValueKit

@[expose] public section

set_option maxRecDepth 16384

noncomputable section

namespace Cert.KernelIdeal.Wgrad1.Values

open Idealize.ShloMosaic Cert.Values Idealize.ShloMosaic.TcCoe
open Cert.KernelIdeal Cert.KernelIdeal.Gen Cert.KernelIdeal.Wgrad1

/-! ### One point -/

theorem codes_at (v : Vec Ideal S1024x2048 .bf16) (s : Vec Ideal S1x2048 .f32) (r : Fin 1024) (j : Fin 2048) :
    k1_pay1 (F := Ideal) v s (ix2 r j) = clip (v (ix2 r j) * Ideal.div 1 (s (ix2 0 j))) :=
  p_codes v s _ _ _ _ _ r j

theorem dot_at (x : FVec Ideal S1024x1024 .fp8e4m3) (y : FVec Ideal S1024x2048 .fp8e5m2) (i : Fin 1024) (j : Fin 2048) :
    matmul dot_S1024x1024_S1024x2048_S1024x2048_0_0_1_1_n_n none x y (constant S1024x2048 .f32 0x00000000#32) (ix2 i j)
      = ∑ q : Fin 1024, (x (ix2 q i) * y (ix2 q j) : EReal) := by
  pointwise [dot_S1024x1024_S1024x2048_S1024x2048_0_0_1_1_n_n]
  try rw [ofBits_zero, zero_add]

theorem start_at (i : Fin 1024) (j : Fin 2048) : k1_pay2 (F := Ideal) (ix3 0 i j) = (0 : EReal) := by
  unfold k1_pay2
  exact (r_add _ _ i j).trans ofBits_zero

theorem add_at (a : Vec Ideal S1x1024x2048 .f32) (x : Vec Ideal S1024x1024 .fp8e4m3) (y : Vec Ideal S1024x2048 .fp8e5m2) (i : Fin 1024) (j : Fin 2048) :
    k1_pay3 a x y (ix3 0 i j) = (a (ix3 0 i j) + ∑ q : Fin 1024, x (ix2 q i) * y (ix2 q j) : EReal) := by
  unfold k1_pay3
  refine (r_add _ _ i j).trans ?_
  rw [e_add, r_drop, shapeCast_id, shapeCast_id, dot_at]

theorem out_at (x : Vec Ideal S1x1024 .f32) (a : Vec Ideal S1x1024x2048 .f32) (s : Vec Ideal S1x2048 .f32) (i : Fin 1024) (j : Fin 2048) :
    k1_pay4 x a s (ix2 i j) = (a (ix3 0 i j) * (x (ix2 0 i) * s (ix2 0 j)) : EReal) :=
  p_rescaleT a x s _ _ _ _ _ _ _ _ _ _ i j

/-! ### What the call reads -/

variable (W : Dev nD → Valuation τ sig (Elt Ideal)) (c : Dev nD)

def XS : Fin 3072 → EReal := fun i => W c main_v6 (ix2 0 i)
def GS : Fin 2048 → EReal := fun j => W c main_v4_7 (ix2 0 j)
def XC : Mat 8192 3072 := fun k i => W c main_v5 (ix2 k i)
def GV : Mat 8192 2048 := fun k j => W c main_v4_5 (ix2 k j)

theorem idx_0 : ∀ t : Fin cfg1.N, win1_0.index t = ![0, t.val % 3] := (by decide +kernel : ∀ t : Fin grid1.N, _)
theorem idx_1 : ∀ t : Fin cfg1.N, win1_1.index t = ![0, 0] := (by decide +kernel : ∀ t : Fin grid1.N, _)
theorem idx_2 : ∀ t : Fin cfg1.N, win1_2.index t = ![t.val / 3, t.val % 3] := (by decide +kernel : ∀ t : Fin grid1.N, _)
theorem idx_3 : ∀ t : Fin cfg1.N, win1_3.index t = ![t.val / 3, 0] := (by decide +kernel : ∀ t : Fin grid1.N, _)
theorem idx_4 : ∀ t : Fin cfg1.N, t.val / 3 = 7 → win1_4.index t = ![t.val % 3, 0] := (by decide +kernel : ∀ t : Fin grid1.N, t.val / 3 = 7 → win1_4.index t = ![t.val % 3, 0])
theorem idx_5 : ∀ t : Fin cfg1.N, win1_5.index t = ![t.val / 3, 0] := (by decide +kernel : ∀ t : Fin grid1.N, _)

theorem col_lt (t : Fin cfg1.N) (i : Fin 1024) : 1024 * (t.val % 3) + i.val < 3072 := by
  have := i.isLt; have := Nat.mod_lt t.val (show 0 < 3 by norm_num); omega
theorem tok_lt (t : Fin cfg1.N) (q : Fin 1024) : 1024 * (t.val / 3) + q.val < 8192 := by
  have := q.isLt; have := hN t; omega

theorem blk_0 (t : Fin cfg1.N) (i : Fin 1024) : iblk W c 0 t (ix2 0 i) = XS W c ⟨1024 * (t.val % 3) + i.val, col_lt t i⟩ := by
  unfold XS
  blk_ext [iblk, idx_0 t]

theorem blk_1 (t : Fin cfg1.N) (j : Fin 2048) : iblk W c 1 t (ix2 0 j) = GS W c j := by
  unfold GS
  blk_ext [iblk, idx_1 t]

theorem blk_2 (t : Fin cfg1.N) (q : Fin 1024) (i : Fin 1024) :
    iblk W c 2 t (ix2 q i) = XC W c ⟨1024 * (t.val / 3) + q.val, tok_lt t q⟩ ⟨1024 * (t.val % 3) + i.val, col_lt t i⟩ := by
  unfold XC
  blk_ext [iblk, idx_2 t]

theorem blk_3 (t : Fin cfg1.N) (q : Fin 1024) (j : Fin 2048) : iblk W c 3 t (ix2 q j) = GV W c ⟨1024 * (t.val / 3) + q.val, tok_lt t q⟩ j := by
  unfold GV
  blk_ext [iblk, idx_3 t]

theorem codes_eq (hS : ∀ j, GS W c j = scale (colMax (GV W c) j)) (t : Fin cfg1.N) (q : Fin 1024) (j : Fin 2048) :
    codes W c t (ix2 q j) = quC (GV W c) ⟨1024 * (t.val / 3) + q.val, tok_lt t q⟩ j := by
  unfold codes
  have e : (⟨1024 * ((base t).val / 3) + q.val, tok_lt (base t) q⟩ : Fin 8192) = ⟨1024 * (t.val / 3) + q.val, tok_lt t q⟩ :=
    Fin.ext (by show 1024 * (3 * (t.val / 3) / 3) + q.val = _; rw [Nat.mul_div_cancel_left _ (by norm_num)])
  rw [codes_at, blk_3, blk_1, hS, one_div_scale, e]
  rfl

/-- The terms of an entry of the gradient. -/
def term (i : Fin 3072) (j : Fin 2048) (k : Fin 8192) : EReal := XC W c k i * quC (GV W c) k j

theorem part_eq (hS : ∀ j, GS W c j = scale (colMax (GV W c) j)) (m k : ℕ) (hm : m < 3) (h : 3 * k + m < cfg1.N) (i : Fin 1024) (j : Fin 2048) (hk : k < 8) :
    (∑ q : Fin 1024, HMul.hMul (α := EReal) (β := EReal) (γ := EReal) (iblk W c 2 ⟨3 * k + m, h⟩ (ix2 q i)) (codes W c ⟨3 * k + m, h⟩ (ix2 q j)))
      = ∑ q : Fin 1024, term W c ⟨1024 * m + i.val, by have := i.isLt; omega⟩ j ⟨1024 * k + q.val, by have := q.isLt; omega⟩ := by
  refine Finset.sum_congr rfl fun q _ => ?_
  have e1 : (3 * k + m) / 3 = k := by omega
  have e2 : (3 * k + m) % 3 = m := by omega
  rw [blk_2, codes_eq W c hS]
  unfold term
  have a1 : (⟨1024 * ((3 * k + m) / 3) + q.val, tok_lt ⟨3 * k + m, h⟩ q⟩ : Fin 8192) = ⟨1024 * k + q.val, by have := q.isLt; omega⟩ := Fin.ext (by show 1024 * ((3 * k + m) / 3) + q.val = 1024 * k + q.val; rw [e1])
  have a2 : (⟨1024 * ((3 * k + m) % 3) + i.val, col_lt ⟨3 * k + m, h⟩ i⟩ : Fin 3072) = ⟨1024 * m + i.val, by have := i.isLt; omega⟩ := Fin.ext (by show 1024 * ((3 * k + m) % 3) + i.val = 1024 * m + i.val; rw [e2])
  rw [a1, a2]

theorem acc_eq (hS : ∀ j, GS W c j = scale (colMax (GV W c) j)) (m : ℕ) (hm : m < 3) (i : Fin 1024) (j : Fin 2048) : ∀ (k : ℕ) (h : 3 * k + m < cfg1.N), k < 8 →
    acc W c m k h (ix3 0 i j) = ∑ n ∈ Finset.range (1024 * (k + 1)), below (term W c ⟨1024 * m + i.val, by have := i.isLt; omega⟩ j) n := by
  intro k
  induction k with
  | zero =>
    intro h h8
    rw [below_step _ 0 (by norm_num) 0 rfl, acc, add_at, start_at, part_eq W c hS m 0 hm h i j h8, Finset.range_zero, Finset.sum_empty]
  | succ k ih =>
    intro h h8
    rw [below_step _ (k + 1) h8 (1024 * (k + 1)) rfl, acc, add_at, part_eq W c hS m (k + 1) hm h i j h8, ih _ (by omega)]

theorem accT_eq (hS : ∀ j, GS W c j = scale (colMax (GV W c) j)) (t : Fin cfg1.N) (ht : t.val / 3 = 7) (i : Fin 1024) (j : Fin 2048) :
    accT W c t (ix3 0 i j) = ∑ k, term W c ⟨1024 * (t.val % 3) + i.val, col_lt t i⟩ j k := by
  unfold accT
  rw [acc_eq W c hS _ (Nat.mod_lt _ (by norm_num)) i j _ _ (by omega)]
  rw [show 1024 * (t.val / 3 + 1) = 1024 * (7 + 1) by rw [ht]]
  exact below_all _

/-! ### The result arrays -/

theorem eta2 {n m : ℕ} (y : (⟨2, ![n, m]⟩ : Shape).Idx) : y = ix2 (y 0) (y 1) := funext fun a => by
  match a with
  | 0 => rfl
  | 1 => rfl

theorem at_4' (hS : ∀ j, GS W c j = scale (colMax (GV W c) j)) (t : Fin cfg1.N) (ht : t.val / 3 = 7) (i : Fin 1024) (j : Fin 2048) :
    k1_pay4 (iblk W c 0 t) (accT W c t) (iblk W c 1 t) (ix2 i j)
      = dW (XC W c) (XS W c) (GV W c) ⟨1024 * (t.val % 3) + i.val, col_lt t i⟩ j := by
  rw [out_at, blk_0, blk_1, hS, accT_eq W c hS t ht]
  rfl

theorem at_4 (hS : ∀ j, GS W c j = scale (colMax (GV W c) j)) (t : Fin cfg1.N) (ht : t.val / 3 = 7) (y : S1024x2048.Idx) :
    k1_pay4 (iblk W c 0 t) (accT W c t) (iblk W c 1 t) y
      = dW (XC W c) (XS W c) (GV W c) ⟨1024 * (t.val % 3) + (y 0).val, col_lt t (y 0)⟩ (y 1) :=
  (congrArg (k1_pay4 (iblk W c 0 t) (accT W c t) (iblk W c 1 t)) (eta2 y)).trans (at_4' W c hS t ht (y 0) (y 1))

theorem at_5 (hS : ∀ j, GS W c j = scale (colMax (GV W c) j)) (t : Fin cfg1.N) (y : S1024x2048.Idx) :
    codes W c t y = quC (GV W c) ⟨1024 * (t.val / 3) + (y 0).val, tok_lt t (y 0)⟩ (y 1) :=
  (congrArg (codes W c t) (eta2 y)).trans (codes_eq W c hS t _ _)

theorem arr_4 (hS : ∀ j, GS W c j = scale (colMax (GV W c) j)) :
    (dat W c).arrAt 4 cfg1.N = (fun i => dW (XC W c) (XS W c) (GV W c) (i 0) (i 1) : S3072x2048.Idx → EReal) := by
  refine (dat W c).arrAt_eq_of_covers 4 _ (by decide +kernel) fun t hf y => ?_
  have ht : t.val / 3 = 7 := by
    by_contra h
    rw [flush4 t h] at hf
    exact Bool.false_ne_true hf
  blk_simp
  rw [after_4]
  refine (at_4 W c hS t ht y).trans (congrArg₂ (dW (XC W c) (XS W c) (GV W c)) (Fin.ext ?_) (Fin.ext ?_))
  · blk_simp [idx_4 t ht]
    exact congrArg (· + (y 0).val) (Nat.mul_comm _ _)
  · blk_simp [idx_4 t ht]

theorem arr_5 (hS : ∀ j, GS W c j = scale (colMax (GV W c) j)) :
    (dat W c).arrAt 5 cfg1.N = (fun i => quC (GV W c) (i 0) (i 1) : S8192x2048.Idx → EReal) := by
  refine (dat W c).arrAt_eq_of_covers 5 _ (by decide +kernel) fun t hf y => ?_
  blk_simp
  rw [after_5]
  refine (at_5 W c hS t y).trans (congrArg₂ (quC (GV W c)) (Fin.ext ?_) (Fin.ext ?_))
  · blk_simp [idx_5 t]
    exact congrArg (· + (y 0).val) (Nat.mul_comm _ _)
  · blk_simp [idx_5 t]

end Cert.KernelIdeal.Wgrad1.Values

end
-- ==== Proof.Values.WgradTwo.lean ====
/-
  What the result arrays of `wgrad2` hold after the call, as functions of the arrays it reads.
-/
module

public import proofs.«01_k».proof.Proof.KernelIdeal.WgradTwo
public import proofs.«01_k».proof.Proof.Values.Point
public import Idealize.ShloMosaic.Lib.Pipeline.ValueKit

@[expose] public section

set_option maxRecDepth 16384

noncomputable section

namespace Cert.KernelIdeal.Wgrad2.Values

open Idealize.ShloMosaic Cert.Values Idealize.ShloMosaic.TcCoe
open Cert.KernelIdeal Cert.KernelIdeal.Gen Cert.KernelIdeal.Wgrad2

/-! ### One point -/

theorem codes_at (v : Vec Ideal S1024x3072 .bf16) (s : Vec Ideal S1x3072 .f32) (r : Fin 1024) (j : Fin 3072) :
    k2_pay1 (F := Ideal) v s (ix2 r j) = clip (v (ix2 r j) * Ideal.div 1 (s (ix2 0 j))) :=
  p_codes v s _ _ _ _ _ r j

theorem dot_at (x : FVec Ideal S1024x1024 .fp8e4m3) (y : FVec Ideal S1024x3072 .fp8e5m2) (i : Fin 1024) (j : Fin 3072) :
    matmul dot_S1024x1024_S1024x3072_S1024x3072_0_0_1_1_n_n none x y (constant S1024x3072 .f32 0x00000000#32) (ix2 i j)
      = ∑ q : Fin 1024, (x (ix2 q i) * y (ix2 q j) : EReal) := by
  pointwise [dot_S1024x1024_S1024x3072_S1024x3072_0_0_1_1_n_n]
  try rw [ofBits_zero, zero_add]

theorem start_at (i : Fin 1024) (j : Fin 3072) : k2_pay2 (F := Ideal) (ix3 0 i j) = (0 : EReal) := by
  unfold k2_pay2
  exact (r_add _ _ i j).trans ofBits_zero

theorem add_at (a : Vec Ideal S1x1024x3072 .f32) (x : Vec Ideal S1024x1024 .fp8e4m3) (y : Vec Ideal S1024x3072 .fp8e5m2) (i : Fin 1024) (j : Fin 3072) :
    k2_pay3 a x y (ix3 0 i j) = (a (ix3 0 i j) + ∑ q : Fin 1024, x (ix2 q i) * y (ix2 q j) : EReal) := by
  unfold k2_pay3
  refine (r_add _ _ i j).trans ?_
  rw [e_add, r_drop, shapeCast_id, shapeCast_id, dot_at]

theorem out_at (x : Vec Ideal S1x1024 .f32) (a : Vec Ideal S1x1024x3072 .f32) (s : Vec Ideal S1x3072 .f32) (i : Fin 1024) (j : Fin 3072) :
    k2_pay4 x a s (ix2 i j) = (a (ix3 0 i j) * (x (ix2 0 i) * s (ix2 0 j)) : EReal) :=
  p_rescaleT a x s _ _ _ _ _ _ _ _ _ _ i j

/-! ### What the call reads -/

variable (W : Dev nD → Valuation τ sig (Elt Ideal)) (c : Dev nD)

def XS : Fin 1024 → EReal := fun i => W c main_v9 (ix2 0 i)
def GS : Fin 3072 → EReal := fun j => W c main_v4_6 (ix2 0 j)
def XC : Mat 8192 1024 := fun k i => W c main_v8 (ix2 k i)
def GV : Mat 8192 3072 := fun k j => W c main_v0 (ix2 k j)

theorem idx_0 : ∀ t : Fin cfg2.N, win2_0.index t = ![0, t.val % 1] := (by decide +kernel : ∀ t : Fin grid2.N, _)
theorem idx_1 : ∀ t : Fin cfg2.N, win2_1.index t = ![0, 0] := (by decide +kernel : ∀ t : Fin grid2.N, _)
theorem idx_2 : ∀ t : Fin cfg2.N, win2_2.index t = ![t.val / 1, t.val % 1] := (by decide +kernel : ∀ t : Fin grid2.N, _)
theorem idx_3 : ∀ t : Fin cfg2.N, win2_3.index t = ![t.val / 1, 0] := (by decide +kernel : ∀ t : Fin grid2.N, _)
theorem idx_4 : ∀ t : Fin cfg2.N, t.val / 1 = 7 → win2_4.index t = ![t.val % 1, 0] := (by decide +kernel : ∀ t : Fin grid2.N, t.val / 1 = 7 → win2_4.index t = ![t.val % 1, 0])
theorem idx_5 : ∀ t : Fin cfg2.N, win2_5.index t = ![t.val / 1, 0] := (by decide +kernel : ∀ t : Fin grid2.N, _)

theorem col_lt (t : Fin cfg2.N) (i : Fin 1024) : 1024 * (t.val % 1) + i.val < 1024 := by
  have := i.isLt; have := Nat.mod_lt t.val (show 0 < 1 by norm_num); omega
theorem tok_lt (t : Fin cfg2.N) (q : Fin 1024) : 1024 * (t.val / 1) + q.val < 8192 := by
  have := q.isLt; have := hN t; omega

theorem blk_0 (t : Fin cfg2.N) (i : Fin 1024) : iblk W c 0 t (ix2 0 i) = XS W c ⟨1024 * (t.val % 1) + i.val, col_lt t i⟩ := by
  unfold XS
  blk_ext [iblk, idx_0 t]

theorem blk_1 (t : Fin cfg2.N) (j : Fin 3072) : iblk W c 1 t (ix2 0 j) = GS W c j := by
  unfold GS
  blk_ext [iblk, idx_1 t]

theorem blk_2 (t : Fin cfg2.N) (q : Fin 1024) (i : Fin 1024) :
    iblk W c 2 t (ix2 q i) = XC W c ⟨1024 * (t.val / 1) + q.val, tok_lt t q⟩ ⟨1024 * (t.val % 1) + i.val, col_lt t i⟩ := by
  unfold XC
  blk_ext [iblk, idx_2 t]

theorem blk_3 (t : Fin cfg2.N) (q : Fin 1024) (j : Fin 3072) : iblk W c 3 t (ix2 q j) = GV W c ⟨1024 * (t.val / 1) + q.val, tok_lt t q⟩ j := by
  unfold GV
  blk_ext [iblk, idx_3 t]

theorem codes_eq (hS : ∀ j, GS W c j = scale (colMax (GV W c) j)) (t : Fin cfg2.N) (q : Fin 1024) (j : Fin 3072) :
    codes W c t (ix2 q j) = quC (GV W c) ⟨1024 * (t.val / 1) + q.val, tok_lt t q⟩ j := by
  unfold codes
  have e : (⟨1024 * ((base t).val / 1) + q.val, tok_lt (base t) q⟩ : Fin 8192) = ⟨1024 * (t.val / 1) + q.val, tok_lt t q⟩ :=
    Fin.ext (by show 1024 * (1 * (t.val / 1) / 1) + q.val = _; rw [Nat.mul_div_cancel_left _ (by norm_num)])
  rw [codes_at, blk_3, blk_1, hS, one_div_scale, e]
  rfl

/-- The terms of an entry of the gradient. -/
def term (i : Fin 1024) (j : Fin 3072) (k : Fin 8192) : EReal := XC W c k i * quC (GV W c) k j

theorem part_eq (hS : ∀ j, GS W c j = scale (colMax (GV W c) j)) (m k : ℕ) (hm : m < 1) (h : 1 * k + m < cfg2.N) (i : Fin 1024) (j : Fin 3072) (hk : k < 8) :
    (∑ q : Fin 1024, HMul.hMul (α := EReal) (β := EReal) (γ := EReal) (iblk W c 2 ⟨1 * k + m, h⟩ (ix2 q i)) (codes W c ⟨1 * k + m, h⟩ (ix2 q j)))
      = ∑ q : Fin 1024, term W c ⟨1024 * m + i.val, by have := i.isLt; omega⟩ j ⟨1024 * k + q.val, by have := q.isLt; omega⟩ := by
  refine Finset.sum_congr rfl fun q _ => ?_
  have e1 : (1 * k + m) / 1 = k := by omega
  have e2 : (1 * k + m) % 1 = m := by omega
  rw [blk_2, codes_eq W c hS]
  unfold term
  have a1 : (⟨1024 * ((1 * k + m) / 1) + q.val, tok_lt ⟨1 * k + m, h⟩ q⟩ : Fin 8192) = ⟨1024 * k + q.val, by have := q.isLt; omega⟩ := Fin.ext (by show 1024 * ((1 * k + m) / 1) + q.val = 1024 * k + q.val; rw [e1])
  have a2 : (⟨1024 * ((1 * k + m) % 1) + i.val, col_lt ⟨1 * k + m, h⟩ i⟩ : Fin 1024) = ⟨1024 * m + i.val, by have := i.isLt; omega⟩ := Fin.ext (by show 1024 * ((1 * k + m) % 1) + i.val = 1024 * m + i.val; rw [e2])
  rw [a1, a2]

theorem acc_eq (hS : ∀ j, GS W c j = scale (colMax (GV W c) j)) (m : ℕ) (hm : m < 1) (i : Fin 1024) (j : Fin 3072) : ∀ (k : ℕ) (h : 1 * k + m < cfg2.N), k < 8 →
    acc W c m k h (ix3 0 i j) = ∑ n ∈ Finset.range (1024 * (k + 1)), below (term W c ⟨1024 * m + i.val, by have := i.isLt; omega⟩ j) n := by
  intro k
  induction k with
  | zero =>
    intro h h8
    rw [below_step _ 0 (by norm_num) 0 rfl, acc, add_at, start_at, part_eq W c hS m 0 hm h i j h8, Finset.range_zero, Finset.sum_empty]
  | succ k ih =>
    intro h h8
    rw [below_step _ (k + 1) h8 (1024 * (k + 1)) rfl, acc, add_at, part_eq W c hS m (k + 1) hm h i j h8, ih _ (by omega)]

theorem accT_eq (hS : ∀ j, GS W c j = scale (colMax (GV W c) j)) (t : Fin cfg2.N) (ht : t.val / 1 = 7) (i : Fin 1024) (j : Fin 3072) :
    accT W c t (ix3 0 i j) = ∑ k, term W c ⟨1024 * (t.val % 1) + i.val, col_lt t i⟩ j k := by
  unfold accT
  rw [acc_eq W c hS _ (Nat.mod_lt _ (by norm_num)) i j _ _ (by omega)]
  rw [show 1024 * (t.val / 1 + 1) = 1024 * (7 + 1) by rw [ht]]
  exact below_all _

/-! ### The result arrays -/

theorem eta2 {n m : ℕ} (y : (⟨2, ![n, m]⟩ : Shape).Idx) : y = ix2 (y 0) (y 1) := funext fun a => by
  match a with
  | 0 => rfl
  | 1 => rfl

theorem at_4' (hS : ∀ j, GS W c j = scale (colMax (GV W c) j)) (t : Fin cfg2.N) (ht : t.val / 1 = 7) (i : Fin 1024) (j : Fin 3072) :
    k2_pay4 (iblk W c 0 t) (accT W c t) (iblk W c 1 t) (ix2 i j)
      = dW (XC W c) (XS W c) (GV W c) ⟨1024 * (t.val % 1) + i.val, col_lt t i⟩ j := by
  rw [out_at, blk_0, blk_1, hS, accT_eq W c hS t ht]
  rfl

theorem at_4 (hS : ∀ j, GS W c j = scale (colMax (GV W c) j)) (t : Fin cfg2.N) (ht : t.val / 1 = 7) (y : S1024x3072.Idx) :
    k2_pay4 (iblk W c 0 t) (accT W c t) (iblk W c 1 t) y
      = dW (XC W c) (XS W c) (GV W c) ⟨1024 * (t.val % 1) + (y 0).val, col_lt t (y 0)⟩ (y 1) :=
  (congrArg (k2_pay4 (iblk W c 0 t) (accT W c t) (iblk W c 1 t)) (eta2 y)).trans (at_4' W c hS t ht (y 0) (y 1))

theorem at_5 (hS : ∀ j, GS W c j = scale (colMax (GV W c) j)) (t : Fin cfg2.N) (y : S1024x3072.Idx) :
    codes W c t y = quC (GV W c) ⟨1024 * (t.val / 1) + (y 0).val, tok_lt t (y 0)⟩ (y 1) :=
  (congrArg (codes W c t) (eta2 y)).trans (codes_eq W c hS t _ _)

theorem arr_4 (hS : ∀ j, GS W c j = scale (colMax (GV W c) j)) :
    (dat W c).arrAt 4 cfg2.N = (fun i => dW (XC W c) (XS W c) (GV W c) (i 0) (i 1) : S1024x3072.Idx → EReal) := by
  refine (dat W c).arrAt_eq_of_covers 4 _ (by decide +kernel) fun t hf y => ?_
  have ht : t.val / 1 = 7 := by
    by_contra h
    rw [flush4 t h] at hf
    exact Bool.false_ne_true hf
  blk_simp
  rw [after_4]
  refine (at_4 W c hS t ht y).trans (congrArg₂ (dW (XC W c) (XS W c) (GV W c)) (Fin.ext ?_) (Fin.ext ?_))
  · blk_simp [idx_4 t ht]
    exact congrArg (· + (y 0).val) (Nat.mul_comm _ _)
  · blk_simp [idx_4 t ht]

theorem arr_5 (hS : ∀ j, GS W c j = scale (colMax (GV W c) j)) :
    (dat W c).arrAt 5 cfg2.N = (fun i => quC (GV W c) (i 0) (i 1) : S8192x3072.Idx → EReal) := by
  refine (dat W c).arrAt_eq_of_covers 5 _ (by decide +kernel) fun t hf y => ?_
  blk_simp
  rw [after_5]
  refine (at_5 W c hS t y).trans (congrArg₂ (quC (GV W c)) (Fin.ext ?_) (Fin.ext ?_))
  · blk_simp [idx_5 t]
    exact congrArg (· + (y 0).val) (Nat.mul_comm _ _)
  · blk_simp [idx_5 t]

end Cert.KernelIdeal.Wgrad2.Values

end
-- ==== Proof.Values.Final.lean ====
/-
  The eleven results of the backward pass as functions of its ten arguments, and how arrays of rank three are read.
-/
module

public import proofs.«01_k».proof.Proof.Values.Spec

@[expose] public section

set_option maxRecDepth 16384

noncomputable section

namespace Cert.Values

open Idealize.ShloMosaic

/-- An extended-real array of rank three. -/
abbrev Arr3 (a b c : ℕ) : Type := Shape.Idx ⟨3, ![a, b, c]⟩ → EReal
/-- An extended-real array of rank two. -/
abbrev Arr2 (a b : ℕ) : Type := Shape.Idx ⟨2, ![a, b]⟩ → EReal
/-- An extended-real array of rank one. -/
abbrev Arr1 (a : ℕ) : Type := Shape.Idx ⟨1, ![a]⟩ → EReal
/-- An extended-real scalar. -/
abbrev Arr0 : Type := Shape.Idx ⟨0, ![]⟩ → EReal

section Reads
variable {α : Type}

theorem casts_flat (k : ℕ) : (⟨3, ![8, 1024, k]⟩ : Shape).ShapeCasts ⟨2, ![8192, k]⟩ := by
  show Shape.numel _ = Shape.numel _
  simp [Shape.numel, Fin.prod_univ_succ]
  omega

theorem casts_one : (⟨0, ![]⟩ : Shape).ShapeCasts ⟨2, ![1, 1]⟩ := by decide

/-- A column of `n` entries as an array of `a` groups of `b`. -/
theorem r_rows3 {n a b : ℕ} (x : (⟨2, ![n, 1]⟩ : Shape).Idx → α) (h) (i : (⟨3, ![a, b, 1]⟩ : Shape).Idx) (q : Fin n) (hq : q.val = b * (i 0).val + (i 1).val) :
    shapeCast ⟨3, ![a, b, 1]⟩ x h i = x (ix2 q 0) := by
  show x (Shape.reshapeEquiv _ _) = _
  refine congrArg x (Shape.reshapeEquiv_eq_of_rowMajor _ ?_)
  have h2 : (i 2).val < 1 := (i 2).isLt
  rw [Shape.rowMajor_val_two, Shape.rowMajor_val_three]
  show q.val * 1 + 0 = ((i 0).val * b + (i 1).val) * 1 + (i 2).val
  rw [hq, Nat.mul_comm b]; omega

/-- An array of rows with a last axis of size one added. -/
theorem b_rows3 {a b : ℕ} (ha : a ≠ 1) (hb : b ≠ 1) (x : (⟨2, ![a, b]⟩ : Shape).Idx → α) (h) (i : (⟨3, ![a, b, 1]⟩ : Shape).Idx) :
    broadcastInDim (s := ⟨2, ![a, b]⟩) ⟨3, ![a, b, 1]⟩ ![0, 1] h x i = x (ix2 (i 0) (i 1)) := by
  unfold broadcastInDim
  refine congrArg x (funext fun k => ?_)
  match k with
  | 0 => exact dif_neg ha
  | 1 => exact dif_neg hb

/-- A row with a first axis of size one added. -/
theorem b_cols3 {b : ℕ} (hb : b ≠ 1) (x : (⟨2, ![1, b]⟩ : Shape).Idx → α) (h) (i : (⟨3, ![1, 1, b]⟩ : Shape).Idx) :
    broadcastInDim (s := ⟨2, ![1, b]⟩) ⟨3, ![1, 1, b]⟩ ![1, 2] h x i = x (ix2 0 (i 2)) := by
  unfold broadcastInDim
  refine congrArg x (funext fun k => ?_)
  match k with
  | 0 => exact Subsingleton.elim (α := Fin 1) _ _
  | 1 => exact dif_neg hb

/-- A vector as a column. -/
theorem b_col {n : ℕ} (hn : n ≠ 1) (x : (⟨1, ![n]⟩ : Shape).Idx → α) (h) (r : Fin n) :
    broadcastInDim (s := ⟨1, ![n]⟩) ⟨2, ![n, 1]⟩ ![0] h x (ix2 r 0) = x (ix1 r) := by
  unfold broadcastInDim
  refine congrArg x (funext fun k => ?_)
  match k with
  | 0 => exact dif_neg hn

end Reads

/-- The 8 × 1024 tokens' rows as one matrix. -/
def flat {k : ℕ} (x : Arr3 8 1024 k) : Mat 8192 k := mat (shapeCast ⟨2, ![8192, k]⟩ x (casts_flat k))

/-- A matrix of 8192 rows as 8 groups of 1024 rows. -/
def group {k : ℕ} (v : Mat 8192 k) : Arr3 8 1024 k := shapeCast ⟨3, ![8, 1024, k]⟩ (fun i => v (i 0) (i 1) : Arr2 8192 k) (casts_flat k).symm

/-- The one entry of a scalar. -/
def one (x : Arr0) : EReal := shapeCast ⟨2, ![1, 1]⟩ x casts_one (ix2 0 0)

/-- One number for each row, as 8 groups of 1024. -/
def byRow (f : Fin 8192 → EReal) : Arr3 8 1024 1 := fun i =>
  f ⟨1024 * (i 0).val + (i 1).val, by have h0 : (i 0).val < 8 := (i 0).isLt; have h1 : (i 1).val < 1024 := (i 1).isLt; omega⟩

/-- One number for each column. -/
def byCol {k : ℕ} (f : Fin k → EReal) : Arr3 1 1 k := fun i => f (i 2)

section Results
variable (a0 : Arr3 8 1024 3072) (a1 : Arr3 8 1024 2048) (a2 : Arr3 8 1024 3072) (a3 : Arr1 3072) (a4 : Arr3 8 1024 1024) (a5 : Arr1 1024)
  (a6 : Arr2 3072 2048) (a7 : Arr0) (a8 : Arr2 1024 3072) (a9 : Arr0)

/-- The gradient of the hidden layer. -/
def hid : Mat 8192 2048 := dH (flat a0) (flat a1) (mat a8) (one a9)

/-- dx. -/
def res0 : Arr3 8 1024 3072 := group (dX (hid a0 a1 a8 a9) (mat a6) (one a7))
/-- dW1. -/
def res1 : Arr2 3072 2048 := fun i => dW (flat a2) (fun k => a3 (ix1 k)) (hid a0 a1 a8 a9) (i 0) (i 1)
/-- dW2. -/
def res2 : Arr2 1024 3072 := fun i => dW (flat a4) (fun k => a5 (ix1 k)) (flat a0) (i 0) (i 1)
/-- The row codes of dy. -/
def res3 : Arr3 8 1024 3072 := group (quR (flat a0))
/-- The row scales of dy. -/
def res4 : Arr3 8 1024 1 := byRow fun r => scale (rowMax (flat a0) r)
/-- The column codes of dy. -/
def res5 : Arr3 8 1024 3072 := group (quC (flat a0))
/-- The column scales of dy. -/
def res6 : Arr3 1 1 3072 := byCol fun l => scale (colMax (flat a0) l)
/-- The row codes of the hidden gradient. -/
def res7 : Arr3 8 1024 2048 := group (quR (hid a0 a1 a8 a9))
/-- The row scales of the hidden gradient. -/
def res8 : Arr3 8 1024 1 := byRow fun r => scale (rowMax (hid a0 a1 a8 a9) r)
/-- The column codes of the hidden gradient. -/
def res9 : Arr3 8 1024 2048 := group (quC (hid a0 a1 a8 a9))
/-- The column scales of the hidden gradient. -/
def res10 : Arr3 1 1 2048 := byCol fun l => scale (colMax (hid a0 a1 a8 a9) l)

end Results

end Cert.Values

end
-- ==== Proof.Values.KernelValue.lean ====
/-
  What the kernel returns, as functions of its arguments.
-/
module

public import proofs.«01_k».proof.Proof.KernelIdeal.Run
public import proofs.«01_k».proof.Proof.Values.RowsArr
public import proofs.«01_k».proof.Proof.Values.WgradOne
public import proofs.«01_k».proof.Proof.Values.WgradTwo
public import proofs.«01_k».proof.Proof.Values.Final

@[expose] public section

set_option maxRecDepth 16384

noncomputable section

namespace Cert.KernelIdeal.Run

open Idealize.ShloMosaic Cert.Values Idealize.ShloMosaic.TcCoe
open Cert.KernelIdeal Cert.KernelIdeal.Gen Idealize.ShloMosaic.Pipeline

variable (m : (ℓ : Loc nD τ sig) → Buf (Elt Ideal) ℓ) (c : Dev nD)

/-! ### What the rows call reads and leaves -/

theorem dy_eq : Values.DY (W1 m) c = flat (m ((c : Thread nD τ).loc main_arg0)) := rfl

theorem wa_eq : Values.WA (W1 m) c = mat (m ((c : Thread nD τ).loc main_arg6)) := rfl

theorem sa_eq : Values.SA (W1 m) c = one (m ((c : Thread nD τ).loc main_arg7)) := rfl

theorem dh_eq : Values.DH (W1 m) c = hid (m ((c : Thread nD τ).loc main_arg0)) (m ((c : Thread nD τ).loc main_arg1)) (m ((c : Thread nD τ).loc main_arg8)) (m ((c : Thread nD τ).loc main_arg9)) := rfl

theorem W2_v4_0 : W2 m c main_v4_0 = (fun i => dX (hid (m ((c : Thread nD τ).loc main_arg0)) (m ((c : Thread nD τ).loc main_arg1)) (m ((c : Thread nD τ).loc main_arg8)) (m ((c : Thread nD τ).loc main_arg9))) (mat (m ((c : Thread nD τ).loc main_arg6))) (one (m ((c : Thread nD τ).loc main_arg7))) (i 0) (i 1) : S8192x3072.Idx → EReal) := by
  refine (afterRegion_arr (Rows.dat (W1 m) c) (W1 m c) launch0.win.arr_inj 6).trans ?_
  rw [Values.arr_6, dh_eq, wa_eq, sa_eq]

theorem W2_v4_1 : W2 m c main_v4_1 = (fun i => quR (flat (m ((c : Thread nD τ).loc main_arg0))) (i 0) (i 1) : S8192x3072.Idx → EReal) := by
  refine (afterRegion_arr (Rows.dat (W1 m) c) (W1 m c) launch0.win.arr_inj 7).trans ?_
  rw [Values.arr_7, dy_eq]

theorem W2_v4_2 : W2 m c main_v4_2 = (fun i => scale (rowMax (flat (m ((c : Thread nD τ).loc main_arg0))) (Values.tok i)) : S8x1024.Idx → EReal) := by
  refine (afterRegion_arr (Rows.dat (W1 m) c) (W1 m c) launch0.win.arr_inj 8).trans ?_
  rw [Values.arr_8, dy_eq]

theorem W2_v4_3 : W2 m c main_v4_3 = (fun i => quR (hid (m ((c : Thread nD τ).loc main_arg0)) (m ((c : Thread nD τ).loc main_arg1)) (m ((c : Thread nD τ).loc main_arg8)) (m ((c : Thread nD τ).loc main_arg9))) (i 0) (i 1) : S8192x2048.Idx → EReal) := by
  refine (afterRegion_arr (Rows.dat (W1 m) c) (W1 m c) launch0.win.arr_inj 9).trans ?_
  rw [Values.arr_9, dh_eq]

theorem W2_v4_4 : W2 m c main_v4_4 = (fun i => scale (rowMax (hid (m ((c : Thread nD τ).loc main_arg0)) (m ((c : Thread nD τ).loc main_arg1)) (m ((c : Thread nD τ).loc main_arg8)) (m ((c : Thread nD τ).loc main_arg9))) (Values.tok i)) : S8x1024.Idx → EReal) := by
  refine (afterRegion_arr (Rows.dat (W1 m) c) (W1 m c) launch0.win.arr_inj 10).trans ?_
  rw [Values.arr_10, dh_eq]

theorem W2_v4_5 : W2 m c main_v4_5 = (fun i => (hid (m ((c : Thread nD τ).loc main_arg0)) (m ((c : Thread nD τ).loc main_arg1)) (m ((c : Thread nD τ).loc main_arg8)) (m ((c : Thread nD τ).loc main_arg9))) (i 0) (i 1) : S8192x2048.Idx → EReal) := by
  refine (afterRegion_arr (Rows.dat (W1 m) c) (W1 m c) launch0.win.arr_inj 11).trans ?_
  rw [Values.arr_11, dh_eq]

theorem W2_v4_6 : W2 m c main_v4_6 = (fun i => scale (colMax (flat (m ((c : Thread nD τ).loc main_arg0))) (i 1)) : S1x3072.Idx → EReal) := by
  refine (afterRegion_arr (Rows.dat (W1 m) c) (W1 m c) launch0.win.arr_inj 12).trans ?_
  rw [Values.arr_12, dy_eq]

theorem W2_v4_7 : W2 m c main_v4_7 = (fun i => scale (colMax (hid (m ((c : Thread nD τ).loc main_arg0)) (m ((c : Thread nD τ).loc main_arg1)) (m ((c : Thread nD τ).loc main_arg8)) (m ((c : Thread nD τ).loc main_arg9))) (i 1)) : S1x2048.Idx → EReal) := by
  refine (afterRegion_arr (Rows.dat (W1 m) c) (W1 m c) launch0.win.arr_inj 13).trans ?_
  rw [Values.arr_13, dh_eq]

/-! ### What the dW1 call reads and leaves -/

theorem W2_arg2 : W2 m c main_arg2 = m ((c : Thread nD τ).loc main_arg2) := (W2_of m c main_arg2 (by decide)).trans (W1_of m c main_arg2 (by decide))

theorem W2_arg3 : W2 m c main_arg3 = m ((c : Thread nD τ).loc main_arg3) := (W2_of m c main_arg3 (by decide)).trans (W1_of m c main_arg3 (by decide))

theorem xc1_eq : Wgrad1.Values.XC (W3 m) c = flat (m ((c : Thread nD τ).loc main_arg2)) := by
  rw [← W2_arg2 m c]
  rfl

theorem xs1_eq : Wgrad1.Values.XS (W3 m) c = fun i => m ((c : Thread nD τ).loc main_arg3) (ix1 i) := by
  funext i
  exact (r_crow (W2 m c main_arg3) shapeCasts_S3072_S1x3072 i 0).trans (congrFun (W2_arg3 m c) _)

theorem gv1_eq : Wgrad1.Values.GV (W3 m) c = hid (m ((c : Thread nD τ).loc main_arg0)) (m ((c : Thread nD τ).loc main_arg1)) (m ((c : Thread nD τ).loc main_arg8)) (m ((c : Thread nD τ).loc main_arg9)) := by
  funext k j
  exact congrFun ((W3_of m c main_v4_5 (by decide)).trans (W2_v4_5 m c)) (ix2 k j)

theorem gs1_eq (j : Fin 2048) : Wgrad1.Values.GS (W3 m) c j = scale (colMax (Wgrad1.Values.GV (W3 m) c) j) := by
  rw [gv1_eq]
  exact congrFun ((W3_of m c main_v4_7 (by decide)).trans (W2_v4_7 m c)) (ix2 0 j)

theorem W4_v7_0 : W4 m c main_v7_0 = res1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine (afterRegion_arr (Wgrad1.dat (W3 m) c) (W3 m c) launch1.win.arr_inj 4).trans ?_
  rw [Wgrad1.Values.arr_4 _ _ (gs1_eq m c), xc1_eq, xs1_eq, gv1_eq]
  rfl

theorem W4_v7_1 : W4 m c main_v7_1 = (fun i => quC (hid (m ((c : Thread nD τ).loc main_arg0)) (m ((c : Thread nD τ).loc main_arg1)) (m ((c : Thread nD τ).loc main_arg8)) (m ((c : Thread nD τ).loc main_arg9))) (i 0) (i 1) : S8192x2048.Idx → EReal) := by
  refine (afterRegion_arr (Wgrad1.dat (W3 m) c) (W3 m c) launch1.win.arr_inj 5).trans ?_
  rw [Wgrad1.Values.arr_5 _ _ (gs1_eq m c), gv1_eq]

/-! ### What the dW2 call reads and leaves -/

theorem W4_arg4 : W4 m c main_arg4 = m ((c : Thread nD τ).loc main_arg4) := (W4_of m c main_arg4 (by decide)).trans ((W3_of m c main_arg4 (by decide)).trans ((W2_of m c main_arg4 (by decide)).trans ((W1_of m c main_arg4 (by decide)))))

theorem W4_arg5 : W4 m c main_arg5 = m ((c : Thread nD τ).loc main_arg5) := (W4_of m c main_arg5 (by decide)).trans ((W3_of m c main_arg5 (by decide)).trans ((W2_of m c main_arg5 (by decide)).trans ((W1_of m c main_arg5 (by decide)))))

theorem xc2_eq : Wgrad2.Values.XC (W5 m) c = flat (m ((c : Thread nD τ).loc main_arg4)) := by
  rw [← W4_arg4 m c]
  rfl

theorem xs2_eq : Wgrad2.Values.XS (W5 m) c = fun i => m ((c : Thread nD τ).loc main_arg5) (ix1 i) := by
  funext i
  exact (r_crow (W4 m c main_arg5) shapeCasts_S1024_S1x1024 i 0).trans (congrFun (W4_arg5 m c) _)

theorem gv2_eq : Wgrad2.Values.GV (W5 m) c = flat (m ((c : Thread nD τ).loc main_arg0)) := by
  funext k j
  exact congrFun ((W5_of m c main_v0 (by decide)).trans ((W4_of m c main_v0 (by decide)).trans ((W3_of m c main_v0 (by decide)).trans ((W2_of m c main_v0 (by decide)))))) (ix2 k j)

theorem gs2_eq (j : Fin 3072) : Wgrad2.Values.GS (W5 m) c j = scale (colMax (Wgrad2.Values.GV (W5 m) c) j) := by
  rw [gv2_eq]
  exact congrFun ((W5_of m c main_v4_6 (by decide)).trans ((W4_of m c main_v4_6 (by decide)).trans ((W3_of m c main_v4_6 (by decide)))) |>.trans (W2_v4_6 m c)) (ix2 0 j)

theorem W6_v10_0 : W6 m c main_v10_0 = res2 (m ((c : Thread nD τ).loc main_arg0)) (m ((c : Thread nD τ).loc main_arg4)) (m ((c : Thread nD τ).loc main_arg5)) := by
  refine (afterRegion_arr (Wgrad2.dat (W5 m) c) (W5 m c) launch2.win.arr_inj 4).trans ?_
  rw [Wgrad2.Values.arr_4 _ _ (gs2_eq m c), xc2_eq, xs2_eq, gv2_eq]
  rfl

theorem W6_v10_1 : W6 m c main_v10_1 = (fun i => quC (flat (m ((c : Thread nD τ).loc main_arg0))) (i 0) (i 1) : S8192x3072.Idx → EReal) := by
  refine (afterRegion_arr (Wgrad2.dat (W5 m) c) (W5 m c) launch2.win.arr_inj 5).trans ?_
  rw [Wgrad2.Values.arr_5 _ _ (gs2_eq m c), gv2_eq]

/-! ### The results -/

theorem val_1 : W7 m c main_v7_0 = res1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  ((W7_of m c main_v7_0 (by decide)).trans ((W6_of m c main_v7_0 (by decide)).trans ((W5_of m c main_v7_0 (by decide))))).trans (W4_v7_0 m c)

theorem val_2 : W7 m c main_v10_0 = res2 (m ((c : Thread nD τ).loc main_arg0)) (m ((c : Thread nD τ).loc main_arg4)) (m ((c : Thread nD τ).loc main_arg5)) :=
  (W7_of m c main_v10_0 (by decide)).trans (W6_v10_0 m c)

theorem val_0 : W7 m c main_v11 = res0 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  have e : W7 m c main_v11 = shapeCast S8x1024x3072 (W6 m c main_v4_0) shapeCasts_S8192x3072_S8x1024x3072 := rfl
  have e' := ((W6_of m c main_v4_0 (by decide)).trans ((W5_of m c main_v4_0 (by decide)).trans ((W4_of m c main_v4_0 (by decide)).trans ((W3_of m c main_v4_0 (by decide)))))).trans (W2_v4_0 m c)
  rw [e, e']
  rfl

theorem val_3 : W7 m c main_v12 = res3 (m ((c : Thread nD τ).loc main_arg0)) := by
  have e : W7 m c main_v12 = shapeCast S8x1024x3072 (W6 m c main_v4_1) shapeCasts_S8192x3072_S8x1024x3072 := rfl
  have e' := ((W6_of m c main_v4_1 (by decide)).trans ((W5_of m c main_v4_1 (by decide)).trans ((W4_of m c main_v4_1 (by decide)).trans ((W3_of m c main_v4_1 (by decide)))))).trans (W2_v4_1 m c)
  rw [e, e']
  rfl

theorem val_4 : W7 m c main_v13 = res4 (m ((c : Thread nD τ).loc main_arg0)) := by
  have e : W7 m c main_v13 = broadcastInDim S8x1024x1 ![0, 1] bcast_S8x1024_S8x1024x1_0_1 (W6 m c main_v4_2) := rfl
  have e' := ((W6_of m c main_v4_2 (by decide)).trans ((W5_of m c main_v4_2 (by decide)).trans ((W4_of m c main_v4_2 (by decide)).trans ((W3_of m c main_v4_2 (by decide)))))).trans (W2_v4_2 m c)
  rw [e, e']
  funext i
  exact b_rows3 (by decide) (by decide) _ _ i

theorem val_5 : W7 m c main_v14 = res5 (m ((c : Thread nD τ).loc main_arg0)) := by
  have e : W7 m c main_v14 = shapeCast S8x1024x3072 (W6 m c main_v10_1) shapeCasts_S8192x3072_S8x1024x3072 := rfl
  have e' := W6_v10_1 m c
  rw [e, e']
  rfl

theorem val_6 : W7 m c main_v15 = res6 (m ((c : Thread nD τ).loc main_arg0)) := by
  have e : W7 m c main_v15 = broadcastInDim S1x1x3072 ![1, 2] bcast_S1x3072_S1x1x3072_1_2 (W6 m c main_v4_6) := rfl
  have e' := ((W6_of m c main_v4_6 (by decide)).trans ((W5_of m c main_v4_6 (by decide)).trans ((W4_of m c main_v4_6 (by decide)).trans ((W3_of m c main_v4_6 (by decide)))))).trans (W2_v4_6 m c)
  rw [e, e']
  funext i
  exact b_cols3 (by decide) _ _ i

theorem val_7 : W7 m c main_v16 = res7 (m ((c : Thread nD τ).loc main_arg0)) (m ((c : Thread nD τ).loc main_arg1)) (m ((c : Thread nD τ).loc main_arg8)) (m ((c : Thread nD τ).loc main_arg9)) := by
  have e : W7 m c main_v16 = shapeCast S8x1024x2048 (W6 m c main_v4_3) shapeCasts_S8192x2048_S8x1024x2048 := rfl
  have e' := ((W6_of m c main_v4_3 (by decide)).trans ((W5_of m c main_v4_3 (by decide)).trans ((W4_of m c main_v4_3 (by decide)).trans ((W3_of m c main_v4_3 (by decide)))))).trans (W2_v4_3 m c)
  rw [e, e']
  rfl

theorem val_8 : W7 m c main_v17 = res8 (m ((c : Thread nD τ).loc main_arg0)) (m ((c : Thread nD τ).loc main_arg1)) (m ((c : Thread nD τ).loc main_arg8)) (m ((c : Thread nD τ).loc main_arg9)) := by
  have e : W7 m c main_v17 = broadcastInDim S8x1024x1 ![0, 1] bcast_S8x1024_S8x1024x1_0_1 (W6 m c main_v4_4) := rfl
  have e' := ((W6_of m c main_v4_4 (by decide)).trans ((W5_of m c main_v4_4 (by decide)).trans ((W4_of m c main_v4_4 (by decide)).trans ((W3_of m c main_v4_4 (by decide)))))).trans (W2_v4_4 m c)
  rw [e, e']
  funext i
  exact b_rows3 (by decide) (by decide) _ _ i

theorem val_9 : W7 m c main_v18 = res9 (m ((c : Thread nD τ).loc main_arg0)) (m ((c : Thread nD τ).loc main_arg1)) (m ((c : Thread nD τ).loc main_arg8)) (m ((c : Thread nD τ).loc main_arg9)) := by
  have e : W7 m c main_v18 = shapeCast S8x1024x2048 (W6 m c main_v7_1) shapeCasts_S8192x2048_S8x1024x2048 := rfl
  have e' := ((W6_of m c main_v7_1 (by decide)).trans ((W5_of m c main_v7_1 (by decide)))).trans (W4_v7_1 m c)
  rw [e, e']
  rfl

theorem val_10 : W7 m c main_v19 = res10 (m ((c : Thread nD τ).loc main_arg0)) (m ((c : Thread nD τ).loc main_arg1)) (m ((c : Thread nD τ).loc main_arg8)) (m ((c : Thread nD τ).loc main_arg9)) := by
  have e : W7 m c main_v19 = broadcastInDim S1x1x2048 ![1, 2] bcast_S1x2048_S1x1x2048_1_2 (W6 m c main_v4_7) := rfl
  have e' := ((W6_of m c main_v4_7 (by decide)).trans ((W5_of m c main_v4_7 (by decide)).trans ((W4_of m c main_v4_7 (by decide)).trans ((W3_of m c main_v4_7 (by decide)))))).trans (W2_v4_7 m c)
  rw [e, e']
  funext i
  exact b_cols3 (by decide) _ _ i

/-- Every run of the kernel ends with the eleven results in place and the arguments as they were. -/
theorem run (ρ : Dev nD → PrngReg) : θ_run defs (onTc (τ := τ) (main (F := Ideal))) ⟨m, fun _ => 0, ρ⟩ (fun r => ∀ c : Dev nD,
      r.2.mem ((c : Thread nD τ).loc main_v11) = res0 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))
      ∧ r.2.mem ((c : Thread nD τ).loc main_v7_0) = res1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))
      ∧ r.2.mem ((c : Thread nD τ).loc main_v10_0) = res2 (m ((c : Thread nD τ).loc main_arg0)) (m ((c : Thread nD τ).loc main_arg4)) (m ((c : Thread nD τ).loc main_arg5))
      ∧ r.2.mem ((c : Thread nD τ).loc main_v12) = res3 (m ((c : Thread nD τ).loc main_arg0))
      ∧ r.2.mem ((c : Thread nD τ).loc main_v13) = res4 (m ((c : Thread nD τ).loc main_arg0))
      ∧ r.2.mem ((c : Thread nD τ).loc main_v14) = res5 (m ((c : Thread nD τ).loc main_arg0))
      ∧ r.2.mem ((c : Thread nD τ).loc main_v15) = res6 (m ((c : Thread nD τ).loc main_arg0))
      ∧ r.2.mem ((c : Thread nD τ).loc main_v16) = res7 (m ((c : Thread nD τ).loc main_arg0)) (m ((c : Thread nD τ).loc main_arg1)) (m ((c : Thread nD τ).loc main_arg8)) (m ((c : Thread nD τ).loc main_arg9))
      ∧ r.2.mem ((c : Thread nD τ).loc main_v17) = res8 (m ((c : Thread nD τ).loc main_arg0)) (m ((c : Thread nD τ).loc main_arg1)) (m ((c : Thread nD τ).loc main_arg8)) (m ((c : Thread nD τ).loc main_arg9))
      ∧ r.2.mem ((c : Thread nD τ).loc main_v18) = res9 (m ((c : Thread nD τ).loc main_arg0)) (m ((c : Thread nD τ).loc main_arg1)) (m ((c : Thread nD τ).loc main_arg8)) (m ((c : Thread nD τ).loc main_arg9))
      ∧ r.2.mem ((c : Thread nD τ).loc main_v19) = res10 (m ((c : Thread nD τ).loc main_arg0)) (m ((c : Thread nD τ).loc main_arg1)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun _ h c => ⟨(h.1 c main_v11 rfl).trans (val_0 m c),
      (h.1 c main_v7_0 rfl).trans (val_1 m c),
      (h.1 c main_v10_0 rfl).trans (val_2 m c),
      (h.1 c main_v12 rfl).trans (val_3 m c),
      (h.1 c main_v13 rfl).trans (val_4 m c),
      (h.1 c main_v14 rfl).trans (val_5 m c),
      (h.1 c main_v15 rfl).trans (val_6 m c),
      (h.1 c main_v16 rfl).trans (val_7 m c),
      (h.1 c main_v17 rfl).trans (val_8 m c),
      (h.1 c main_v18 rfl).trans (val_9 m c),
      (h.1 c main_v19 rfl).trans (val_10 m c),
      (h.1 c main_arg0 rfl).trans (W7_arg0 m c),
      (h.1 c main_arg1 rfl).trans (W7_arg1 m c),
      (h.1 c main_arg2 rfl).trans (W7_arg2 m c),
      (h.1 c main_arg3 rfl).trans (W7_arg3 m c),
      (h.1 c main_arg4 rfl).trans (W7_arg4 m c),
      (h.1 c main_arg5 rfl).trans (W7_arg5 m c),
      (h.1 c main_arg6 rfl).trans (W7_arg6 m c),
      (h.1 c main_arg7 rfl).trans (W7_arg7 m c),
      (h.1 c main_arg8 rfl).trans (W7_arg8 m c),
      (h.1 c main_arg9 rfl).trans (W7_arg9 m c)⟩) (run_main m ρ)

end Cert.KernelIdeal.Run

end
-- ==== Proof.Values.RefPay.lean ====
/-
  The reference's payloads, read at an index.
-/
module

public import proofs.«01_k».proof.Proof.Gen.ReferenceIdeal.Frame
public import proofs.«01_k».proof.Proof.Values.Point

@[expose] public section

set_option maxRecDepth 16384

noncomputable section

namespace Cert.ReferenceIdeal.Values

open Idealize.ShloMosaic Cert.Values
open Cert.ReferenceIdeal Cert.ReferenceIdeal.Gen Facts

variable [Facts]

theorem dot_da (x : FVec Ideal S8192x3072 .fp8e5m2) (y : FVec Ideal S1024x3072 .fp8e4m3) (r : Fin 8192) (k : Fin 1024) :
    matmul dot_S8192x3072_S1024x3072_S8192x1024_1_1_0_0_n_n none x y (constant S8192x1024 .f32 0x00000000#32) (ix2 r k)
      = ∑ l : Fin 3072, mat x r l * mat y k l := by
  pointwise [dot_S8192x3072_S1024x3072_S8192x1024_1_1_0_0_n_n]
  try rw [ofBits_zero, zero_add]
  rfl

theorem dot_dx (x : FVec Ideal S8192x2048 .fp8e5m2) (y : FVec Ideal S3072x2048 .fp8e4m3) (r : Fin 8192) (k : Fin 3072) :
    matmul dot_S8192x2048_S3072x2048_S8192x3072_1_1_0_0_n_n none x y (constant S8192x3072 .f32 0x00000000#32) (ix2 r k)
      = ∑ l : Fin 2048, mat x r l * mat y k l := by
  pointwise [dot_S8192x2048_S3072x2048_S8192x3072_1_1_0_0_n_n]
  try rw [ofBits_zero, zero_add]
  rfl

theorem dot_w1 (x : FVec Ideal S8192x3072 .fp8e4m3) (y : FVec Ideal S8192x2048 .fp8e5m2) (r : Fin 3072) (k : Fin 2048) :
    matmul dot_S8192x3072_S8192x2048_S3072x2048_0_0_1_1_n_n none x y (constant S3072x2048 .f32 0x00000000#32) (ix2 r k)
      = ∑ l : Fin 8192, mat x l r * mat y l k := by
  pointwise [dot_S8192x3072_S8192x2048_S3072x2048_0_0_1_1_n_n]
  try rw [ofBits_zero, zero_add]
  rfl

theorem dot_w2 (x : FVec Ideal S8192x1024 .fp8e4m3) (y : FVec Ideal S8192x3072 .fp8e5m2) (r : Fin 1024) (k : Fin 3072) :
    matmul dot_S8192x1024_S8192x3072_S1024x3072_0_0_1_1_n_n none x y (constant S1024x3072 .f32 0x00000000#32) (ix2 r k)
      = ∑ l : Fin 8192, mat x l r * mat y l k := by
  pointwise [dot_S8192x1024_S8192x3072_S1024x3072_0_0_1_1_n_n]
  try rw [ofBits_zero, zero_add]
  rfl

/-! ### dy -/

theorem pay3_eq (x : Vec Ideal S8192x3072 .bf16) : (k0_pay3 x : S8192x3072.Idx → EReal) = x := by
  unfold k0_pay3 k0_pay2
  rw [shapeCast_id]
  rfl

theorem pay7_eq (x : Vec Ideal S8192x3072 .bf16) : (k0_pay7 x : S8192x3072.Idx → EReal) = x := pay3_eq x

theorem pay4_eq (x : Vec Ideal S8192x3072 .bf16) (r : Fin 8192) : k0_pay4 x (ix2 r 0) = expo (rowMax (mat x) r * cQ) := by
  refine (p_expo _ _).trans (congrArg expo ((p_rowMax (k0_pay3 x) _ _ _ _ r).trans ?_))
  rw [pay3_eq]

theorem pay5_eq (x : Vec Ideal S8192x3072 .bf16) (r : Fin 8192) (l : Fin 3072) : k0_pay5 x (ix2 r l) = quR (mat x) r l := by
  refine (p_quR (k0_pay3 x) (k0_pay4 x) _ _ r l _ (pay4_eq x r)).trans ?_
  rw [pay3_eq]
  rfl

theorem pay6_eq (x : Vec Ideal S8192x3072 .bf16) (r : Fin 8192) : k0_pay6 x (ix2 r 0) = scale (rowMax (mat x) r) := by
  unfold k0_pay6
  rw [e_exp2, pay4_eq]; rfl

theorem pay8_eq (x : Vec Ideal S8192x3072 .bf16) (l : Fin 3072) : k0_pay8 x (ix2 0 l) = (colMax (mat x) l * cQ : EReal) := by
  refine (p_colMax (k0_pay7 x) _ _ _ _ l).trans ?_
  rw [pay7_eq]

theorem pay11_eq (x : Vec Ideal S8192x3072 .bf16) (l : Fin 3072) :
    k0_pay11 (k0_pay9 x) (k0_pay10 x) (ix2 0 l) = expo (colMax (mat x) l * cQ) :=
  (p_expo (k0_pay8 x) _).trans (congrArg expo (pay8_eq x l))

theorem pay12_eq (x : Vec Ideal S8192x3072 .bf16) (r : Fin 8192) (l : Fin 3072) :
    k0_pay12 (k0_pay7 x) (k0_pay9 x) (k0_pay10 x) (ix2 r l) = quC (mat x) r l := by
  refine (p_quC (k0_pay7 x) (k0_pay11 (k0_pay9 x) (k0_pay10 x)) _ _ r l _ (pay11_eq x l)).trans ?_
  rw [pay7_eq]
  rfl

theorem pay13_eq (x : Vec Ideal S8192x3072 .bf16) (l : Fin 3072) :
    k0_pay13 (k0_pay9 x) (k0_pay10 x) (ix2 0 l) = scale (colMax (mat x) l) := by
  unfold k0_pay13
  rw [e_exp2, pay11_eq]; rfl

/-! ### dh -/

theorem prod_eq (x : Vec Ideal S8192x3072 .bf16) (w2 : Vec Ideal S1024x3072 .fp8e4m3) (w2s : Vec Ideal S1x1 .f32) (r : Fin 8192) (k : Fin 1024) :
    mulf (matmul (φ₂ := .fp8e4m3) dot_S8192x3072_S1024x3072_S8192x1024_1_1_0_0_n_n none (k0_pay5 x) w2 (constant S8192x1024 .f32 0x00000000#32))
      (broadcastTo S8192x1024 (mulf (k0_pay6 x) (broadcastTo S8192x1 (shapeCast S1x1 w2s shapeCasts_S1x1_S1x1) broadcasts_S1x1_S8192x1)) broadcasts_S8192x1_S8192x1024) (ix2 r k)
      = dA (mat x) (mat w2) (w2s (ix2 0 0)) r k := by
  refine (p_rescale _ (k0_pay6 x) w2s _ _ _ r k).trans ?_
  rw [dot_da, pay6_eq]
  exact congrArg (· * (scale (rowMax (mat x) r) * w2s (ix2 0 0))) (Finset.sum_congr rfl fun l _ => congrArg (· * mat w2 k l) (pay5_eq x r l))

theorem left_eq (x : Vec Ideal S8192x3072 .bf16) (w2 : Vec Ideal S1024x3072 .fp8e4m3) (w2s : Vec Ideal S1x1 .f32) (gu : Vec Ideal S8192x2048 .bf16)
    (r : Fin 8192) (k : Fin 1024) (k' : Fin 2048) (hk : k'.val = k.val) :
    k0_pay14 (k0_pay5 x) (k0_pay6 x) w2 w2s gu (ix2 r k')
      = gateG (dA (mat x) (mat w2) (w2s (ix2 0 0)) r k) (gu (ix2 r k')) (gu (ix2 r ⟨1024 + k.val, by omega⟩)) := by
  unfold k0_pay14
  refine (concatenate_pair_apply_left (t := S8192x2048) (s₁ := S8192x1024) (s₂ := S8192x1024) 1 _ _ concatenates_S8192x1024_S8192x1024_S8192x2048_d1 (ix2 r k') rfl (ix2 r k) ?_).trans ?_
  · intro b
    match b with
    | 0 => rfl
    | 1 => exact hk.symm
  · refine (p_gate _ _ _ _ _ _).trans ?_
    refine congr (congrArg₂ gateG (prod_eq x w2 w2s r k) ?_) ?_
    · refine (r_slice _ 0 _ r k (by omega)).trans ?_
      rw [shapeCast_id]
      exact congrArg (fun z => gu (ix2 r z)) (Fin.ext ((Nat.zero_add _).trans hk.symm))
    · refine (r_slice _ 1024 _ r k (by omega)).trans ?_
      rw [shapeCast_id]

theorem right_eq (x : Vec Ideal S8192x3072 .bf16) (w2 : Vec Ideal S1024x3072 .fp8e4m3) (w2s : Vec Ideal S1x1 .f32) (gu : Vec Ideal S8192x2048 .bf16)
    (r : Fin 8192) (k : Fin 1024) (k' : Fin 2048) (hk : k'.val = k.val + 1024) :
    k0_pay14 (k0_pay5 x) (k0_pay6 x) w2 w2s gu (ix2 r k')
      = upG (dA (mat x) (mat w2) (w2s (ix2 0 0)) r k) (gu (ix2 r ⟨k.val, by omega⟩)) := by
  unfold k0_pay14
  refine (concatenate_pair_apply_right (t := S8192x2048) (s₁ := S8192x1024) (s₂ := S8192x1024) 1 _ _ concatenates_S8192x1024_S8192x1024_S8192x2048_d1 (ix2 r k') rfl rfl (ix2 r k) ?_ ?_).trans ?_
  · intro b hb
    match b with
    | 0 => rfl
    | 1 => exact absurd rfl hb
  · exact hk.symm
  · refine (p_up _ _ _ _).trans ?_
    refine congrArg₂ upG (prod_eq x w2 w2s r k) ?_
    refine (r_slice _ 0 _ r k (by omega)).trans ?_
    rw [shapeCast_id]
    exact congrArg (fun z => gu (ix2 r z)) (Fin.ext (Nat.zero_add _))

theorem pay14_eq (x : Vec Ideal S8192x3072 .bf16) (w2 : Vec Ideal S1024x3072 .fp8e4m3) (w2s : Vec Ideal S1x1 .f32) (gu : Vec Ideal S8192x2048 .bf16) :
    mat (k0_pay14 (k0_pay5 x) (k0_pay6 x) w2 w2s gu) = dH (mat x) (mat gu) (mat w2) (w2s (ix2 0 0)) := by
  funext r k
  unfold dH
  by_cases h : k.val < 1024
  · rw [dif_pos h]
    exact left_eq x w2 w2s gu r ⟨k.val, h⟩ k rfl
  · rw [dif_neg h]
    exact right_eq x w2 w2s gu r ⟨k.val - 1024, by omega⟩ k (by show k.val = k.val - 1024 + 1024; omega)

theorem pay16_eq (v : FVec Ideal S8192x2048 .f32) (r : Fin 8192) : k0_pay16 (absf v) (ix2 r 0) = expo (rowMax (mat v) r * cQ) :=
  (p_expo _ _).trans (congrArg expo (p_rowMax v _ _ _ _ r))

theorem pay17_eq (v : FVec Ideal S8192x2048 .f32) (r : Fin 8192) (l : Fin 2048) : k0_pay17 v (absf v) (ix2 r l) = quR (mat v) r l :=
  p_quR v (k0_pay16 (absf v)) _ _ r l _ (pay16_eq v r)

theorem pay18_eq (v : FVec Ideal S8192x2048 .f32) (r : Fin 8192) : k0_pay18 (absf v) (ix2 r 0) = scale (rowMax (mat v) r) := by
  unfold k0_pay18
  rw [e_exp2, pay16_eq]; rfl

theorem pay22_eq (v : FVec Ideal S8192x2048 .f32) (l : Fin 2048) :
    k0_pay22 (k0_pay20 v) (k0_pay21 v) (ix2 0 l) = expo (colMax (mat v) l * cQ) :=
  (p_expo (k0_pay19 v) _).trans (congrArg expo (p_colMax v _ _ _ _ l))

theorem pay23_eq (v : FVec Ideal S8192x2048 .f32) (r : Fin 8192) (l : Fin 2048) :
    k0_pay23 v (k0_pay20 v) (k0_pay21 v) (ix2 r l) = quC (mat v) r l :=
  p_quC v (k0_pay22 (k0_pay20 v) (k0_pay21 v)) _ _ r l _ (pay22_eq v l)

theorem pay24_eq (v : FVec Ideal S8192x2048 .f32) (l : Fin 2048) :
    k0_pay24 (k0_pay20 v) (k0_pay21 v) (ix2 0 l) = scale (colMax (mat v) l) := by
  unfold k0_pay24
  rw [e_exp2, pay22_eq]; rfl

/-! ### The products -/

theorem pay25_eq (v : FVec Ideal S8192x2048 .f32) (w1 : Vec Ideal S3072x2048 .fp8e4m3) (w1s : Vec Ideal S1x1 .f32) (r : Fin 8192) (l : Fin 3072) :
    k0_pay25 (k0_pay17 v (absf v)) (k0_pay18 (absf v)) w1 w1s (ix2 r l) = dX (mat v) (mat w1) (w1s (ix2 0 0)) r l := by
  unfold k0_pay25
  rw [e_trunc]
  refine (p_rescale _ (k0_pay18 (absf v)) w1s _ _ _ r l).trans ?_
  rw [dot_dx, pay18_eq]
  exact congrArg (· * (scale (rowMax (mat v) r) * w1s (ix2 0 0))) (Finset.sum_congr rfl fun k _ => congrArg (· * mat w1 l k) (pay17_eq v r k))

theorem pay26_eq (v : FVec Ideal S8192x2048 .f32) (xc : Vec Ideal S8192x3072 .fp8e4m3) (xs : Vec Ideal S3072x1 .f32) (i : Fin 3072) (j : Fin 2048) :
    k0_pay26 v (k0_pay20 v) (k0_pay21 v) xc xs (ix2 i j) = dW (mat xc) (fun i => xs (ix2 i 0)) (mat v) i j := by
  unfold k0_pay26
  rw [e_trunc]
  refine (p_rescaleW _ xs (k0_pay24 (k0_pay20 v) (k0_pay21 v)) _ _ _ i j).trans ?_
  rw [dot_w1, pay24_eq, shapeCast_id]
  exact congrArg (· * (xs (ix2 i 0) * scale (colMax (mat v) j))) (Finset.sum_congr rfl fun k _ => congrArg (mat xc k i * ·) (pay23_eq v k j))

theorem pay1_eq (x : Vec Ideal S8192x3072 .bf16) (ac : Vec Ideal S8192x1024 .fp8e4m3) (sc : Vec Ideal S1024x1 .f32) (i : Fin 1024) (j : Fin 3072) :
    k0_pay1 (k0_pay13 (k0_pay9 x) (k0_pay10 x)) (k0_pay27 (k0_pay12 (k0_pay7 x) (k0_pay9 x) (k0_pay10 x)) ac) sc (ix2 i j)
      = dW (mat ac) (fun i => sc (ix2 i 0)) (mat x) i j := by
  unfold k0_pay1 k0_pay27
  rw [e_trunc]
  refine (p_rescaleW _ sc (k0_pay13 (k0_pay9 x) (k0_pay10 x)) _ _ _ i j).trans ?_
  rw [dot_w2, pay13_eq, shapeCast_id]
  exact congrArg (· * (sc (ix2 i 0) * scale (colMax (mat x) j))) (Finset.sum_congr rfl fun k _ => congrArg (mat ac k i * ·) (pay12_eq x k j))

end Cert.ReferenceIdeal.Values

end
-- ==== Proof.Values.RefOut.lean ====
/-
  What the reference's region leaves in its result arrays.
-/
module

public import proofs.«01_k».proof.Proof.Values.RefPay
public import Idealize.ShloMosaic.Lib.Pipeline.ValueKit

@[expose] public section

set_option maxRecDepth 16384

noncomputable section

namespace Cert.ReferenceIdeal.Values

open Idealize.ShloMosaic Cert.Values Idealize.ShloMosaic.TcCoe
open Cert.ReferenceIdeal Cert.ReferenceIdeal.Gen

section Outputs
variable (x0 : Vec Ideal S8192x3072 .bf16) (x1 : Vec Ideal S8192x2048 .bf16) (x2 : Vec Ideal S8192x3072 .fp8e4m3) (x3 : Vec Ideal S3072x1 .f32)
  (x4 : Vec Ideal S8192x1024 .fp8e4m3) (x5 : Vec Ideal S1024x1 .f32) (x6 : Vec Ideal S3072x2048 .fp8e4m3) (x7 : Vec Ideal S1x1 .f32)
  (x8 : Vec Ideal S1024x3072 .fp8e4m3) (x9 : Vec Ideal S1x1 .f32)

theorem hz : (![0, 0] : Fin 2 → ℕ) = fun _ => 0 := by
  funext a
  match a with
  | 0 => rfl
  | 1 => rfl

theorem ld_0 {e : EltTy} (x : Vec Ideal S8192x3072 e) : View.ld x r0_0 = x := View.ld_unit_zero hz _ x

theorem ld_1 {e : EltTy} (x : Vec Ideal S1024x3072 e) : View.ld x r0_1 = x := View.ld_unit_zero hz _ x

theorem ld_2 {e : EltTy} (x : Vec Ideal S1x1 e) : View.ld x r0_2 = x := View.ld_unit_zero hz _ x

theorem ld_3 {e : EltTy} (x : Vec Ideal S8192x2048 e) : View.ld x r0_3 = x := View.ld_unit_zero hz _ x

theorem ld_4 {e : EltTy} (x : Vec Ideal S3072x2048 e) : View.ld x r0_4 = x := View.ld_unit_zero hz _ x

theorem ld_5 {e : EltTy} (x : Vec Ideal S3072x1 e) : View.ld x r0_5 = x := View.ld_unit_zero hz _ x

theorem ld_6 {e : EltTy} (x : Vec Ideal S8192x1024 e) : View.ld x r0_6 = x := View.ld_unit_zero hz _ x

theorem ld_7 {e : EltTy} (x : Vec Ideal S1024x1 e) : View.ld x r0_7 = x := View.ld_unit_zero hz _ x

/-- The gradient of the hidden layer. -/
def HG : FVec Ideal S8192x2048 .f32 := k0_pay14 (k0_pay5 x0) (k0_pay6 x0) x8 x9 x1

theorem pay15_HG : k0_pay15 (k0_pay5 x0) (k0_pay6 x0) x8 x9 x1 = absf (HG x0 x1 x8 x9) := rfl

theorem pay14_HG : k0_pay14 (k0_pay5 x0) (k0_pay6 x0) x8 x9 x1 = HG x0 x1 x8 x9 := rfl

theorem out_10 : out0_10 x0 x1 x2 x3 x4 x5 x6 x7 x8 x9 = k0_pay25 (k0_pay17 (HG x0 x1 x8 x9) (absf (HG x0 x1 x8 x9))) (k0_pay18 (absf (HG x0 x1 x8 x9))) x6 x7 := by
  unfold out0_10
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_11 : out0_11 x0 x1 x2 x3 x4 x5 x6 x7 x8 x9 = k0_pay26 (HG x0 x1 x8 x9) (k0_pay20 (HG x0 x1 x8 x9)) (k0_pay21 (HG x0 x1 x8 x9)) x2 x3 := by
  unfold out0_11
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_12 : out0_12 x0 x1 x2 x3 x4 x5 x6 x7 x8 x9 = k0_pay1 (k0_pay13 (k0_pay9 x0) (k0_pay10 x0)) (k0_pay27 (k0_pay12 (k0_pay7 x0) (k0_pay9 x0) (k0_pay10 x0)) x4) x5 := by
  unfold out0_12
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_13 : out0_13 x0 x1 x2 x3 x4 x5 x6 x7 x8 x9 = k0_pay5 x0 := by
  unfold out0_13
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_14 : out0_14 x0 x1 x2 x3 x4 x5 x6 x7 x8 x9 = k0_pay6 x0 := by
  unfold out0_14
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_15 : out0_15 x0 x1 x2 x3 x4 x5 x6 x7 x8 x9 = k0_pay12 (k0_pay7 x0) (k0_pay9 x0) (k0_pay10 x0) := by
  unfold out0_15
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_16 : out0_16 x0 x1 x2 x3 x4 x5 x6 x7 x8 x9 = k0_pay13 (k0_pay9 x0) (k0_pay10 x0) := by
  unfold out0_16
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_17 : out0_17 x0 x1 x2 x3 x4 x5 x6 x7 x8 x9 = k0_pay17 (HG x0 x1 x8 x9) (absf (HG x0 x1 x8 x9)) := by
  unfold out0_17
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_18 : out0_18 x0 x1 x2 x3 x4 x5 x6 x7 x8 x9 = k0_pay18 (absf (HG x0 x1 x8 x9)) := by
  unfold out0_18
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_19 : out0_19 x0 x1 x2 x3 x4 x5 x6 x7 x8 x9 = k0_pay23 (HG x0 x1 x8 x9) (k0_pay20 (HG x0 x1 x8 x9)) (k0_pay21 (HG x0 x1 x8 x9)) := by
  unfold out0_19
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

theorem out_20 : out0_20 x0 x1 x2 x3 x4 x5 x6 x7 x8 x9 = k0_pay24 (k0_pay20 (HG x0 x1 x8 x9)) (k0_pay21 (HG x0 x1 x8 x9)) := by
  unfold out0_20
  rw [View.canon_unit_zero hz]
  simp only [k0_pay28, k0_pay29, k0_pay30, k0_pay31, k0_pay32, k0_pay33, k0_pay34, k0_pay35, k0_pay36, k0_pay37, k0_pay38, k0_pay39, ld_0, ld_1, ld_2, ld_3, ld_4, ld_5, ld_6, ld_7, pay15_HG, pay14_HG]

end Outputs

end Cert.ReferenceIdeal.Values

end
-- ==== Proof.Values.RefRun.lean ====
/-
  What the reference's result arrays hold after its region, as functions of the arrays it reads.
-/
module

public import proofs.«01_k».proof.Proof.Values.RefOut

@[expose] public section

set_option maxRecDepth 16384

noncomputable section

namespace Cert.ReferenceIdeal.Values

open Idealize.ShloMosaic Cert.Values Idealize.ShloMosaic.TcCoe
open Cert.ReferenceIdeal Cert.ReferenceIdeal.Gen

variable (m : (ℓ : Loc nD τ sig) → Buf (Elt Ideal) ℓ) (c : Dev nD)

theorem eta2 {n k : ℕ} (i : Shape.Idx ⟨2, ![n, k]⟩) : i = ix2 (i 0) (i 1) := by
  funext a
  match a with
  | 0 => rfl
  | 1 => rfl

theorem eta2c {n : ℕ} (i : Shape.Idx ⟨2, ![n, 1]⟩) : i = ix2 (i 0) 0 :=
  (eta2 i).trans (congrArg (ix2 (i 0)) (Subsingleton.elim (α := Fin 1) _ _))

theorem eta2r {n : ℕ} (i : Shape.Idx ⟨2, ![1, n]⟩) : i = ix2 0 (i 1) :=
  (eta2 i).trans (congrArg (fun a => ix2 a (i 1)) (Subsingleton.elim (α := Fin 1) _ _))

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem idx_17 : ∀ t : Fin cfg0.N, win0_17.index t = ![0, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![0, 0] := (by decide +kernel : ∀ t : Fin grid0.N, _)
theorem idx_20 : ∀ t : Fin cfg0.N, win0_20.index t = ![0, 0] := (by decide +kernel : ∀ t : Fin grid0.N, _)

theorem at_0 (r : Fin 8192) (l : Fin 3072) : iblk m c 0 t0_0 (ix2 r l) = V m c main_v0 (ix2 r l) := by
  blk_ext [iblk, idx_0 t0_0]

theorem blk_0 : (iblk m c 0 t0_0 : Vec Ideal S8192x3072 .bf16) = V m c main_v0 := by
  funext i
  exact (congrArg (iblk m c 0 t0_0) (eta2 i)).trans ((at_0 m c (i 0) (i 1)).trans (congrArg (V m c main_v0) (eta2 i).symm))

theorem at_1 (r : Fin 8192) (l : Fin 2048) : iblk m c 1 t0_0 (ix2 r l) = V m c main_v1 (ix2 r l) := by
  blk_ext [iblk, idx_1 t0_0]

theorem blk_1 : (iblk m c 1 t0_0 : Vec Ideal S8192x2048 .bf16) = V m c main_v1 := by
  funext i
  exact (congrArg (iblk m c 1 t0_0) (eta2 i)).trans ((at_1 m c (i 0) (i 1)).trans (congrArg (V m c main_v1) (eta2 i).symm))

theorem at_2 (r : Fin 8192) (l : Fin 3072) : iblk m c 2 t0_0 (ix2 r l) = V m c main_v2 (ix2 r l) := by
  blk_ext [iblk, idx_2 t0_0]

theorem blk_2 : (iblk m c 2 t0_0 : Vec Ideal S8192x3072 .fp8e4m3) = V m c main_v2 := by
  funext i
  exact (congrArg (iblk m c 2 t0_0) (eta2 i)).trans ((at_2 m c (i 0) (i 1)).trans (congrArg (V m c main_v2) (eta2 i).symm))

theorem at_3 (r : Fin 3072) (l : Fin 1) : iblk m c 3 t0_0 (ix2 r l) = V m c main_v3 (ix2 r l) := by
  blk_ext [iblk, idx_3 t0_0]

theorem blk_3 : (iblk m c 3 t0_0 : Vec Ideal S3072x1 .f32) = V m c main_v3 := by
  funext i
  exact (congrArg (iblk m c 3 t0_0) (eta2 i)).trans ((at_3 m c (i 0) (i 1)).trans (congrArg (V m c main_v3) (eta2 i).symm))

theorem at_4 (r : Fin 8192) (l : Fin 1024) : iblk m c 4 t0_0 (ix2 r l) = V m c main_v4 (ix2 r l) := by
  blk_ext [iblk, idx_4 t0_0]

theorem blk_4 : (iblk m c 4 t0_0 : Vec Ideal S8192x1024 .fp8e4m3) = V m c main_v4 := by
  funext i
  exact (congrArg (iblk m c 4 t0_0) (eta2 i)).trans ((at_4 m c (i 0) (i 1)).trans (congrArg (V m c main_v4) (eta2 i).symm))

theorem at_5 (r : Fin 1024) (l : Fin 1) : iblk m c 5 t0_0 (ix2 r l) = V m c main_v5 (ix2 r l) := by
  blk_ext [iblk, idx_5 t0_0]

theorem blk_5 : (iblk m c 5 t0_0 : Vec Ideal S1024x1 .f32) = V m c main_v5 := by
  funext i
  exact (congrArg (iblk m c 5 t0_0) (eta2 i)).trans ((at_5 m c (i 0) (i 1)).trans (congrArg (V m c main_v5) (eta2 i).symm))

theorem at_6 (r : Fin 3072) (l : Fin 2048) : iblk m c 6 t0_0 (ix2 r l) = V m c main_arg6 (ix2 r l) := by
  blk_ext [iblk, idx_6 t0_0]

theorem blk_6 : (iblk m c 6 t0_0 : Vec Ideal S3072x2048 .fp8e4m3) = V m c main_arg6 := by
  funext i
  exact (congrArg (iblk m c 6 t0_0) (eta2 i)).trans ((at_6 m c (i 0) (i 1)).trans (congrArg (V m c main_arg6) (eta2 i).symm))

theorem at_7 (r : Fin 1) (l : Fin 1) : iblk m c 7 t0_0 (ix2 r l) = V m c main_v6 (ix2 r l) := by
  blk_ext [iblk, idx_7 t0_0]

theorem blk_7 : (iblk m c 7 t0_0 : Vec Ideal S1x1 .f32) = V m c main_v6 := by
  funext i
  exact (congrArg (iblk m c 7 t0_0) (eta2 i)).trans ((at_7 m c (i 0) (i 1)).trans (congrArg (V m c main_v6) (eta2 i).symm))

theorem at_8 (r : Fin 1024) (l : Fin 3072) : iblk m c 8 t0_0 (ix2 r l) = V m c main_arg8 (ix2 r l) := by
  blk_ext [iblk, idx_8 t0_0]

theorem blk_8 : (iblk m c 8 t0_0 : Vec Ideal S1024x3072 .fp8e4m3) = V m c main_arg8 := by
  funext i
  exact (congrArg (iblk m c 8 t0_0) (eta2 i)).trans ((at_8 m c (i 0) (i 1)).trans (congrArg (V m c main_arg8) (eta2 i).symm))

theorem at_9 (r : Fin 1) (l : Fin 1) : iblk m c 9 t0_0 (ix2 r l) = V m c main_v7 (ix2 r l) := by
  blk_ext [iblk, idx_9 t0_0]

theorem blk_9 : (iblk m c 9 t0_0 : Vec Ideal S1x1 .f32) = V m c main_v7 := by
  funext i
  exact (congrArg (iblk m c 9 t0_0) (eta2 i)).trans ((at_9 m c (i 0) (i 1)).trans (congrArg (V m c main_v7) (eta2 i).symm))

/-- The gradient of the output. -/
def DY : Mat 8192 3072 := mat (V m c main_v0)

/-- The gradient of the hidden layer. -/
def DH : Mat 8192 2048 := dH (DY m c) (mat (V m c main_v1)) (mat (V m c main_arg8)) (V m c main_v7 (ix2 0 0))

theorem mat_HG : mat (HG (V m c main_v0) (V m c main_v1) (V m c main_arg8) (V m c main_v7)) = DH m c :=
  pay14_eq _ _ _ _

theorem aft_10 (r : Fin 8192) (l : Fin 3072) : (dats m 0 c).after 10 t0_0 (ix2 r l) = dX (DH m c) (mat (V m c main_arg6)) (V m c main_v6 (ix2 0 0)) r l := by
  rw [after0_10, out_10, blk_0, blk_1, blk_6, blk_7, blk_8, blk_9]
  rw [← mat_HG]
  exact pay25_eq _ _ _ r l

theorem arr_10 : (dats m 0 c).arrAt 10 cfg0.N = (fun i => dX (DH m c) (mat (V m c main_arg6)) (V m c main_v6 (ix2 0 0)) (i 0) (i 1) : S8192x3072.Idx → EReal) := by
  refine (dats m 0 c).arrAt_eq_of_after_last 10 t0_0 (by decide +kernel) _ fun j => ?_
  blk_simp [idx_10 t0_0]
  exact (congrArg ((dats m 0 c).after 10 t0_0) (eta2 j)).trans (aft_10 m c (j 0) (j 1))

theorem aft_11 (r : Fin 3072) (l : Fin 2048) : (dats m 0 c).after 11 t0_0 (ix2 r l) = dW (mat (V m c main_v2)) (fun i => V m c main_v3 (ix2 i 0)) (DH m c) r l := by
  rw [after0_11, out_11, blk_0, blk_1, blk_2, blk_3, blk_8, blk_9]
  rw [← mat_HG]
  exact pay26_eq _ _ _ r l

theorem arr_11 : (dats m 0 c).arrAt 11 cfg0.N = (fun i => dW (mat (V m c main_v2)) (fun i => V m c main_v3 (ix2 i 0)) (DH m c) (i 0) (i 1) : S3072x2048.Idx → EReal) := by
  refine (dats m 0 c).arrAt_eq_of_after_last 11 t0_0 (by decide +kernel) _ fun j => ?_
  blk_simp [idx_11 t0_0]
  exact (congrArg ((dats m 0 c).after 11 t0_0) (eta2 j)).trans (aft_11 m c (j 0) (j 1))

theorem aft_12 (r : Fin 1024) (l : Fin 3072) : (dats m 0 c).after 12 t0_0 (ix2 r l) = dW (mat (V m c main_v4)) (fun i => V m c main_v5 (ix2 i 0)) (DY m c) r l := by
  rw [after0_12, out_12, blk_0, blk_4, blk_5]
  exact pay1_eq _ _ _ r l

theorem arr_12 : (dats m 0 c).arrAt 12 cfg0.N = (fun i => dW (mat (V m c main_v4)) (fun i => V m c main_v5 (ix2 i 0)) (DY m c) (i 0) (i 1) : S1024x3072.Idx → EReal) := by
  refine (dats m 0 c).arrAt_eq_of_after_last 12 t0_0 (by decide +kernel) _ fun j => ?_
  blk_simp [idx_12 t0_0]
  exact (congrArg ((dats m 0 c).after 12 t0_0) (eta2 j)).trans (aft_12 m c (j 0) (j 1))

theorem aft_13 (r : Fin 8192) (l : Fin 3072) : (dats m 0 c).after 13 t0_0 (ix2 r l) = quR (DY m c) r l := by
  rw [after0_13, out_13, blk_0]
  exact pay5_eq _ r l

theorem arr_13 : (dats m 0 c).arrAt 13 cfg0.N = (fun i => quR (DY m c) (i 0) (i 1) : S8192x3072.Idx → EReal) := by
  refine (dats m 0 c).arrAt_eq_of_after_last 13 t0_0 (by decide +kernel) _ fun j => ?_
  blk_simp [idx_13 t0_0]
  exact (congrArg ((dats m 0 c).after 13 t0_0) (eta2 j)).trans (aft_13 m c (j 0) (j 1))

theorem aft_14 (r : Fin 8192) : (dats m 0 c).after 14 t0_0 (ix2 r 0) = scale (rowMax (DY m c) r) := by
  rw [after0_14, out_14, blk_0]
  exact pay6_eq _ r

theorem arr_14 : (dats m 0 c).arrAt 14 cfg0.N = (fun i => scale (rowMax (DY m c) (i 0)) : S8192x1.Idx → EReal) := by
  refine (dats m 0 c).arrAt_eq_of_after_last 14 t0_0 (by decide +kernel) _ fun j => ?_
  blk_simp [idx_14 t0_0]
  exact (congrArg ((dats m 0 c).after 14 t0_0) (eta2c j)).trans (aft_14 m c (j 0))

theorem aft_15 (r : Fin 8192) (l : Fin 3072) : (dats m 0 c).after 15 t0_0 (ix2 r l) = quC (DY m c) r l := by
  rw [after0_15, out_15, blk_0]
  exact pay12_eq _ r l

theorem arr_15 : (dats m 0 c).arrAt 15 cfg0.N = (fun i => quC (DY m c) (i 0) (i 1) : S8192x3072.Idx → EReal) := by
  refine (dats m 0 c).arrAt_eq_of_after_last 15 t0_0 (by decide +kernel) _ fun j => ?_
  blk_simp [idx_15 t0_0]
  exact (congrArg ((dats m 0 c).after 15 t0_0) (eta2 j)).trans (aft_15 m c (j 0) (j 1))

theorem aft_16 (l : Fin 3072) : (dats m 0 c).after 16 t0_0 (ix2 0 l) = scale (colMax (DY m c) l) := by
  rw [after0_16, out_16, blk_0]
  exact pay13_eq _ l

theorem arr_16 : (dats m 0 c).arrAt 16 cfg0.N = (fun i => scale (colMax (DY m c) (i 1)) : S1x3072.Idx → EReal) := by
  refine (dats m 0 c).arrAt_eq_of_after_last 16 t0_0 (by decide +kernel) _ fun j => ?_
  blk_simp [idx_16 t0_0]
  exact (congrArg ((dats m 0 c).after 16 t0_0) (eta2r j)).trans (aft_16 m c (j 1))

theorem aft_17 (r : Fin 8192) (l : Fin 2048) : (dats m 0 c).after 17 t0_0 (ix2 r l) = quR (DH m c) r l := by
  rw [after0_17, out_17, blk_0, blk_1, blk_8, blk_9]
  rw [← mat_HG]
  exact pay17_eq _ r l

theorem arr_17 : (dats m 0 c).arrAt 17 cfg0.N = (fun i => quR (DH m c) (i 0) (i 1) : S8192x2048.Idx → EReal) := by
  refine (dats m 0 c).arrAt_eq_of_after_last 17 t0_0 (by decide +kernel) _ fun j => ?_
  blk_simp [idx_17 t0_0]
  exact (congrArg ((dats m 0 c).after 17 t0_0) (eta2 j)).trans (aft_17 m c (j 0) (j 1))

theorem aft_18 (r : Fin 8192) : (dats m 0 c).after 18 t0_0 (ix2 r 0) = scale (rowMax (DH m c) r) := by
  rw [after0_18, out_18, blk_0, blk_1, blk_8, blk_9]
  rw [← mat_HG]
  exact pay18_eq _ r

theorem arr_18 : (dats m 0 c).arrAt 18 cfg0.N = (fun i => scale (rowMax (DH m c) (i 0)) : S8192x1.Idx → EReal) := by
  refine (dats m 0 c).arrAt_eq_of_after_last 18 t0_0 (by decide +kernel) _ fun j => ?_
  blk_simp [idx_18 t0_0]
  exact (congrArg ((dats m 0 c).after 18 t0_0) (eta2c j)).trans (aft_18 m c (j 0))

theorem aft_19 (r : Fin 8192) (l : Fin 2048) : (dats m 0 c).after 19 t0_0 (ix2 r l) = quC (DH m c) r l := by
  rw [after0_19, out_19, blk_0, blk_1, blk_8, blk_9]
  rw [← mat_HG]
  exact pay23_eq _ r l

theorem arr_19 : (dats m 0 c).arrAt 19 cfg0.N = (fun i => quC (DH m c) (i 0) (i 1) : S8192x2048.Idx → EReal) := by
  refine (dats m 0 c).arrAt_eq_of_after_last 19 t0_0 (by decide +kernel) _ fun j => ?_
  blk_simp [idx_19 t0_0]
  exact (congrArg ((dats m 0 c).after 19 t0_0) (eta2 j)).trans (aft_19 m c (j 0) (j 1))

theorem aft_20 (l : Fin 2048) : (dats m 0 c).after 20 t0_0 (ix2 0 l) = scale (colMax (DH m c) l) := by
  rw [after0_20, out_20, blk_0, blk_1, blk_8, blk_9]
  rw [← mat_HG]
  exact pay24_eq _ l

theorem arr_20 : (dats m 0 c).arrAt 20 cfg0.N = (fun i => scale (colMax (DH m c) (i 1)) : S1x2048.Idx → EReal) := by
  refine (dats m 0 c).arrAt_eq_of_after_last 20 t0_0 (by decide +kernel) _ fun j => ?_
  blk_simp [idx_20 t0_0]
  exact (congrArg ((dats m 0 c).after 20 t0_0) (eta2r j)).trans (aft_20 m c (j 1))

end Cert.ReferenceIdeal.Values

end
-- ==== Proof.Values.RefValue.lean ====
/-
  What the reference returns, as functions of its arguments.
-/
module

public import proofs.«01_k».proof.Proof.Values.RefRun
public import proofs.«01_k».proof.Proof.Values.Final

@[expose] public section

set_option maxRecDepth 16384

noncomputable section

namespace Cert.ReferenceIdeal.Values

open Idealize.ShloMosaic Cert.Values Idealize.ShloMosaic.TcCoe
open Cert.ReferenceIdeal Cert.ReferenceIdeal.Gen

variable (m : (ℓ : Loc nD τ sig) → Buf (Elt Ideal) ℓ) (c : Dev nD)

/-- The contents of every buffer after the region and the host operations that follow it. -/
abbrev E (b : Ref sig .tc) := Pipeline.afterTail₀ cfgs (dats m) 0 (V0 m) [hostOps1] c b

/-- The contents of every buffer when the region ends. -/
abbrev M (b : Ref sig .tc) := Pipeline.withArrays spec0 c (V0 m c) (fun w => (dats m 0 c).arrAt w cfg0.N) b

theorem DY_eq : DY m c = flat (m ((c : Thread nD τ).loc main_arg0)) := rfl

theorem DH_eq : DH m c = hid (m ((c : Thread nD τ).loc main_arg0)) (m ((c : Thread nD τ).loc main_arg1)) (m ((c : Thread nD τ).loc main_arg8)) (m ((c : Thread nD τ).loc main_arg9)) := by
  unfold DH
  rw [V_main_arg8 m c]
  rfl

theorem xs_eq (i : Fin 3072) : V m c main_v3 (ix2 i 0) = m ((c : Thread nD τ).loc main_arg3) (ix1 i) :=
  b_col (by decide) _ bcast_S3072_S3072x1_0 i

theorem as_eq (i : Fin 1024) : V m c main_v5 (ix2 i 0) = m ((c : Thread nD τ).loc main_arg5) (ix1 i) :=
  b_col (by decide) _ bcast_S1024_S1024x1_0 i

theorem val_1 : (dats m 0 c).arrAt 11 cfg0.N = res1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  rw [arr_11, DH_eq, funext (xs_eq m c)]
  rfl

theorem val_2 : (dats m 0 c).arrAt 12 cfg0.N = res2 (m ((c : Thread nD τ).loc main_arg0)) (m ((c : Thread nD τ).loc main_arg4)) (m ((c : Thread nD τ).loc main_arg5)) := by
  rw [arr_12, DY_eq, funext (as_eq m c)]
  rfl

theorem val_0 : E m c main_v9 = res0 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  have e : E m c main_v9 = shapeCast S8x1024x3072 (M m c main_v8_0) shapeCasts_S8192x3072_S8x1024x3072 := rfl
  have e' : M m c main_v8_0 = (dats m 0 c).arrAt 10 cfg0.N := Pipeline.withArrays_arr spec0 launch0.win.arr_inj c (V0 m c) _ 10
  rw [e, e', arr_10, DH_eq, V_main_arg6 m c]
  rfl

theorem val_3 : E m c main_v10 = res3 (m ((c : Thread nD τ).loc main_arg0)) := by
  have e : E m c main_v10 = shapeCast S8x1024x3072 (M m c main_v8_3) shapeCasts_S8192x3072_S8x1024x3072 := rfl
  have e' : M m c main_v8_3 = (dats m 0 c).arrAt 13 cfg0.N := Pipeline.withArrays_arr spec0 launch0.win.arr_inj c (V0 m c) _ 13
  rw [e, e', arr_13, DY_eq]
  rfl

theorem val_4 : E m c main_v11 = res4 (m ((c : Thread nD τ).loc main_arg0)) := by
  have e : E m c main_v11 = shapeCast S8x1024x1 (M m c main_v8_4) shapeCasts_S8192x1_S8x1024x1 := rfl
  have e' : M m c main_v8_4 = (dats m 0 c).arrAt 14 cfg0.N := Pipeline.withArrays_arr spec0 launch0.win.arr_inj c (V0 m c) _ 14
  rw [e, e', arr_14, DY_eq]
  funext i
  exact r_rows3 _ _ i ⟨1024 * (i 0).val + (i 1).val, by have h0 : (i 0).val < 8 := (i 0).isLt; have h1 : (i 1).val < 1024 := (i 1).isLt; omega⟩ rfl

theorem val_5 : E m c main_v12 = res5 (m ((c : Thread nD τ).loc main_arg0)) := by
  have e : E m c main_v12 = shapeCast S8x1024x3072 (M m c main_v8_5) shapeCasts_S8192x3072_S8x1024x3072 := rfl
  have e' : M m c main_v8_5 = (dats m 0 c).arrAt 15 cfg0.N := Pipeline.withArrays_arr spec0 launch0.win.arr_inj c (V0 m c) _ 15
  rw [e, e', arr_15, DY_eq]
  rfl

theorem val_6 : E m c main_v13 = res6 (m ((c : Thread nD τ).loc main_arg0)) := by
  have e : E m c main_v13 = broadcastInDim S1x1x3072 ![1, 2] bcast_S1x3072_S1x1x3072_1_2 (M m c main_v8_6) := rfl
  have e' : M m c main_v8_6 = (dats m 0 c).arrAt 16 cfg0.N := Pipeline.withArrays_arr spec0 launch0.win.arr_inj c (V0 m c) _ 16
  rw [e, e', arr_16, DY_eq]
  funext i
  exact b_cols3 (by decide) _ _ i

theorem val_7 : E m c main_v14 = res7 (m ((c : Thread nD τ).loc main_arg0)) (m ((c : Thread nD τ).loc main_arg1)) (m ((c : Thread nD τ).loc main_arg8)) (m ((c : Thread nD τ).loc main_arg9)) := by
  have e : E m c main_v14 = shapeCast S8x1024x2048 (M m c main_v8_7) shapeCasts_S8192x2048_S8x1024x2048 := rfl
  have e' : M m c main_v8_7 = (dats m 0 c).arrAt 17 cfg0.N := Pipeline.withArrays_arr spec0 launch0.win.arr_inj c (V0 m c) _ 17
  rw [e, e', arr_17, DH_eq]
  rfl

theorem val_8 : E m c main_v15 = res8 (m ((c : Thread nD τ).loc main_arg0)) (m ((c : Thread nD τ).loc main_arg1)) (m ((c : Thread nD τ).loc main_arg8)) (m ((c : Thread nD τ).loc main_arg9)) := by
  have e : E m c main_v15 = shapeCast S8x1024x1 (M m c main_v8_8) shapeCasts_S8192x1_S8x1024x1 := rfl
  have e' : M m c main_v8_8 = (dats m 0 c).arrAt 18 cfg0.N := Pipeline.withArrays_arr spec0 launch0.win.arr_inj c (V0 m c) _ 18
  rw [e, e', arr_18, DH_eq]
  funext i
  exact r_rows3 _ _ i ⟨1024 * (i 0).val + (i 1).val, by have h0 : (i 0).val < 8 := (i 0).isLt; have h1 : (i 1).val < 1024 := (i 1).isLt; omega⟩ rfl

theorem val_9 : E m c main_v16 = res9 (m ((c : Thread nD τ).loc main_arg0)) (m ((c : Thread nD τ).loc main_arg1)) (m ((c : Thread nD τ).loc main_arg8)) (m ((c : Thread nD τ).loc main_arg9)) := by
  have e : E m c main_v16 = shapeCast S8x1024x2048 (M m c main_v8_9) shapeCasts_S8192x2048_S8x1024x2048 := rfl
  have e' : M m c main_v8_9 = (dats m 0 c).arrAt 19 cfg0.N := Pipeline.withArrays_arr spec0 launch0.win.arr_inj c (V0 m c) _ 19
  rw [e, e', arr_19, DH_eq]
  rfl

theorem val_10 : E m c main_v17 = res10 (m ((c : Thread nD τ).loc main_arg0)) (m ((c : Thread nD τ).loc main_arg1)) (m ((c : Thread nD τ).loc main_arg8)) (m ((c : Thread nD τ).loc main_arg9)) := by
  have e : E m c main_v17 = broadcastInDim S1x1x2048 ![1, 2] bcast_S1x2048_S1x1x2048_1_2 (M m c main_v8_10) := rfl
  have e' : M m c main_v8_10 = (dats m 0 c).arrAt 20 cfg0.N := Pipeline.withArrays_arr spec0 launch0.win.arr_inj c (V0 m c) _ 20
  rw [e, e', arr_20, DH_eq]
  funext i
  exact b_cols3 (by decide) _ _ i

/-- Every run of the reference ends with the eleven results in place and the arguments as they were. -/
theorem run (ρ : Dev nD → PrngReg) : θ_run defs (onTc (τ := τ) (main (F := Ideal))) ⟨m, fun _ => 0, ρ⟩ (fun r => ∀ c : Dev nD,
      r.2.mem ((c : Thread nD τ).loc main_v9) = res0 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))
      ∧ r.2.mem ((c : Thread nD τ).loc main_v8_1) = res1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))
      ∧ r.2.mem ((c : Thread nD τ).loc main_v8_2) = res2 (m ((c : Thread nD τ).loc main_arg0)) (m ((c : Thread nD τ).loc main_arg4)) (m ((c : Thread nD τ).loc main_arg5))
      ∧ r.2.mem ((c : Thread nD τ).loc main_v10) = res3 (m ((c : Thread nD τ).loc main_arg0))
      ∧ r.2.mem ((c : Thread nD τ).loc main_v11) = res4 (m ((c : Thread nD τ).loc main_arg0))
      ∧ r.2.mem ((c : Thread nD τ).loc main_v12) = res5 (m ((c : Thread nD τ).loc main_arg0))
      ∧ r.2.mem ((c : Thread nD τ).loc main_v13) = res6 (m ((c : Thread nD τ).loc main_arg0))
      ∧ r.2.mem ((c : Thread nD τ).loc main_v14) = res7 (m ((c : Thread nD τ).loc main_arg0)) (m ((c : Thread nD τ).loc main_arg1)) (m ((c : Thread nD τ).loc main_arg8)) (m ((c : Thread nD τ).loc main_arg9))
      ∧ r.2.mem ((c : Thread nD τ).loc main_v15) = res8 (m ((c : Thread nD τ).loc main_arg0)) (m ((c : Thread nD τ).loc main_arg1)) (m ((c : Thread nD τ).loc main_arg8)) (m ((c : Thread nD τ).loc main_arg9))
      ∧ r.2.mem ((c : Thread nD τ).loc main_v16) = res9 (m ((c : Thread nD τ).loc main_arg0)) (m ((c : Thread nD τ).loc main_arg1)) (m ((c : Thread nD τ).loc main_arg8)) (m ((c : Thread nD τ).loc main_arg9))
      ∧ r.2.mem ((c : Thread nD τ).loc main_v17) = res10 (m ((c : Thread nD τ).loc main_arg0)) (m ((c : Thread nD τ).loc main_arg1)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun _ h c => ⟨((h c).2 main_v9 (Pipeline.mem_restRefs_of main_v9 (by decide) (by decide))).trans (val_0 m c),
      ((h c).1 11).trans (val_1 m c),
      ((h c).1 12).trans (val_2 m c),
      ((h c).2 main_v10 (Pipeline.mem_restRefs_of main_v10 (by decide) (by decide))).trans (val_3 m c),
      ((h c).2 main_v11 (Pipeline.mem_restRefs_of main_v11 (by decide) (by decide))).trans (val_4 m c),
      ((h c).2 main_v12 (Pipeline.mem_restRefs_of main_v12 (by decide) (by decide))).trans (val_5 m c),
      ((h c).2 main_v13 (Pipeline.mem_restRefs_of main_v13 (by decide) (by decide))).trans (val_6 m c),
      ((h c).2 main_v14 (Pipeline.mem_restRefs_of main_v14 (by decide) (by decide))).trans (val_7 m c),
      ((h c).2 main_v15 (Pipeline.mem_restRefs_of main_v15 (by decide) (by decide))).trans (val_8 m c),
      ((h c).2 main_v16 (Pipeline.mem_restRefs_of main_v16 (by decide) (by decide))).trans (val_9 m c),
      ((h c).2 main_v17 (Pipeline.mem_restRefs_of main_v17 (by decide) (by decide))).trans (val_10 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c)⟩) (run_main m ρ)

end Cert.ReferenceIdeal.Values

end
-- ==== Proof.Values.Same.lean ====
/-
  The kernel and the reference return the same results.
-/
module

public import proofs.«01_k».proof.Defs
public import proofs.«01_k».proof.Proof.Values.KernelValue
public import proofs.«01_k».proof.Proof.Values.RefValue

@[expose] public section

noncomputable section

namespace Cert.Values

open Idealize.ShloMosaic Idealize.SL.Sem

/-- From equal arguments the ideal kernel and the ideal reference end with the same eleven results, and their arguments as they were. -/
theorem same : Cert.algebraic_KernelIdeal_ReferenceIdeal := by
  intro m g m' g' _ hm
  refine ⟨fun c => res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => res2 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => res3 (m ((c.tc : Thread Cert.KernelIdeal.nD Cert.KernelIdeal.τ).loc Cert.KernelIdeal.main_arg0)),
    fun c => res4 (m ((c.tc : Thread Cert.KernelIdeal.nD Cert.KernelIdeal.τ).loc Cert.KernelIdeal.main_arg0)),
    fun c => res5 (m ((c.tc : Thread Cert.KernelIdeal.nD Cert.KernelIdeal.τ).loc Cert.KernelIdeal.main_arg0)),
    fun c => res6 (m ((c.tc : Thread Cert.KernelIdeal.nD Cert.KernelIdeal.τ).loc Cert.KernelIdeal.main_arg0)),
    fun c => res7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => res8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => res9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => res10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Run.run m g, (θ_run _ _ _).mono (fun r h c => ?_) (Cert.ReferenceIdeal.Values.run m' g')⟩
  obtain ⟨e0, e1, e2, e3, e4, e5, e6, e7, e8, e9⟩ := hm c
  obtain ⟨h0, h1, h2, h3, h4, h5, h6, h7, h8, h9, h10, h11, h12, h13, h14, h15, h16, h17, h18, h19, h20⟩ := h c
  exact ⟨h0.trans (by rw [e0, e1, e6, e7, e8, e9]),
    h1.trans (by rw [e0, e1, e2, e3, e8, e9]),
    h2.trans (by rw [e0, e4, e5]),
    h3.trans (by rw [e0]),
    h4.trans (by rw [e0]),
    h5.trans (by rw [e0]),
    h6.trans (by rw [e0]),
    h7.trans (by rw [e0, e1, e8, e9]),
    h8.trans (by rw [e0, e1, e8, e9]),
    h9.trans (by rw [e0, e1, e8, e9]),
    h10.trans (by rw [e0, e1, e8, e9]),
    h11,
    h12,
    h13,
    h14,
    h15,
    h16,
    h17,
    h18,
    h19,
    h20⟩

end Cert.Values

end
-- ==== Proof.lean ====
/- The assembly: the frames of the kernel, the ideal kernel and the ideal reference, from their runs, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Values.Same
public import Idealize.ShloMosaic.Adequacy
public import Idealize.ShloMosaic.Init

@[expose] public section

noncomputable section

namespace Cert.Proof

open Idealize.ShloMosaic Idealize.SL.Sem Cert.Kernel

/-- The claim: the frames of the three programs, that the ideal kernel is the kernel over the extended reals, and that
    from equal arguments the ideal kernel and the ideal reference end with equal results. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, Cert.Values.same⟩

end Cert.Proof

end
